-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_experts : Cert.Pre_experts.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
-- ==== Pre_experts.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .f32) (main_arg1 : IVec S72 32) (main_arg2 : IVec S72 32) (main_arg3 : FVec F S8x1024x7168 .f32) (main_arg4 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg1 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  main_v6
-- ==== Pre_finite.lean ====
abbrev S4x4096x3072 : Shape := ⟨3, ![4, 4096, 3072]⟩
abbrev S16x257 : Shape := ⟨2, ![16, 257]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)
  reducesTo_S4x4096x3072_S_d0_1_2 : S4x4096x3072.ReducesTo [0, 1, 2] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S4x4096x3072 .bf16) (main_arg1 : FVec F S16x257 .f32) : IVec S_ 1 :=
  let main_v0 : FVec F S4x4096x3072 .f32 := (extf .f32 · bitsLt_bf16_f32) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  let main_c : IVec S_ 1 := constantI S_ 1 1#1
  let main_v4 : IVec S_ 1 := (fun x v => Host.reduce IntOp.andi x v reducesTo_S4x4096x3072_S_d0_1_2 h_S_) main_v3 main_c
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  main_v9
-- ==== Pre_finite7.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .bf16) (main_arg1 : FVec F S16384x1024 .f32) (main_arg2 : FVec F S1024x1024 .f32) (main_arg3 : FVec F S1024 .f32) (main_arg4 : FVec F S1024 .f32) (main_arg5 : FVec F S1024x8 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg5
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Pre_finite8.lean ====
abbrev S16384x1024 : Shape := ⟨2, ![16384, 1024]⟩
abbrev S1024x4112 : Shape := ⟨2, ![1024, 4112]⟩
abbrev S_ : Shape := ⟨0, ![]⟩
abbrev S1024x16 : Shape := ⟨2, ![1024, 16]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S1024x4112_S1024x16_0_4096 : S1024x4112.Slices ![0, 4096] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x1024 .f32) (main_arg1 : FVec F S1024x4112 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x16 .f32 := (extractStridedSlice S1024x16 ![0, 4096] · slices_S1024x4112_S1024x16_0_4096) main_arg1
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Kernel.lean ====
abbrev S4x4096x3072 : Shape := ⟨3, ![4, 4096, 3072]⟩
abbrev S16x257 : Shape := ⟨2, ![16, 257]⟩
abbrev S16x1 : Shape := ⟨2, ![16, 1]⟩
abbrev S16x448 : Shape := ⟨2, ![16, 448]⟩
abbrev S16x191 : Shape := ⟨2, ![16, 191]⟩
abbrev S16x639 : Shape := ⟨2, ![16, 639]⟩
abbrev S_ : Shape := ⟨0, ![]⟩
abbrev S16x640 : Shape := ⟨2, ![16, 640]⟩
abbrev S1x16x1x640 : Shape := ⟨4, ![1, 16, 1, 640]⟩
abbrev S1x16x64x640 : Shape := ⟨4, ![1, 16, 64, 640]⟩
abbrev S16x40960 : Shape := ⟨2, ![16, 40960]⟩
abbrev S16x40896 : Shape := ⟨2, ![16, 40896]⟩
abbrev S16x64x639 : Shape := ⟨3, ![16, 64, 639]⟩
abbrev S16x64x576 : Shape := ⟨3, ![16, 64, 576]⟩
abbrev S16x64x768 : Shape := ⟨3, ![16, 64, 768]⟩
abbrev S16x256x768 : Shape := ⟨3, ![16, 256, 768]⟩
abbrev S4x4096x1024 : Shape := ⟨3, ![4, 4096, 1024]⟩
abbrev S1x256x1024 : Shape := ⟨3, ![1, 256, 1024]⟩
abbrev S256x768 : Shape := ⟨2, ![256, 768]⟩
abbrev S1x256x64 : Shape := ⟨3, ![1, 256, 64]⟩
abbrev S256x64 : Shape := ⟨2, ![256, 64]⟩
abbrev S768x64 : Shape := ⟨2, ![768, 64]⟩
abbrev S1x256x768 : Shape := ⟨3, ![1, 256, 768]⟩
abbrev S256 : Shape := ⟨1, ![256]⟩
abbrev S256x1 : Shape := ⟨2, ![256, 1]⟩

abbrev nBuf : Space → Nat
  | .hbm => 30
  | .vmem => 17
  | .smem => 0
  | _ => 0

abbrev bufTy : (tb : Table) → Fin (tcTables nBuf tb) → BufTy
  | .hbm, ⟨0, _⟩ => ⟨S4x4096x3072, .bf16⟩
  | .hbm, ⟨1, _⟩ => ⟨S16x257, .f32⟩
  | .hbm, ⟨2, _⟩ => ⟨S16x1, .f32⟩
  | .hbm, ⟨3, _⟩ => ⟨S16x448, .f32⟩
  | .hbm, ⟨4, _⟩ => ⟨S16x191, .f32⟩
  | .hbm, ⟨5, _⟩ => ⟨S16x191, .f32⟩
  | .hbm, ⟨6, _⟩ => ⟨S16x639, .f32⟩
  | .hbm, ⟨7, _⟩ => ⟨S_, .i32⟩
  | .hbm, ⟨8, _⟩ => ⟨S_, .f32⟩
  | .hbm, ⟨9, _⟩ => ⟨S16x640, .f32⟩
  | .hbm, ⟨10, _⟩ => ⟨S1x16x1x640, .f32⟩
  | .hbm, ⟨11, _⟩ => ⟨S1x16x64x640, .f32⟩
  | .hbm, ⟨12, _⟩ => ⟨S16x40960, .f32⟩
  | .hbm, ⟨13, _⟩ => ⟨S16x40896, .f32⟩
  | .hbm, ⟨14, _⟩ => ⟨S16x64x639, .f32⟩
  | .hbm, ⟨15, _⟩ => ⟨S16x64x576, .f32⟩
  | .hbm, ⟨16, _⟩ => ⟨S_, .f32⟩
  | .hbm, ⟨17, _⟩ => ⟨S_, .f32⟩
  | .hbm, ⟨18, _⟩ => ⟨S16x64x768, .f32⟩
  | .hbm, ⟨19, _⟩ => ⟨S_, .f32⟩
  | .hbm, ⟨20, _⟩ => ⟨S_, .f32⟩
  | .hbm, ⟨21, _⟩ => ⟨S16x64x768, .f32⟩
  | .hbm, ⟨22, _⟩ => ⟨S_, .f32⟩
  | .hbm, ⟨23, _⟩ => ⟨S_, .f32⟩
  | .hbm, ⟨24, _⟩ => ⟨S16x64x768, .f32⟩
  | .hbm, ⟨25, _⟩ => ⟨S_, .f32⟩
  | .hbm, ⟨26, _⟩ => ⟨S_, .f32⟩
  | .hbm, ⟨27, _⟩ => ⟨S16x64x768, .f32⟩
  | .hbm, ⟨28, _⟩ => ⟨S16x256x768, .f32⟩
  | .hbm, ⟨29, _⟩ => ⟨S4x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S16x256x768, .f32⟩
  | .local _ .vmem, ⟨15, _⟩ => ⟨S1x256x1024, .bf16⟩
  | .local _ .vmem, ⟨16, _⟩ => ⟨S1x256x1024, .bf16⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call1_v0 : Ref sig .tc := ⟨.hbm, 17, rfl⟩
abbrev main_v12 : Ref sig .tc := ⟨.hbm, 18, rfl⟩
abbrev main_cst_0 : Ref sig .tc := ⟨.hbm, 19, rfl⟩
abbrev main_call2_v0 : Ref sig .tc := ⟨.hbm, 20, rfl⟩
abbrev main_v13 : Ref sig .tc := ⟨.hbm, 21, rfl⟩
abbrev main_cst_1 : Ref sig .tc := ⟨.hbm, 22, rfl⟩
abbrev main_call3_v0 : Ref sig .tc := ⟨.hbm, 23, rfl⟩
abbrev main_v14 : Ref sig .tc := ⟨.hbm, 24, rfl⟩
abbrev main_cst_2 : Ref sig .tc := ⟨.hbm, 25, rfl⟩
abbrev main_call4_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let c0_i32_0 : BitVec 32 := 0#32
  ![arg0.toNat, v1.toNat, c1_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x3072 : Shape := ⟨3, ![4, 4096, 3072]⟩
abbrev S16x257 : Shape := ⟨2, ![16, 257]⟩
abbrev S4x4096x1024 : Shape := ⟨3, ![4, 4096, 1024]⟩
abbrev S4x4096x16x64 : Shape := ⟨4, ![4, 4096, 16, 64]⟩
abbrev S4x64x64x16x64 : Shape := ⟨5, ![4, 64, 64, 16, 64]⟩
abbrev S_ : Shape := ⟨0, ![]⟩
abbrev S64x4x64x16x64 : Shape := ⟨5, ![64, 4, 64, 16, 64]⟩
abbrev S4x4608x16x64 : Shape := ⟨4, ![4, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1 : Shape := ⟨1, ![1]⟩
abbrev S1x4x64x16x64 : Shape := ⟨5, ![1, 4, 64, 16, 64]⟩
abbrev S4x64x16x64 : Shape := ⟨4, ![4, 64, 16, 64]⟩
abbrev S4x576x16x64 : Shape := ⟨4, ![4, 576, 16, 64]⟩
abbrev S4x16x64x576 : Shape := ⟨4, ![4, 16, 64, 576]⟩
abbrev S1x16x64x576 : Shape := ⟨4, ![1, 16, 64, 576]⟩
abbrev S1x1x1x576 : Shape := ⟨4, ![1, 1, 1, 576]⟩
abbrev S4x16x64 : Shape := ⟨3, ![4, 16, 64]⟩
abbrev S4x16x64x1 : Shape := ⟨4, ![4, 16, 64, 1]⟩
abbrev S4x16x64x64 : Shape := ⟨4, ![4, 16, 64, 64]⟩

abbrev nBuf : Space → Nat
  | .hbm => 134
  | .vmem => 0
  | .smem => 0
  | _ => 0

abbrev hbmTy0_0 (i : Nat) : BufTy := match i % 128 with
  | 0 => ⟨S4x4096x3072, .bf16⟩
  | 1 => ⟨S16x257, .f32⟩
  | 2 => ⟨S4x4096x3072, .f32⟩
  | 3 => ⟨S4x4096x1024, .f32⟩
  | 4 => ⟨S4x4096x1024, .f32⟩
  | 5 => ⟨S4x4096x1024, .f32⟩
  | 6 => ⟨S4x4096x16x64, .f32⟩
  | 7 => ⟨S4x4096x16x64, .f32⟩
  | 8 => ⟨S4x4096x16x64, .f32⟩
  | 9 => ⟨S4x64x64x16x64, .f32⟩
  | 10 => ⟨S_, .f32⟩
  | 11 => ⟨S4x64x64x16x64, .f32⟩
  | 12 => ⟨S4x64x64x16x64, .f32⟩
  | 13 => ⟨S64x4x64x16x64, .f32⟩
  | 14 => ⟨S_, .i32⟩
  | 15 => ⟨S_, .f32⟩
  | 16 => ⟨S4x4608x16x64, .f32⟩
  | 17 => ⟨S_, .i32⟩
  | 18 => ⟨S_, .f32⟩
  | 19 => ⟨S4x4608x16x64, .f32⟩
  | 20 => ⟨S64, .i32⟩
  | 21 => ⟨S64x1, .i32⟩
  | 22 => ⟨S_, .i32⟩
  | 23 => ⟨S64x1, .i32⟩
  | 24 => ⟨S64x1, .i32⟩
  | 25 => ⟨S576, .i32⟩
  | 26 => ⟨S1x576, .i32⟩
  | 27 => ⟨S64x576, .i32⟩
  | 28 => ⟨S64x576, .i32⟩
  | 29 => ⟨S64x576, .i32⟩
  | 30 => ⟨S_, .i32⟩
  | 31 => ⟨S_, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i32⟩
  | 41 => ⟨S_, .i32⟩
  | 42 => ⟨S64x576, .i32⟩
  | 43 => ⟨S64x576, .i1⟩
  | 44 => ⟨S_, .i32⟩
  | 45 => ⟨S64x576, .i32⟩
  | 46 => ⟨S64x576, .i32⟩
  | 47 => ⟨S64x576, .i32⟩
  | 48 => ⟨S64x576x1, .i32⟩
  | 49 => ⟨S16x64x576, .f32⟩
  | 50 => ⟨S64, .i32⟩
  | 51 => ⟨S_, .f32⟩
  | 52 => ⟨S64x4x64x16x64, .f32⟩
  | 53 => ⟨S_, .i32⟩
  | 54 => ⟨S64, .i32⟩
  | 55 => ⟨S64x4x64x16x64, .f32⟩
  | 56 => ⟨S4x4608x16x64, .f32⟩
  | 57 => ⟨S4x4608x16x64, .f32⟩
  | 58 => ⟨S16x64x576, .f32⟩
  | 59 => ⟨S_, .i32⟩
  | 60 => ⟨S64x4x64x16x64, .f32⟩
  | 61 => ⟨S_, .i32⟩
  | 62 => ⟨S_, .i1⟩
  | 63 => ⟨S1, .i32⟩
  | 64 => ⟨S_, .i32⟩
  | 65 => ⟨S_, .i32⟩
  | 66 => ⟨S_, .i32⟩
  | 67 => ⟨S_, .i32⟩
  | 68 => ⟨S_, .i32⟩
  | 69 => ⟨S1x4x64x16x64, .f32⟩
  | 70 => ⟨S4x64x16x64, .f32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S4x576x16x64, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S4x576x16x64, .f32⟩
  | 91 => ⟨S4x16x64x576, .f32⟩
  | 92 => ⟨S1x16x64x576, .f32⟩
  | 93 => ⟨S4x16x64x576, .f32⟩
  | 94 => ⟨S4x16x64x576, .f32⟩
  | 95 => ⟨S576, .i32⟩
  | 96 => ⟨S576, .i32⟩
  | 97 => ⟨S576, .i32⟩
  | 98 => ⟨S_, .i32⟩
  | 99 => ⟨S576, .i32⟩
  | 100 => ⟨S576, .i1⟩
  | 101 => ⟨S1x1x1x576, .i1⟩
  | 102 => ⟨S_, .f32⟩
  | 103 => ⟨S_, .f32⟩
  | 104 => ⟨S4x16x64x576, .i1⟩
  | 105 => ⟨S4x16x64x576, .f32⟩
  | 106 => ⟨S4x16x64x576, .f32⟩
  | 107 => ⟨S_, .f32⟩
  | 108 => ⟨S4x16x64, .f32⟩
  | 109 => ⟨S_, .f32⟩
  | 110 => ⟨S4x16x64, .f32⟩
  | 111 => ⟨S4x16x64, .f32⟩
  | 112 => ⟨S4x16x64x1, .f32⟩
  | 113 => ⟨S4x16x64x576, .f32⟩
  | 114 => ⟨S4x16x64x576, .f32⟩
  | 115 => ⟨S4x16x64x576, .f32⟩
  | 116 => ⟨S_, .f32⟩
  | 117 => ⟨S4x16x64, .f32⟩
  | 118 => ⟨S4x16x64x1, .f32⟩
  | 119 => ⟨S4x16x64x576, .f32⟩
  | 120 => ⟨S4x16x64x576, .f32⟩
  | 121 => ⟨S4x16x64x64, .f32⟩
  | 122 => ⟨S4x64x16x64, .f32⟩
  | 123 => ⟨S1x4x64x16x64, .f32⟩
  | 124 => ⟨S_, .i32⟩
  | 125 => ⟨S_, .i32⟩
  | 126 => ⟨S_, .i32⟩
  | 127 => ⟨S_, .i32⟩
  | _ => ⟨S4x4096x3072, .bf16⟩

abbrev hbmTy0_1 (i : Nat) : BufTy := match i % 128 with
  | 0 => ⟨S64x4x64x16x64, .f32⟩
  | 1 => ⟨S_, .i32⟩
  | 2 => ⟨S_, .i32⟩
  | 3 => ⟨S4x64x64x16x64, .f32⟩
  | 4 => ⟨S4x4096x1024, .f32⟩
  | 5 => ⟨S4x4096x1024, .bf16⟩
  | _ => ⟨S4x4096x3072, .bf16⟩

abbrev hbmTy (i : Nat) : BufTy := match i / 128 with
  | 0 => hbmTy0_0 i
  | 1 => hbmTy0_1 i
  | _ => ⟨S4x4096x3072, .bf16⟩

abbrev bufTy : (tb : Table) → Fin (tcTables nBuf tb) → BufTy
  | .hbm, ⟨i, _⟩ => hbmTy i
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_c_8 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v34_3 : Ref sig .tc := ⟨.hbm, 57, rfl⟩
abbrev main_v34_4 : Ref sig .tc := ⟨.hbm, 58, rfl⟩
abbrev main_v34_5 : Ref sig .tc := ⟨.hbm, 59, rfl⟩
abbrev main_v34_6 : Ref sig .tc := ⟨.hbm, 60, rfl⟩
abbrev main_while0c_c_15 : Ref sig .tc := ⟨.hbm, 61, rfl⟩
abbrev main_while0c_v38 : Ref sig .tc := ⟨.hbm, 62, rfl⟩
abbrev main_while0b_call3_v0 : Ref sig .tc := ⟨.hbm, 63, rfl⟩
abbrev main_while0b_v38 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_c_2 : Ref sig .tc := ⟨.hbm, 68, rfl⟩
abbrev main_while0b_call4_v0 : Ref sig .tc := ⟨.hbm, 69, rfl⟩
abbrev main_while0b_v39 : Ref sig .tc := ⟨.hbm, 70, rfl⟩
abbrev main_while0b_c_15 : Ref sig .tc := ⟨.hbm, 71, rfl⟩
abbrev main_while0b_v40 : Ref sig .tc := ⟨.hbm, 72, rfl⟩
abbrev main_while0b_c_16 : Ref sig .tc := ⟨.hbm, 73, rfl⟩
abbrev main_while0b_v41 : Ref sig .tc := ⟨.hbm, 74, rfl⟩
abbrev main_while0b_c_17 : Ref sig .tc := ⟨.hbm, 75, rfl⟩
abbrev main_while0b_v42 : Ref sig .tc := ⟨.hbm, 76, rfl⟩
abbrev main_while0b_v43 : Ref sig .tc := ⟨.hbm, 77, rfl⟩
abbrev main_while0b_c_18 : Ref sig .tc := ⟨.hbm, 78, rfl⟩
abbrev main_while0b_c_19 : Ref sig .tc := ⟨.hbm, 79, rfl⟩
abbrev main_while0b_c_20 : Ref sig .tc := ⟨.hbm, 80, rfl⟩
abbrev main_while0b_v44 : Ref sig .tc := ⟨.hbm, 81, rfl⟩
abbrev main_while0b_c_21 : Ref sig .tc := ⟨.hbm, 82, rfl⟩
abbrev main_while0b_v45 : Ref sig .tc := ⟨.hbm, 83, rfl⟩
abbrev main_while0b_c_22 : Ref sig .tc := ⟨.hbm, 84, rfl⟩
abbrev main_while0b_v46 : Ref sig .tc := ⟨.hbm, 85, rfl⟩
abbrev main_while0b_v47 : Ref sig .tc := ⟨.hbm, 86, rfl⟩
abbrev main_while0b_c_23 : Ref sig .tc := ⟨.hbm, 87, rfl⟩
abbrev main_while0b_c_24 : Ref sig .tc := ⟨.hbm, 88, rfl⟩
abbrev main_while0b_c_25 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_v54 : Ref sig .tc := ⟨.hbm, 96, rfl⟩
abbrev main_while0b_v55 : Ref sig .tc := ⟨.hbm, 97, rfl⟩
abbrev main_while0b_c_26 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_cst_27 : Ref sig .tc := ⟨.hbm, 102, rfl⟩
abbrev main_while0b_call5_v0 : Ref sig .tc := ⟨.hbm, 103, rfl⟩
abbrev main_while0b_call5_v1 : Ref sig .tc := ⟨.hbm, 104, rfl⟩
abbrev main_while0b_call5_v2 : Ref sig .tc := ⟨.hbm, 105, rfl⟩
abbrev main_while0b_v59 : Ref sig .tc := ⟨.hbm, 106, rfl⟩
abbrev main_while0b_cst_28 : Ref sig .tc := ⟨.hbm, 107, rfl⟩
abbrev main_while0b_v60 : Ref sig .tc := ⟨.hbm, 108, rfl⟩
abbrev main_while0b_cst_29 : Ref sig .tc := ⟨.hbm, 109, rfl⟩
abbrev main_while0b_v61 : Ref sig .tc := ⟨.hbm, 110, rfl⟩
abbrev main_while0b_v62 : Ref sig .tc := ⟨.hbm, 111, rfl⟩
abbrev main_while0b_v63 : Ref sig .tc := ⟨.hbm, 112, rfl⟩
abbrev main_while0b_v64 : Ref sig .tc := ⟨.hbm, 113, rfl⟩
abbrev main_while0b_v65 : Ref sig .tc := ⟨.hbm, 114, rfl⟩
abbrev main_while0b_v66 : Ref sig .tc := ⟨.hbm, 115, rfl⟩
abbrev main_while0b_cst_30 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_call6_v0 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_call6_c_1 : Ref sig .tc := ⟨.hbm, 126, rfl⟩
abbrev main_while0b_call6_c_2 : Ref sig .tc := ⟨.hbm, 127, rfl⟩
abbrev main_while0b_v73 : Ref sig .tc := ⟨.hbm, 128, rfl⟩
abbrev main_while0b_c_31 : Ref sig .tc := ⟨.hbm, 129, rfl⟩
abbrev main_while0b_v74 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S512x1024 : Shape := ⟨2, ![512, 1024]⟩
abbrev S1 : Shape := ⟨1, ![1]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 6
  | .vmem => 11
  | .smem => 2
  | _ => 0

abbrev bufTy : (tb : Table) → Fin (tcTables nBuf tb) → BufTy
  | .hbm, ⟨0, _⟩ => ⟨S36864x1024, .f32⟩
  | .hbm, ⟨1, _⟩ => ⟨S8x1024x7168, .f32⟩
  | .hbm, ⟨2, _⟩ => ⟨S8x3584x1024, .f32⟩
  | .hbm, ⟨3, _⟩ => ⟨S8x1024x7168, .bf16⟩
  | .hbm, ⟨4, _⟩ => ⟨S8x3584x1024, .bf16⟩
  | .hbm, ⟨5, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .smem, ⟨0, _⟩ => ⟨S72, .i32⟩
  | .local _ .smem, ⟨1, _⟩ => ⟨S72, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0_i32 : BitVec 32 := 0#32
  let v2 : BitVec 1 := Scalar.cmpi .sgt v1 c0_i32
  let c0_i32_0 : BitVec 32 := 0#32
  let v3 : BitVec 32 := Scalar.select v2 arg0 c0_i32_0
  let c0_i32_1 : BitVec 32 := 0#32
  let c0_i32_2 : BitVec 32 := 0#32
  ![v3.toNat, c0_i32_1.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c2_i32 : BitVec 32 := 2#32
  let v6 : BitVec 32 := Scalar.addi c2_i32 v5
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x1024 : Shape := ⟨2, ![36864, 1024]⟩
abbrev S72 : Shape := ⟨1, ![72]⟩
abbrev S8x1024x7168 : Shape := ⟨3, ![8, 1024, 7168]⟩
abbrev S8x3584x1024 : Shape := ⟨3, ![8, 3584, 1024]⟩
abbrev S72x1 : Shape := ⟨2, ![72, 1]⟩
abbrev S72x512 : Shape := ⟨2, ![72, 512]⟩
abbrev S36864 : Shape := ⟨1, ![36864]⟩
abbrev S512 : Shape := ⟨1, ![512]⟩
abbrev S1x512 : Shape := ⟨2, ![1, 512]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S8x7168x36864 : Shape := ⟨3, ![8, 7168, 36864]⟩
abbrev S8x36864x7168 : Shape := ⟨3, ![8, 36864, 7168]⟩
abbrev S8x36864x3584 : Shape := ⟨3, ![8, 36864, 3584]⟩
abbrev S_ : Shape := ⟨0, ![]⟩
abbrev S8x36864x1024 : Shape := ⟨3, ![8, 36864, 1024]⟩
abbrev S8x36864 : Shape := ⟨2, ![8, 36864]⟩
abbrev S8x36864x1 : Shape := ⟨3, ![8, 36864, 1]⟩

abbrev nBuf : Space → Nat
  | .hbm => 47
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S72, .i32⟩
  | .hbm, ⟨2, _⟩ => ⟨S72, .i32⟩
  | .hbm, ⟨3, _⟩ => ⟨S8x1024x7168, .f32⟩
  | .hbm, ⟨4, _⟩ => ⟨S8x3584x1024, .f32⟩
  | .hbm, ⟨5, _⟩ => ⟨S72x1, .i32⟩
  | .hbm, ⟨6, _⟩ => ⟨S72x512, .i32⟩
  | .hbm, ⟨7, _⟩ => ⟨S36864, .i32⟩
  | .hbm, ⟨8, _⟩ => ⟨S512, .i32⟩
  | .hbm, ⟨9, _⟩ => ⟨S1x512, .i32⟩
  | .hbm, ⟨10, _⟩ => ⟨S72x512, .i32⟩
  | .hbm, ⟨11, _⟩ => ⟨S36864, .i32⟩
  | .hbm, ⟨12, _⟩ => ⟨S72x1, .i32⟩
  | .hbm, ⟨13, _⟩ => ⟨S72x512, .i32⟩
  | .hbm, ⟨14, _⟩ => ⟨S36864, .i32⟩
  | .hbm, ⟨15, _⟩ => ⟨S36864x1, .i32⟩
  | .hbm, ⟨16, _⟩ => ⟨S8, .i32⟩
  | .hbm, ⟨17, _⟩ => ⟨S1x8, .i32⟩
  | .hbm, ⟨18, _⟩ => ⟨S36864x8, .i32⟩
  | .hbm, ⟨19, _⟩ => ⟨S36864x8, .i32⟩
  | .hbm, ⟨20, _⟩ => ⟨S36864x8, .i1⟩
  | .hbm, ⟨21, _⟩ => ⟨S36864, .i1⟩
  | .hbm, ⟨22, _⟩ => ⟨S36864x1, .i1⟩
  | .hbm, ⟨23, _⟩ => ⟨S36864x8, .i1⟩
  | .hbm, ⟨24, _⟩ => ⟨S36864x8, .i1⟩
  | .hbm, ⟨25, _⟩ => ⟨S36864x8, .f32⟩
  | .hbm, ⟨26, _⟩ => ⟨S8x7168x36864, .f32⟩
  | .hbm, ⟨27, _⟩ => ⟨S8x36864x7168, .f32⟩
  | .hbm, ⟨28, _⟩ => ⟨S8x36864x3584, .f32⟩
  | .hbm, ⟨29, _⟩ => ⟨S8x36864x3584, .f32⟩
  | .hbm, ⟨30, _⟩ => ⟨S8x36864x3584, .f32⟩
  | .hbm, ⟨31, _⟩ => ⟨S8x36864x3584, .f32⟩
  | .hbm, ⟨32, _⟩ => ⟨S_, .f32⟩
  | .hbm, ⟨33, _⟩ => ⟨S8x36864x3584, .f32⟩
  | .hbm, ⟨34, _⟩ => ⟨S8x36864x3584, .f32⟩
  | .hbm, ⟨35, _⟩ => ⟨S_, .f32⟩
  | .hbm, ⟨36, _⟩ => ⟨S8x36864x3584, .f32⟩
  | .hbm, ⟨37, _⟩ => ⟨S8x36864x3584, .f32⟩
  | .hbm, ⟨38, _⟩ => ⟨S8x36864x3584, .f32⟩
  | .hbm, ⟨39, _⟩ => ⟨S8x36864x3584, .f32⟩
  | .hbm, ⟨40, _⟩ => ⟨S8x36864x1024, .f32⟩
  | .hbm, ⟨41, _⟩ => ⟨S8x36864, .f32⟩
  | .hbm, ⟨42, _⟩ => ⟨S8x36864x1, .f32⟩
  | .hbm, ⟨43, _⟩ => ⟨S8x36864x1024, .f32⟩
  | .hbm, ⟨44, _⟩ => ⟨S8x36864x1024, .f32⟩
  | .hbm, ⟨45, _⟩ => ⟨S_, .f32⟩
  | .hbm, ⟨46, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel3.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x1024, .bf16⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_17 : BitVec 32 := 0#32
  let v29 : BitVec 1 := Scalar.cmpi .eq arg1 c0_i32_17
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel4.lean ====
abbrev S16384x1024 : Shape := ⟨2, ![16384, 1024]⟩
abbrev S1024x4112 : Shape := ⟨2, ![1024, 4112]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S1024x4096, .f32⟩
  | .hbm, ⟨3, _⟩ => ⟨S1024x4096, .bf16⟩
  | .hbm, ⟨4, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S1024x4112 : Shape := ⟨2, ![1024, 4112]⟩
abbrev S16384x4112 : Shape := ⟨2, ![16384, 4112]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S16384x4112, .f32⟩
  | .hbm, ⟨3, _⟩ => ⟨S16384x4096, .f32⟩
  | .hbm, ⟨4, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x1024 : Shape := ⟨2, ![16384, 1024]⟩
abbrev S1024x2048 : Shape := ⟨2, ![1024, 2048]⟩
abbrev S1024x1024 : Shape := ⟨2, ![1024, 1024]⟩
abbrev S1024x3072 : Shape := ⟨2, ![1024, 3072]⟩
abbrev S16384x3072 : Shape := ⟨2, ![16384, 3072]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S1024x1024, .f32⟩
  | .hbm, ⟨3, _⟩ => ⟨S1024x3072, .f32⟩
  | .hbm, ⟨4, _⟩ => ⟨S1024x3072, .bf16⟩
  | .hbm, ⟨5, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x1024 : Shape := ⟨2, ![16384, 1024]⟩
abbrev S1024x2048 : Shape := ⟨2, ![1024, 2048]⟩
abbrev S1024x1024 : Shape := ⟨2, ![1024, 1024]⟩
abbrev S16384x2048 : Shape := ⟨2, ![16384, 2048]⟩
abbrev S16384x3072 : Shape := ⟨2, ![16384, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S1024x1024, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x3072, .f32⟩
  | .hbm, ⟨7, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4x64x8x64x128 : Shape := ⟨5, ![4, 64, 8, 64, 128]⟩
abbrev S4x4096x4096 : Shape := ⟨3, ![4, 4096, 4096]⟩
abbrev S4x4096x1024 : Shape := ⟨3, ![4, 4096, 1024]⟩
abbrev S1024x1024 : Shape := ⟨2, ![1024, 1024]⟩
abbrev S128 : Shape := ⟨1, ![128]⟩
abbrev S1024 : Shape := ⟨1, ![1024]⟩
abbrev S1x128 : Shape := ⟨2, ![1, 128]⟩
abbrev S1x1024 : Shape := ⟨2, ![1, 1024]⟩
abbrev S1x4x8x64x128 : Shape := ⟨5, ![1, 4, 8, 64, 128]⟩
abbrev S1x256x1024 : Shape := ⟨3, ![1, 256, 1024]⟩
abbrev S256x1024 : Shape := ⟨2, ![256, 1024]⟩
abbrev S1x1x1x64x128 : Shape := ⟨5, ![1, 1, 1, 64, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x64x8x64x128, .bf16⟩
  | .hbm, ⟨1, _⟩ => ⟨S4x4096x4096, .bf16⟩
  | .hbm, ⟨2, _⟩ => ⟨S4x4096x1024, .f32⟩
  | .hbm, ⟨3, _⟩ => ⟨S1024x1024, .f32⟩
  | .hbm, ⟨4, _⟩ => ⟨S128, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S4x4096x1024, .f32⟩
  | .hbm, ⟨12, _⟩ => ⟨S4x4096x1024, .bf16⟩
  | .local _ .vmem, ⟨0, _⟩ => ⟨S1x4x8x64x128, .bf16⟩
  | .local _ .vmem, ⟨1, _⟩ => ⟨S1x4x8x64x128, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S256x1024, .bf16⟩
  | _, _ => ⟨S4x64x8x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4x64x8x64x128 : Shape := ⟨5, ![4, 64, 8, 64, 128]⟩
abbrev S4x4096x4096 : Shape := ⟨3, ![4, 4096, 4096]⟩
abbrev S4x4096x1024 : Shape := ⟨3, ![4, 4096, 1024]⟩
abbrev S1024x1024 : Shape := ⟨2, ![1024, 1024]⟩
abbrev S128 : Shape := ⟨1, ![128]⟩
abbrev S1024 : Shape := ⟨1, ![1024]⟩
abbrev S4x64x64x8x128 : Shape := ⟨5, ![4, 64, 64, 8, 128]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x64x8x64x128, .bf16⟩
  | .hbm, ⟨1, _⟩ => ⟨S4x4096x4096, .bf16⟩
  | .hbm, ⟨2, _⟩ => ⟨S4x4096x1024, .f32⟩
  | .hbm, ⟨3, _⟩ => ⟨S1024x1024, .f32⟩
  | .hbm, ⟨4, _⟩ => ⟨S128, .f32⟩
  | .hbm, ⟨5, _⟩ => ⟨S1024, .f32⟩
  | .hbm, ⟨6, _⟩ => ⟨S1024, .f32⟩
  | .hbm, ⟨7, _⟩ => ⟨S4x64x8x64x128, .f32⟩
  | .hbm, ⟨8, _⟩ => ⟨S4x64x64x8x128, .f32⟩
  | .hbm, ⟨9, _⟩ => ⟨S4x4096x8x128, .f32⟩
  | .hbm, ⟨10, _⟩ => ⟨S4x4096x1024, .bf16⟩
  | .hbm, ⟨11, _⟩ => ⟨S4x4096x1024, .f32⟩
  | .hbm, ⟨12, _⟩ => ⟨S4x4096x8x128, .f32⟩
  | .hbm, ⟨13, _⟩ => ⟨S_, .f32⟩
  | .hbm, ⟨14, _⟩ => ⟨S4x4096x8, .f32⟩
  | .hbm, ⟨15, _⟩ => ⟨S4x4096x8x1, .f32⟩
  | .hbm, ⟨16, _⟩ => ⟨S_, .f32⟩
  | .hbm, ⟨17, _⟩ => ⟨S4x4096x8x1, .f32⟩
  | .hbm, ⟨18, _⟩ => ⟨S4x4096x8x1, .f32⟩
  | .hbm, ⟨19, _⟩ => ⟨S_, .f32⟩
  | .hbm, ⟨20, _⟩ => ⟨S4x4096x8x1, .f32⟩
  | .hbm, ⟨21, _⟩ => ⟨S4x4096x8x1, .f32⟩
  | .hbm, ⟨22, _⟩ => ⟨S4x4096x8x1, .f32⟩
  | .hbm, ⟨23, _⟩ => ⟨S4x4096x8x128, .f32⟩
  | .hbm, ⟨24, _⟩ => ⟨S4x4096x8x128, .f32⟩
  | .hbm, ⟨25, _⟩ => ⟨S1x1x1x128, .f32⟩
  | .hbm, ⟨26, _⟩ => ⟨S4x4096x8x128, .f32⟩
  | .hbm, ⟨27, _⟩ => ⟨S4x4096x8x128, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x8x128, .f32⟩
  | .hbm, ⟨38, _⟩ => ⟨S4x4096x8x128, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S4x4096x1024, .bf16⟩
  | _, _ => ⟨S4x64x8x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x128, .i32⟩
  | .hbm, ⟨14, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x128, .f32⟩
  | .local _ .vmem, ⟨8, _⟩ => ⟨S512x1024, .f32⟩
  | .local _ .vmem, ⟨9, _⟩ => ⟨S512x1024, .f32⟩
  | .local _ .vmem, ⟨10, _⟩ => ⟨S512x128, .i32⟩
  | .local _ .vmem, ⟨11, _⟩ => ⟨S512x128, .i32⟩
  | .local _ .vmem, ⟨12, _⟩ => ⟨S512x128, .f32⟩
  | .local _ .vmem, ⟨13, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
variable {F : FTy → Type} [FloatOps F] [Named F]
def κ : String → Option EReal := fun
  | "mask" => some ⊥
  | _ => none
-- ==== Reference7Ideal.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x128 : Shape := ⟨2, ![16384, 128]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x8, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x8, .f32⟩
  | .hbm, ⟨40, _⟩ => ⟨S16384x2, .f32⟩
  | .hbm, ⟨41, _⟩ => ⟨S16384x2, .i32⟩
  | .hbm, ⟨42, _⟩ => ⟨S_, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1, .f32⟩
  | .hbm, ⟨48, _⟩ => ⟨S16384x2, .f32⟩
  | .hbm, ⟨49, _⟩ => ⟨S16384x2, .f32⟩
  | .hbm, ⟨50, _⟩ => ⟨S16384x2, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x2, .f32⟩
  | .hbm, ⟨55, _⟩ => ⟨S16384x2, .f32⟩
  | .hbm, ⟨56, _⟩ => ⟨S_, .i32⟩
  | .hbm, ⟨57, _⟩ => ⟨S_, .i32⟩
  | .hbm, ⟨58, _⟩ => ⟨S16384x128, .i32⟩
  | .hbm, ⟨59, _⟩ => ⟨S_, .i32⟩
  | .hbm, ⟨60, _⟩ => ⟨S_, .f32⟩
  | .hbm, ⟨61, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_values : Ref sig .tc := ⟨.hbm, 40, rfl⟩
abbrev main_indices : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_call0_v0 : Ref sig .tc := ⟨.hbm, 57, rfl⟩
abbrev main_v39 : Ref sig .tc := ⟨.hbm, 58, rfl⟩
abbrev main_c_8 : Ref sig .tc := ⟨.hbm, 59, rfl⟩
abbrev main_call1_v0 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel8.lean ====
abbrev S16384x1024 : Shape := ⟨2, ![16384, 1024]⟩
abbrev S1024x4112 : Shape := ⟨2, ![1024, 4112]⟩
abbrev S1024x16 : Shape := ⟨2, ![1024, 16]⟩
abbrev S_ : Shape := ⟨0, ![]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S1024x16, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x1024 : Shape := ⟨2, ![16384, 1024]⟩
abbrev S1024x4112 : Shape := ⟨2, ![1024, 4112]⟩
abbrev S1024x16 : Shape := ⟨2, ![1024, 16]⟩
abbrev S16384x16 : Shape := ⟨2, ![16384, 16]⟩
abbrev S_ : Shape := ⟨0, ![]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4112, .f32⟩
  | .hbm, ⟨2, _⟩ => ⟨S1024x16, .f32⟩
  | .hbm, ⟨3, _⟩ => ⟨S16384x16, .f32⟩
  | .hbm, ⟨4, _⟩ => ⟨S_, .i32⟩
  | .hbm, ⟨5, _⟩ => ⟨S_, .f32⟩
  | .hbm, ⟨6, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel9.lean ====
abbrev S4x64x8x64x128 : Shape := ⟨5, ![4, 64, 8, 64, 128]⟩
abbrev S4x64x8x64x64 : Shape := ⟨5, ![4, 64, 8, 64, 64]⟩
abbrev S4x64x8x128 : Shape := ⟨4, ![4, 64, 8, 128]⟩
abbrev S4x1x8x64x128 : Shape := ⟨5, ![4, 1, 8, 64, 128]⟩
abbrev S4x1x8x64x64 : Shape := ⟨5, ![4, 1, 8, 64, 64]⟩
abbrev S4x1x8x128 : Shape := ⟨4, ![4, 1, 8, 128]⟩
abbrev S32x128x128 : Shape := ⟨3, ![32, 128, 128]⟩
abbrev S4x8x64x128 : Shape := ⟨4, ![4, 8, 64, 128]⟩
abbrev S32x64x128 : Shape := ⟨3, ![32, 64, 128]⟩
abbrev S4x8x64x64 : Shape := ⟨4, ![4, 8, 64, 64]⟩
abbrev S32x64x64 : Shape := ⟨3, ![32, 64, 64]⟩
abbrev S4x8x128 : Shape := ⟨3, ![4, 8, 128]⟩
abbrev S32x1x128 : Shape := ⟨3, ![32, 1, 128]⟩

abbrev nBuf : Space → Nat
  | .hbm => 7
  | .vmem => 15
  | .smem => 0
  | _ => 0

abbrev bufTy : (tb : Table) → Fin (tcTables nBuf tb) → BufTy
  | .hbm, ⟨0, _⟩ => ⟨S4x64x8x64x128, .bf16⟩
  | .hbm, ⟨1, _⟩ => ⟨S4x64x8x64x128, .bf16⟩
  | .hbm, ⟨2, _⟩ => ⟨S4x64x8x64x128, .bf16⟩
  | .hbm, ⟨3, _⟩ => ⟨S4x64x8x64x128, .bf16⟩
  | .hbm, ⟨4, _⟩ => ⟨S4x64x8x64x64, .bf16⟩
  | .hbm, ⟨5, _⟩ => ⟨S4x64x8x128, .f32⟩
  | .hbm, ⟨6, _⟩ => ⟨S4x64x8x64x128, .bf16⟩
  | .local _ .vmem, ⟨0, _⟩ => ⟨S4x1x8x64x128, .bf16⟩
  | .local _ .vmem, ⟨1, _⟩ => ⟨S4x1x8x64x128, .bf16⟩
  | .local _ .vmem, ⟨2, _⟩ => ⟨S4x1x8x64x128, .bf16⟩
  | .local _ .vmem, ⟨3, _⟩ => ⟨S4x1x8x64x128, .bf16⟩
  | .local _ .vmem, ⟨4, _⟩ => ⟨S4x1x8x64x128, .bf16⟩
  | .local _ .vmem, ⟨5, _⟩ => ⟨S4x1x8x64x128, .bf16⟩
  | .local _ .vmem, ⟨6, _⟩ => ⟨S4x1x8x64x128, .bf16⟩
  | .local _ .vmem, ⟨7, _⟩ => ⟨S4x1x8x64x128, .bf16⟩
  | .local _ .vmem, ⟨8, _⟩ => ⟨S4x1x8x64x64, .bf16⟩
  | .local _ .vmem, ⟨9, _⟩ => ⟨S4x1x8x64x64, .bf16⟩
  | .local _ .vmem, ⟨10, _⟩ => ⟨S4x1x8x128, .f32⟩
  | .local _ .vmem, ⟨11, _⟩ => ⟨S4x1x8x128, .f32⟩
  | .local _ .vmem, ⟨12, _⟩ => ⟨S4x1x8x64x128, .bf16⟩
  | .local _ .vmem, ⟨13, _⟩ => ⟨S4x1x8x64x128, .bf16⟩
  | .local _ .vmem, ⟨14, _⟩ => ⟨S32x128x128, .f32⟩
  | _, _ => ⟨S4x64x8x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S4x1x8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x8x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x8x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x8x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x64x8x64x128 : Shape := ⟨5, ![4, 64, 8, 64, 128]⟩
abbrev S4x64x8x64x64 : Shape := ⟨5, ![4, 64, 8, 64, 64]⟩
abbrev S4x64x8x128 : Shape := ⟨4, ![4, 64, 8, 128]⟩
abbrev S_ : Shape := ⟨0, ![]⟩
abbrev S4x8x128x128 : Shape := ⟨4, ![4, 8, 128, 128]⟩
abbrev S64x4x8x64x128 : Shape := ⟨5, ![64, 4, 8, 64, 128]⟩
abbrev S64x4x8x64x64 : Shape := ⟨5, ![64, 4, 8, 64, 64]⟩
abbrev S64x4x8x128 : Shape := ⟨4, ![64, 4, 8, 128]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S4x8x64x64 : Shape := ⟨4, ![4, 8, 64, 64]⟩
abbrev S1x4x8x128 : Shape := ⟨4, ![1, 4, 8, 128]⟩
abbrev S4x8x128 : Shape := ⟨3, ![4, 8, 128]⟩
abbrev S4x8x1x128 : Shape := ⟨4, ![4, 8, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x64x8x64x128, .bf16⟩
  | .hbm, ⟨1, _⟩ => ⟨S4x64x8x64x128, .bf16⟩
  | .hbm, ⟨2, _⟩ => ⟨S4x64x8x64x128, .bf16⟩
  | .hbm, ⟨3, _⟩ => ⟨S4x64x8x64x128, .bf16⟩
  | .hbm, ⟨4, _⟩ => ⟨S4x64x8x64x64, .bf16⟩
  | .hbm, ⟨5, _⟩ => ⟨S4x64x8x128, .f32⟩
  | .hbm, ⟨6, _⟩ => ⟨S_, .f32⟩
  | .hbm, ⟨7, _⟩ => ⟨S4x8x128x128, .f32⟩
  | .hbm, ⟨8, _⟩ => ⟨S4x64x8x64x128, .f32⟩
  | .hbm, ⟨9, _⟩ => ⟨S64x4x8x64x128, .f32⟩
  | .hbm, ⟨10, _⟩ => ⟨S4x64x8x64x128, .f32⟩
  | .hbm, ⟨11, _⟩ => ⟨S64x4x8x64x128, .f32⟩
  | .hbm, ⟨12, _⟩ => ⟨S4x64x8x64x128, .f32⟩
  | .hbm, ⟨13, _⟩ => ⟨S64x4x8x64x128, .f32⟩
  | .hbm, ⟨14, _⟩ => ⟨S4x64x8x64x128, .f32⟩
  | .hbm, ⟨15, _⟩ => ⟨S64x4x8x64x128, .f32⟩
  | .hbm, ⟨16, _⟩ => ⟨S4x64x8x64x64, .f32⟩
  | .hbm, ⟨17, _⟩ => ⟨S64x4x8x64x64, .f32⟩
  | .hbm, ⟨18, _⟩ => ⟨S64x4x8x128, .f32⟩
  | .hbm, ⟨19, _⟩ => ⟨S_, .f32⟩
  | .hbm, ⟨20, _⟩ => ⟨S64x4x8x64x128, .f32⟩
  | .hbm, ⟨21, _⟩ => ⟨S_, .i32⟩
  | .hbm, ⟨22, _⟩ => ⟨S64x4x8x64x128, .f32⟩
  | .hbm, ⟨23, _⟩ => ⟨S64x4x8x64x128, .f32⟩
  | .hbm, ⟨24, _⟩ => ⟨S64x4x8x64x128, .f32⟩
  | .hbm, ⟨25, _⟩ => ⟨S64x4x8x64x128, .f32⟩
  | .hbm, ⟨26, _⟩ => ⟨S64x4x8x64x64, .f32⟩
  | .hbm, ⟨27, _⟩ => ⟨S64x4x8x128, .f32⟩
  | .hbm, ⟨28, _⟩ => ⟨S_, .i32⟩
  | .hbm, ⟨29, _⟩ => ⟨S4x8x128x128, .f32⟩
  | .hbm, ⟨30, _⟩ => ⟨S64x4x8x64x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x8x64x128, .f32⟩
  | .hbm, ⟨38, _⟩ => ⟨S4x8x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x8x64x128, .f32⟩
  | .hbm, ⟨44, _⟩ => ⟨S4x8x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x8x64x128, .f32⟩
  | .hbm, ⟨50, _⟩ => ⟨S4x8x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x4x8x64x128, .f32⟩
  | .hbm, ⟨56, _⟩ => ⟨S4x8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x4x8x64x64, .f32⟩
  | .hbm, ⟨62, _⟩ => ⟨S4x8x64x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x8x128, .f32⟩
  | .hbm, ⟨67, _⟩ => ⟨S4x8x128, .f32⟩
  | .hbm, ⟨68, _⟩ => ⟨S4x8x64x128, .f32⟩
  | .hbm, ⟨69, _⟩ => ⟨S4x8x64x128, .f32⟩
  | .hbm, ⟨70, _⟩ => ⟨S4x8x64x128, .f32⟩
  | .hbm, ⟨71, _⟩ => ⟨S4x8x64x128, .f32⟩
  | .hbm, ⟨72, _⟩ => ⟨S4x8x64x128, .f32⟩
  | .hbm, ⟨73, _⟩ => ⟨S4x8x1x128, .f32⟩
  | .hbm, ⟨74, _⟩ => ⟨S4x8x128x128, .f32⟩
  | .hbm, ⟨75, _⟩ => ⟨S4x8x128x128, .f32⟩
  | .hbm, ⟨76, _⟩ => ⟨S4x8x128x128, .f32⟩
  | .hbm, ⟨77, _⟩ => ⟨S4x8x128x128, .f32⟩
  | .hbm, ⟨78, _⟩ => ⟨S1x4x8x64x128, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S64x4x8x64x128, .f32⟩
  | .hbm, ⟨84, _⟩ => ⟨S_, .i32⟩
  | .hbm, ⟨85, _⟩ => ⟨S_, .i32⟩
  | .hbm, ⟨86, _⟩ => ⟨S4x64x8x64x128, .f32⟩
  | .hbm, ⟨87, _⟩ => ⟨S4x64x8x64x128, .bf16⟩
  | _, _ => ⟨S4x64x8x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_9 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v17 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v18 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v19 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v20 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_v0 : Ref sig .tc := ⟨.hbm, 66, rfl⟩
abbrev main_while0b_v21 : Ref sig .tc := ⟨.hbm, 67, rfl⟩
abbrev main_while0b_v22 : Ref sig .tc := ⟨.hbm, 68, rfl⟩
abbrev main_while0b_v23 : Ref sig .tc := ⟨.hbm, 69, rfl⟩
abbrev main_while0b_v24 : Ref sig .tc := ⟨.hbm, 70, rfl⟩
abbrev main_while0b_v25 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_call6_c_2 : Ref sig .tc := ⟨.hbm, 82, rfl⟩
abbrev main_while0b_v32 : Ref sig .tc := ⟨.hbm, 83, rfl⟩
abbrev main_while0b_c_9 : Ref sig .tc := ⟨.hbm, 84, rfl⟩
abbrev main_while0b_v33 : Ref sig .tc := ⟨.hbm, 85, rfl⟩
abbrev main_v14 : Ref sig .tc := ⟨.hbm, 86, rfl⟩
abbrev main_v15 : Ref sig .tc := ⟨.hbm, 87, rfl⟩

abbrev nD : Nat := 1
abbrev τ : Topo := Topo.v7x

variable {F : FTy → Type} [FloatOps F]

abbrev main_while0_count : Scf.Loop 32 := ⟨0#32, 64#32, 1#32⟩
-- ==== Proof.RefRun.lean ====
/- The reference's loop of 64 trips, one chunk of queries each, as one function iterated on its carried arrays. -/
module

public import proofs.«01_k».proof.ReferenceIdeal
public import proofs.«01_k».proof.Proof.Gen.ReferenceIdeal
public import proofs.«01_k».proof.Proof.Gen.ReferenceIdeal.Step
public import proofs.«01_k».proof.Proof.Gen.ReferenceIdeal.Run

@[expose] public section

noncomputable section

namespace Cert.Proof.RefRun

open Idealize.ShloMosaic Idealize.SL.Sem Idealize.ShloMosaic.StableHlo
open Cert.ReferenceIdeal Cert.ReferenceIdeal.Gen Cert.ReferenceIdeal.Value Cert.ReferenceIdeal.Step

variable {F : FTy → Type} [FloatOps F]

/-- The contents `V` are those before trip `j`: the carried arrays are the state `s`, the list of chunk numbers is the
    one computed before the loop and the counter is `j`. -/
structure Holds (V : Valuation τ sig (Elt F)) (s : State F) (j : ℕ) : Prop where
  out : V (Proc.devRef .tc main_v34_6) = s.main_v34_6
  q : V (Proc.devRef .tc main_v34_1) = s.main_v34_1
  k : V (Proc.devRef .tc main_v34_2) = s.main_v34_2
  v : V (Proc.devRef .tc main_v34_3) = s.main_v34_3
  bias : V (Proc.devRef .tc main_v34_4) = s.main_v34_4
  chunk : V (Proc.devRef .tc main_v34_0) = K_main_v32
  ctr : V (Proc.devRef .tc main_v34_5) = constantI S_ 32 (BitVec.ofNat 32 j)

set_option maxRecDepth 65536 in
set_option maxHeartbeats 1000000 in
/-- Before the first trip the carried arrays are the initial state. -/
theorem holds_entry (m : (ℓ : Loc nD τ sig) → Buf (Elt F) ℓ) (c : Dev nD) :
    Holds (entryContents preI m c) (init (m ((c.tc : Thread nD τ).loc main_arg0)) (m ((c.tc : Thread nD τ).loc main_arg1))) 0 := by
  constructor <;> (simp only [entryContents, afterL_cons, afterL_nil]; after_reads_simp) <;> rfl

set_option maxRecDepth 65536 in
set_option maxHeartbeats 1000000 in
/-- What one trip makes of the output array. -/
theorem out_step {V : Valuation τ sig (Elt F)} {s : State F} {j : ℕ} (h : Holds V s j) :
    Value.step_main_v34_6 V = b65 j s := by
  unfold Value.step_main_v34_6 res_main_while0b_v66 res_main_while0b_v59 res_main_while0b_v40
  rw [h.out, h.q, h.k, h.v, h.bias, h.chunk, h.ctr]
  rfl

/-- One trip takes the state before it to the next. -/
theorem holds_step {V : Valuation τ sig (Elt F)} {s : State F} {j : ℕ} (h : Holds V s j) :
    Holds (STEP V) (step j s) (j + 1) := by
  constructor
  · rw [STEP_main_v34_6, out_step h]; rfl
  · rw [STEP_main_v34_1]; exact h.q
  · rw [STEP_main_v34_2]; exact h.k
  · rw [STEP_main_v34_3]; exact h.v
  · rw [STEP_main_v34_4]; exact h.bias
  · rw [STEP_main_v34_0]; exact h.chunk
  · rw [STEP_main_v34_5]
    unfold Value.step_main_v34_5
    rw [h.ctr]
    funext i
    show BitVec.ofNat 32 j + 1#32 = BitVec.ofNat 32 (j + 1)
    rw [BitVec.ofNat_add]

/-- The state before trip `k`. -/
def iter (x : (⟨S4x4096x3072, .bf16⟩ : BufTy).Contents (Elt F)) (y : (⟨S16x257, .f32⟩ : BufTy).Contents (Elt F)) : ℕ → State F
  | 0 => init x y
  | k + 1 => step k (iter x y k)

/-- After `k` trips the carried arrays are the `k`-th state. -/
theorem holds_iter (m : (ℓ : Loc nD τ sig) → Buf (Elt F) ℓ) (c : Dev nD) : ∀ k,
    Holds (STEP^[k] (entryContents preI m c))
      (iter (m ((c.tc : Thread nD τ).loc main_arg0)) (m ((c.tc : Thread nD τ).loc main_arg1)) k) k
  | 0 => holds_entry m c
  | k + 1 => by
    rw [Function.iterate_succ_apply']
    exact holds_step (holds_iter m c k)

/-- The reference's run: its result is the 64th state's output array, put in the layer's order, and its arguments are
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v37)
        = R_main_v37 (iter (m ((c.tc : Thread nD τ).loc main_arg0)) (m ((c.tc : Thread nD τ).loc main_arg1)) 64)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold out_main_v37 R_main_v37
      rw [(holds_iter m c 64).out]; rfl), (h c).2⟩) (Value.run m ρ)

end Cert.Proof.RefRun

end
-- ==== Proof.SoftmaxMath.lean ====
/- A softmax row weighing values, in its two orders of dividing, over the extended reals. -/
module

public import Idealize.ShloMosaic.Lib.ValueIdx
public import Idealize.ShloMosaic.Lib.FinSumWindow

@[expose] public section

noncomputable section

namespace Cert.Proof.SoftmaxMath

open Idealize.ShloMosaic

/-- The greatest of a row of scores, `⊥` for an empty row. -/
def peak {n : ℕ} (s : Fin n → EReal) : EReal := (Finset.univ : Finset (Fin n)).fold max ⊥ s

/-- The sum of the row's exponentials, each score less the greatest. -/
def mass {n : ℕ} (s : Fin n → EReal) : EReal := ∑ j, Ideal.exp (s j - peak s)

/-- The values summed with the unnormalised weights, the sum divided once by the row's mass. -/
def sumThenDivide {n : ℕ} (s v : Fin n → EReal) : EReal :=
  Ideal.div (∑ j, Ideal.exp (s j - peak s) * v j) (mass s)

/-- The values summed with the weights already divided by the row's mass. -/
def divideThenSum {n : ℕ} (s v : Fin n → EReal) : EReal :=
  ∑ j, v j * Ideal.div (Ideal.exp (s j - peak s)) (mass s)

/-- The greatest score is the supremum of the row. -/
theorem peak_eq_sup {n : ℕ} (s : Fin n → EReal) : peak s = Finset.univ.sup s := rfl

/-- The greatest of a row with no infinite score and one finite score is a real number. -/
theorem peak_real {n : ℕ} (s : Fin n → EReal) (ht : ∀ j, s j ≠ ⊤) (hb : ∃ j, s j ≠ ⊥) : ∃ M : ℝ, peak s = M := by
  have h1 : peak s ≠ ⊤ := by
    rw [peak_eq_sup]
    exact ((Finset.sup_lt_iff (by exact bot_lt_top)).2 fun j _ => lt_top_iff_ne_top.2 (ht j)).ne
  have h2 : peak s ≠ ⊥ := by
    obtain ⟨j, hj⟩ := hb
    rw [peak_eq_sup]
    exact (lt_of_lt_of_le (bot_lt_iff_ne_bot.2 hj) (Finset.le_sup (Finset.mem_univ j))).ne'
  exact ⟨(peak s).toReal, (EReal.coe_toReal h1 h2).symm⟩

/-- A weight is a real number, not negative. -/
theorem weight_real (x : EReal) (M : ℝ) (ht : x ≠ ⊤) : ∃ p : ℝ, 0 ≤ p ∧ Ideal.exp (x - M) = p := by
  induction x with
  | bot => exact ⟨0, le_refl _, by rw [EReal.bot_sub]; rfl⟩
  | coe r => exact ⟨Real.exp (r - M), (Real.exp_pos _).le, by rw [← EReal.coe_sub, Ideal.exp_coe]⟩
  | top => exact absurd rfl ht

/-- The weight of a finite score is positive. -/
theorem weight_pos (x : EReal) (M : ℝ) (ht : x ≠ ⊤) (hb : x ≠ ⊥) : 0 < Ideal.exp (x - M) := by
  induction x with
  | bot => exact absurd rfl hb
  | coe r => rw [← EReal.coe_sub, Ideal.exp_coe]; exact_mod_cast Real.exp_pos _
  | top => exact absurd rfl ht

/-- The weight of a masked score is nothing. -/
theorem weight_bot (M : ℝ) : Ideal.exp (⊥ - (M : EReal)) = 0 := by rw [EReal.bot_sub]; rfl

/-- A sum of reals read as extended reals. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- Dividing the weighted sum once is dividing every weight, when the values are real, no score is `⊤` and one is
    finite. -/
theorem sumThenDivide_eq_divideThenSum {n : ℕ} (s v : Fin n → EReal) (ht : ∀ j, s j ≠ ⊤) (hb : ∃ j, s j ≠ ⊥)
    (hv : ∀ j, ∃ r : ℝ, v j = r) : sumThenDivide s v = divideThenSum s v := by
  obtain ⟨M, hM⟩ := peak_real s ht hb
  choose p hp0 hp using fun j => weight_real (s j) M (ht j)
  choose r hr using hv
  have hmass : mass s = ((∑ j, p j : ℝ) : EReal) := by
    unfold mass; rw [hM, coe_sum]; exact Finset.sum_congr rfl fun j _ => hp j
  have hpos : 0 < ∑ j, p j := by
    obtain ⟨j, hj⟩ := hb
    have : 0 < p j := by have := weight_pos (s j) M (ht j) hj; rw [hp j] at this; exact_mod_cast this
    exact lt_of_lt_of_le this (Finset.single_le_sum (fun i _ => hp0 i) (Finset.mem_univ j))
  unfold sumThenDivide divideThenSum
  rw [hmass, hM]
  simp only [hp, hr, Ideal.div_coe hpos.ne', ← EReal.coe_mul]
  rw [← coe_sum, ← coe_sum, ← EReal.coe_mul]
  congr 1
  rw [Finset.sum_mul]
  exact Finset.sum_congr rfl fun j _ => by ring

/-- A row that is `⊥` outside a window has the window's greatest score. -/
theorem peak_window {N W : ℕ} (lo : ℕ) (hlo : lo + W ≤ N) (s : Fin N → EReal)
    (hs : ∀ P : Fin N, ¬(lo ≤ P.val ∧ P.val < lo + W) → s P = ⊥) :
    peak s = peak fun j : Fin W => s ⟨lo + j.val, by omega⟩ := by
  rw [peak_eq_sup, peak_eq_sup]
  apply le_antisymm
  · refine Finset.sup_le fun P _ => ?_
    by_cases h : lo ≤ P.val ∧ P.val < lo + W
    · have e : P = ⟨lo + (⟨P.val - lo, by omega⟩ : Fin W).val, by simp only; omega⟩ := Fin.ext (by simp only; omega)
      rw [e]
      exact Finset.le_sup (f := fun j : Fin W => s ⟨lo + j.val, by omega⟩) (Finset.mem_univ (⟨P.val - lo, by omega⟩ : Fin W))
    · rw [hs P h]; exact bot_le
  · exact Finset.sup_le fun j _ => Finset.le_sup (f := s) (Finset.mem_univ (⟨lo + j.val, by omega⟩ : Fin N))

/-- A row of `N` scores that is `⊥` outside a window of `W`, and inside it the scores of a row of `W`, weighs its values
    to what the row of `W` does dividing each weight, when the values are real and agree wherever a score is not `⊥`. -/
theorem window_rows {N W : ℕ} (lo : ℕ) (hlo : lo + W ≤ N) (s v : Fin N → EReal) (s' v' : Fin W → EReal)
    (hs : ∀ P : Fin N, ¬(lo ≤ P.val ∧ P.val < lo + W) → s P = ⊥)
    (hin : ∀ j : Fin W, s ⟨lo + j.val, by omega⟩ = s' j) (ht : ∀ j, s' j ≠ ⊤) (hb : ∃ j, s' j ≠ ⊥)
    (hv' : ∀ j, ∃ r : ℝ, v' j = r) (hv : ∀ j : Fin W, s' j ≠ ⊥ → v ⟨lo + j.val, by omega⟩ = v' j) :
    sumThenDivide s v = divideThenSum s' v' := by
  rw [← sumThenDivide_eq_divideThenSum s' v' ht hb hv']
  obtain ⟨M, hM⟩ := peak_real s' ht hb
  have hp : peak s = M := by rw [peak_window lo hlo s hs, ← hM]; congr 1; exact funext hin
  unfold sumThenDivide mass
  rw [hp, hM, FinSumWindow.sum_window lo hlo, FinSumWindow.sum_window lo hlo]
  · congr 1
    · refine Finset.sum_congr rfl fun j _ => ?_
      rw [hin]
      by_cases h : s' j = ⊥
      · rw [h, weight_bot, zero_mul, zero_mul]
      · rw [hv j h]
    · exact Finset.sum_congr rfl fun j _ => by rw [hin]
  · intro P h; rw [hs P h, weight_bot]
  · intro P h; rw [hs P h, weight_bot, zero_mul]

end Cert.Proof.SoftmaxMath
-- ==== Proof.KerHead.lean ====
/- One head of the kernel's tile: the function every one of the sixteen heads applies to its columns, read at an index. -/
module

public import proofs.«01_k».proof.KernelIdeal
public import proofs.«01_k».proof.Proof.Gen.KernelIdeal
public import proofs.«01_k».proof.Proof.Gen.KernelIdeal.Skeleton
public import proofs.«01_k».proof.Proof.Gen.KernelIdeal.Frame
public import proofs.«01_k».proof.Proof.SoftmaxMath
public import Idealize.ShloMosaic.Lib.ValueIdx
public import Idealize.ShloMosaic.Lib.ValueIdxCore
public import Idealize.ShloMosaic.Lib.Pipeline.Value
public import Idealize.ShloMosaic.Lib.ValueLayout
public import Idealize.ShloMosaic.PureOps.Ideal.Laws

@[expose] public section

set_option maxRecDepth 4000

noncomputable section

namespace Cert.Proof.KerHead

open Idealize.ShloMosaic Idealize.ShloMosaic.ValueIdx Cert.Proof.SoftmaxMath
open Cert.KernelIdeal Cert.KernelIdeal.Gen

/-- Three blocks of 256 rows, one below the other. -/
def band (a b c : FVec Ideal S1x256x64 .bf16) : FVec Ideal S768x64 .bf16 :=
  concatenate S768x64 0 [⟨S256x64, shapeCast S256x64 a shapeCasts_S1x256x64_S256x64⟩,
    ⟨S256x64, shapeCast S256x64 b shapeCasts_S1x256x64_S256x64⟩,
    ⟨S256x64, shapeCast S256x64 c shapeCasts_S1x256x64_S256x64⟩] concatenates_S256x64_S256x64_S256x64_S768x64_d0

/-- A head's scores: the scaled queries against the keys of three blocks, plus the bias, masked. -/
def headScores (ok : IVec S256x768 1) (q k0 k1 k2 : FVec Ideal S1x256x64 .bf16) (bias : FVec Ideal S1x256x768 .f32) :
    FVec Ideal S256x768 .f32 :=
  select ok
    (addf (matmul dot_S256x64_S768x64_S256x768_1_1_0_0_n_n none
        (mulf (shapeCast S256x64 q shapeCasts_S1x256x64_S256x64) (broadcast S256x64 (Scalar.ofBits .bf16 0x3E00#16)))
        (band k0 k1 k2) (constant S256x768 .f32 0x00000000#32))
      (shapeCast S256x768 bias shapeCasts_S1x256x768_S256x768))
    (broadcast S256x768 (Named.named κ "mask" 0xF149F2CA#32))

/-- The weights of a matrix of scores: the exponential of each score less its row's greatest. -/
def headWeights (sc : FVec Ideal S256x768 .f32) : FVec Ideal S256x768 .f32 :=
  exp (subf sc (broadcastTo S256x768 (shapeCast S256x1
    (multiReduction .maximumf [1] S256 sc 0xFF800000#32 reduces_S256x768_S256 (.inl rfl) rfl) shapeCasts_S256_S256x1)
    broadcasts_S256x1_S256x768))

/-- A head's tile: its values weighed, the sums divided by the weights' sums. -/
def head (ok : IVec S256x768 1) (q k0 k1 k2 v0 v1 v2 : FVec Ideal S1x256x64 .bf16) (bias : FVec Ideal S1x256x768 .f32) :
    FVec Ideal S1x256x64 .bf16 :=
  shapeCast S1x256x64 (truncf .bf16 (divf
    (matmul dot_S256x768_S768x64_S256x64_1_0_0_1_n_n none
      (truncf .bf16 (headWeights (headScores ok q k0 k1 k2 bias)) bitsLt_bf16_f32) (band v0 v1 v2)
      (constant S256x64 .f32 0x00000000#32))
    (broadcastTo S256x64 (shapeCast S256x1
      (multiReduction .add [1] S256 (headWeights (headScores ok q k0 k1 k2 bias)) 0x00000000#32 reduces_S256x768_S256 (.inl rfl) rfl)
      shapeCasts_S256_S256x1) broadcasts_S256x1_S256x64)) bitsLt_bf16_f32) shapeCasts_S256x64_S1x256x64

/-- Row `j` of three blocks of 256 rows, one below the other. -/
def bandRow (a b c : FVec Ideal S1x256x64 .bf16) (j : Fin 768) (e : Fin 64) : EReal :=
  if h0 : j.val < 256 then a (ix3 0 ⟨j.val, h0⟩ e)
  else if h1 : j.val < 512 then b (ix3 0 ⟨j.val - 256, by omega⟩ e)
  else c (ix3 0 ⟨j.val - 512, by omega⟩ e)

theorem cast_block (a : FVec Ideal S1x256x64 .bf16) (r : Fin 256) (e : Fin 64) :
    (shapeCast S256x64 a shapeCasts_S1x256x64_S256x64 : S256x64.Idx → EReal) (ix2 r e) = a (ix3 0 r e) :=
  shapeCast_apply _ _ _ (ix3 0 r e) (by
    rw [Shape.rowMajor_val_three, Shape.rowMajor_val_two]; simp [ix3, ix2])

/-- The three blocks read at row `j`. -/
theorem band_apply (a b c : FVec Ideal S1x256x64 .bf16) (j : Fin 768) (e : Fin 64) :
    (band a b c : S768x64.Idx → EReal) (ix2 j e) = bandRow a b c j e := by
  unfold bandRow
  split
  · rename_i h
    refine (concatenate_apply_piece (t := S768x64) (0 : Fin 2) [⟨S256x64, shapeCast S256x64 a shapeCasts_S1x256x64_S256x64⟩,
      ⟨S256x64, shapeCast S256x64 b shapeCasts_S1x256x64_S256x64⟩,
      ⟨S256x64, shapeCast S256x64 c shapeCasts_S1x256x64_S256x64⟩] concatenates_S256x64_S256x64_S256x64_S768x64_d0
      (ix2 j e) 0 (by simp) S256x64 _ rfl rfl 0 rfl (ix2 ⟨j.val, h⟩ e) ?_ ?_).trans (cast_block a _ e)
    · intro b hb; fin_cases b
      · exact absurd rfl hb
      · rfl
    · exact Nat.zero_add _
  · split
    · rename_i h h1
      refine (concatenate_apply_piece (t := S768x64) (0 : Fin 2) [⟨S256x64, shapeCast S256x64 a shapeCasts_S1x256x64_S256x64⟩,
        ⟨S256x64, shapeCast S256x64 b shapeCasts_S1x256x64_S256x64⟩,
        ⟨S256x64, shapeCast S256x64 c shapeCasts_S1x256x64_S256x64⟩] concatenates_S256x64_S256x64_S256x64_S768x64_d0
        (ix2 j e) 1 (by simp) S256x64 _ rfl rfl 256 rfl (ix2 ⟨j.val - 256, by omega⟩ e) ?_ ?_).trans (cast_block b _ e)
      · intro b hb; fin_cases b
        · exact absurd rfl hb
        · rfl
      · show 256 + (j.val - 256) = j.val
        omega
    · rename_i h h1
      refine (concatenate_apply_piece (t := S768x64) (0 : Fin 2) [⟨S256x64, shapeCast S256x64 a shapeCasts_S1x256x64_S256x64⟩,
        ⟨S256x64, shapeCast S256x64 b shapeCasts_S1x256x64_S256x64⟩,
        ⟨S256x64, shapeCast S256x64 c shapeCasts_S1x256x64_S256x64⟩] concatenates_S256x64_S256x64_S256x64_S768x64_d0
        (ix2 j e) 2 (by simp) S256x64 _ rfl rfl 512 rfl (ix2 ⟨j.val - 512, by omega⟩ e) ?_ ?_).trans (cast_block c _ e)
      · intro b hb; fin_cases b
        · exact absurd rfl hb
        · rfl
      · show 512 + (j.val - 512) = j.val
        omega

/-- A matrix product with one contracted axis of `n` entries from a zero accumulator, its operands' indices given. -/
theorem dot_apply {sl sr so : Shape} {φ₁ φ₂ : FTy} (D : DotDims sl sr so) (n : ℕ) (hr : D.contr.rank = 1)
    (hn : D.contr.size ⟨0, by omega⟩ = n) (l : FVec Ideal sl φ₁) (r : FVec Ideal sr φ₂) (j : so.Idx)
    (L : Fin n → sl.Idx) (R : Fin n → sr.Idx)
    (hL : ∀ k, D.lhsIdx j ((contrEquiv1 D n hr hn).symm k) = L k)
    (hR : ∀ k, D.rhsIdx j ((contrEquiv1 D n hr hn).symm k) = R k) :
    (matmul D none l r (constant so .f32 0x00000000#32) : FVec Ideal so .f32) j = ∑ k, (l (L k) * r (R k) : EReal) := by
  refine (Ideal.matmul_constant_zero_apply D none l r j).trans ?_
  rw [← (contrEquiv1 D n hr hn).symm.sum_comp]
  exact Finset.sum_congr rfl fun k _ => by rw [hL, hR]

/-- The scale of the queries, as the kernel spells it. -/
def eighth : EReal := Ideal.ofBits .bf16 0x3E00#16

/-- The value the mask's word names. -/
theorem maskValue : (Named.named κ "mask" 0xF149F2CA#32 : Ideal .f32) = (⊥ : EReal) :=
  IdealRules.named_const.ideal_named_scalar _ _ _ _ rfl

/-- The scores at row `r` and column `j`. -/
theorem headScores_apply (ok : IVec S256x768 1) (q k0 k1 k2 : FVec Ideal S1x256x64 .bf16) (bias : FVec Ideal S1x256x768 .f32)
    (r : Fin 256) (j : Fin 768) :
    (headScores ok q k0 k1 k2 bias : S256x768.Idx → EReal) (ix2 r j)
      = if ok (ix2 r j) = 1#1 then
          (∑ e : Fin 64, (q (ix3 0 r e) * eighth) * bandRow k0 k1 k2 j e) + bias (ix3 0 r j)
        else ⊥ := by
  unfold headScores
  rw [select_apply]
  split
  · rename_i h
    rw [h, select_one, addf_apply]
    rw [dot_apply _ 64 rfl rfl _ _ _ (fun e => ix2 r e) (fun e => ix2 j e)
      (fun k => by funext a; fin_cases a <;> rfl) (fun k => by funext a; fin_cases a <;> rfl)]
    congr 1
    · refine Finset.sum_congr rfl fun e _ => ?_
      rw [band_apply, mulf_apply, cast_block]
      rfl
    · exact shapeCast_apply _ _ _ (ix3 0 r j) (by
        rw [Shape.rowMajor_val_three, Shape.rowMajor_val_two]; simp [ix3, ix2])
  · rename_i h
    rw [eq_zero_of_ne_one h, select_zero]
    exact maskValue

theorem negInf : Ideal.ofBits .f32 0xFF800000#32 = ⊥ := by
  simp [Ideal.ofBits, Ideal.ieee]

theorem lift2 (r : Fin 256) (j : Fin 768) : reduces_S256x768_S256.lift (ix1 r) j = ix2 r j := by
  funext a; fin_cases a <;> rfl

/-- A column of 256 entries made a matrix, at row `r`. -/
theorem column_apply (x : FVec Ideal S256 .f32) (r : Fin 256) :
    (shapeCast S256x1 x shapeCasts_S256_S256x1 : S256x1.Idx → EReal) (ix2 r 0) = x (ix1 r) :=
  shapeCast_apply _ _ _ (ix1 r) (by rw [Shape.rowMajor_val_two, Shape.rowMajor_val_one]; simp [ix1, ix2])

/-- The weights at row `r` and column `j`. -/
theorem headWeights_apply (sc : FVec Ideal S256x768 .f32) (r : Fin 256) (j : Fin 768) :
    (headWeights sc : S256x768.Idx → EReal) (ix2 r j)
      = Ideal.exp ((sc (ix2 r j) : EReal) - peak fun k : Fin 768 => (sc (ix2 r k) : EReal)) := by
  have hm : (multiReduction .maximumf [1] S256 sc 0xFF800000#32 reduces_S256x768_S256 (.inl rfl) rfl : S256.Idx → EReal) (ix1 r)
      = peak fun k : Fin 768 => (sc (ix2 r k) : EReal) := by
    refine (Ideal.multiReduction_maximumf_single (φ := .f32) sc 0xFF800000#32 reduces_S256x768_S256 (.inl rfl) rfl (ix1 r)).trans ?_
    unfold peak
    rw [show (FloatOps.ofBits .f32 0xFF800000#32 : Ideal .f32) = (⊥ : EReal) from negInf]
    congr 1
    funext k
    exact congrArg sc (lift2 r k)
  unfold headWeights
  show Ideal.exp (_ - _) = _
  rw [broadcastTo_apply _ _ _ (ix2 r 0) (by intro a; fin_cases a <;> rfl), column_apply, hm]

/-- A head's tile at row `r` and entry `d`. -/
theorem head_apply (ok : IVec S256x768 1) (q k0 k1 k2 v0 v1 v2 : FVec Ideal S1x256x64 .bf16) (bias : FVec Ideal S1x256x768 .f32)
    (r : Fin 256) (d : Fin 64) :
    (head ok q k0 k1 k2 v0 v1 v2 bias : S1x256x64.Idx → EReal) (ix3 0 r d)
      = sumThenDivide (fun j : Fin 768 => (headScores ok q k0 k1 k2 bias : S256x768.Idx → EReal) (ix2 r j))
          (fun j => bandRow v0 v1 v2 j d) := by
  unfold head
  rw [shapeCast_apply _ _ _ (ix2 r d) (by
    rw [Shape.rowMajor_val_three, Shape.rowMajor_val_two]; simp [ix3, ix2]), truncf_apply, divf_apply]
  unfold sumThenDivide mass
  congr 1
  · rw [dot_apply _ 768 rfl rfl _ _ _ (fun j => ix2 r j) (fun j => ix2 j d)
      (fun k => by funext a; fin_cases a <;> rfl) (fun k => by funext a; fin_cases a <;> rfl)]
    exact Finset.sum_congr rfl fun j _ => by rw [truncf_apply, headWeights_apply, band_apply]
  · rw [broadcastTo_apply _ _ _ (ix2 r 0) (by intro a; fin_cases a <;> rfl), column_apply]
    refine (Ideal.multiReduction_add_single (φ := .f32) _ 0x00000000#32 reduces_S256x768_S256 (.inl rfl) rfl (ix1 r)).trans ?_
    exact Finset.sum_congr rfl fun j _ => (congrArg _ (lift2 r j)).trans (headWeights_apply _ r j)

/-! The sixteen tiles a grid point stores are all `head` of the columns they read. -/

section Pieces

variable (i : grid0.Coords) (q k0 k1 k2 v0 v1 v2 : FVec Ideal S1x256x64 .bf16) (t : FVec Ideal S1x256x768 .f32)

theorem piece0 :
    k0_pay5 (k0_pay3 v0 v1 v2) (k0_pay4 i q k0 k1 k2 t)
      = head (k0_pay2 i) q k0 k1 k2 v0 v1 v2 t := rfl

theorem piece1 :
    k0_pay10 (k0_pay2 i) (k0_pay6 q) (k0_pay7 k0 k1 k2) (k0_pay8 v0) (k0_pay9 v1) v2 t
      = head (k0_pay2 i) q k0 k1 k2 v0 v1 v2 t := rfl

theorem piece2 :
    k0_pay13 (k0_pay2 i) (k0_pay11 q) (k0_pay12 k0 k1 k2) v0 v1 v2 t
      = head (k0_pay2 i) q k0 k1 k2 v0 v1 v2 t := rfl

theorem piece3 :
    k0_pay15 (k0_pay2 i) (k0_pay14 q) k0 k1 k2 v0 v1 v2 t
      = head (k0_pay2 i) q k0 k1 k2 v0 v1 v2 t := rfl

theorem piece4 :
    k0_pay19 (k0_pay16 v0 v1 v2) (k0_pay17 (k0_pay2 i) q k0 k1 k2 t) (k0_pay18 (k0_pay2 i) q k0 k1 k2 t)
      = head (k0_pay2 i) q k0 k1 k2 v0 v1 v2 t := rfl

theorem piece5 :
    k0_pay22 (k0_pay2 i) (k0_pay20 v0 v1 v2) (k0_pay21 q k0 k1 k2) t
      = head (k0_pay2 i) q k0 k1 k2 v0 v1 v2 t := rfl

theorem piece6 :
    k0_pay26 (k0_pay2 i) (k0_pay23 q) (k0_pay24 k0 k1 k2) (k0_pay25 v0) v1 v2 t
      = head (k0_pay2 i) q k0 k1 k2 v0 v1 v2 t := rfl

theorem piece7 :
    k0_pay30 (k0_pay2 i) (k0_pay27 q) (k0_pay28 k0) (k0_pay29 k1) k2 v0 v1 v2 t
      = head (k0_pay2 i) q k0 k1 k2 v0 v1 v2 t := rfl

theorem piece8 :
    k0_pay34 (k0_pay33 (k0_pay2 i) (k0_pay31 q) (k0_pay32 (F := Ideal)) k0 k1 k2 v0 v1 v2 t)
      = head (k0_pay2 i) q k0 k1 k2 v0 v1 v2 t := rfl

theorem piece9 :
    k0_pay38 (k0_pay35 v0 v1 v2) (k0_pay36 (k0_pay2 i) q k0 k1 k2 t) (k0_pay37 (k0_pay2 i) q k0 k1 k2 t)
      = head (k0_pay2 i) q k0 k1 k2 v0 v1 v2 t := rfl

theorem piece10 :
    k0_pay42 (k0_pay2 i) (k0_pay39 q) (k0_pay40 k0 k1 k2) (k0_pay41 v0 v1 v2) (constant S256x768 .f32 0x00000000#32) t
      = head (k0_pay2 i) q k0 k1 k2 v0 v1 v2 t := rfl

theorem piece11 :
    k0_pay45 (k0_pay2 i) (k0_pay43 q) (k0_pay44 k0 k1 k2) v0 v1 v2 t
      = head (k0_pay2 i) q k0 k1 k2 v0 v1 v2 t := rfl

theorem piece12 :
    k0_pay48 (k0_pay2 i) (k0_pay46 q) (k0_pay47 k0) k1 k2 v0 v1 v2 t
      = head (k0_pay2 i) q k0 k1 k2 v0 v1 v2 t := rfl

theorem piece13 :
    k0_pay53 (k0_pay49 v0 v1 v2) (k0_pay51 (k0_pay2 i) q k0 k1 k2 t) (k0_pay52 (k0_pay2 i) q k0 k1 k2 t) (constant S256x64 .f32 0x00000000#32)
      = head (k0_pay2 i) q k0 k1 k2 v0 v1 v2 t := rfl

theorem piece14 :
    k0_pay56 (k0_pay2 i) (k0_pay54 v0 v1 v2) (k0_pay55 q k0 k1 k2 t) (Named.named κ "mask" 0xF149F2CA#32)
      = head (k0_pay2 i) q k0 k1 k2 v0 v1 v2 t := rfl

theorem piece15 :
    k0_pay1 (k0_pay2 i) (k0_pay57 q) (k0_pay58 k0 k1 k2) (k0_pay59 v0) (k0_pay60 v1) v2 t
      = head (k0_pay2 i) q k0 k1 k2 v0 v1 v2 t := rfl

end Pieces

end Cert.Proof.KerHead
-- ==== Proof.KerBias.lean ====
/- The bias the kernel reads: the table skewed on the host to one row per query of a tile, read at an index. -/
module

public import proofs.«01_k».proof.KernelIdeal
public import proofs.«01_k».proof.Proof.Gen.KernelIdeal
public import proofs.«01_k».proof.Proof.Gen.KernelIdeal.Frame
public import Idealize.ShloMosaic.Lib.StableHlo.RunRead
public import Idealize.ShloMosaic.Lib.ValueIdx
public import Idealize.ShloMosaic.Lib.ValueIdxCore
public import Idealize.ShloMosaic.Lib.KernelVsHost
public import Idealize.ShloMosaic.Lib.Pipeline.Value
public import Idealize.ShloMosaic.PureOps.Ideal.Laws

@[expose] public section

set_option maxRecDepth 8000

noncomputable section

namespace Cert.Proof.KerBias

open Idealize.ShloMosaic Idealize.ShloMosaic.TcCoe Idealize.SL.Sem Idealize.ShloMosaic.StableHlo Idealize.ShloMosaic.ValueIdx
open Cert.KernelIdeal Cert.KernelIdeal.Gen

/-- The table's last column 448 times, then its columns from 255 down to 65: one bias per distance. -/
def line (y : FVec Ideal S16x257 .f32) : FVec Ideal S16x639 .f32 :=
  concatenate S16x639 1 [⟨S16x448, broadcastInDim S16x448 ![0, 1] bcast_S16x1_S16x448_0_1
      (extractStridedSlice S16x1 ![0, 256] y slices_S16x257_S16x1_0_256)⟩,
    ⟨S16x191, Host.reverse [1] (extractStridedSlice S16x191 ![0, 65] y slices_S16x257_S16x191_0_65)⟩]
    concatenates_S16x448_S16x191_S16x639_d1

/-- The line with one entry of padding, 64 times over in a row. -/
def repeated (y : FVec Ideal S16x257 .f32) : FVec Ideal S16x40960 .f32 :=
  shapeCast S16x40960 (broadcastInDim S1x16x64x640 ![0, 1, 2, 3] bcast_S1x16x1x640_S1x16x64x640_0_1_2_3
    (shapeCast S1x16x1x640 (pad S16x640 ![0, 0] ![0, 1] ![0, 0] (line y) (sitofp .f32 (constantI S_ 32 0#32) : FVec Ideal S_ .f32)
      pads_S16x639_S16x640_000_010 h_S_) shapeCasts_S16x640_S1x16x1x640)) shapeCasts_S1x16x64x640_S16x40960

/-- The repeated line cut into rows one shorter, so that each row is the one before shifted by one. -/
def skewed (y : FVec Ideal S16x257 .f32) : FVec Ideal S16x64x576 .f32 :=
  extractStridedSlice S16x64x576 ![0, 0, 63] (shapeCast S16x64x639
    (extractStridedSlice S16x40896 ![0, 0] (repeated y) slices_S16x40960_S16x40896_0_0) shapeCasts_S16x40896_S16x64x639)
    slices_S16x64x639_S16x64x576_0_0_63

/-- The constant the padding outside a query's band is. -/
def outside : FVec Ideal S_ .f32 := constant S_ .f32 0xFF800000#32

/-- Four pieces of 64 queries, one below another. -/
def stack (a b c d : S16x64x768.Idx → EReal) : S16x256x768.Idx → EReal :=
  concatenate S16x256x768 1 [⟨S16x64x768, a⟩, ⟨S16x64x768, b⟩, ⟨S16x64x768, c⟩, ⟨S16x64x768, d⟩]
    concatenates_S16x64x768_S16x64x768_S16x64x768_S16x64x768_S16x256x768_d1

theorem stack_congr {a b c d a' b' c' d' : S16x64x768.Idx → EReal} (ha : a = a') (hb : b = b') (hc : c = c') (hd : d = d') :
    stack a b c d = stack a' b' c' d' := by
  rw [ha, hb, hc, hd]

/-- The bias of a tile's 256 queries over its 768 keys. -/
def tile (y : FVec Ideal S16x257 .f32) : S16x256x768.Idx → EReal :=
  stack (pad S16x64x768 ![0, 0, 0] ![0, 0, 192] ![0, 0, 0] (skewed y) outside pads_S16x64x576_S16x64x768_000_000_01920 h_S_)
    (pad S16x64x768 ![0, 0, 64] ![0, 0, 128] ![0, 0, 0] (skewed y) outside pads_S16x64x576_S16x64x768_000_000_641280 h_S_)
    (pad S16x64x768 ![0, 0, 128] ![0, 0, 64] ![0, 0, 0] (skewed y) outside pads_S16x64x576_S16x64x768_000_000_128640 h_S_)
    (pad S16x64x768 ![0, 0, 192] ![0, 0, 0] ![0, 0, 0] (skewed y) outside pads_S16x64x576_S16x64x768_000_000_19200 h_S_)

set_option maxHeartbeats 2000000 in
/-- What the kernel's region finds as the bias is the tile of the table. -/
theorem bias_eq (m : (ℓ : Loc nD τ sig) → Buf (Elt Ideal) ℓ) (c : Dev nD) :
    (V m c main_v16 : S16x256x768.Idx → EReal) = tile (m ((c : Thread nD τ).loc main_arg1)) := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_simp
  refine stack_congr ?_ ?_ ?_ ?_
  · change upto _ _ _ (Proc.tc.devRef main_v12) = _
    after_reads_simp
    rfl
  · change upto _ _ _ (Proc.tc.devRef main_v13) = _
    after_reads_simp
    rfl
  · change upto _ _ _ (Proc.tc.devRef main_v14) = _
    after_reads_simp
    rfl
  · change upto _ _ _ (Proc.tc.devRef main_v15) = _
    after_reads_simp
    rfl

/-- The line read at a distance. -/
theorem line_apply (y : FVec Ideal S16x257 .f32) (h : Fin 16) (p : Fin 639) :
    (line y : S16x639.Idx → EReal) (ix2 h p) = y (ix2 h ⟨min 256 (703 - p.val), by omega⟩) := by
  unfold line
  by_cases hp : p.val < 448
  · refine (concatenate_apply_piece (t := S16x639) (1 : Fin 2) [⟨S16x448, broadcastInDim S16x448 ![0, 1] bcast_S16x1_S16x448_0_1
      (extractStridedSlice S16x1 ![0, 256] y slices_S16x257_S16x1_0_256)⟩,
      ⟨S16x191, Host.reverse [1] (extractStridedSlice S16x191 ![0, 65] y slices_S16x257_S16x191_0_65)⟩]
      concatenates_S16x448_S16x191_S16x639_d1 (ix2 h p) 0 (by simp) S16x448 _ rfl rfl 0 rfl (ix2 h ⟨p.val, hp⟩) ?_ ?_).trans ?_
    · intro b hb; fin_cases b
      · rfl
      · exact absurd rfl hb
    · exact Nat.zero_add _
    · rw [broadcastInDim_apply _ _ _ _ (ix2 h 0) (by intro a; fin_cases a <;> rfl),
        extractStridedSlice_apply _ _ _ _ (ix2 h ⟨min 256 (703 - p.val), by omega⟩) (by
          intro a; fin_cases a
          · simp [ix2]
          · show min 256 (703 - p.val) = 256 + 0
            omega)]
  · refine (concatenate_apply_piece (t := S16x639) (1 : Fin 2) [⟨S16x448, broadcastInDim S16x448 ![0, 1] bcast_S16x1_S16x448_0_1
      (extractStridedSlice S16x1 ![0, 256] y slices_S16x257_S16x1_0_256)⟩,
      ⟨S16x191, Host.reverse [1] (extractStridedSlice S16x191 ![0, 65] y slices_S16x257_S16x191_0_65)⟩]
      concatenates_S16x448_S16x191_S16x639_d1 (ix2 h p) 1 (by simp) S16x191 _ rfl rfl 448 rfl (ix2 h ⟨p.val - 448, by omega⟩) ?_ ?_).trans ?_
    · intro b hb; fin_cases b
      · rfl
      · exact absurd rfl hb
    · show 448 + (p.val - 448) = p.val
      omega
    · show extractStridedSlice S16x191 ![0, 65] y slices_S16x257_S16x191_0_65
        (fun a => if a ∈ ([1] : List (Fin 2)) then (ix2 h (⟨p.val - 448, by omega⟩ : Fin 191) a).rev
          else ix2 h (⟨p.val - 448, by omega⟩ : Fin 191) a) = _
      exact extractStridedSlice_apply _ _ _ _ (ix2 h ⟨min 256 (703 - p.val), by omega⟩) (by
          intro a; fin_cases a
          · simp [ix2]
          · show min 256 (703 - p.val) = 65 + (191 - (p.val - 448 + 1))
            omega)

/-- The skewed bias of query `i` at slot `j` of its band. -/
theorem skewed_apply (y : FVec Ideal S16x257 .f32) (h : Fin 16) (i : Fin 64) (j : Fin 576) :
    (skewed y : S16x64x576.Idx → EReal) (ix3 h i j) = y (ix2 h ⟨min 256 (640 + i.val - j.val), by omega⟩) := by
  have hn : ∃ n : Fin 64, ∃ p : Fin 640, i.val * 639 + (63 + j.val) = n.val * 640 + p.val ∧ p.val < 639
      ∧ min 256 (703 - p.val) = min 256 (640 + i.val - j.val) := by
    by_cases hi : i.val ≤ 63 + j.val
    · exact ⟨i, ⟨63 + j.val - i.val, by omega⟩, by simp only; omega, by simp only; omega, by simp only; omega⟩
    · omega
  obtain ⟨n, p, hnp, hp, hmin⟩ := hn
  unfold skewed
  rw [extractStridedSlice_apply _ _ _ _ (ix3 h i ⟨63 + j.val, by omega⟩) (by
      intro a; fin_cases a <;> simp [ix3]),
    shapeCast_apply _ _ _ (ix2 h ⟨i.val * 639 + (63 + j.val), by omega⟩) (by
      rw [Shape.rowMajor_val_three, Shape.rowMajor_val_two]; simp [ix3, ix2]; ring),
    extractStridedSlice_apply _ _ _ _ (ix2 h ⟨i.val * 639 + (63 + j.val), by omega⟩) (by
      intro a; fin_cases a <;> simp [ix2])]
  unfold repeated
  rw [shapeCast_apply _ _ _ (ix4 0 h n p) (by
      rw [Shape.rowMajor_val_four, Shape.rowMajor_val_two]; simp [ix4, ix2, hnp]; ring),
    broadcastInDim_apply _ _ _ _ (ix4 0 h 0 p) (by intro a; fin_cases a <;> rfl),
    shapeCast_apply _ _ _ (ix2 h p) (by
      rw [Shape.rowMajor_val_four, Shape.rowMajor_val_two]; simp [ix4, ix2]),
    pad_apply_of_inside _ _ _ _ _ _ _ _ (ix2 h ⟨p.val, hp⟩) (by intro a; fin_cases a <;> simp [ix2]),
    line_apply]
  simp only [hmin]

theorem outside_eq : outside (Shape.Idx.first h_S_) = (⊥ : EReal) := by
  show Ideal.ofBits .f32 0xFF800000#32 = ⊥
  simp [Ideal.ofBits, Ideal.ieee]

/-- A piece of the tile, the skewed bias moved `lo` columns to the right, read at a column. -/
theorem moved_apply (y : FVec Ideal S16x257 .f32) (lo hi : ℕ) (hp : S16x64x576.Pads ![0, 0, lo] ![0, 0, hi] ![0, 0, 0] S16x64x768)
    (h : Fin 16) (i : Fin 64) (j : Fin 768) :
    (pad S16x64x768 ![0, 0, lo] ![0, 0, hi] ![0, 0, 0] (skewed y) outside hp h_S_ : S16x64x768.Idx → EReal) (ix3 h i j)
      = if hj : lo ≤ j.val ∧ j.val < lo + 576 then y (ix2 h ⟨min 256 (640 + i.val - (j.val - lo)), by omega⟩) else ⊥ := by
  split
  · rename_i hj
    rw [pad_apply_of_inside _ _ _ _ _ _ _ _ (ix3 h i ⟨j.val - lo, by omega⟩) (by
      intro a; fin_cases a <;> simp [ix3]; omega), skewed_apply]
  · rename_i hj
    rw [pad_apply_of_not_inside _ _ _ _ _ _ _ _ (2 : Fin 3) (by simp [ix3]; omega), outside_eq]

/-- The tile's bias for query `64 c + i` of head `h` at column `j`: the table at the distance within the query's band of
    576 columns, `⊥` outside it. -/
theorem tile_apply (y : FVec Ideal S16x257 .f32) (h : Fin 16) (c : Fin 4) (i : Fin 64) (j : Fin 768) :
    tile y (ix3 h ⟨64 * c.val + i.val, by omega⟩ j)
      = if hj : 64 * c.val ≤ j.val ∧ j.val < 64 * c.val + 576 then
          y (ix2 h ⟨min 256 (640 + i.val - (j.val - 64 * c.val)), by omega⟩)
        else ⊥ := by
  have key : ∀ (lo hi : ℕ) (hp : S16x64x576.Pads ![0, 0, lo] ![0, 0, hi] ![0, 0, 0] S16x64x768) (k : ℕ) (hk : k < 4) (hlo : lo = 64 * k)
      (_ : c.val = k) (L : List ((s : Shape) × (s.Idx → EReal)))
      (hL : Shape.Concatenates (L.map (·.1)) S16x256x768 1) (hkl : k < L.length)
      (hpre : (((L.take k).map (·.1)).map fun s => if h : s.rank = 3 then s.size ((1 : Fin 3).cast h.symm) else 0).sum = 64 * k)
      (_ : L[k] = ⟨S16x64x768, pad S16x64x768 ![0, 0, lo] ![0, 0, hi] ![0, 0, 0] (skewed y) outside hp h_S_⟩),
      concatenate S16x256x768 1 L hL (ix3 h ⟨64 * c.val + i.val, by omega⟩ j)
        = if hj : 64 * c.val ≤ j.val ∧ j.val < 64 * c.val + 576 then
            y (ix2 h ⟨min 256 (640 + i.val - (j.val - 64 * c.val)), by omega⟩)
          else ⊥ := by
    intro lo hi hp k hk hlo hc L hL hkl hpre hLk
    subst hc
    subst hlo
    refine (concatenate_apply_piece (t := S16x256x768) (1 : Fin 3) L hL _ c.val hkl S16x64x768 _ hLk rfl (64 * c.val) hpre
      (ix3 h i j) ?_ rfl).trans (moved_apply y _ hi hp h i j)
    intro b hb; fin_cases b
    · rfl
    · exact absurd rfl hb
    · rfl
  unfold tile stack
  have hc : c.val = 0 ∨ c.val = 1 ∨ c.val = 2 ∨ c.val = 3 := by omega
  rcases hc with hc | hc | hc | hc
  · exact key 0 192 _ 0 (by omega) rfl hc _ _ (by simp) rfl rfl
  · exact key 64 128 _ 1 (by omega) rfl hc _ _ (by simp) rfl rfl
  · exact key 128 64 _ 2 (by omega) rfl hc _ _ (by simp) rfl rfl
  · exact key 192 0 _ 3 (by omega) rfl hc _ _ (by simp) rfl rfl

end Cert.Proof.KerBias
-- ==== Proof.KerVal.lean ====
/- What the attention kernel's result array holds: at each index the head's tile of the blocks its grid point reads. -/
module

public import proofs.«01_k».proof.Proof.KerHead
public import proofs.«01_k».proof.Proof.KerBias
public import proofs.«01_k».proof.Proof.Gen.KernelIdeal.Value
public import Idealize.ShloMosaic.Lib.Pipeline.ValueKit.Tiles

@[expose] public section

set_option maxRecDepth 8000

noncomputable section

namespace Cert.Proof.KerVal

open Idealize.ShloMosaic Idealize.ShloMosaic.TcCoe Idealize.SL.Sem Idealize.ShloMosaic.ValueIdx
open Cert.KernelIdeal Cert.KernelIdeal.Gen Cert.Proof.KerHead
open Idealize.ShloMosaic.Pipeline (Dat Window)

/-- The 64 columns of head `h` of a block. -/
def cols (x : S1x256x1024.Idx → EReal) (h : Fin 16) : FVec Ideal S1x256x64 .bf16 :=
  fun y => x (ix3 0 (y 1) ⟨64 * h.val + (y 2).val, by have := (y 2).isLt; simp at this; omega⟩)

/-- The bias of head `h`. -/
def rows (x : S16x256x768.Idx → EReal) (h : Fin 16) : FVec Ideal S1x256x768 .f32 :=
  fun y => x (ix3 h (y 1) (y 2))

/-- Head `h`'s tile of the nine blocks a grid point holds. -/
def tileOf (i : grid0.Coords) (x0 x1 x2 x3 x4 x5 x6 : S1x256x1024.Idx → EReal) (x7 : S16x256x768.Idx → EReal) (h : Fin 16) :
    FVec Ideal S1x256x64 .bf16 :=
  head (k0_pay2 i) (cols x0 h) (cols x1 h) (cols x2 h) (cols x3 h) (cols x4 h) (cols x5 h) (cols x6 h) (rows x7 h)

/-- The tiles of all heads side by side. -/
def blockOf (i : grid0.Coords) (x0 x1 x2 x3 x4 x5 x6 : S1x256x1024.Idx → EReal) (x7 : S16x256x768.Idx → EReal) :
    S1x256x1024.Idx → EReal :=
  fun y => tileOf i x0 x1 x2 x3 x4 x5 x6 x7 ⟨(y 2).val / 64, by have := (y 2).isLt; simp at this; omega⟩
    (ix3 0 (y 1) ⟨(y 2).val % 64, by omega⟩)

theorem ld_cols (x : S1x256x1024.Idx → EReal) (h : Fin 16) (o : ℕ) (ho : o = 64 * h.val)
    (inb : ∀ a, (![0, 0, o] : Fin 3 → ℕ) a + S1x256x64.size a ≤ S1x256x1024.size a) :
    (View.ld (Val := Elt Ideal) (e' := .bf16) x (Rect.unit (s := S1x256x1024) ![0, 0, o] S1x256x64.size inb)
      : S1x256x64.Idx → EReal) = cols x h := by
  subst ho
  funext y
  refine View.ld_unit_apply_of (Val := Elt Ideal) (e := .bf16) x _ _ inb y _ ?_
  intro a; fin_cases a
  · have := (y 0).isLt
    show (0 : ℕ) = 0 + (y 0).val
    simp at this
    omega
  · exact (Nat.zero_add _).symm
  · rfl

theorem ld_rows (x : S16x256x768.Idx → EReal) (h : Fin 16)
    (inb : ∀ a, (![h.val, 0, 0] : Fin 3 → ℕ) a + S1x256x768.size a ≤ S16x256x768.size a) :
    (View.ld (Val := Elt Ideal) (e' := .f32) x (Rect.unit (s := S16x256x768) ![h.val, 0, 0] S1x256x768.size inb)
      : S1x256x768.Idx → EReal) = rows x h := by
  funext y
  refine View.ld_unit_apply_of (Val := Elt Ideal) (e := .f32) x _ _ inb y _ ?_
  intro a; fin_cases a
  · have := (y 0).isLt
    show h.val = h.val + (y 0).val
    simp at this
    omega
  · exact (Nat.zero_add _).symm
  · exact (Nat.zero_add _).symm

variable (i : grid0.Coords) (x0 x1 x2 x3 x4 x5 x6 : S1x256x1024.Idx → EReal) (x7 : S16x256x768.Idx → EReal)

/-- The tile stored at column offset `o` is the block's part there. -/
theorem piece_apply (h : Fin 16) (o : ℕ) (ho : o = 64 * h.val)
    (inb : ∀ a, (![0, 0, o] : Fin 3 → ℕ) a + S1x256x64.size a ≤ S1x256x1024.size a)
    (inb' : ∀ a, (![h.val, 0, 0] : Fin 3 → ℕ) a + S1x256x768.size a ≤ S16x256x768.size a) (x : S1x256x64.Idx) :
    head (k0_pay2 i) (View.ld (Val := Elt Ideal) (e' := .bf16) x0 (Rect.unit (s := S1x256x1024) ![0, 0, o] S1x256x64.size inb))
      (View.ld (Val := Elt Ideal) (e' := .bf16) x1 (Rect.unit (s := S1x256x1024) ![0, 0, o] S1x256x64.size inb))
      (View.ld (Val := Elt Ideal) (e' := .bf16) x2 (Rect.unit (s := S1x256x1024) ![0, 0, o] S1x256x64.size inb))
      (View.ld (Val := Elt Ideal) (e' := .bf16) x3 (Rect.unit (s := S1x256x1024) ![0, 0, o] S1x256x64.size inb))
      (View.ld (Val := Elt Ideal) (e' := .bf16) x4 (Rect.unit (s := S1x256x1024) ![0, 0, o] S1x256x64.size inb))
      (View.ld (Val := Elt Ideal) (e' := .bf16) x5 (Rect.unit (s := S1x256x1024) ![0, 0, o] S1x256x64.size inb))
      (View.ld (Val := Elt Ideal) (e' := .bf16) x6 (Rect.unit (s := S1x256x1024) ![0, 0, o] S1x256x64.size inb))
      (View.ld (Val := Elt Ideal) (e' := .f32) x7 (Rect.unit (s := S16x256x768) ![h.val, 0, 0] S1x256x768.size inb')) x
    = blockOf i x0 x1 x2 x3 x4 x5 x6 x7 ((Rect.unit (s := S1x256x1024) ![0, 0, o] S1x256x64.size inb).emb x) := by
  refine Eq.trans (b := tileOf i x0 x1 x2 x3 x4 x5 x6 x7 h x) ?_ ?_
  · unfold tileOf
    rw [← ld_cols x0 h o ho inb, ← ld_cols x1 h o ho inb, ← ld_cols x2 h o ho inb, ← ld_cols x3 h o ho inb,
      ← ld_cols x4 h o ho inb, ← ld_cols x5 h o ho inb, ← ld_cols x6 h o ho inb, ← ld_rows x7 h inb']
  · have hx2 : (x 2).val < 64 := (x 2).isLt
    have e2 : (((Rect.unit (s := S1x256x1024) ![0, 0, o] S1x256x64.size inb).emb x) 2).val = 64 * h.val + (x 2).val :=
      (Rect.idx_unit_val (s := S1x256x1024) ![0, 0, o] S1x256x64.size inb x (2 : Fin 3)).trans (congrArg (· + (x 2).val) ho)
    have e1 : (((Rect.unit (s := S1x256x1024) ![0, 0, o] S1x256x64.size inb).emb x) 1).val = (x 1).val :=
      (Rect.idx_unit_val (s := S1x256x1024) ![0, 0, o] S1x256x64.size inb x (1 : Fin 3)).trans (Nat.zero_add _)
    unfold blockOf
    have hh : ∀ p, (⟨(((Rect.unit (s := S1x256x1024) ![0, 0, o] S1x256x64.size inb).emb x) 2).val / 64, p⟩ : Fin 16) = h :=
      fun p => Fin.ext (by simp only [e2]; omega)
    rw [hh]
    refine congrArg _ ?_
    funext a; fin_cases a
    · exact Subsingleton.elim (α := Fin 1) _ _
    · exact Fin.ext e1.symm
    · refine Fin.ext ?_
      show (x 2).val = _ % 64
      rw [e2]; omega

set_option maxHeartbeats 1000000 in
/-- What a grid point leaves in its output block is the tiles of all heads side by side. -/
theorem out_eq (y : S1x256x1024.Idx) :
    (out0_8 (F := Ideal) i x0 x1 x2 x3 x4 x5 x6 x7 : S1x256x1024.Idx → EReal) y = blockOf i x0 x1 x2 x3 x4 x5 x6 x7 y := by
  unfold out0_8 k0_pay61
  refine View.canon_apply_of_pieces (Val := Elt Ideal) (e := .bf16) (blockOf i x0 x1 x2 x3 x4 x5 x6 x7) _ ?_ y (cover0_8 _ _ _ _ _ _ _ _ _ _ _ _ _ _ _ _ y)
  refine List.forall_mem_cons.2 ⟨fun x => (congrFun (piece15 i _ _ _ _ _ _ _ _) x).trans (piece_apply i x0 x1 x2 x3 x4 x5 x6 x7 15 960 rfl _ _ x), ?_⟩
  refine List.forall_mem_cons.2 ⟨fun x => (congrFun (piece14 i _ _ _ _ _ _ _ _) x).trans (piece_apply i x0 x1 x2 x3 x4 x5 x6 x7 14 896 rfl _ _ x), ?_⟩
  refine List.forall_mem_cons.2 ⟨fun x => (congrFun (piece13 i _ _ _ _ _ _ _ _) x).trans (piece_apply i x0 x1 x2 x3 x4 x5 x6 x7 13 832 rfl _ _ x), ?_⟩
  refine List.forall_mem_cons.2 ⟨fun x => (congrFun (piece12 i _ _ _ _ _ _ _ _) x).trans (piece_apply i x0 x1 x2 x3 x4 x5 x6 x7 12 768 rfl _ _ x), ?_⟩
  refine List.forall_mem_cons.2 ⟨fun x => (congrFun (piece11 i _ _ _ _ _ _ _ _) x).trans (piece_apply i x0 x1 x2 x3 x4 x5 x6 x7 11 704 rfl _ _ x), ?_⟩
  refine List.forall_mem_cons.2 ⟨fun x => (congrFun (piece10 i _ _ _ _ _ _ _ _) x).trans (piece_apply i x0 x1 x2 x3 x4 x5 x6 x7 10 640 rfl _ _ x), ?_⟩
  refine List.forall_mem_cons.2 ⟨fun x => (congrFun (piece9 i _ _ _ _ _ _ _ _) x).trans (piece_apply i x0 x1 x2 x3 x4 x5 x6 x7 9 576 rfl _ _ x), ?_⟩
  refine List.forall_mem_cons.2 ⟨fun x => (congrFun (piece8 i _ _ _ _ _ _ _ _) x).trans (piece_apply i x0 x1 x2 x3 x4 x5 x6 x7 8 512 rfl _ _ x), ?_⟩
  refine List.forall_mem_cons.2 ⟨fun x => (congrFun (piece7 i _ _ _ _ _ _ _ _) x).trans (piece_apply i x0 x1 x2 x3 x4 x5 x6 x7 7 448 rfl _ _ x), ?_⟩
  refine List.forall_mem_cons.2 ⟨fun x => (congrFun (piece6 i _ _ _ _ _ _ _ _) x).trans (piece_apply i x0 x1 x2 x3 x4 x5 x6 x7 6 384 rfl _ _ x), ?_⟩
  refine List.forall_mem_cons.2 ⟨fun x => (congrFun (piece5 i _ _ _ _ _ _ _ _) x).trans (piece_apply i x0 x1 x2 x3 x4 x5 x6 x7 5 320 rfl _ _ x), ?_⟩
  refine List.forall_mem_cons.2 ⟨fun x => (congrFun (piece4 i _ _ _ _ _ _ _ _) x).trans (piece_apply i x0 x1 x2 x3 x4 x5 x6 x7 4 256 rfl _ _ x), ?_⟩
  refine List.forall_mem_cons.2 ⟨fun x => (congrFun (piece3 i _ _ _ _ _ _ _ _) x).trans (piece_apply i x0 x1 x2 x3 x4 x5 x6 x7 3 192 rfl _ _ x), ?_⟩
  refine List.forall_mem_cons.2 ⟨fun x => (congrFun (piece2 i _ _ _ _ _ _ _ _) x).trans (piece_apply i x0 x1 x2 x3 x4 x5 x6 x7 2 128 rfl _ _ x), ?_⟩
  refine List.forall_mem_cons.2 ⟨fun x => (congrFun (piece1 i _ _ _ _ _ _ _ _) x).trans (piece_apply i x0 x1 x2 x3 x4 x5 x6 x7 1 64 rfl _ _ x), ?_⟩
  exact List.forall_mem_cons.2 ⟨fun x => (congrFun (piece0 i _ _ _ _ _ _ _ _) x).trans (piece_apply i x0 x1 x2 x3 x4 x5 x6 x7 0 0 rfl _ _ x),
    fun _ hp => absurd hp List.not_mem_nil⟩

/-! Where each window's block lies, at each of the 64 grid points. -/

theorem index0 : ∀ t : Fin cfg0.N, win0_0.index t 0 = t.val / 16 ∧ win0_0.index t 1 = t.val % 16 ∧ win0_0.index t 2 = 2 := by decide +kernel
theorem index1 : ∀ t : Fin cfg0.N, win0_1.index t 0 = t.val / 16 ∧ win0_1.index t 1 = t.val % 16 - 2 ∧ win0_1.index t 2 = 0 := by decide +kernel
theorem index2 : ∀ t : Fin cfg0.N, win0_2.index t 0 = t.val / 16 ∧ win0_2.index t 1 = t.val % 16 - 1 ∧ win0_2.index t 2 = 0 := by decide +kernel
theorem index3 : ∀ t : Fin cfg0.N, win0_3.index t 0 = t.val / 16 ∧ win0_3.index t 1 = t.val % 16 - 0 ∧ win0_3.index t 2 = 0 := by decide +kernel
theorem index4 : ∀ t : Fin cfg0.N, win0_4.index t 0 = t.val / 16 ∧ win0_4.index t 1 = t.val % 16 - 2 ∧ win0_4.index t 2 = 1 := by decide +kernel
theorem index5 : ∀ t : Fin cfg0.N, win0_5.index t 0 = t.val / 16 ∧ win0_5.index t 1 = t.val % 16 - 1 ∧ win0_5.index t 2 = 1 := by decide +kernel
theorem index6 : ∀ t : Fin cfg0.N, win0_6.index t 0 = t.val / 16 ∧ win0_6.index t 1 = t.val % 16 - 0 ∧ win0_6.index t 2 = 1 := by decide +kernel
theorem index7 : ∀ t : Fin cfg0.N, win0_7.index t 0 = 0 ∧ win0_7.index t 1 = 0 ∧ win0_7.index t 2 = 0 := by decide +kernel
theorem index8 : ∀ t : Fin cfg0.N, win0_8.index t 0 = t.val / 16 ∧ win0_8.index t 1 = t.val % 16 ∧ win0_8.index t 2 = 0 := by decide +kernel

/-- The grid point of tile `qi` of batch element `b`. -/
def point (b : Fin 4) (qi : Fin 16) : Fin cfg0.N := ⟨16 * b.val + qi.val, by
  show _ < 64
  omega⟩

theorem point_coord : ∀ (b : Fin 4) (qi : Fin 16), (grid0.coords (point b qi) 1).val = qi.val := by decide +kernel

section Blocks

variable (m : (ℓ : Loc nD τ sig) → Buf (Elt Ideal) ℓ) (c : Dev nD)

/-- A row of the fused array: `d` blocks of 256 rows before tile `qi`, no block before the first. -/
def rowBefore (qi : Fin 16) (d : ℕ) (r : Fin 256) : Fin 4096 := ⟨256 * (qi.val - d) + r.val, by omega⟩

/-- A column of the fused array's part at `o`. -/
def colAt (o : ℕ) (ho : o ≤ 2048) (w : Fin 1024) : Fin 3072 := ⟨o + w.val, by omega⟩

/-- An index of the fused array whose coordinates are those of an entry of a block. -/
theorem place (b : Fin 4) (qi : Fin 16) (r : Fin 256) (w : Fin 1024) (d o : ℕ) (ho : o ≤ 2048) (n0 n1 n2 : ℕ)
    (j : S4x4096x3072.Idx) (hj0 : (j 0).val = n0 * 1 + 0) (hj1 : (j 1).val = n1 * 256 + r.val) (hj2 : (j 2).val = n2 * 1024 + w.val)
    (h0 : n0 = (point b qi).val / 16) (h1 : n1 = (point b qi).val % 16 - d) (h2 : n2 * 1024 = o) :
    j = ix3 b (rowBefore qi d r) (colAt o ho w) := by
  simp only [point] at h0 h1
  funext a; fin_cases a
  · refine Fin.ext (hj0.trans ?_)
    show n0 * 1 + 0 = b.val
    omega
  · refine Fin.ext (hj1.trans ?_)
    show n1 * 256 + r.val = 256 * (qi.val - d) + r.val
    omega
  · refine Fin.ext (hj2.trans ?_)
    show n2 * 1024 + w.val = o + w.val
    omega

/-! The blocks of queries, keys and values, read at an entry. -/

theorem block0 (b : Fin 4) (qi : Fin 16) (r : Fin 256) (w : Fin 1024) :
    (iblk m c 0 (point b qi) : S1x256x1024.Idx → EReal) (ix3 0 r w)
      = m ((c : Thread nD τ).loc main_arg0) (ix3 b (rowBefore qi 0 r) (colAt 2048 (by omega) w)) := by
  obtain ⟨h0, h1, h2⟩ := index0 (point b qi)
  exact (congrFun (V_main_arg0 m c) _).trans (congrArg (m ((c : Thread nD τ).loc main_arg0)) (place b qi r w 0 2048 (by omega) _ _ _ _
    (Window.rect_emb_val win0_0 (point b qi) (ix3 0 r w) 0) (Window.rect_emb_val win0_0 (point b qi) (ix3 0 r w) 1)
    (Window.rect_emb_val win0_0 (point b qi) (ix3 0 r w) 2) h0 h1 (by rw [h2])))

theorem block1 (b : Fin 4) (qi : Fin 16) (r : Fin 256) (w : Fin 1024) :
    (iblk m c 1 (point b qi) : S1x256x1024.Idx → EReal) (ix3 0 r w)
      = m ((c : Thread nD τ).loc main_arg0) (ix3 b (rowBefore qi 2 r) (colAt 0 (by omega) w)) := by
  obtain ⟨h0, h1, h2⟩ := index1 (point b qi)
  exact (congrFun (V_main_arg0 m c) _).trans (congrArg (m ((c : Thread nD τ).loc main_arg0)) (place b qi r w 2 0 (by omega) _ _ _ _
    (Window.rect_emb_val win0_1 (point b qi) (ix3 0 r w) 0) (Window.rect_emb_val win0_1 (point b qi) (ix3 0 r w) 1)
    (Window.rect_emb_val win0_1 (point b qi) (ix3 0 r w) 2) h0 h1 (by rw [h2])))

theorem block2 (b : Fin 4) (qi : Fin 16) (r : Fin 256) (w : Fin 1024) :
    (iblk m c 2 (point b qi) : S1x256x1024.Idx → EReal) (ix3 0 r w)
      = m ((c : Thread nD τ).loc main_arg0) (ix3 b (rowBefore qi 1 r) (colAt 0 (by omega) w)) := by
  obtain ⟨h0, h1, h2⟩ := index2 (point b qi)
  exact (congrFun (V_main_arg0 m c) _).trans (congrArg (m ((c : Thread nD τ).loc main_arg0)) (place b qi r w 1 0 (by omega) _ _ _ _
    (Window.rect_emb_val win0_2 (point b qi) (ix3 0 r w) 0) (Window.rect_emb_val win0_2 (point b qi) (ix3 0 r w) 1)
    (Window.rect_emb_val win0_2 (point b qi) (ix3 0 r w) 2) h0 h1 (by rw [h2])))

theorem block3 (b : Fin 4) (qi : Fin 16) (r : Fin 256) (w : Fin 1024) :
    (iblk m c 3 (point b qi) : S1x256x1024.Idx → EReal) (ix3 0 r w)
      = m ((c : Thread nD τ).loc main_arg0) (ix3 b (rowBefore qi 0 r) (colAt 0 (by omega) w)) := by
  obtain ⟨h0, h1, h2⟩ := index3 (point b qi)
  exact (congrFun (V_main_arg0 m c) _).trans (congrArg (m ((c : Thread nD τ).loc main_arg0)) (place b qi r w 0 0 (by omega) _ _ _ _
    (Window.rect_emb_val win0_3 (point b qi) (ix3 0 r w) 0) (Window.rect_emb_val win0_3 (point b qi) (ix3 0 r w) 1)
    (Window.rect_emb_val win0_3 (point b qi) (ix3 0 r w) 2) h0 h1 (by rw [h2])))

theorem block4 (b : Fin 4) (qi : Fin 16) (r : Fin 256) (w : Fin 1024) :
    (iblk m c 4 (point b qi) : S1x256x1024.Idx → EReal) (ix3 0 r w)
      = m ((c : Thread nD τ).loc main_arg0) (ix3 b (rowBefore qi 2 r) (colAt 1024 (by omega) w)) := by
  obtain ⟨h0, h1, h2⟩ := index4 (point b qi)
  exact (congrFun (V_main_arg0 m c) _).trans (congrArg (m ((c : Thread nD τ).loc main_arg0)) (place b qi r w 2 1024 (by omega) _ _ _ _
    (Window.rect_emb_val win0_4 (point b qi) (ix3 0 r w) 0) (Window.rect_emb_val win0_4 (point b qi) (ix3 0 r w) 1)
    (Window.rect_emb_val win0_4 (point b qi) (ix3 0 r w) 2) h0 h1 (by rw [h2])))

theorem block5 (b : Fin 4) (qi : Fin 16) (r : Fin 256) (w : Fin 1024) :
    (iblk m c 5 (point b qi) : S1x256x1024.Idx → EReal) (ix3 0 r w)
      = m ((c : Thread nD τ).loc main_arg0) (ix3 b (rowBefore qi 1 r) (colAt 1024 (by omega) w)) := by
  obtain ⟨h0, h1, h2⟩ := index5 (point b qi)
  exact (congrFun (V_main_arg0 m c) _).trans (congrArg (m ((c : Thread nD τ).loc main_arg0)) (place b qi r w 1 1024 (by omega) _ _ _ _
    (Window.rect_emb_val win0_5 (point b qi) (ix3 0 r w) 0) (Window.rect_emb_val win0_5 (point b qi) (ix3 0 r w) 1)
    (Window.rect_emb_val win0_5 (point b qi) (ix3 0 r w) 2) h0 h1 (by rw [h2])))

theorem block6 (b : Fin 4) (qi : Fin 16) (r : Fin 256) (w : Fin 1024) :
    (iblk m c 6 (point b qi) : S1x256x1024.Idx → EReal) (ix3 0 r w)
      = m ((c : Thread nD τ).loc main_arg0) (ix3 b (rowBefore qi 0 r) (colAt 1024 (by omega) w)) := by
  obtain ⟨h0, h1, h2⟩ := index6 (point b qi)
  exact (congrFun (V_main_arg0 m c) _).trans (congrArg (m ((c : Thread nD τ).loc main_arg0)) (place b qi r w 0 1024 (by omega) _ _ _ _
    (Window.rect_emb_val win0_6 (point b qi) (ix3 0 r w) 0) (Window.rect_emb_val win0_6 (point b qi) (ix3 0 r w) 1)
    (Window.rect_emb_val win0_6 (point b qi) (ix3 0 r w) 2) h0 h1 (by rw [h2])))

/-- The bias block is the whole bias. -/
theorem block7 (t : Fin cfg0.N) (j : S16x256x768.Idx) :
    (iblk m c 7 t : S16x256x768.Idx → EReal) j = KerBias.tile (m ((c : Thread nD τ).loc main_arg1)) j := by
  obtain ⟨h0, h1, h2⟩ := index7 t
  refine Eq.trans (congrArg (V m c main_v16 : S16x256x768.Idx → EReal) (?_ : ((cfg0.win 7).blk t).view.emb j = j)) (congrFun (KerBias.bias_eq m c) j)
  funext a; fin_cases a
  · exact Fin.ext (Window.rect_emb_val_of_index_zero win0_7 t 0 h0 j)
  · exact Fin.ext (Window.rect_emb_val_of_index_zero win0_7 t 1 h1 j)
  · exact Fin.ext (Window.rect_emb_val_of_index_zero win0_7 t 2 h2 j)

/-- The result array at a row of tile `qi` and an entry of head `h`: the head's tile of the point's blocks. -/
theorem final_apply (b : Fin 4) (qi : Fin 16) (r : Fin 256) (h : Fin 16) (d : Fin 64) :
    ((dats m 0 c).arrAt 8 cfg0.N : S4x4096x1024.Idx → EReal) (ix3 b ⟨256 * qi.val + r.val, by omega⟩ ⟨64 * h.val + d.val, by omega⟩)
      = tileOf (grid0.coords (point b qi)) (iblk m c 0 (point b qi)) (iblk m c 1 (point b qi)) (iblk m c 2 (point b qi))
          (iblk m c 3 (point b qi)) (iblk m c 4 (point b qi)) (iblk m c 5 (point b qi)) (iblk m c 6 (point b qi))
          (iblk m c 7 (point b qi)) h (ix3 0 r d) := by
  obtain ⟨h0, h1, h2⟩ := index8 (point b qi)
  have hw : (⟨64 * h.val + d.val, by omega⟩ : Fin 1024).val = 64 * h.val + d.val := rfl
  have e : ((cfg0.win 8).blk (point b qi)).view.emb (ix3 0 r ⟨64 * h.val + d.val, by omega⟩)
      = ix3 b ⟨256 * qi.val + r.val, by omega⟩ ⟨64 * h.val + d.val, by omega⟩ := by
    simp only [point] at h0 h1
    funext a; fin_cases a
    · refine Fin.ext ((Window.rect_emb_val win0_8 (point b qi) (ix3 0 r ⟨64 * h.val + d.val, by omega⟩) 0).trans ?_)
      show win0_8.index (point b qi) 0 * 1 + 0 = b.val
      simp only [point]; rw [h0]; omega
    · refine Fin.ext ((Window.rect_emb_val win0_8 (point b qi) (ix3 0 r ⟨64 * h.val + d.val, by omega⟩) 1).trans ?_)
      show win0_8.index (point b qi) 1 * 256 + r.val = 256 * qi.val + r.val
      simp only [point]; rw [h1]; omega
    · refine Fin.ext ((Window.rect_emb_val win0_8 (point b qi) (ix3 0 r ⟨64 * h.val + d.val, by omega⟩) 2).trans ?_)
      show win0_8.index (point b qi) 2 * 1024 + (64 * h.val + d.val) = 64 * h.val + d.val
      rw [h2]; omega
  refine (congrArg ((dats m 0 c).arrAt 8 cfg0.N : S4x4096x1024.Idx → EReal) e.symm).trans ?_
  refine ((dats m 0 c).arrAt_emb_eq_flushed 8 Value.disjoint8 (point b qi) (flush0_8 _) (ix3 0 r ⟨64 * h.val + d.val, by omega⟩)).trans ?_
  refine (congrFun (Value.flushed8 m c (point b qi)) _).trans ?_
  refine (out_eq _ _ _ _ _ _ _ _ _ (ix3 0 r ⟨64 * h.val + d.val, by omega⟩)).trans ?_
  unfold blockOf
  refine congr (congrArg _ (Fin.ext (by show (64 * h.val + d.val) / 64 = h.val; omega))) ?_
  funext a; fin_cases a
  · rfl
  · rfl
  · exact Fin.ext (by show (64 * h.val + d.val) % 64 = d.val; omega)

end Blocks

end Cert.Proof.KerVal
-- ==== Proof.RefTrip.lean ====
/- One chunk of queries of the reference, read at an index over the extended reals. -/
module

public import proofs.«01_k».proof.ReferenceIdeal
public import proofs.«01_k».proof.Proof.Gen.ReferenceIdeal
public import proofs.«01_k».proof.Proof.Gen.ReferenceIdeal.Step
public import proofs.«01_k».proof.Proof.SoftmaxMath
public import proofs.«01_k».proof.Proof.RefRun
public import Idealize.ShloMosaic.Lib.ValueIdx
public import Idealize.ShloMosaic.Lib.ValueIdxCore
public import Idealize.ShloMosaic.Lib.IdealHost
public import Idealize.ShloMosaic.Lib.KernelVsHost
public import Idealize.ShloMosaic.Lib.DynamicIndex
public import Idealize.ShloMosaic.Lib.Pipeline.Value
public import Idealize.ShloMosaic.PureOps.Ideal.Laws

@[expose] public section

set_option maxRecDepth 4000

noncomputable section

namespace Cert.Proof.RefTrip

open Idealize.ShloMosaic Idealize.ShloMosaic.ValueIdx Cert.Proof.SoftmaxMath
open Cert.ReferenceIdeal Cert.ReferenceIdeal.Gen Cert.ReferenceIdeal.Step

/-- The projections of keys, values and queries, one array. -/
abbrev Proj := S4x4096x3072.Idx → EReal
/-- The bias table, a row of 257 per head. -/
abbrev Table := S16x257.Idx → EReal

/-- The scale of the queries. -/
def eighth : EReal := Ideal.ofBits .f32 0x3E000000#32

/-- Row `P` of the projections padded with 512 rows of zeros in front, at column `w`. -/
def padded (x : Proj) (b : Fin 4) (P : Fin 4608) (w : Fin 3072) : EReal :=
  if h : P.val < 512 then 0 else x (ix3 b ⟨P.val - 512, by omega⟩ w)

/-- The column of head `h`'s entry `e` in the part of the projections that begins at `o` (0, 1024 or 2048). -/
def col (o : ℕ) (ho : o ≤ 2048) (h : Fin 16) (e : Fin 64) : Fin 3072 := ⟨o + h.val * 64 + e.val, by omega⟩

/-- The column of the bias table that query `i` of a chunk reads for slot `j` of its band. -/
def rel (i : Fin 64) (j : Fin 576) : Fin 257 := ⟨min 256 (640 + i.val - j.val), by omega⟩

/-- The scores of query `i` of chunk `c` in batch `b` and head `h` over the 576 slots of its band, `⊥` at the slots
    before the sequence. -/
def scores (x : Proj) (y : Table) (b : Fin 4) (c : Fin 64) (i : Fin 64) (h : Fin 16) (j : Fin 576) : EReal :=
  if 512 ≤ 64 * c.val + j.val then
    (∑ e : Fin 64, (x (ix3 b ⟨64 * c.val + i.val, by omega⟩ (col 2048 (by omega) h e)) * eighth)
      * padded x b ⟨64 * c.val + j.val, by omega⟩ (col 0 (by omega) h e)) + y (ix2 h (rel i j))
  else ⊥

/-- The values of the band's slots, at entry `d` of head `h`. -/
def values (x : Proj) (b : Fin 4) (c : Fin 64) (h : Fin 16) (d : Fin 64) (j : Fin 576) : EReal :=
  padded x b ⟨64 * c.val + j.val, by omega⟩ (col 1024 (by omega) h d)

theorem scaledQueries (x : Proj) (y : Table) (c : Fin 64) (b : Fin 4) (i : Fin 64) (h : Fin 16) (e : Fin 64) :
    (A_main_v10 (F := Ideal) x y : S64x4x64x16x64.Idx → EReal) (ix5 c b i h e)
      = x (ix3 b ⟨64 * c.val + i.val, by omega⟩ (col 2048 (by omega) h e)) * eighth := by
  unfold A_main_v10
  rw [transpose_apply _ _ _ _ (ix5 b c i h e) (by intro a; fin_cases a <;> rfl)]
  unfold A_main_v9
  rw [mulf_apply]
  congr 1
  unfold A_main_v7
  rw [shapeCast_apply _ _ _ (ix4 b ⟨64 * c.val + i.val, by omega⟩ h e) (by
    rw [Shape.rowMajor_val_four, Shape.rowMajor_val_five]; simp [ix4, ix5]; ring)]
  unfold A_main_v6
  rw [shapeCast_apply _ _ _ (ix3 b ⟨64 * c.val + i.val, by omega⟩ ⟨h.val * 64 + e.val, by omega⟩) (by
    rw [Shape.rowMajor_val_three, Shape.rowMajor_val_four]; simp [ix3, ix4]; ring)]
  unfold A_main_v3
  rw [extractStridedSlice_apply _ _ _ _ (ix3 b ⟨64 * c.val + i.val, by omega⟩ (col 2048 (by omega) h e)) (by
    intro a; fin_cases a <;> simp [ix3, col] <;> omega)]
  rfl

theorem paddedKeys (x : Proj) (y : Table) (b : Fin 4) (P : Fin 4608) (h : Fin 16) (e : Fin 64) :
    (A_main_v11 (F := Ideal) x y : S4x4608x16x64.Idx → EReal) (ix4 b P h e) = padded x b P (col 0 (by omega) h e) := by
  unfold A_main_v11 padded
  by_cases hP : P.val < 512
  · rw [pad_apply_of_not_inside _ _ _ _ _ _ _ _ (1 : Fin 4) (by simp [ix4]; omega), dif_pos hP]
    show ((((0#32 : BitVec 32).toInt : ℝ)) : EReal) = 0
    simp
  · rw [pad_apply_of_inside _ _ _ _ _ _ _ _ (ix4 b ⟨P.val - 512, by omega⟩ h e) (by
      intro a; fin_cases a <;> simp [ix4]; omega), dif_neg hP]
    unfold A_main_v4
    rw [shapeCast_apply _ _ _ (ix3 b ⟨P.val - 512, by omega⟩ ⟨h.val * 64 + e.val, by omega⟩) (by
      rw [Shape.rowMajor_val_three, Shape.rowMajor_val_four]; simp [ix3, ix4]; ring)]
    unfold A_main_v1
    rw [extractStridedSlice_apply _ _ _ _ (ix3 b ⟨P.val - 512, by omega⟩ (col 0 (by omega) h e)) (by
      intro a; fin_cases a <;> simp [ix3, col])]
    rfl

theorem paddedValues (x : Proj) (y : Table) (b : Fin 4) (P : Fin 4608) (h : Fin 16) (e : Fin 64) :
    (A_main_v12 (F := Ideal) x y : S4x4608x16x64.Idx → EReal) (ix4 b P h e) = padded x b P (col 1024 (by omega) h e) := by
  unfold A_main_v12 padded
  by_cases hP : P.val < 512
  · rw [pad_apply_of_not_inside _ _ _ _ _ _ _ _ (1 : Fin 4) (by simp [ix4]; omega), dif_pos hP]
    show ((((0#32 : BitVec 32).toInt : ℝ)) : EReal) = 0
    simp
  · rw [pad_apply_of_inside _ _ _ _ _ _ _ _ (ix4 b ⟨P.val - 512, by omega⟩ h e) (by
      intro a; fin_cases a <;> simp [ix4]; omega), dif_neg hP]
    unfold A_main_v5
    rw [shapeCast_apply _ _ _ (ix3 b ⟨P.val - 512, by omega⟩ ⟨h.val * 64 + e.val, by omega⟩) (by
      rw [Shape.rowMajor_val_three, Shape.rowMajor_val_four]; simp [ix3, ix4]; ring)]
    unfold A_main_v2
    rw [extractStridedSlice_apply _ _ _ _ (ix3 b ⟨P.val - 512, by omega⟩ (col 1024 (by omega) h e)) (by
      intro a; fin_cases a <;> simp [ix3, col]; omega)]
    rfl

/-- Clamping a distance to at most 128, shifting it by 128 and wrapping a negative word, on the distances that occur. -/
theorem clampedWord : ∀ n : Fin 640,
    Scalar.select (IntOp.cmpi .slt (IntOp.minsi 128#32 (IntOp.maxsi 4294967168#32 (BitVec.ofNat 32 n.val - 63#32)) + 128#32) 0#32)
      (IntOp.minsi 128#32 (IntOp.maxsi 4294967168#32 (BitVec.ofNat 32 n.val - 63#32)) + 128#32 + 257#32)
      (IntOp.minsi 128#32 (IntOp.maxsi 4294967168#32 (BitVec.ofNat 32 n.val - 63#32)) + 128#32)
      = BitVec.ofNat 32 (min 256 (n.val + 65)) := by
  decide +kernel

/-- The index word of the bias table for query `i` and slot `j`. -/
theorem relWord (i : Fin 64) (j : Fin 576) :
    (K_main_v29 (F := Ideal) : S64x576.Idx → BitVec 32) (ix2 i j) = BitVec.ofNat 32 (rel i j).val := by
  have hw : (512#32 + BitVec.ofNat 32 i.val) - BitVec.ofNat 32 j.val = BitVec.ofNat 32 (575 + i.val - j.val) - 63#32 := by
    apply BitVec.eq_of_toNat_eq
    simp only [BitVec.toNat_sub, BitVec.toNat_add, BitVec.toNat_ofNat]
    omega
  have h := clampedWord ⟨575 + i.val - j.val, by omega⟩
  simp only [← hw] at h
  have e : min 256 (575 + i.val - j.val + 65) = (rel i j).val := by simp only [rel]; omega
  rw [e] at h
  refine Eq.trans ?_ h
  rfl

/-- The gather of the bias table's columns read at an index: the column its index word names. -/
theorem gatherColumn (y : Table) (idx : IVec S64x576x1 32) (h : Fin 16) (i : Fin 64) (j : Fin 576) :
    Host.gather gather_S16x257_S64x576x1_S16x64x576_0_1_n_n_1_2_161 y idx (ix3 h i j)
      = y (ix2 h ⟨min (idx (ix3 i j (0 : Fin 1))).toInt.toNat 256, by omega⟩) := by
  unfold Host.gather
  refine congrArg y (funext fun a => Fin.ext ?_)
  have hsi : ∀ p, gather_S16x257_S64x576x1_S16x64x576_0_1_n_n_1_2_161.siIdx (ix3 h i j) ⟨0, p⟩ = ix3 i j (0 : Fin 1) := by
    intro p; funext b; refine Fin.ext ?_
    match b with
    | ⟨0, _⟩ => rfl
    | ⟨1, _⟩ => rfl
    | ⟨2, _⟩ => rfl
  match a with
  | ⟨0, _⟩ => exact Nat.zero_add _
  | ⟨1, _⟩ =>
    have hm : (1 : Fin 2) ∈ gather_S16x257_S64x576x1_S16x64x576_0_1_n_n_1_2_161.startIndexMap := List.mem_singleton.mpr rfl
    have ho : gather_S16x257_S64x576x1_S16x64x576_0_1_n_n_1_2_161.offCoord (ix3 h i j) (1 : Fin 2) = 0 :=
      GatherDims.offCoord_eq_zero _ _ _ (fun h => ((GatherDims.mem_sKept _ _).mp h).1 (List.mem_singleton.mpr rfl))
    have hb : gather_S16x257_S64x576x1_S16x64x576_0_1_n_n_1_2_161.batchCoord (ix3 h i j) (1 : Fin 2) = 0 :=
      GatherDims.batchCoord_eq_zero _ _ _ List.not_mem_nil
    have hst : gather_S16x257_S64x576x1_S16x64x576_0_1_n_n_1_2_161.start (ix3 h i j) idx (1 : Fin 2)
        = min (idx (ix3 i j (0 : Fin 1))).toInt.toNat 256 := by
      unfold GatherDims.start
      rw [dif_pos hm]
      exact congrArg (fun q => min (idx q).toInt.toNat 256) (hsi _)
    show gather_S16x257_S64x576x1_S16x64x576_0_1_n_n_1_2_161.start (ix3 h i j) idx (1 : Fin 2)
      + gather_S16x257_S64x576x1_S16x64x576_0_1_n_n_1_2_161.batchCoord (ix3 h i j) (1 : Fin 2)
      + gather_S16x257_S64x576x1_S16x64x576_0_1_n_n_1_2_161.offCoord (ix3 h i j) (1 : Fin 2) = _
    rw [ho, hb, hst]
    rfl

/-- The bias of head `h` for query `i` and slot `j` of a chunk. -/
theorem biasOf (x : Proj) (y : Table) (h : Fin 16) (i : Fin 64) (j : Fin 576) :
    (A_main_v31 (F := Ideal) x y : S16x64x576.Idx → EReal) (ix3 h i j) = y (ix2 h (rel i j)) := by
  refine (gatherColumn y (K_main_v30 (F := Ideal)) h i j).trans ?_
  have hk : (K_main_v30 (F := Ideal) : S64x576x1.Idx → BitVec 32) (ix3 i j 0) = BitVec.ofNat 32 (rel i j).val := by
    unfold K_main_v30
    rw [broadcastInDim_apply _ _ _ _ (ix2 i j) (by intro a; fin_cases a <;> rfl)]
    exact relWord i j
  have hlt := (rel i j).isLt
  have hi : ((K_main_v30 (F := Ideal) : S64x576x1.Idx → BitVec 32) (ix3 i j 0)).toInt = ((rel i j).val : ℤ) :=
    (congrArg BitVec.toInt hk).trans (toInt_ofNat_of_lt (by omega))
  refine congrArg (fun q => y (ix2 h q)) (Fin.ext ?_)
  refine (congrArg (fun q : ℤ => min q.toNat 256) hi).trans ?_
  show min ((rel i j).val : ℤ).toNat 256 = (rel i j).val
  omega

/-! ## The trip's values -/

/-- The loop's constants of a state are those computed before it. -/
structure Consts (x : Proj) (y : Table) (s : State Ideal) : Prop where
  q : s.main_v34_1 = A_main_v10 x y
  k : s.main_v34_2 = A_main_v11 x y
  v : s.main_v34_3 = A_main_v12 x y
  bias : s.main_v34_4 = A_main_v31 x y

variable {x : Proj} {y : Table} {s : State Ideal}

theorem idx0 (i j : S_.Idx) : i = j := funext fun a => a.elim0

theorem chunkWord (c : Fin 64) (z : S_.Idx) : (b9 c.val s : S_.Idx → BitVec 32) z = BitVec.ofNat 32 (64 * c.val) := by
  have h0 : (b0 c.val s : S1.Idx → BitVec 32) = extractStridedSlice S1 ![c.val] K_main_v32
      ⟨rfl, fun a => by fin_cases a; simp⟩ := by
    unfold b0
    refine Host.dynamicSlice_eq_extractStridedSlice _ _ _ _ _ _ fun a => ?_
    fin_cases a
    exact toInt_ofNat_of_lt (by omega)
  have h1 : (b1 c.val s : S_.Idx → BitVec 32) z = BitVec.ofNat 32 c.val := by
    unfold b1
    rw [shapeCast_apply _ _ _ (ix1 0) (by
      have h1 := ((⟨1, ![1]⟩ : Shape).rowMajor (ix1 (0 : Fin 1))).isLt
      have h2 := (S_.rowMajor z).isLt
      have e1 : (⟨1, ![1]⟩ : Shape).numel = 1 := by decide
      have e2 : S_.numel = 1 := by decide
      omega)]
    refine (congrFun h0 _).trans ((extractStridedSlice_apply _ _ _ _ (ix1 c) (by intro a; fin_cases a; rfl)).trans ?_)
    rfl
  show IntOp.muli _ _ = _
  rw [h1]
  show BitVec.ofNat 32 c.val * 64#32 = _
  apply BitVec.eq_of_toNat_eq
  simp only [BitVec.toNat_mul, BitVec.toNat_ofNat]
  omega

theorem bandStart (c : Fin 64) (z : S_.Idx) : (b14 c.val s : S_.Idx → BitVec 32) z = BitVec.ofNat 32 (64 * c.val) := by
  show select (cmpi .slt (b9 c.val s) (constantI S_ 32 0#32)) _ _ z = _
  rw [select_slt_zero_of_nonneg _ _ _ _ (by rw [chunkWord, toInt_ofNat_of_lt (by omega)]; omega), chunkWord]

theorem bandStart' (c : Fin 64) (z : S_.Idx) : (b23 c.val s : S_.Idx → BitVec 32) z = BitVec.ofNat 32 (64 * c.val) :=
  bandStart c z

theorem chunkQueries (hs : Consts x y s) (c : Fin 64) (b : Fin 4) (i : Fin 64) (h : Fin 16) (e : Fin 64) :
    (b7 c.val s : S4x64x16x64.Idx → EReal) (ix4 b i h e)
      = x (ix3 b ⟨64 * c.val + i.val, by omega⟩ (col 2048 (by omega) h e)) * eighth := by
  have h6 : (b6 c.val s : S1x4x64x16x64.Idx → EReal) = extractStridedSlice S1x4x64x16x64 ![c.val, 0, 0, 0, 0] s.main_v34_1
      ⟨rfl, fun a => by fin_cases a <;> simp⟩ := by
    unfold b6
    refine Host.dynamicSlice_eq_extractStridedSlice _ _ _ _ _ _ fun a => ?_
    fin_cases a
    · exact toInt_ofNat_of_lt (by omega)
    all_goals rfl
  unfold b7
  rw [shapeCast_apply _ _ _ (ix5 0 b i h e) (by
    rw [Shape.rowMajor_val_four, Shape.rowMajor_val_five]; simp [ix4, ix5])]
  refine (congrFun h6 _).trans ((extractStridedSlice_apply _ _ _ _ (ix5 c b i h e) (by
    intro a; fin_cases a <;> simp [ix5])).trans ?_)
  rw [hs.q]
  exact scaledQueries x y c b i h e

theorem bandKeys (hs : Consts x y s) (c : Fin 64) (b : Fin 4) (j : Fin 576) (h : Fin 16) (e : Fin 64) :
    (b18 c.val s : S4x576x16x64.Idx → EReal) (ix4 b j h e) = padded x b ⟨64 * c.val + j.val, by omega⟩ (col 0 (by omega) h e) := by
  have h6 : (b18 c.val s : S4x576x16x64.Idx → EReal) = extractStridedSlice S4x576x16x64 ![0, 64 * c.val, 0, 0] s.main_v34_2
      ⟨rfl, fun a => by fin_cases a <;> simp; omega⟩ := by
    unfold b18
    refine Host.dynamicSlice_eq_extractStridedSlice _ _ _ _ _ _ fun a => ?_
    fin_cases a
    · rfl
    · show BitVec.toInt ((b14 c.val s : S_.Idx → BitVec 32) _) = _
      rw [bandStart, toInt_ofNat_of_lt (by omega)]; rfl
    all_goals rfl
  refine (congrFun h6 _).trans ((extractStridedSlice_apply _ _ _ _ (ix4 b ⟨64 * c.val + j.val, by omega⟩ h e) (by
    intro a; fin_cases a <;> simp [ix4])).trans ?_)
  rw [hs.k]
  exact paddedKeys x y b _ h e

theorem bandValues (hs : Consts x y s) (c : Fin 64) (b : Fin 4) (j : Fin 576) (h : Fin 16) (d : Fin 64) :
    (b27 c.val s : S4x576x16x64.Idx → EReal) (ix4 b j h d) = values x b c h d j := by
  have h6 : (b27 c.val s : S4x576x16x64.Idx → EReal) = extractStridedSlice S4x576x16x64 ![0, 64 * c.val, 0, 0] s.main_v34_3
      ⟨rfl, fun a => by fin_cases a <;> simp; omega⟩ := by
    unfold b27
    refine Host.dynamicSlice_eq_extractStridedSlice _ _ _ _ _ _ fun a => ?_
    fin_cases a
    · rfl
    · show BitVec.toInt ((b23 c.val s : S_.Idx → BitVec 32) _) = _
      rw [bandStart', toInt_ofNat_of_lt (by omega)]; rfl
    all_goals rfl
  refine (congrFun h6 _).trans ((extractStridedSlice_apply _ _ _ _ (ix4 b ⟨64 * c.val + j.val, by omega⟩ h d) (by
    intro a; fin_cases a <;> simp [ix4])).trans ?_)
  rw [hs.v]
  exact paddedValues x y b _ h d

/-- A host product with one contracted axis of `n` entries, its operands' indices given. -/
theorem dot_apply {sl sr so : Shape} (D : DotDims sl sr so) (n : ℕ) (hr : D.contr.rank = 1)
    (hn : D.contr.size ⟨0, by omega⟩ = n) (l : FVec Ideal sl .f32) (r : FVec Ideal sr .f32) (j : so.Idx)
    (L : Fin n → sl.Idx) (R : Fin n → sr.Idx)
    (hL : ∀ k, D.lhsIdx j ((contrEquiv1 D n hr hn).symm k) = L k)
    (hR : ∀ k, D.rhsIdx j ((contrEquiv1 D n hr hn).symm k) = R k) :
    (Host.dotGeneral D none l r : FVec Ideal so .f32) j = ∑ k, l (L k) * r (R k) := by
  refine (Ideal.dotGeneral_apply D none _ l r j).trans ?_
  rw [← (contrEquiv1 D n hr hn).symm.sum_comp]
  exact Finset.sum_congr rfl fun k _ => by rw [hL, hR]

theorem products (hs : Consts x y s) (c : Fin 64) (b : Fin 4) (h : Fin 16) (i : Fin 64) (j : Fin 576) :
    (b28 c.val s : S4x16x64x576.Idx → EReal) (ix4 b h i j)
      = ∑ e : Fin 64, (x (ix3 b ⟨64 * c.val + i.val, by omega⟩ (col 2048 (by omega) h e)) * eighth)
        * padded x b ⟨64 * c.val + j.val, by omega⟩ (col 0 (by omega) h e) := by
  unfold b28
  rw [dot_apply _ 64 rfl rfl _ _ _ (fun e => ix4 b i h e) (fun e => ix4 b j h e)
    (fun k => by funext a; fin_cases a <;> rfl) (fun k => by funext a; fin_cases a <;> rfl)]
  exact Finset.sum_congr rfl fun e _ => by rw [chunkQueries hs, bandKeys hs]

theorem slotValid (c : Fin 64) (j : Fin 576) :
    IntOp.cmpi .sge (BitVec.ofNat 32 (64 * c.val) + BitVec.ofNat 32 j.val) 512#32
      = if 512 ≤ 64 * c.val + j.val then 1#1 else 0#1 := by
  have e : BitVec.ofNat 32 (64 * c.val) + BitVec.ofNat 32 j.val = BitVec.ofNat 32 (64 * c.val + j.val) := by
    rw [BitVec.ofNat_add]
  rw [e]
  show BitVec.ofBool (BitVec.sle _ _) = _
  unfold BitVec.sle
  rw [toInt_ofNat_of_lt (by omega), toInt_ofNat_of_lt (by omega)]
  split <;> rename_i hh
  · rw [decide_eq_true (by exact_mod_cast hh)]; rfl
  · rw [decide_eq_false (by exact_mod_cast hh)]; rfl

theorem negInf : Ideal.ofBits .f32 0xFF800000#32 = ⊥ := by
  simp [Ideal.ofBits, Ideal.ieee]

theorem maskedScores (hs : Consts x y s) (c : Fin 64) (b : Fin 4) (h : Fin 16) (i : Fin 64) (j : Fin 576) :
    (b43 c.val s : S4x16x64x576.Idx → EReal) (ix4 b h i j) = scores x y b c i h j := by
  unfold b43
  rw [select_apply]
  have hm : (b41 c.val s : S4x16x64x576.Idx → BitVec 1) (ix4 b h i j) = if 512 ≤ 64 * c.val + j.val then 1#1 else 0#1 := by
    unfold b41
    rw [broadcastInDim_apply _ _ _ _ (ix4 0 0 0 j) (by intro a; fin_cases a <;> rfl)]
    unfold b38
    rw [broadcastInDim_apply _ _ _ _ (ix1 j) (by intro a; fin_cases a; rfl), ← slotValid]
    show IntOp.cmpi .sge (IntOp.addi _ _) _ = _
    unfold b33
    rw [broadcastInDim_apply _ _ _ _ (fun a => a.elim0) (by intro a; exact a.elim0), chunkWord]
    rfl
  rw [hm]
  unfold scores
  split
  · rw [select_one]
    unfold b31
    rw [addf_apply, products hs]
    congr 1
    unfold b30
    rw [broadcastInDim_apply _ _ _ _ (ix4 0 h i j) (by intro a; fin_cases a <;> rfl)]
    unfold b29
    rw [broadcastInDim_apply _ _ _ _ (ix3 h i j) (by intro a; fin_cases a <;> rfl), hs.bias]
    exact biasOf x y h i j
  · rw [select_zero]
    exact negInf

theorem reduces4 : S4x16x64x576.Reduces [3] S4x16x64 := by decide

theorem lift4 (b : Fin 4) (h : Fin 16) (i : Fin 64) (j : Fin 576) : reduces4.lift (ix3 b h i) j = ix4 b h i j := by
  funext a; fin_cases a <;> rfl

theorem rowPeak (hs : Consts x y s) (c : Fin 64) (b : Fin 4) (h : Fin 16) (i : Fin 64) :
    (b48 c.val s : S4x16x64.Idx → EReal) (ix3 b h i) = peak (scores x y b c i h) := by
  unfold b48
  rw [maximumf_apply]
  have h45 : (b45 c.val s : S4x16x64.Idx → EReal) (ix3 b h i) = peak (scores x y b c i h) := by
    refine (congrFun (hostReduce_maximumf_eq_multiReduction (F := Ideal) (φ := .f32) (b43 c.val s) 0xFF800000#32
      reducesTo_S4x16x64x576_S4x16x64_d3 h_S_ reduces4 (.inl rfl) rfl) (ix3 b h i)).trans ?_
    refine (Ideal.multiReduction_maximumf_single (φ := .f32) (b43 c.val s) 0xFF800000#32 reduces4 (.inl rfl) rfl
      (ix3 b h i)).trans ?_
    unfold peak
    rw [show (FloatOps.ofBits .f32 0xFF800000#32 : Ideal .f32) = (⊥ : EReal) from negInf]
    congr 1
    funext j
    exact (congrArg (b43 c.val s) (lift4 b h i j)).trans (maskedScores hs c b h i j)
  rw [h45]
  have h47 : (b47 c.val s : S4x16x64.Idx → EReal) (ix3 b h i) = ⊥ := negInf
  rw [h47]
  exact max_eq_right bot_le

theorem weights (hs : Consts x y s) (c : Fin 64) (b : Fin 4) (h : Fin 16) (i : Fin 64) (j : Fin 576) :
    (b52 c.val s : S4x16x64x576.Idx → EReal) (ix4 b h i j)
      = Ideal.exp (scores x y b c i h j - peak (scores x y b c i h)) := by
  show Ideal.exp ((b43 c.val s : S4x16x64x576.Idx → EReal) (ix4 b h i j) - (b50 c.val s : S4x16x64x576.Idx → EReal) (ix4 b h i j)) = _
  rw [maskedScores hs]
  unfold b50
  rw [broadcastInDim_apply _ _ _ _ (ix4 b h i 0) (by intro a; fin_cases a <;> rfl)]
  unfold b49
  rw [broadcastInDim_apply _ _ _ _ (ix3 b h i) (by intro a; fin_cases a <;> rfl), rowPeak hs]

theorem rowMass (hs : Consts x y s) (c : Fin 64) (b : Fin 4) (h : Fin 16) (i : Fin 64) :
    (b54 c.val s : S4x16x64.Idx → EReal) (ix3 b h i) = mass (scores x y b c i h) := by
  unfold b54
  rw [hostReduceAdd_apply, Ideal.hostReduceAdd_single _ reduces4]
  rw [show (b53 c.val s : S_.Idx → EReal) (Shape.Idx.first h_S_) = 0 from Ideal.ofBits_zero_f32, zero_add]
  exact Finset.sum_congr rfl fun j _ => (congrArg (b52 c.val s) (lift4 b h i j)).trans (weights hs c b h i j)

theorem normalised (hs : Consts x y s) (c : Fin 64) (b : Fin 4) (h : Fin 16) (i : Fin 64) (j : Fin 576) :
    (b57 c.val s : S4x16x64x576.Idx → EReal) (ix4 b h i j)
      = Ideal.div (Ideal.exp (scores x y b c i h j - peak (scores x y b c i h))) (mass (scores x y b c i h)) := by
  show Ideal.div ((b52 c.val s : S4x16x64x576.Idx → EReal) (ix4 b h i j)) ((b56 c.val s : S4x16x64x576.Idx → EReal) (ix4 b h i j)) = _
  rw [weights hs]
  congr 1
  unfold b56
  rw [broadcastInDim_apply _ _ _ _ (ix4 b h i 0) (by intro a; fin_cases a <;> rfl)]
  unfold b55
  rw [broadcastInDim_apply _ _ _ _ (ix3 b h i) (by intro a; fin_cases a <;> rfl), rowMass hs]

/-- What a trip writes for chunk `c`: the band's values weighed by the normalised softmax of the scores. -/
theorem chunkOut (hs : Consts x y s) (c : Fin 64) (b : Fin 4) (i : Fin 64) (h : Fin 16) (d : Fin 64) :
    (b60 c.val s : S1x4x64x16x64.Idx → EReal) (ix5 0 b i h d) = divideThenSum (scores x y b c i h) (values x b c h d) := by
  unfold b60
  rw [broadcastInDim_apply _ _ _ _ (ix4 b i h d) (by intro a; fin_cases a <;> rfl)]
  unfold b59
  rw [transpose_apply _ _ _ _ (ix4 b h d i) (by intro a; fin_cases a <;> rfl)]
  unfold b58
  rw [dot_apply _ 576 rfl rfl _ _ _ (fun j => ix4 b j h d) (fun j => ix4 b h i j)
    (fun k => by funext a; fin_cases a <;> rfl) (fun k => by funext a; fin_cases a <;> rfl)]
  exact Finset.sum_congr rfl fun j _ => by rw [bandValues hs, normalised hs]

/-- The loop's constants are those computed before it, after any number of trips. -/
theorem consts_iter (x : Proj) (y : Table) (n : ℕ) : Consts x y (RefRun.iter (F := Ideal) x y n) := by
  induction n with
  | zero => exact ⟨rfl, rfl, rfl, rfl⟩
  | succ n ih => exact ⟨ih.q, ih.k, ih.v, ih.bias⟩

/-- What trip `n` leaves in the result: its own chunk where it writes, what was there elsewhere. -/
theorem tripWrites (n : Fin 64) (st : State Ideal) (c : Fin 64) (b : Fin 4) (i : Fin 64) (h : Fin 16) (d : Fin 64) :
    ((step n.val st).main_v34_6 : S64x4x64x16x64.Idx → EReal) (ix5 c b i h d)
      = if c = n then (b60 n.val st : S1x4x64x16x64.Idx → EReal) (ix5 0 b i h d)
        else (st.main_v34_6 : S64x4x64x16x64.Idx → EReal) (ix5 c b i h d) := by
  rw [step_main_v34_6]
  unfold b65
  refine (congrFun (Host.dynamicUpdateSlice_eq_updateSlice (s := S64x4x64x16x64) (u := S1x4x64x16x64) st.main_v34_6
    (b60 n.val st) _ _ ![n.val, 0, 0, 0, 0] (by
      intro a
      fin_cases a
      · show (min (max (BitVec.toInt (BitVec.ofNat 32 n.val)) 0) _).toNat = n.val
        rw [toInt_ofNat_of_lt (by omega)]
        simp; omega
      all_goals rfl) ⟨rfl, fun a => by fin_cases a <;> simp⟩) _).trans ?_
  unfold updateSlice
  by_cases hc : c = n
  · subst hc
    rw [if_pos rfl, dif_pos (by intro a; fin_cases a <;> simp [ix5])]
    refine congrArg _ (funext fun a => Fin.ext ?_)
    fin_cases a <;> simp [ix5]
  · rw [if_neg hc, dif_neg]
    intro hall
    have h0 := hall 0
    simp [ix5] at h0
    exact hc (Fin.ext (by omega))

/-- After `n` trips the chunks before `n` hold their attention. -/
theorem chunksDone (x : Proj) (y : Table) (n : ℕ) (hn : n ≤ 64) (c : Fin 64) (hc : c.val < n) (b : Fin 4) (i : Fin 64) (h : Fin 16)
    (d : Fin 64) : ((RefRun.iter (F := Ideal) x y n).main_v34_6 : S64x4x64x16x64.Idx → EReal) (ix5 c b i h d)
      = divideThenSum (scores x y b c i h) (values x b c h d) := by
  induction n with
  | zero => omega
  | succ n ih =>
    refine (tripWrites ⟨n, by omega⟩ _ c b i h d).trans ?_
    by_cases e : c = ⟨n, by omega⟩
    · rw [if_pos e, e]
      exact chunkOut (consts_iter x y n) ⟨n, by omega⟩ b i h d
    · rw [if_neg e]
      exact ih (by omega) (by have : c.val ≠ n := fun hh => e (Fin.ext hh); omega)

/-- The reference's result at query `64 c + i` and entry `d` of head `h`. -/
theorem result (x : Proj) (y : Table) (b : Fin 4) (c i : Fin 64) (h : Fin 16) (d : Fin 64) :
    (R_main_v37 (RefRun.iter (F := Ideal) x y 64) : S4x4096x1024.Idx → EReal)
      (ix3 b ⟨64 * c.val + i.val, by omega⟩ ⟨64 * h.val + d.val, by omega⟩)
      = divideThenSum (scores x y b c i h) (values x b c h d) := by
  unfold R_main_v37
  rw [truncf_apply, shapeCast_apply _ _ _ (ix5 b c i h d) (by
    rw [Shape.rowMajor_val_three, Shape.rowMajor_val_five]; simp [ix3, ix5]; ring),
    transpose_apply _ _ _ _ (ix5 c b i h d) (by intro a; fin_cases a <;> rfl)]
  exact chunksDone x y 64 le_rfl c c.isLt b i h d

end Cert.Proof.RefTrip
-- ==== Proof.Attention.lean ====
/- The equation: a row of the kernel's tile is the reference's row, wherever the arguments are real numbers. -/
module

public import proofs.«01_k».proof.Proof.KerVal
public import proofs.«01_k».proof.Proof.RefTrip
public import proofs.«01_k».proof.Pre_finite
public import Idealize.ShloMosaic.Lib.WordCmp
public import Idealize.ShloMosaic.Lib.ReduceAll

@[expose] public section

set_option maxRecDepth 8000

noncomputable section

namespace Cert.Proof.Attention

open Idealize.ShloMosaic Idealize.ShloMosaic.TcCoe Idealize.SL.Sem Idealize.ShloMosaic.ValueIdx
open Cert.KernelIdeal Cert.KernelIdeal.Gen Cert.Proof.KerHead Cert.Proof.KerVal Cert.Proof.SoftmaxMath
open Cert.Proof.RefTrip (Proj padded col rel scores values)

/-! ## Arrays of real numbers -/

/-- Every entry of the array is a real number. -/
def Real {s : Shape} (x : s.Idx → EReal) : Prop := ∀ j, ∃ r : ℝ, x j = r

theorem bound_top : Ideal.ofBits .f32 0x7F800000#32 = ⊤ := by
  simp [Ideal.ofBits, Ideal.ieee]

/-- An extended real whose absolute value is below the greatest is a real number. -/
theorem real_of_abs_lt (x : EReal) (h : Ideal.cmp .olt (max x (-x)) (Ideal.ofBits .f32 0x7F800000#32) = 1#1) : ∃ r : ℝ, x = r := by
  rw [bound_top] at h
  induction x with
  | bot => simp [Ideal.cmp] at h
  | coe r => exact ⟨r, rfl⟩
  | top => simp [Ideal.cmp] at h

/-- The precondition says that both arguments are arrays of real numbers. -/
theorem real_of_finite [Cert.Pre_finite.Facts] (x : FVec Ideal S4x4096x3072 .bf16) (y : FVec Ideal S16x257 .f32)
    (h : Cert.Pre_finite.fn (F := Ideal) x y = fun _ => 1#1) : Real x ∧ Real y := by
  have h0 := congrFun h (fun a => Fin.elim0 a)
  have h1 := IntOp.andi_eq_one.1 h0
  haveI hs : Subsingleton (Cert.Pre_finite.S_).Idx := ⟨fun a b => funext fun i => Fin.elim0 i⟩
  exact ⟨fun j => real_of_abs_lt _ (Host.reduce_andi_all _ _ _ _ _ h1.1 j), fun j => real_of_abs_lt _ (Host.reduce_andi_all _ _ _ _ _ h1.2 j)⟩

theorem sum_real {n : ℕ} (f : Fin n → EReal) (h : ∀ j, ∃ r : ℝ, f j = r) : ∃ r : ℝ, ∑ j, f j = r := by
  choose g hg using h
  exact ⟨∑ j, g j, by rw [coe_sum]; exact Finset.sum_congr rfl fun j _ => hg j⟩

theorem mul_real (a b : EReal) (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

/-- The two words of the scale, one of each width, are one number. -/
theorem eighth_eq : KerHead.eighth = RefTrip.eighth := by
  simp [KerHead.eighth, RefTrip.eighth, Ideal.ofBits, Ideal.ieee]
  rw [← EReal.coe_mul, ← EReal.coe_mul]
  norm_num

theorem eighth_real : ∃ r : ℝ, RefTrip.eighth = r := by
  refine ⟨1 / 8, ?_⟩
  simp [RefTrip.eighth, Ideal.ofBits, Ideal.ieee]
  rw [← EReal.coe_mul]
  norm_num

/-! ## The tile's mask and its rows -/

/-- The word of the first column that lies within the sequence. -/
theorem bound_word : ∀ n : Fin 16, (IntOp.muli (IntOp.subi 2#32 (BitVec.ofNat 32 n.val)) 256#32).toInt = (512 : Int) - 256 * n.val := by
  decide +kernel

/-- The mask of tile `qi` is set at the columns of the rows that exist. -/
theorem mask_apply (b : Fin 4) (qi : Fin 16) (r : Fin 256) (j : Fin 768) :
    k0_pay2 (grid0.coords (point b qi)) (ix2 r j) = 1#1 ↔ 512 ≤ 256 * qi.val + j.val := by
  have e : k0_pay2 (grid0.coords (point b qi)) (ix2 r j)
      = IntOp.cmpi .sge (BitVec.ofNat 32 j.val) (IntOp.muli (IntOp.subi 2#32 (BitVec.ofNat 32 (grid0.coords (point b qi) 1).val)) 256#32) := by
    unfold k0_pay2
    show IntOp.cmpi .sge (iota .tc S256x768 32 [1] iota_S256x768_d1_w32 (ix2 r j)) _ = _
    rw [WordCmp.iota_at]
    simp [ix2]
    rfl
  rw [e, point_coord, WordCmp.cmpi_sge_eq, WordCmp.ofBool_decide_eq_one_iff, bound_word qi, Idealize.ShloMosaic.toInt_ofNat_of_lt (by omega)]
  omega

/-- Row `j` of the three blocks before and at tile `qi`, where the row exists. -/
theorem band_valid (x : Proj) (b : Fin 4) (qi h : Fin 16) (o : ℕ) (ho : o ≤ 2048) (a0 a1 a2 : S1x256x1024.Idx → EReal)
    (h0 : ∀ r w, a0 (ix3 0 r w) = x (ix3 b (rowBefore qi 2 r) (colAt o ho w)))
    (h1 : ∀ r w, a1 (ix3 0 r w) = x (ix3 b (rowBefore qi 1 r) (colAt o ho w)))
    (h2 : ∀ r w, a2 (ix3 0 r w) = x (ix3 b (rowBefore qi 0 r) (colAt o ho w)))
    (j : Fin 768) (e : Fin 64) (hv : 512 ≤ 256 * qi.val + j.val) :
    bandRow (cols a0 h) (cols a1 h) (cols a2 h) j e = x (ix3 b ⟨256 * qi.val + j.val - 512, by omega⟩ (col o ho h e)) := by
  have hc : ∀ p, colAt o ho ⟨64 * h.val + e.val, p⟩ = col o ho h e := fun p =>
    Fin.ext (by show o + (64 * h.val + e.val) = o + h.val * 64 + e.val; omega)
  unfold bandRow
  split
  · rename_i hj
    refine (h0 _ _).trans ?_
    refine congrArg x (congr (congrArg (ix3 b) (Fin.ext ?_)) (hc _))
    show 256 * (qi.val - 2) + j.val = 256 * qi.val + j.val - 512
    omega
  · split
    · rename_i hj hj'
      refine (h1 _ _).trans ?_
      refine congrArg x (congr (congrArg (ix3 b) (Fin.ext ?_)) (hc _))
      show 256 * (qi.val - 1) + (j.val - 256) = 256 * qi.val + j.val - 512
      omega
    · rename_i hj hj'
      refine (h2 _ _).trans ?_
      refine congrArg x (congr (congrArg (ix3 b) (Fin.ext ?_)) (hc _))
      show 256 * (qi.val - 0) + (j.val - 512) = 256 * qi.val + j.val - 512
      omega

/-- A padded row that exists. -/
theorem padded_valid (x : Proj) (b : Fin 4) (P : Fin 4608) (w : Fin 3072) (h : 512 ≤ P.val) :
    padded x b P w = x (ix3 b ⟨P.val - 512, by omega⟩ w) := by
  unfold padded
  rw [dif_neg (by omega)]

theorem padded_real (x : Proj) (hx : Real x) (b : Fin 4) (P : Fin 4608) (w : Fin 3072) : ∃ r : ℝ, padded x b P w = r := by
  unfold padded
  split
  · exact ⟨0, rfl⟩
  · exact hx _

/-- A score of a slot that exists is a real number. -/
theorem score_real (x : Proj) (y : RefTrip.Table) (hx : Real x) (hy : Real y) (b : Fin 4) (c i : Fin 64) (h : Fin 16) (j : Fin 576)
    (hv : 512 ≤ 64 * c.val + j.val) : ∃ r : ℝ, scores x y b c i h j = r := by
  unfold scores
  rw [if_pos hv]
  obtain ⟨p, hp⟩ := sum_real _ fun e : Fin 64 => mul_real _ _
    (mul_real _ _ (hx (ix3 b ⟨64 * c.val + i.val, by omega⟩ (col 2048 (by omega) h e))) eighth_real)
    (padded_real x hx b ⟨64 * c.val + j.val, by omega⟩ (col 0 (by omega) h e))
  obtain ⟨q, hq⟩ := hy (ix2 h (rel i j))
  exact ⟨p + q, by rw [hp, hq]; exact (EReal.coe_add p q).symm⟩

section Tile

variable (m : (ℓ : Loc nD τ sig) → Buf (Elt Ideal) ℓ) (k : Dev nD)

/-- The kernel's score of row `64 c + i` of tile `qi` at column `j`. -/
theorem tile_score (b : Fin 4) (qi h : Fin 16) (c : Fin 4) (i : Fin 64) (j : Fin 768) :
    (headScores (k0_pay2 (grid0.coords (point b qi))) (cols (iblk m k 0 (point b qi)) h) (cols (iblk m k 1 (point b qi)) h)
      (cols (iblk m k 2 (point b qi)) h) (cols (iblk m k 3 (point b qi)) h) (rows (iblk m k 7 (point b qi)) h)
      : S256x768.Idx → EReal) (ix2 ⟨64 * c.val + i.val, by omega⟩ j)
    = if hw : 64 * c.val ≤ j.val ∧ j.val < 64 * c.val + 576 then
        scores (m ((k : Thread nD τ).loc main_arg0)) (m ((k : Thread nD τ).loc main_arg1)) b ⟨4 * qi.val + c.val, by omega⟩ i h
          ⟨j.val - 64 * c.val, by omega⟩
      else ⊥ := by
  have hb : rows (iblk m k 7 (point b qi)) h (ix3 0 ⟨64 * c.val + i.val, by omega⟩ j)
      = (if hj : 64 * c.val ≤ j.val ∧ j.val < 64 * c.val + 576 then
          (m ((k : Thread nD τ).loc main_arg1) : S16x257.Idx → EReal) (ix2 h ⟨min 256 (640 + i.val - (j.val - 64 * c.val)), by omega⟩)
        else ⊥ : EReal) := (block7 m k (point b qi) _).trans (KerBias.tile_apply _ h c i j)
  rw [headScores_apply, hb]
  by_cases hv : 512 ≤ 256 * qi.val + j.val
  · rw [if_pos ((mask_apply b qi _ j).2 hv)]
    split
    · rename_i hw
      have hv' : 512 ≤ 64 * (4 * qi.val + c.val) + (j.val - 64 * c.val) := by omega
      unfold scores
      rw [if_pos hv']
      refine congr (congrArg _ (Finset.sum_congr rfl fun e _ => ?_)) rfl
      rw [padded_valid _ _ _ _ hv', eighth_eq,
        band_valid (m ((k : Thread nD τ).loc main_arg0)) b qi h 0 (by omega) _ _ _ (block1 m k b qi) (block2 m k b qi) (block3 m k b qi) j e hv]
      refine congr (congrArg _ (congrArg (· * RefTrip.eighth) ?_)) ?_
      · refine (block0 m k b qi _ _).trans (congrArg _ (congr (congrArg (ix3 b) (Fin.ext ?_)) (Fin.ext ?_)))
        · show 256 * (qi.val - 0) + (64 * c.val + i.val) = 64 * (4 * qi.val + c.val) + i.val
          omega
        · show 2048 + (64 * h.val + e.val) = 2048 + h.val * 64 + e.val
          omega
      · refine congrArg _ (congr (congrArg (ix3 b) (Fin.ext ?_)) rfl)
        show 256 * qi.val + j.val - 512 = 64 * (4 * qi.val + c.val) + (j.val - 64 * c.val) - 512
        omega
    · exact EReal.add_bot _
  · rw [if_neg (fun hm => hv ((mask_apply b qi _ j).1 hm))]
    split
    · rename_i hw
      unfold scores
      rw [if_neg (by show ¬ 512 ≤ 64 * (4 * qi.val + c.val) + (j.val - 64 * c.val); omega)]
    · rfl

/-- A row of the kernel's tile is the reference's. -/
theorem tile_row (hx : Real (m ((k : Thread nD τ).loc main_arg0) : S4x4096x3072.Idx → EReal))
    (hy : Real (m ((k : Thread nD τ).loc main_arg1) : S16x257.Idx → EReal)) (b : Fin 4) (qi h : Fin 16) (c : Fin 4) (i d : Fin 64) :
    tileOf (grid0.coords (point b qi)) (iblk m k 0 (point b qi)) (iblk m k 1 (point b qi)) (iblk m k 2 (point b qi))
          (iblk m k 3 (point b qi)) (iblk m k 4 (point b qi)) (iblk m k 5 (point b qi)) (iblk m k 6 (point b qi))
          (iblk m k 7 (point b qi)) h (ix3 0 ⟨64 * c.val + i.val, by omega⟩ d)
      = divideThenSum (scores (m ((k : Thread nD τ).loc main_arg0)) (m ((k : Thread nD τ).loc main_arg1)) b ⟨4 * qi.val + c.val, by omega⟩ i h)
          (values (m ((k : Thread nD τ).loc main_arg0)) b ⟨4 * qi.val + c.val, by omega⟩ h d) := by
  unfold tileOf
  rw [head_apply]
  refine window_rows (64 * c.val) (by omega) _ _ _ _ ?_ ?_ ?_ ?_ ?_ ?_
  · intro P hP
    exact (tile_score m k b qi h c i P).trans (dif_neg hP)
  · intro j
    refine (tile_score m k b qi h c i _).trans ?_
    rw [dif_pos (by constructor <;> simp only <;> omega)]
    exact congrArg _ (Fin.ext (Nat.add_sub_cancel_left _ _))
  · intro j
    by_cases hv : 512 ≤ 64 * (4 * qi.val + c.val) + j.val
    · obtain ⟨r, hr⟩ := score_real _ _ hx hy b ⟨4 * qi.val + c.val, by omega⟩ i h j hv
      rw [hr]; exact EReal.coe_ne_top r
    · unfold scores
      rw [if_neg hv]; exact bot_ne_top
  · refine ⟨⟨512 + i.val, by omega⟩, ?_⟩
    obtain ⟨r, hr⟩ := score_real _ _ hx hy b ⟨4 * qi.val + c.val, by omega⟩ i h ⟨512 + i.val, by omega⟩ (by simp only; omega)
    rw [hr]; exact EReal.coe_ne_bot r
  · intro j
    exact padded_real _ hx b _ _
  · intro j hj
    have hv : 512 ≤ 64 * (4 * qi.val + c.val) + j.val := by
      by_contra hv
      exact hj (by unfold scores; rw [if_neg hv])
    refine (band_valid (m ((k : Thread nD τ).loc main_arg0)) b qi h 1024 (by omega) _ _ _ (block4 m k b qi) (block5 m k b qi) (block6 m k b qi)
      _ d (by simp only; omega)).trans ?_
    unfold values
    rw [padded_valid _ _ _ _ hv]
    refine congrArg _ (congr (congrArg (ix3 b) (Fin.ext ?_)) rfl)
    show 256 * qi.val + (64 * c.val + j.val) - 512 = 64 * (4 * qi.val + c.val) + j.val - 512
    omega

/-- The kernel's result array is the reference's, of real arguments. -/
theorem final_eq (hx : Real (m ((k : Thread nD τ).loc main_arg0) : S4x4096x3072.Idx → EReal))
    (hy : Real (m ((k : Thread nD τ).loc main_arg1) : S16x257.Idx → EReal)) :
    (Cert.ReferenceIdeal.Step.R_main_v37 (RefRun.iter (F := Ideal) (m ((k : Thread nD τ).loc main_arg0)) (m ((k : Thread nD τ).loc main_arg1)) 64)
      : S4x4096x1024.Idx → EReal) = ((dats m 0 k).arrAt 8 cfg0.N : S4x4096x1024.Idx → EReal) := by
  funext j
  obtain ⟨b, p, w, rfl⟩ : ∃ (b : Fin 4) (p : Fin 4096) (w : Fin 1024), j = ix3 b p w :=
    ⟨j 0, j 1, j 2, by funext a; fin_cases a <;> rfl⟩
  obtain ⟨qi, c, i, hp⟩ : ∃ (qi : Fin 16) (c : Fin 4) (i : Fin 64), p.val = 256 * qi.val + (64 * c.val + i.val) :=
    ⟨⟨p.val / 256, by omega⟩, ⟨p.val % 256 / 64, by omega⟩, ⟨p.val % 64, by omega⟩, by simp only; omega⟩
  obtain ⟨h, d, hw⟩ : ∃ (h : Fin 16) (d : Fin 64), w.val = 64 * h.val + d.val :=
    ⟨⟨w.val / 64, by omega⟩, ⟨w.val % 64, by omega⟩, by simp only; omega⟩
  rw [show w = ⟨64 * h.val + d.val, by omega⟩ from Fin.ext hw, show p = ⟨256 * qi.val + (64 * c.val + i.val), by omega⟩ from Fin.ext hp]
  refine Eq.trans ?_ ((tile_row m k hx hy b qi h c i d).symm.trans (final_apply m k b qi ⟨64 * c.val + i.val, by omega⟩ h d).symm)
  refine Eq.trans (congrArg _ (congrFun (congrArg (ix3 b) (Fin.ext ?_)) _)) (RefTrip.result (m ((k : Thread nD τ).loc main_arg0)) (m ((k : Thread nD τ).loc main_arg1)) b ⟨4 * qi.val + c.val, by omega⟩ i h d)
  show 256 * qi.val + (64 * c.val + i.val) = 64 * (4 * qi.val + c.val) + i.val
  omega

end Tile

end Cert.Proof.Attention
-- ==== Proof.MoeBody.lean ====
/- The body of the experts' call, run on any whole buffers: what it leaves in the output's buffer and in the
   scratch buffer, for the four ways its two branches can go. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The two tables as the body is handed them: whole buffers. -/
abbrev tabE : Memref sig .tc .smem S72 .i32 := Memref.whole main_arg1
abbrev tabN : Memref sig .tc .smem S72 .i32 := Memref.whole main_arg2

/-- Half of a table's buffer, held on core `c` at contents `f`; the other half stays with the pipeline. -/
abbrev TabBuf (c : Dev nD) (M : Memref sig .tc .smem S72 .i32) : Type := Buf (Elt F) (M.view.loc (c : Thread nD τ))
abbrev tabPt (c : Dev nD) (M : Memref sig .tc .smem S72 .i32) (f : TabBuf (F := F) c M) : sProp 𝕄 :=
  M.view.loc (c : Thread nD τ) ↦{fullShare.right} f

/-- The number of rows of a tile that are used, as the body reads it from the second table. -/
def used (c : Dev nD) (i : grid0.Coords) (nv : TabBuf (F := F) c tabN) : BitVec 32 :=
  View.readAt (Elt F) tabN.view (Rect.unit (s := S72) (k0_off1 i) S1.size (k0_off1_inb i)).toLoadRect nv (Shape.Idx.first (numel1_S1.symm ▸ Nat.one_pos))

/-- What the first column block of a tile leaves in the output's buffer. -/
def firstOut (n : BitVec 32) (x : Vec F S512x1024 .f32) (g u : Vec F S1x1024x1792 .bf16) (d : Vec F S1x1792x1024 .bf16) : Vec F S512x1024 .f32 :=
  if k0_cond2 n = 1#1 then k0_pay3 (k0_pay1 n x) g u k0_pay2 d else k0_pay2

/-- What the second column block leaves there, from the masked rows `b` and the contents `o` so far. -/
def nextOut (n : BitVec 32) (b : Vec F S512x1024 .bf16) (o : Vec F S512x1024 .f32) (g u : Vec F S1x1024x1792 .bf16) (d : Vec F S1x1792x1024 .bf16) :
    Vec F S512x1024 .f32 :=
  if k0_cond2 n = 1#1 then k0_pay3 b g u o d else o

set_option maxHeartbeats 1000000 in
/-- The body at the first column block of a tile. -/
theorem body_first (c : Dev nD) (i : grid0.Coords) (ax : Memref sig .tc .vmem S512x1024 .f32) (hax : ax.IsWhole)
    (ag : Memref sig .tc .vmem S1x1024x1792 .bf16) (hag : ag.IsWhole) (au : Memref sig .tc .vmem S1x1024x1792 .bf16) (hau : au.IsWhole)
    (ad : Memref sig .tc .vmem S1x1792x1024 .bf16) (had : ad.IsWhole) (ao : Memref sig .tc .vmem S512x1024 .f32) (hao : ao.IsWhole)
    (ab : Memref sig .tc .vmem S512x1024 .bf16) (hab : ab.IsWhole) (hc0 : k0_cond1 i = 1#1)
    (x : Vec F S512x1024 .f32) (g u : Vec F S1x1024x1792 .bf16) (d : Vec F S1x1792x1024 .bf16)
    (te : TabBuf (F := F) c tabE) (nv : TabBuf (F := F) c tabN) (E : Set ℕ) (K : PUnit → sProp 𝕄) :
    iprop(owns (c : Thread nD τ) ax fullShare x ∗ owns (c : Thread nD τ) ag fullShare g ∗ owns (c : Thread nD τ) au fullShare u
        ∗ owns (c : Thread nD τ) ad fullShare d ∗ (∃ o, owns (c : Thread nD τ) ao fullShare o) ∗ (∃ b, owns (c : Thread nD τ) ab fullShare b)
        ∗ tabPt c tabE te ∗ tabPt c tabN nv
        ∗ (iprop(owns (c : Thread nD τ) ax fullShare x ∗ owns (c : Thread nD τ) ag fullShare g ∗ owns (c : Thread nD τ) au fullShare u
        ∗ owns (c : Thread nD τ) ad fullShare d ∗ owns (c : Thread nD τ) ao fullShare (firstOut (used c i nv) x g u d) ∗ owns (c : Thread nD τ) ab fullShare (k0_pay1 (used c i nv) x)
        ∗ tabPt c tabE te ∗ tabPt c tabN nv) -∗ K ⟨⟩))
      ⊢ wp frame (wpE (defs₀ (F := F)) Variants.none c none) E
          (cc0_moe_experts i tabE (Memref.isWhole_whole _) tabN (Memref.isWhole_whole _) ax hax ag hag au hau ad had ao hao ab hab) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
  obtain rfl := hax.eq_unread hf0; obtain rfl := hag.eq_unread hf1; obtain rfl := hau.eq_unread hf2; obtain rfl := had.eq_unread hf3
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    unfold body_first.sl.H4_1 body_first.sl.r body_first.sl.v8 body_first.sl.v24 body_first.sl.HS0_1 body_first.sl.H4_1 body_first.sl.r firstOut used
    split
    · rw [View.read_writes_full, View.readCov_full, View.readCov_full, View.readAt_full, View.readAt_full, View.readAt_full, View.readAt_full, hf0, hf1, hf2, hf3]
    · rw [View.read_writes_full]
  isplitl [HS0]
  · iexists _; isplitr
    swap; · iexact HS0
    ipureintro
    unfold body_first.sl.HS0_1 body_first.sl.r used
    rw [View.read_writes_full, View.readAt_full, hf0]
  isplitl [HT0]; · iexact HT0
  iexact HT1

set_option maxHeartbeats 1000000 in
/-- The body at the second column block of a tile. -/
theorem body_next (c : Dev nD) (i : grid0.Coords) (ax : Memref sig .tc .vmem S512x1024 .f32) (hax : ax.IsWhole)
    (ag : Memref sig .tc .vmem S1x1024x1792 .bf16) (hag : ag.IsWhole) (au : Memref sig .tc .vmem S1x1024x1792 .bf16) (hau : au.IsWhole)
    (ad : Memref sig .tc .vmem S1x1792x1024 .bf16) (had : ad.IsWhole) (ao : Memref sig .tc .vmem S512x1024 .f32) (hao : ao.IsWhole)
    (ab : Memref sig .tc .vmem S512x1024 .bf16) (hab : ab.IsWhole) (hc0 : ¬k0_cond1 i = 1#1)
    (x : Vec F S512x1024 .f32) (g u : Vec F S1x1024x1792 .bf16) (d : Vec F S1x1792x1024 .bf16) (o : Vec F S512x1024 .f32) (b : Vec F S512x1024 .bf16)
    (te : TabBuf (F := F) c tabE) (nv : TabBuf (F := F) c tabN) (E : Set ℕ) (K : PUnit → sProp 𝕄) :
    iprop(owns (c : Thread nD τ) ax fullShare x ∗ owns (c : Thread nD τ) ag fullShare g ∗ owns (c : Thread nD τ) au fullShare u
        ∗ owns (c : Thread nD τ) ad fullShare d ∗ owns (c : Thread nD τ) ao fullShare o ∗ owns (c : Thread nD τ) ab fullShare b
        ∗ tabPt c tabE te ∗ tabPt c tabN nv
        ∗ (iprop(owns (c : Thread nD τ) ax fullShare x ∗ owns (c : Thread nD τ) ag fullShare g ∗ owns (c : Thread nD τ) au fullShare u
        ∗ owns (c : Thread nD τ) ad fullShare d ∗ owns (c : Thread nD τ) ao fullShare (nextOut (used c i nv) b o g u d) ∗ owns (c : Thread nD τ) ab fullShare b
        ∗ tabPt c tabE te ∗ tabPt c tabN nv) -∗ K ⟨⟩))
      ⊢ wp frame (wpE (defs₀ (F := F)) Variants.none c none) E
          (cc0_moe_experts i tabE (Memref.isWhole_whole _) tabN (Memref.isWhole_whole _) ax hax ag hag au hau ad had ao hao ab hab) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := hax.eq_unread hf0; obtain rfl := hag.eq_unread hf1; obtain rfl := hau.eq_unread hf2; obtain rfl := had.eq_unread hf3; obtain rfl := hao.eq_unread hf4; obtain rfl := hab.eq_unread hfs0
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    unfold body_next.sl.r nextOut used
    split
    · rw [View.read_writes_full, View.readAt_full, View.readAt_full, View.readAt_full, View.readAt_full, View.readAt_full, hf1, hf2, hf3, hf4, hfs0]
    · exact hf4
  isplitl [HS0]
  · iexists _; isplitr
    swap; · iexact HS0
    ipureintro
    exact hfs0
  isplitl [HT0]; · iexact HT0
  iexact HT1

end Cert.Proof.Moe

end
-- ==== Proof.MoeRun.lean ====
/- The experts' call: its tables and blocks as the launch finds them, what its buffers hold point by point,
   and the run of the whole program over any float values. -/
module

public import proofs.«01_k».proof.Proof.MoeBody
public import Idealize.ShloMosaic.Lib.Claim

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's set-up -/

/-- Core `c`'s buffers when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! The operations before the call write none of the arguments. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

/-- The tables' contents when the call is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables put every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input's buffer holds its block at every point, fetched there or earlier. -/

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, of a run to what the library computes from the proof data. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The points -/

/-- The first column block of a tile is at the even points. -/
theorem first_iff (t : Fin grid0.N) : k0_cond1 (grid0.coords t) = 1#1 ↔ t.val % 2 = 0 := by
  have ht : t.val < 144 := Nat.lt_of_lt_of_eq t.isLt N_0
  have e1 : (grid0.coords t 1).val = t.val / 1 % 2 := Pipeline.Grid.coords_val t 1 (by decide) rfl
  unfold k0_cond1
  simp only [e1]
  word_cmp

/-- The output's block is written back at the odd points. -/
theorem flush_iff (a : (pcfg0 (F := F)).Adm) (t : Fin (cfg0 a).N) : ((cfg0 a).win 4).flush t = true ↔ t.val % 2 = 1 :=
  Pipeline.Window.flushOf_reads cc0_transform_4 reads0_4 hreads0_4 0 (by decide) (by decide) (Pipeline.Window.sep_of_coord cc0_transform_4 0 0 (fun _ => rfl) (by decide)) (P := 2) (m := 1) (by decide) rfl t

/-- At an even point the output's buffer is always stored. -/
theorem live_first (a : (pcfg0 (F := F)).Adm) (t : Fin (cfg0 a).N) (h : t.val % 2 = 0) : (cfg0 a).idle 4 ((cfg0 a).grid.coords t) = false := by
  show (!(k0_cond1 (grid0.coords t) == 1#1) && _) = false
  rw [(first_iff t).mpr h]; rfl

abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x1792 .bf16 := spec0_1.stage ((cfgM m hO).slots t 1)
abbrev ms2 (hO : Ok m) (t : Fin (cfgM m hO).N) : Memref sig .tc .vmem S1x1024x1792 .bf16 := spec0_2.stage ((cfgM m hO).slots t 2)
abbrev ms3 (hO : Ok m) (t : Fin (cfgM m hO).N) : Memref sig .tc .vmem S1x1792x1024 .bf16 := spec0_3.stage ((cfgM m hO).slots t 3)
abbrev ms4 (hO : Ok m) (t : Fin (cfgM m hO).N) : Memref sig .tc .vmem S512x1024 .f32 := spec0_4.stage ((cfgM m hO).slots t 4)

/-- The scratch buffer, which holds the masked rows from the first column block of a tile to the second. -/
abbrev scr : Memref sig .tc .vmem S512x1024 .bf16 := Memref.whole cc0_scratch0

theorem scratch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The kernel body at point `t`, on what the pipeline hands it there. -/
abbrev bodyAt (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## What the buffers hold -/

/-- The point before. -/
abbrev prev {N : ℕ} (t : Fin N) : Fin N := ⟨t.val - 1, Nat.lt_of_le_of_lt (Nat.sub_le _ _) t.isLt⟩

/-- The number of used rows of the tile at point `t`. -/
abbrev rows (c : Dev nD) (t : Fin grid0.N) : BitVec 32 := used c (grid0.coords t) (tbl m 1)

/-- The masked rows the first column block leaves in the scratch buffer. -/
def maskAt (hO : Ok m) (c : Dev nD) (t : Fin (cfgM m hO).N) : Vec F S512x1024 .bf16 := k0_pay1 (rows m c t) (iblk m hO c 0 t)

/-- What the output's buffer holds after the first column block of a tile. -/
def firstAt (hO : Ok m) (c : Dev nD) (t : Fin (cfgM m hO).N) : Vec F S512x1024 .f32 :=
  firstOut (rows m c t) (iblk m hO c 0 t) (iblk m hO c 1 t) (iblk m hO c 2 t) (iblk m hO c 3 t)

/-- What it holds after the second. -/
def nextAt (hO : Ok m) (c : Dev nD) (t : Fin (cfgM m hO).N) : Vec F S512x1024 .f32 :=
  nextOut (rows m c t) (maskAt m hO c (prev t)) (firstAt m hO c (prev t)) (iblk m hO c 1 t) (iblk m hO c 2 t) (iblk m hO c 3 t)

/-- What holds between the points: between the two column blocks of a tile the scratch buffer holds the masked rows. -/
def Inv (hO : Ok m) (c : Dev nD) (t : Fin ((cfgM m hO).N + 1)) : sProp 𝕄 :=
  if h : t.val % 2 = 1 then
    iprop(iprop(owns (c : Thread nD τ) scr fullShare (maskAt m hO c ⟨t.val - 1, by omega⟩) ∗ (∃ r, prngReg c r)) ∗ Pipeline.ΦT pre0 (tbl m) c)
  else iprop(Pipeline.ΦA spec0 c ∗ Pipeline.ΦT pre0 (tbl m) c)

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => if t.val % 2 = 0 then firstAt m hO c t else nextAt m hO c t
  Φ t := Inv m hO c t
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) :
    (dats m hO 0 c).after 4 t = if t.val % 2 = 0 then firstAt m hO c t else nextAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-- At the second column block the output's buffer holds what the first left. -/
theorem before_4 (hO : Ok m) (c : Dev nD) (t : Fin (cfgM m hO).N) (h : ¬t.val % 2 = 0) (d) :
    (dats m hO 0 c).before 4 t d = firstAt m hO c (prev t) := by
  have he : (prev t).val % 2 = 0 := by dsimp only; omega
  rw [(dats m hO 0 c).before_of_pos 4 t (by omega) (((cfgM m hO).win 4).fetch_out rfl t) d,
    if_neg (fun hf => by have := (flush_iff (adm m hO) _).mp hf; dsimp only at this; omega)]
  unfold Dat.left
  rw [live_first (adm m hO) (prev t) he]
  unfold Dat.kept
  refine (Pipeline.fill_of_clip_none (cfg := cfgM m hO) 4 _ (fun _ => rfl) d ((dats m hO 0 c).after 4 (prev t)) _).trans ?_
  rw [Window.fill_cut, after_4, if_pos he]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

theorem inv_even (hO : Ok m) (c : Dev nD) (t : Fin ((cfgM m hO).N + 1)) (h : t.val % 2 = 0) :
    (dats m hO 0 c).Φ t = iprop(Pipeline.ΦA spec0 c ∗ Pipeline.ΦT pre0 (tbl m) c) := dif_neg (by omega)

theorem inv_odd (hO : Ok m) (c : Dev nD) (t : Fin ((cfgM m hO).N + 1)) (h : t.val % 2 = 1) :
    (dats m hO 0 c).Φ t = iprop(iprop(owns (c : Thread nD τ) scr fullShare (maskAt m hO c ⟨t.val - 1, by omega⟩) ∗ (∃ r, prngReg c r)) ∗ Pipeline.ΦT pre0 (tbl m) c) :=
  dif_pos h

set_option maxHeartbeats 3200000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).owesAt () t.succ = (dats m hO 0 c).owesAt () t.castSucc from rfl,
    after_0, after_1, after_2, after_3, after_4]
  by_cases h : t.val % 2 = 0
  · rw [inv_even m hO c t.castSucc (by simpa using h), inv_odd m hO c t.succ (by rw [Fin.val_succ]; omega), if_pos h, tables_eq, scratch_eq]
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((first_iff t).mpr h) (iblk m hO c 0 t) (iblk m hO c 1 t) (iblk m hO c 2 t) (iblk m hO c 3 t) (tbl m 0) (tbl m 1) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [inv_odd m hO c t.castSucc (by simpa using h), inv_even m hO c t.succ (by rw [Fin.val_succ]; omega), if_neg h, tables_eq, scratch_eq]
    simp only [before_4 m hO c t h]
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply (body_next c (grid0.coords t) _ _ _ _ _ _ _ _ _ _ _ _ (fun hc => h ((first_iff t).mp hc)) (iblk m hO c 0 t) (iblk m hO c 1 t) (iblk m hO c 2 t) (iblk m hO c 3 t) _ _ (tbl m 0) (tbl m 1) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]; · iexists _; iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- Where the body stores nothing into the output's buffer, the block is written back as it was left. -/
theorem live_or_flush (hO : Ok m) (t : Fin (cfgM m hO).N) :
    (cfgM m hO).idle 4 ((cfgM m hO).grid.coords t) = false ∨ ((cfgM m hO).win 4).flush t = true := by
  by_cases h : t.val % 2 = 0
  · exact .inl (live_first (adm m hO) t h)
  · exact .inr ((flush_iff (adm m hO) t).mpr (by omega))

theorem of_live {P Q : sProp 𝕄} (i f : Bool) (h : i = false ∨ f = true) :
    P ⊢ match (generalizing := false) i with
      | true => match (generalizing := false) f with
        | false => Q
        | true => P
      | false => P := by
  cases i
  · exact .rfl
  · cases f
    · simp at h
    · exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  exact sep_mono .rfl (sep_mono .rfl (sep_mono .rfl (sep_mono .rfl (sep_mono .rfl (sep_mono .rfl (of_live _ _ (live_or_flush m hO t)))))))

theorem hin (hO : Ok m) (c : Dev nD) : iprop(Pipeline.ΦA spec0 c ∗ Pipeline.ΦT pre0 (tbl m) c) ⊢ (dats m hO 0 c).Φ 0 := by
  rw [inv_even m hO c 0 rfl]

theorem hout (hO : Ok m) (c : Dev nD) : (dats m hO 0 c).Φ (Fin.last (cfgM m hO).N) ⊢ Pipeline.ΦA spec0 c := by
  rw [inv_even m hO c _ (by rw [Fin.val_last, show (cfgM m hO).N = 144 from N_0])]
  iintro ⟨H, -⟩
  iexact H

/-! ## The run -/

set_option backward.isDefEq.respectTransparency.types false in
/-- The program runs; its arrays end as the proof data says, and every counter at zero. -/
theorem run_post (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The frame of the program, over any float values. -/
theorem run_main (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) ((θ_run defs _ _).mono (fun _ h => h.1) (run_post m ρ hO)))
    ((θ_run defs _ _).mono (fun _ h => h.2) (run_post m ρ hO))

end Cert.Proof.Moe

end
-- ==== Proof.MoeTables.lean ====
/- The tables of the experts' call: the blocks its index maps name, and that they lie within the arrays when every
   word of the first table names an expert. -/
module

public import proofs.«01_k».proof.Proof.MoeRun
public import proofs.«01_k».proof.Pre_experts
public import proofs.«01_k».proof.Proof.Gen.Pre_experts
public import Idealize.ShloMosaic.Lib.ReduceAll
public import Idealize.ShloMosaic.Lib.Affine
public import Idealize.ShloMosaic.Lib.ValueIdx
public import Idealize.ShloMosaic.Lib.ValueIdxCore

@[expose] public section

set_option maxRecDepth 8000

noncomputable section

namespace Cert.Proof.Moe

open Idealize.ShloMosaic Idealize.ShloMosaic.TcCoe Idealize.ShloMosaic.ValueIdx
open Cert.Kernel2Ideal Cert.Kernel2Ideal.Gen

variable {F : FTy → Type} [FloatOps F]

/-- The expert of tile `i`. -/
def expert (pf : pre0.Contents (Elt F)) (i : Fin 72) : BitVec 32 := (pf 0 : S72.Idx → BitVec 32) (ix1 i)

/-- The number of used rows of tile `i`. -/
def count (pf : pre0.Contents (Elt F)) (i : Fin 72) : BitVec 32 := (pf 1 : S72.Idx → BitVec 32) (ix1 i)

/-- The column block fetched at column block `f` of a tile with `n` used rows: the last, if none is used. -/
def pick (n : BitVec 32) (f : ℕ) : ℕ := if 0 < n.toInt then f else 1

theorem word_coord (i : grid0.Coords) : (Scalar.indexCast (BitVec.ofNat 32 (i 0).val) : Index).toNat = (i 0).val := by
  have h : (i 0).val < 72 := (i 0).isLt
  show (BitVec.ofNat 32 (i 0).val).toNat = _
  rw [BitVec.toNat_ofNat]; omega

theorem place1 (i : grid0.Coords) (x : S1.Idx) :
    (Rect.unit (s := S72) (k0_off1 i) S1.size (k0_off1_inb i)).emb x = ix1 (i 0) := by
  funext a; fin_cases a
  have h : (x 0).val < 1 := (x 0).isLt
  refine Fin.ext ?_
  show (Scalar.indexCast (BitVec.ofNat 32 (i 0).val) : Index).toNat + 1 * (x 0).val = (i 0).val
  rw [word_coord]; omega

theorem at_expert (pf : pre0.Contents (Elt F)) (i : grid0.Coords) :
    pf.at 0 (Rect.unit (s := S72) (k0_off1 i) S1.size (k0_off1_inb i)) numel1_S1 = expert pf (i 0) :=
  congrArg (pf 0) (place1 i _)

theorem at_count (pf : pre0.Contents (Elt F)) (i : grid0.Coords) :
    pf.at 1 (Rect.unit (s := S72) (k0_off1 i) S1.size (k0_off1_inb i)) numel1_S1 = count pf (i 0) :=
  congrArg (pf 1) (place1 i _)

theorem select_pos (n : BitVec 32) (a b : BitVec 32) :
    Scalar.select (Scalar.cmpi .sgt n 0#32) a b = if 0 < n.toInt then a else b := by
  show (if IntOp.cmpi .sgt n 0#32 = 1#1 then a else b) = _
  simp only [WordCmp.cmpi_sgt_eq, WordCmp.ofBool_decide_eq_one_iff]
  rfl

/-! ## The index maps -/

theorem map0 (pf : pre0.Contents (Elt F)) (i : grid0.Coords) :
    cc0_transform_0 k0_off1_inb numel1_S1 pf i = ![if 0 < (count pf (i 0)).toInt then (i 0).val else 0, 0] := by
  have h : (i 0).val < 72 := (i 0).isLt
  refine (congrArg (fun n : BitVec 32 => (![(Scalar.select (Scalar.cmpi .sgt n 0#32) (BitVec.ofNat 32 (i 0).val) 0#32).toNat, 0] : Fin 2 → ℕ)) (at_count pf i)).trans ?_
  simp only [select_pos]
  split
  · rw [BitVec.toNat_ofNat, Nat.mod_eq_of_lt (by omega)]
  · rfl

theorem word_pick (n : BitVec 32) (f : ℕ) (hf : f < 2) :
    (Scalar.select (Scalar.cmpi .sgt n 0#32) (BitVec.ofNat 32 f) 1#32).toNat = pick n f := by
  rw [select_pos]; unfold pick
  split
  · rw [BitVec.toNat_ofNat, Nat.mod_eq_of_lt (by omega)]
  · rfl

theorem pick_lt (n : BitVec 32) (f : ℕ) (hf : f < 2) : pick n f < 2 := by unfold pick; split <;> omega

theorem map1 (pf : pre0.Contents (Elt F)) (i : grid0.Coords) :
    cc0_transform_1 k0_off1_inb numel1_S1 pf i = ![(expert pf (i 0)).toNat, 0, pick (count pf (i 0)) (i 1).val] := by
  refine (congr (congrArg (fun (e n : BitVec 32) => (![e.toNat, 0, (Scalar.select (Scalar.cmpi .sgt n 0#32) (BitVec.ofNat 32 (i 1).val) 1#32).toNat] : Fin 3 → ℕ)) (at_expert pf i)) (at_count pf i)).trans ?_
  simp only [word_pick _ _ (show (i 1).val < 2 from (i 1).isLt)]

theorem map2 (pf : pre0.Contents (Elt F)) (i : grid0.Coords) :
    cc0_transform_2 k0_off1_inb numel1_S1 pf i = ![(expert pf (i 0)).toNat, 0, 2 + pick (count pf (i 0)) (i 1).val] := by
  have h := pick_lt (count pf (i 0)) _ (show (i 1).val < 2 from (i 1).isLt)
  refine (congr (congrArg (fun (e n : BitVec 32) => (![e.toNat, 0, (2#32 + Scalar.select (Scalar.cmpi .sgt n 0#32) (BitVec.ofNat 32 (i 1).val) 1#32).toNat] : Fin 3 → ℕ)) (at_expert pf i)) (at_count pf i)).trans ?_
  simp only [BitVec.toNat_add, word_pick _ _ (show (i 1).val < 2 from (i 1).isLt)]
  rw [Nat.mod_eq_of_lt (by show 2 + _ < 2 ^ 32; omega)]
  rfl

theorem map3 (pf : pre0.Contents (Elt F)) (i : grid0.Coords) :
    cc0_transform_3 k0_off1_inb numel1_S1 pf i = ![(expert pf (i 0)).toNat, pick (count pf (i 0)) (i 1).val, 0] := by
  refine (congr (congrArg (fun (e n : BitVec 32) => (![e.toNat, (Scalar.select (Scalar.cmpi .sgt n 0#32) (BitVec.ofNat 32 (i 1).val) 1#32).toNat, 0] : Fin 3 → ℕ)) (at_expert pf i)) (at_count pf i)).trans ?_
  simp only [word_pick _ _ (show (i 1).val < 2 from (i 1).isLt)]

/-! ## The blocks lie within the arrays -/

/-- Where every word of the first table names an expert, every block lies within its array. -/
theorem ok_of_lt (pf : pre0.Contents (Elt F)) (h : ∀ i, (expert pf i).toNat < 8) : ok0 pf := by
  refine ⟨fun i => ⟨fun a => ?_, .inl rfl⟩, fun i => ⟨fun a => ?_, .inr (.inr ⟨by decide, rfl, ?_, rfl⟩)⟩,
    fun i => ⟨fun a => ?_, .inr (.inr ⟨by decide, rfl, ?_, rfl⟩)⟩, fun i => ⟨fun a => ?_, .inr (.inl (.inr ⟨by decide, rfl, .inl ⟨?_, ?_⟩⟩))⟩⟩
  · have h0 : (i 0).val < 72 := (i 0).isLt
    rw [map0]; fin_cases a
    · show ((if 0 < (count pf (i 0)).toInt then (i 0).val else 0) + 1) * 512 ≤ 36864
      split <;> omega
    · show (0 + 1) * 1024 ≤ 1024; omega
  · have he := h (i 0); have hp := pick_lt (count pf (i 0)) _ (show (i 1).val < 2 from (i 1).isLt)
    rw [map1]; fin_cases a
    · show ((expert pf (i 0)).toNat + 1) * 1 ≤ 8; omega
    · show (0 + 1) * 1024 ≤ 1024; omega
    · show (pick (count pf (i 0)) (i 1).val + 1) * 1792 ≤ 7168; omega
  · show cc0_transform_1 k0_off1_inb numel1_S1 pf i 1 * 1024 = 0
    rw [map1]; rfl
  · have he := h (i 0); have hp := pick_lt (count pf (i 0)) _ (show (i 1).val < 2 from (i 1).isLt)
    rw [map2]; fin_cases a
    · show ((expert pf (i 0)).toNat + 1) * 1 ≤ 8; omega
    · show (0 + 1) * 1024 ≤ 1024; omega
    · show (2 + pick (count pf (i 0)) (i 1).val + 1) * 1792 ≤ 7168; omega
  · show cc0_transform_2 k0_off1_inb numel1_S1 pf i 1 * 1024 = 0
    rw [map2]; rfl
  · have he := h (i 0); have hp := pick_lt (count pf (i 0)) _ (show (i 1).val < 2 from (i 1).isLt)
    rw [map3]; fin_cases a
    · show ((expert pf (i 0)).toNat + 1) * 1 ≤ 8; omega
    · show (pick (count pf (i 0)) (i 1).val + 1) * 1792 ≤ 3584; omega
    · show (0 + 1) * 1024 ≤ 1024; omega
  · exact Dvd.dvd.mul_left (show 2 ∣ 1792 by decide) _
  · show 2 ∣ 1792; decide

/-- The precondition at a word of the first table. -/
theorem expert_lt {x : FVec F S36864x1024 .f32} {e n : IVec S72 32} {u : FVec F S8x1024x7168 .f32} {d : FVec F S8x3584x1024 .f32}
    (h : Cert.Pre_experts.fn x e n u d = fun _ => 1#1) (j : S72.Idx) : (e j).toNat < 8 := by
  have h0 := congrFun h (fun a => a.elim0)
  unfold Cert.Pre_experts.fn at h0
  have h1 := IntOp.andi_eq_one.1 h0
  haveI hs : Subsingleton (Cert.Pre_experts.S_).Idx := ⟨fun a b => funext fun i => Fin.elim0 i⟩
  have lo : IntOp.cmpi .sge (e j) 0#32 = 1#1 := Host.reduce_andi_all _ _ _ _ _ h1.1 j
  have hi : IntOp.cmpi .slt (e j) 8#32 = 1#1 := Host.reduce_andi_all _ _ _ _ _ h1.2 j
  rw [IntOp.cmpi_sge] at lo
  rw [IntOp.cmpi_slt] at hi
  have z : (0#32 : BitVec 32).toInt = 0 := by decide
  have w : (8#32 : BitVec 32).toInt = 8 := by decide
  rw [z] at lo; rw [w] at hi
  have := BitVec.toInt_eq_toNat_cond (e j)
  split at this <;> omega

/-- So of any memory whose arguments meet it, the launch's blocks lie within the arrays. -/
theorem ok_of_pre (m : (ℓ : Loc nD τ sig) → Buf (Elt F) ℓ)
    (h : ∀ c : Dev nD, Cert.Pre_experts.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Ok m := by
  refine ok_of_lt _ fun i => ?_
  have e := expert_lt (h 0) (ix1 i)
  unfold expert
  rw [show (tbl m 0 : S72.Idx → BitVec 32) = m (((0 : Dev nD).tc : Thread nD τ).loc main_arg1) from V_main_arg1 m 0]
  exact e

end Cert.Proof.Moe

end
-- ==== Proof.MoeMath.lean ====
/- One token through one expert, over the extended reals: gated hidden units and their projection back. -/
module

public import Idealize.ShloMosaic.PureOps.Ideal.Laws
public import Mathlib.Algebra.BigOperators.Fin

@[expose] public section

noncomputable section

namespace Cert.Proof.MoeMath

open Idealize.ShloMosaic

/-- The gated unit: `g` times its logistic, times `u`. -/
def unit (g u : EReal) : EReal := g * Ideal.div 1 (1 + Ideal.exp (-g)) * u

theorem unit_zero (g : EReal) : unit g 0 = 0 := mul_zero _

/-- Hidden unit `f` of a token `x`, of an expert whose gate and up columns are `w`. -/
def hidden (w : Fin 1024 → Fin 7168 → EReal) (x : Fin 1024 → EReal) (f : Fin 3584) : EReal :=
  unit (∑ k, x k * w k ⟨f.val, by omega⟩) (∑ k, x k * w k ⟨3584 + f.val, by omega⟩)

/-- The expert's output at one column, `d` its projection's entries there. -/
def mlp (w : Fin 1024 → Fin 7168 → EReal) (d : Fin 3584 → EReal) (x : Fin 1024 → EReal) : EReal := ∑ f, hidden w x f * d f

/-- A token of zeros is sent to zero. -/
theorem mlp_zero (w : Fin 1024 → Fin 7168 → EReal) (d : Fin 3584 → EReal) : mlp w d (fun _ => 0) = 0 := by
  unfold mlp hidden
  simp only [zero_mul, Finset.sum_const_zero, unit_zero]

/-- The hidden units in two blocks of 1792. -/
theorem mlp_blocks (w : Fin 1024 → Fin 7168 → EReal) (d : Fin 3584 → EReal) (x : Fin 1024 → EReal) :
    mlp w d x = (∑ f : Fin 1792, hidden w x ⟨f.val, by omega⟩ * d ⟨f.val, by omega⟩)
      + ∑ f : Fin 1792, hidden w x ⟨1792 + f.val, by omega⟩ * d ⟨1792 + f.val, by omega⟩ :=
  Fin.sum_univ_add (a := 1792) (b := 1792) (fun f => hidden w x f * d f)

end Cert.Proof.MoeMath

end
-- ==== Proof.MoeKer.lean ====
/- What the experts' call leaves in its result array, over the extended reals: each used row through its tile's expert,
   each other row zero. -/
module

public import proofs.«01_k».proof.Proof.MoeTables
public import proofs.«01_k».proof.Proof.MoeMath
public import proofs.«01_k».proof.Proof.KerHead
public import Idealize.ShloMosaic.Lib.IdealHost
public import Idealize.ShloMosaic.Lib.StableHlo.RunRead
public import Idealize.ShloMosaic.Lib.Pipeline.ValueKit.Geometry

@[expose] public section

set_option maxRecDepth 8000

noncomputable section

namespace Cert.Proof.Moe

open Idealize.ShloMosaic Idealize.ShloMosaic.TcCoe Idealize.SL.Sem Idealize.ShloMosaic.ValueIdx
open Idealize.ShloMosaic.StableHlo
open Cert.Kernel2Ideal Cert.Kernel2Ideal.Gen Cert.Proof.MoeMath
open Idealize.ShloMosaic.Pipeline (Dat Window)
open Cert.Proof.KerHead (dot_apply)

/-! ## The body's arithmetic -/

theorem zeros_apply (j : S512x1024.Idx) : (k0_pay2 (F := Ideal) : S512x1024.Idx → EReal) j = 0 := Ideal.ofBits_zero_f32

/-- A row of a tile once masked: kept below the count, zero from there on. -/
theorem masked_apply (n : BitVec 32) (x : S512x1024.Idx → EReal) (a : Fin 512) (k : Fin 1024) :
    (k0_pay1 (F := Ideal) n x : S512x1024.Idx → EReal) (ix2 a k) = if (a.val : ℤ) < n.toInt then x (ix2 a k) else 0 := by
  have e : (k0_pay1 (F := Ideal) n x : S512x1024.Idx → EReal) (ix2 a k)
      = Scalar.select (IntOp.cmpi .slt (BitVec.ofNat 32 a.val) n) (x (ix2 a k)) (Ideal.ofBits .f32 0x00000000#32) := by
    unfold k0_pay1
    refine (shapeCast_apply _ _ _ (ix2 a k) rfl).trans ?_
    show Scalar.select (IntOp.cmpi .slt (iota .tc S512x1024 32 [0] iota_S512x1024_d0_w32 (ix2 a k)) n) _ _ = _
    rw [WordCmp.iota_at]
    simp only [List.foldl_cons, List.foldl_nil, Nat.zero_mul, Nat.zero_add]
    rfl
  rw [e, WordCmp.cmpi_slt_eq, WordCmp.toInt_ofNat_of_lt (by omega), Ideal.ofBits_zero_f32]
  by_cases h : (a.val : ℤ) < n.toInt
  · rw [if_pos h, decide_eq_true h]; rfl
  · rw [if_neg h, decide_eq_false h]; rfl

theorem cast_up (w : S1x1024x1792.Idx → EReal) (k : Fin 1024) (f : Fin 1792) :
    (shapeCast S1024x1792 w shapeCasts_S1x1024x1792_S1024x1792 : S1024x1792.Idx → EReal) (ix2 k f) = w (ix3 0 k f) :=
  shapeCast_apply _ _ _ (ix3 0 k f) (by
    rw [Shape.rowMajor_val_three, Shape.rowMajor_val_two]; simp [ix3, ix2])

theorem cast_down (w : S1x1792x1024.Idx → EReal) (f : Fin 1792) (q : Fin 1024) :
    (shapeCast S1792x1024 w shapeCasts_S1x1792x1024_S1792x1024 : S1792x1024.Idx → EReal) (ix2 f q) = w (ix3 0 f q) :=
  shapeCast_apply _ _ _ (ix3 0 f q) (by
    rw [Shape.rowMajor_val_three, Shape.rowMajor_val_two]; simp [ix3, ix2])

theorem up_apply (b : S512x1024.Idx → EReal) (w : S1x1024x1792.Idx → EReal) (a : Fin 512) (f : Fin 1792) :
    (matmul (F := Ideal) (φ₁ := .bf16) (φ₂ := .bf16) dot_S512x1024_S1024x1792_S512x1792_1_0_0_1_n_n none b (shapeCast S1024x1792 w shapeCasts_S1x1024x1792_S1024x1792)
      (constant S512x1792 .f32 0x00000000#32) : S512x1792.Idx → EReal) (ix2 a f) = ∑ k, b (ix2 a k) * w (ix3 0 k f) := by
  refine (dot_apply _ 1024 rfl rfl _ _ _ (fun k => ix2 a k) (fun k => ix2 k f)
      (fun k => by funext a; fin_cases a <;> rfl) (fun k => by funext a; fin_cases a <;> rfl)).trans ?_
  exact Finset.sum_congr rfl fun k _ => congrArg _ (cast_up w k f)

/-- One column block's share of a row: what was there, plus the block's hidden units projected back. -/
theorem block_apply (b : S512x1024.Idx → EReal) (g u : S1x1024x1792.Idx → EReal) (o : S512x1024.Idx → EReal) (d : S1x1792x1024.Idx → EReal)
    (a : Fin 512) (q : Fin 1024) :
    (k0_pay3 (F := Ideal) b g u o d : S512x1024.Idx → EReal) (ix2 a q)
      = o (ix2 a q) + ∑ f, unit (∑ k, b (ix2 a k) * g (ix3 0 k f)) (∑ k, b (ix2 a k) * u (ix3 0 k f)) * d (ix3 0 f q) := by
  unfold k0_pay3
  refine congr (congrArg (fun s t : EReal => s + t) (shapeCast_apply _ _ _ (ix2 a q) rfl)) ?_
  refine (dot_apply _ 1792 rfl rfl _ _ _ (fun f => ix2 a f) (fun f => ix2 f q)
      (fun k => by funext a; fin_cases a <;> rfl) (fun k => by funext a; fin_cases a <;> rfl)).trans ?_
  refine Finset.sum_congr rfl fun f _ => congr (congrArg (fun s t : EReal => s * t) ?_) (cast_down d f q)
  rw [← up_apply b g a f, ← up_apply b u a f]
  unfold unit
  refine congrArg (fun s : EReal => s * _) (congrArg (fun s : EReal => _ * s) ?_)
  show Ideal.div (Ideal.ofBits .f32 0x3F800000#32) (Ideal.ofBits .f32 0x3F800000#32 + Ideal.exp (Ideal.ofBits .f32 0x00000000#32 - _)) = _
  rw [Ideal.ofBits_one_f32, Ideal.ofBits_zero_f32, zero_sub]

/-! ## The blocks at a point -/

section Blocks

variable (m : (ℓ : Loc nD τ sig) → Buf (Elt Ideal) ℓ) (hO : Ok m) (c : Dev nD)

theorem arr_up : (V m c main_v0 : S8x1024x7168.Idx → EReal) = m ((c : Thread nD τ).loc main_arg3) := by
  unfold V
  simp only [hostOps0]
  after_reads_simp
  rfl

theorem arr_down : (V m c main_v1 : S8x3584x1024.Idx → EReal) = m ((c : Thread nD τ).loc main_arg4) := by
  unfold V
  simp only [hostOps0]
  after_reads_simp
  rfl

/-- The point of column block `f` of tile `i`. -/
noncomputable def point (i : Fin 72) (f : Fin 2) : Fin (cfgM m hO).N := ⟨2 * i.val + f.val, Nat.lt_of_lt_of_eq (by omega : _ < 144) N_0.symm⟩

theorem point_tile (i : Fin 72) (f : Fin 2) : (grid0.coords (point m hO i f) 0) = i :=
  Fin.ext ((Pipeline.Grid.coords_val (G := grid0) (point m hO i f) 0 (S := 2) (B := 72) (by decide) rfl).trans (by
    show (2 * i.val + f.val) / 2 % 72 = i.val; omega))

theorem point_col (i : Fin 72) (f : Fin 2) : (grid0.coords (point m hO i f) 1) = f :=
  Fin.ext ((Pipeline.Grid.coords_val (G := grid0) (point m hO i f) 1 (S := 1) (B := 2) (by decide) rfl).trans (by
    show (2 * i.val + f.val) / 1 % 2 = f.val; omega))

/-- The expert of tile `i`, as the first table gives it. -/
noncomputable abbrev te (i : Fin 72) : BitVec 32 := expert (tbl m) i
noncomputable abbrev nv (i : Fin 72) : BitVec 32 := count (tbl m) i

theorem rows_eq (i : Fin 72) (f : Fin 2) : rows m c (point m hO i f) = nv m i := by
  have e := congrArg (tbl m 1) (place1 (grid0.coords (point m hO i f)) (Shape.Idx.first (numel1_S1.symm ▸ Nat.one_pos)))
  rw [point_tile] at e
  exact e

theorem emb0 (t : Fin (cfgM m hO).N) (y : S512x1024.Idx) (a : Fin 2) :
    ((((cfgM m hO).win 0).blk t).view.emb y a : ℕ) = cc0_transform_0 k0_off1_inb numel1_S1 (tbl m) (grid0.coords t) a * S512x1024.size a + (y a).val :=
  Window.rect_emb_val ((cfgM m hO).win 0) t y a

theorem emb1 (t : Fin (cfgM m hO).N) (y : S1x1024x1792.Idx) (a : Fin 3) :
    ((((cfgM m hO).win 1).blk t).view.emb y a : ℕ) = cc0_transform_1 k0_off1_inb numel1_S1 (tbl m) (grid0.coords t) a * S1x1024x1792.size a + (y a).val :=
  Window.rect_emb_val ((cfgM m hO).win 1) t y a

theorem emb2 (t : Fin (cfgM m hO).N) (y : S1x1024x1792.Idx) (a : Fin 3) :
    ((((cfgM m hO).win 2).blk t).view.emb y a : ℕ) = cc0_transform_2 k0_off1_inb numel1_S1 (tbl m) (grid0.coords t) a * S1x1024x1792.size a + (y a).val :=
  Window.rect_emb_val ((cfgM m hO).win 2) t y a

theorem emb3 (t : Fin (cfgM m hO).N) (y : S1x1792x1024.Idx) (a : Fin 3) :
    ((((cfgM m hO).win 3).blk t).view.emb y a : ℕ) = cc0_transform_3 k0_off1_inb numel1_S1 (tbl m) (grid0.coords t) a * S1x1792x1024.size a + (y a).val :=
  Window.rect_emb_val ((cfgM m hO).win 3) t y a

theorem emb4 (t : Fin (cfgM m hO).N) (y : S512x1024.Idx) (a : Fin 2) :
    ((((cfgM m hO).win 4).blk t).view.emb y a : ℕ) = cc0_transform_4 (grid0.coords t) a * S512x1024.size a + (y a).val :=
  Window.rect_emb_val ((cfgM m hO).win 4) t y a

/-- The rows of tile `i`, where any is used. -/
theorem block_x (i : Fin 72) (f : Fin 2) (hn : 0 < (nv m i).toInt) (a : Fin 512) (k : Fin 1024) :
    (iblk m hO c 0 (point m hO i f) : S512x1024.Idx → EReal) (ix2 a k)
      = (m ((c : Thread nD τ).loc main_arg0) : S36864x1024.Idx → EReal) (ix2 ⟨512 * i.val + a.val, by omega⟩ k) := by
  have e := map0 (tbl m) (grid0.coords (point m hO i f))
  rw [point_tile, if_pos hn] at e
  refine (congrFun (V_main_arg0 m c) _).trans (congrArg (m ((c : Thread nD τ).loc main_arg0) : S36864x1024.Idx → EReal) ?_)
  funext b; fin_cases b
  · refine Fin.ext ((emb0 m hO (point m hO i f) (ix2 a k) 0).trans ?_)
    rw [e]
    show i.val * 512 + a.val = 512 * i.val + a.val
    omega
  · refine Fin.ext ((emb0 m hO (point m hO i f) (ix2 a k) 1).trans ?_)
    rw [e]
    show 0 * 1024 + k.val = k.val
    omega

/-- The gate columns of tile `i`'s expert, at column block `f`. -/
theorem block_g (i : Fin 72) (f : Fin 2) (hn : 0 < (nv m i).toInt) (he : (te m i).toNat < 8) (k : Fin 1024) (j : Fin 1792) :
    (iblk m hO c 1 (point m hO i f) : S1x1024x1792.Idx → EReal) (ix3 0 k j)
      = (m ((c : Thread nD τ).loc main_arg3) : S8x1024x7168.Idx → EReal) (ix3 ⟨(te m i).toNat, he⟩ k ⟨1792 * f.val + j.val, by omega⟩) := by
  have e := map1 (tbl m) (grid0.coords (point m hO i f))
  rw [point_tile, point_col, pick, if_pos hn] at e
  refine (congrFun (arr_up m c) _).trans (congrArg (m ((c : Thread nD τ).loc main_arg3) : S8x1024x7168.Idx → EReal) ?_)
  funext b; fin_cases b
  · refine Fin.ext ((emb1 m hO (point m hO i f) (ix3 0 k j) 0).trans ?_)
    rw [e]
    show (te m i).toNat * 1 + 0 = (te m i).toNat
    omega
  · refine Fin.ext ((emb1 m hO (point m hO i f) (ix3 0 k j) 1).trans ?_)
    rw [e]
    show 0 * 1024 + k.val = k.val
    omega
  · refine Fin.ext ((emb1 m hO (point m hO i f) (ix3 0 k j) 2).trans ?_)
    rw [e]
    show f.val * 1792 + j.val = 1792 * f.val + j.val
    omega

/-- The up columns, which lie behind the 3584 gate columns. -/
theorem block_u (i : Fin 72) (f : Fin 2) (hn : 0 < (nv m i).toInt) (he : (te m i).toNat < 8) (k : Fin 1024) (j : Fin 1792) :
    (iblk m hO c 2 (point m hO i f) : S1x1024x1792.Idx → EReal) (ix3 0 k j)
      = (m ((c : Thread nD τ).loc main_arg3) : S8x1024x7168.Idx → EReal) (ix3 ⟨(te m i).toNat, he⟩ k ⟨3584 + (1792 * f.val + j.val), by omega⟩) := by
  have e := map2 (tbl m) (grid0.coords (point m hO i f))
  rw [point_tile, point_col, pick, if_pos hn] at e
  refine (congrFun (arr_up m c) _).trans (congrArg (m ((c : Thread nD τ).loc main_arg3) : S8x1024x7168.Idx → EReal) ?_)
  funext b; fin_cases b
  · refine Fin.ext ((emb2 m hO (point m hO i f) (ix3 0 k j) 0).trans ?_)
    rw [e]
    show (te m i).toNat * 1 + 0 = (te m i).toNat
    omega
  · refine Fin.ext ((emb2 m hO (point m hO i f) (ix3 0 k j) 1).trans ?_)
    rw [e]
    show 0 * 1024 + k.val = k.val
    omega
  · refine Fin.ext ((emb2 m hO (point m hO i f) (ix3 0 k j) 2).trans ?_)
    rw [e]
    show (2 + f.val) * 1792 + j.val = 3584 + (1792 * f.val + j.val)
    omega

/-- The rows of the expert's second matrix, at column block `f` of the hidden units. -/
theorem block_d (i : Fin 72) (f : Fin 2) (hn : 0 < (nv m i).toInt) (he : (te m i).toNat < 8) (j : Fin 1792) (q : Fin 1024) :
    (iblk m hO c 3 (point m hO i f) : S1x1792x1024.Idx → EReal) (ix3 0 j q)
      = (m ((c : Thread nD τ).loc main_arg4) : S8x3584x1024.Idx → EReal) (ix3 ⟨(te m i).toNat, he⟩ ⟨1792 * f.val + j.val, by omega⟩ q) := by
  have e := map3 (tbl m) (grid0.coords (point m hO i f))
  rw [point_tile, point_col, pick, if_pos hn] at e
  refine (congrFun (arr_down m c) _).trans (congrArg (m ((c : Thread nD τ).loc main_arg4) : S8x3584x1024.Idx → EReal) ?_)
  funext b; fin_cases b
  · refine Fin.ext ((emb3 m hO (point m hO i f) (ix3 0 j q) 0).trans ?_)
    rw [e]
    show (te m i).toNat * 1 + 0 = (te m i).toNat
    omega
  · refine Fin.ext ((emb3 m hO (point m hO i f) (ix3 0 j q) 1).trans ?_)
    rw [e]
    show f.val * 1792 + j.val = 1792 * f.val + j.val
    omega
  · refine Fin.ext ((emb3 m hO (point m hO i f) (ix3 0 j q) 2).trans ?_)
    rw [e]
    show 0 * 1024 + q.val = q.val
    omega

/-! ## The result -/

/-- The gate and up columns of expert `e`, its projection's entries at one column, and a row of the tokens. -/
def upOf (w : S8x1024x7168.Idx → EReal) (e : Fin 8) (k : Fin 1024) (f : Fin 7168) : EReal := w (ix3 e k f)
def downOf (d : S8x3584x1024.Idx → EReal) (e : Fin 8) (q : Fin 1024) (f : Fin 3584) : EReal := d (ix3 e f q)
def rowOf (x : S36864x1024.Idx → EReal) (r : Fin 36864) (k : Fin 1024) : EReal := x (ix2 r k)

theorem cond_iff (n : BitVec 32) : k0_cond2 n = 1#1 ↔ 0 < n.toInt := by
  have h : k0_cond2 n = IntOp.cmpi .ne ((BitVec.ofBool (decide (0 < n.toInt))).setWidth 32) 0#32 := rfl
  rw [h]
  by_cases hn : 0 < n.toInt
  · rw [decide_eq_true hn]; exact ⟨fun _ => hn, fun _ => rfl⟩
  · rw [decide_eq_false hn]; exact ⟨fun e => absurd e (by decide), fun e => absurd e hn⟩

/-- A masked row of tile `i`. -/
def kept (i : Fin 72) (a : Fin 512) (k : Fin 1024) : EReal :=
  if (a.val : ℤ) < (nv m i).toInt then rowOf (m ((c : Thread nD τ).loc main_arg0)) ⟨512 * i.val + a.val, by omega⟩ k else 0

theorem mask_row (i : Fin 72) (hn : 0 < (nv m i).toInt) (a : Fin 512) (k : Fin 1024) :
    (k0_pay1 (F := Ideal) (nv m i) (iblk m hO c 0 (point m hO i 0)) : S512x1024.Idx → EReal) (ix2 a k) = kept m c i a k := by
  refine (masked_apply _ _ a k).trans ?_
  unfold kept
  by_cases h : (a.val : ℤ) < (nv m i).toInt
  · exact (if_pos h).trans ((block_x m hO c i 0 hn a k).trans (if_pos h).symm)
  · exact (if_neg h).trans (if_neg h).symm

/-- One column block of a masked row through the tile's expert. -/
theorem share (i : Fin 72) (f : Fin 2) (hn : 0 < (nv m i).toInt) (he : (te m i).toNat < 8) (a : Fin 512) (q : Fin 1024) (o : S512x1024.Idx → EReal) :
    (k0_pay3 (F := Ideal) (k0_pay1 (nv m i) (iblk m hO c 0 (point m hO i 0))) (iblk m hO c 1 (point m hO i f)) (iblk m hO c 2 (point m hO i f)) o
      (iblk m hO c 3 (point m hO i f)) : S512x1024.Idx → EReal) (ix2 a q)
    = o (ix2 a q) + ∑ j : Fin 1792, hidden (upOf (m ((c : Thread nD τ).loc main_arg3)) ⟨(te m i).toNat, he⟩) (kept m c i a) ⟨1792 * f.val + j.val, by omega⟩
        * downOf (m ((c : Thread nD τ).loc main_arg4)) ⟨(te m i).toNat, he⟩ q ⟨1792 * f.val + j.val, by omega⟩ := by
  refine (block_apply _ _ _ o _ a q).trans (congrArg (fun s : EReal => o (ix2 a q) + s) (Finset.sum_congr rfl fun j _ => ?_))
  refine congr (congrArg (fun s t : EReal => s * t) (congr (congrArg unit ?_) ?_)) (block_d m hO c i f hn he j q)
  · exact Finset.sum_congr rfl fun k _ => congr (congrArg (fun s t : EReal => s * t) (mask_row m hO c i hn a k)) (block_g m hO c i f hn he k j)
  · exact Finset.sum_congr rfl fun k _ => congr (congrArg (fun s t : EReal => s * t) (mask_row m hO c i hn a k)) (block_u m hO c i f hn he k j)

theorem prev_point (i : Fin 72) : prev (point m hO i 1) = point m hO i 0 := Fin.ext (by
  show 2 * i.val + 1 - 1 = 2 * i.val + 0; omega)

/-- What the second column block of tile `i` leaves at a row and a column. -/
theorem row_value (i : Fin 72) (he : (te m i).toNat < 8) (a : Fin 512) (q : Fin 1024) :
    (nextAt m hO c (point m hO i 1) : S512x1024.Idx → EReal) (ix2 a q)
      = if (a.val : ℤ) < (nv m i).toInt then
          mlp (upOf (m ((c : Thread nD τ).loc main_arg3)) ⟨(te m i).toNat, he⟩) (downOf (m ((c : Thread nD τ).loc main_arg4)) ⟨(te m i).toNat, he⟩ q)
            (rowOf (m ((c : Thread nD τ).loc main_arg0)) ⟨512 * i.val + a.val, by omega⟩)
        else 0 := by
  unfold nextAt maskAt firstAt nextOut firstOut
  rw [prev_point, rows_eq, rows_eq]
  by_cases hn : 0 < (nv m i).toInt
  · rw [if_pos ((cond_iff _).2 hn), if_pos ((cond_iff _).2 hn)]
    refine (share m hO c i 1 hn he a q _).trans ?_
    rw [share m hO c i 0 hn he a q, zeros_apply, zero_add]
    refine Eq.trans (b := mlp (upOf (m ((c : Thread nD τ).loc main_arg3)) ⟨(te m i).toNat, he⟩)
      (downOf (m ((c : Thread nD τ).loc main_arg4)) ⟨(te m i).toNat, he⟩ q) (kept m c i a)) ?_ ?_
    · rw [mlp_blocks]
      refine congr (congrArg (fun s t : EReal => s + t) (Finset.sum_congr rfl fun j _ => ?_)) rfl
      have hj : (⟨1792 * (0 : Fin 2).val + j.val, by omega⟩ : Fin 3584) = ⟨j.val, by omega⟩ := Fin.ext (by
        show 1792 * 0 + j.val = j.val; omega)
      rw [hj]
    · split
      · rename_i h
        exact congrArg _ (funext fun k => if_pos h)
      · rename_i h
        exact (congrArg _ (funext fun k => if_neg h)).trans (mlp_zero _ _)
  · rw [if_neg (fun h => hn ((cond_iff _).1 h)), if_neg (fun h => hn ((cond_iff _).1 h)), zeros_apply, if_neg (by omega)]

theorem disjoint4 : ∀ t t' : Fin (cfgM m hO).N, ((cfgM m hO).win 4).flush t = true → ((cfgM m hO).win 4).flush t' = true → t ≠ t' →
    Disjoint (((cfgM m hO).win 4).blk t).view.set (((cfgM m hO).win 4).blk t').view.set := by
  refine Window.hdisj_of_index_inj _ fun t t' hf hf' e => ?_
  have h := (flush_iff (adm m hO) t).1 hf
  have h' := (flush_iff (adm m hO) t').1 hf'
  have e0 : cc0_transform_4 (grid0.coords t) 0 = cc0_transform_4 (grid0.coords t') 0 := congrFun (a := (0 : Fin 2)) e
  have ht : t.val < 144 := Nat.lt_of_lt_of_eq t.isLt N_0
  have ht' : t'.val < 144 := Nat.lt_of_lt_of_eq t'.isLt N_0
  have v : ∀ s : Fin (cfgM m hO).N, s.val < 144 → cc0_transform_4 (grid0.coords s) 0 = s.val / 2 := fun s hs => by
    have e1 : (grid0.coords s 0).val = s.val / 2 % 72 := Pipeline.Grid.coords_val (G := grid0) s 0 (S := 2) (B := 72) (by decide) rfl
    show (BitVec.ofNat 32 (grid0.coords s 0).val).toNat = s.val / 2
    rw [e1, BitVec.toNat_ofNat]; omega
  rw [v t ht, v t' ht'] at e0
  exact Fin.ext (by omega)

/-- The result array at a row of tile `i`. -/
theorem final_apply (i : Fin 72) (he : (te m i).toNat < 8) (a : Fin 512) (q : Fin 1024) :
    ((dats m hO 0 c).arrAt 4 (cfgM m hO).N : S36864x1024.Idx → EReal) (ix2 ⟨512 * i.val + a.val, by omega⟩ q)
      = if (a.val : ℤ) < (nv m i).toInt then
          mlp (upOf (m ((c : Thread nD τ).loc main_arg3)) ⟨(te m i).toNat, he⟩) (downOf (m ((c : Thread nD τ).loc main_arg4)) ⟨(te m i).toNat, he⟩ q)
            (rowOf (m ((c : Thread nD τ).loc main_arg0)) ⟨512 * i.val + a.val, by omega⟩)
        else 0 := by
  have e : (((cfgM m hO).win 4).blk (point m hO i 1)).view.emb (ix2 a q) = (ix2 ⟨512 * i.val + a.val, by omega⟩ q : S36864x1024.Idx) := by
    funext b; fin_cases b
    · refine Fin.ext ((emb4 m hO (point m hO i 1) (ix2 a q) 0).trans ?_)
      show (BitVec.ofNat 32 (grid0.coords (point m hO i 1) 0).val).toNat * 512 + a.val = 512 * i.val + a.val
      rw [point_tile, BitVec.toNat_ofNat]; omega
    · refine Fin.ext ((emb4 m hO (point m hO i 1) (ix2 a q) 1).trans ?_)
      show 0 * 1024 + q.val = q.val
      omega
  refine (congrArg ((dats m hO 0 c).arrAt 4 (cfgM m hO).N : S36864x1024.Idx → EReal) e.symm).trans ?_
  refine ((dats m hO 0 c).arrAt_emb_eq_flushed 4 (disjoint4 m hO) (point m hO i 1)
    ((flush_iff (adm m hO) _).2 (by show (2 * i.val + 1) % 2 = 1; omega)) (ix2 a q)).trans ?_
  refine Eq.trans ?_ (row_value m hO c i he a q)
  refine Eq.trans (b := ((dats m hO 0 c).after 4 (point m hO i 1) : S512x1024.Idx → EReal) (ix2 a q)) rfl ?_
  rw [after_4, if_neg (by show ¬(2 * i.val + 1) % 2 = 0; omega)]

end Blocks

end Cert.Proof.Moe

end
-- ==== Proof.MoeRef.lean ====
/- The reference of the experts read at an index over the extended reals: every row through every expert, the
   outputs summed with gates that are one at the row's own expert and zero elsewhere. -/
module

public import proofs.«01_k».proof.Reference2Ideal
public import proofs.«01_k».proof.Proof.Gen.Reference2Ideal
public import proofs.«01_k».proof.Proof.Gen.Reference2Ideal.Run
public import proofs.«01_k».proof.Proof.MoeMath
public import proofs.«01_k».proof.Proof.RefTrip
public import Idealize.ShloMosaic.Lib.Affine
public import Idealize.ShloMosaic.Lib.WordCmp
public import Idealize.ShloMosaic.Lib.Pointwise.Reduce

@[expose] public section

set_option maxRecDepth 4000

noncomputable section

namespace Cert.Proof.MoeRef

open Idealize.ShloMosaic hiding ix1 ix2 ix3
open Idealize.ShloMosaic.ValueIdx
open Cert.Proof.MoeMath (mlp)
open Cert.Reference2Ideal Cert.Reference2Ideal.Gen
open Cert.Proof.RefTrip (dot_apply)

variable (x : S36864x1024.Idx → EReal) (e n : IVec S72 32) (u : S8x1024x7168.Idx → EReal) (d : S8x3584x1024.Idx → EReal)

/-- A word per tile, laid out to a word per row. -/
def perRow (w : IVec S72 32) : IVec S36864 32 :=
  shapeCast S36864 (broadcastInDim S72x512 ![0, 1] bcast_S72x1_S72x512_0_1 (broadcastInDim S72x1 ![0] bcast_S72_S72x1_0 w)) shapeCasts_S72x512_S36864

/-- Each row's number within its tile. -/
def inTile : IVec S36864 32 :=
  shapeCast S36864 (broadcastInDim S72x512 ![0, 1] bcast_S1x512_S72x512_0_1 (broadcastInDim S1x512 ![1] bcast_S512_S1x512_1 (iotaInDim S512 32 0))) shapeCasts_S72x512_S36864

/-- Which rows go to which expert. -/
def chosen : IVec S36864x8 1 :=
  andi (cmpi .eq (broadcastInDim S36864x8 ![0, 1] bcast_S36864x1_S36864x8_0_1 (broadcastInDim S36864x1 ![0] bcast_S36864_S36864x1_0 (perRow e)))
      (broadcastInDim S36864x8 ![0, 1] bcast_S1x8_S36864x8_0_1 (broadcastInDim S1x8 ![1] bcast_S8_S1x8_1 (iotaInDim S8 32 0))))
    (broadcastInDim S36864x8 ![0, 1] bcast_S36864x1_S36864x8_0_1 (broadcastInDim S36864x1 ![0] bcast_S36864_S36864x1_0 (cmpi .slt inTile (perRow n))))

/-- Every row times every expert's gate and up columns. -/
def products : FVec Ideal S8x36864x7168 .f32 :=
  transpose S8x36864x7168 [0, 2, 1] (Host.dotGeneral (F := Ideal) (φ₁ := .f32) (φ₂ := .f32) dot_S8x1024x7168_S36864x1024_S8x7168x36864_1_1_02_0_n_n none u x)
    transposes_S8x7168x36864_S8x36864x7168_0_2_1

def gateCols : FVec Ideal S8x36864x3584 .f32 := extractStridedSlice S8x36864x3584 ![0, 0, 0] (products x u) slices_S8x36864x7168_S8x36864x3584_0_0_0
def upCols : FVec Ideal S8x36864x3584 .f32 := extractStridedSlice S8x36864x3584 ![0, 0, 3584] (products x u) slices_S8x36864x7168_S8x36864x3584_0_0_3584

def ones : FVec Ideal S8x36864x3584 .f32 := broadcastInDim S8x36864x3584 ![] bcast_S_S8x36864x3584 (constant S_ .f32 0x3F800000#32)

/-- Every row's hidden units in every expert. -/
def hiddens : FVec Ideal S8x36864x3584 .f32 :=
  mulf (mulf (gateCols x u) (Host.divf ones (addf ones (Host.exp (Host.negf (gateCols x u)))))) (upCols x u)

/-- Every row's output of every expert. -/
def outputs : FVec Ideal S8x36864x1024 .f32 :=
  Host.dotGeneral (F := Ideal) (φ₁ := .f32) (φ₂ := .f32) dot_S8x36864x3584_S8x3584x1024_S8x36864x1024_2_1_1_2_0_0 none (hiddens x u) d

/-- The reference's result. -/
def result : FVec Ideal S36864x1024 .f32 :=
  Host.reduceAdd (mulf (broadcastInDim S8x36864x1024 ![0, 1, 2] bcast_S8x36864x1_S8x36864x1024_0_1_2
      (broadcastInDim S8x36864x1 ![0, 1] bcast_S8x36864_S8x36864x1_0_1
        (transpose S8x36864 [1, 0] (uitofp .f32 (chosen e n)) transposes_S36864x8_S8x36864_1_0))) (outputs x u d))
    (constant S_ .f32 0x00000000#32) reducesTo_S8x36864x1024_S36864x1024_d0 h_S_

/-! ## Read at an index -/

/-- Row `a` of tile `i`. -/
def row (i : Fin 72) (a : Fin 512) : Fin 36864 := ⟨512 * i.val + a.val, by omega⟩

theorem perRow_apply (w : IVec S72 32) (i : Fin 72) (a : Fin 512) : perRow w (ix1 (row i a)) = w (ix1 i) := by
  unfold perRow
  refine (shapeCast_apply _ _ _ (ix2 i a) (by
    rw [Shape.rowMajor_val_two, Shape.rowMajor_val_one]; simp [ix1, ix2, row]; ring)).trans ?_
  refine (broadcastInDim_apply _ _ _ _ (ix2 i 0) (fun b => by fin_cases b <;> rfl)).trans ?_
  exact broadcastInDim_apply _ _ _ _ (ix1 i) (fun b => by fin_cases b; rfl)

theorem inTile_apply (i : Fin 72) (a : Fin 512) : inTile (ix1 (row i a)) = BitVec.ofNat 32 a.val := by
  unfold inTile
  refine (shapeCast_apply _ _ _ (ix2 i a) (by
    rw [Shape.rowMajor_val_two, Shape.rowMajor_val_one]; simp [ix1, ix2, row]; ring)).trans ?_
  refine (broadcastInDim_apply _ _ _ _ (ix2 0 a) (fun b => by fin_cases b <;> rfl)).trans ?_
  exact broadcastInDim_apply _ _ _ _ (ix1 a) (fun b => by fin_cases b; rfl)

/-- A row goes to its tile's expert, if it is used. -/
theorem chosen_apply (i : Fin 72) (a : Fin 512) (k : Fin 8) :
    chosen e n (ix2 (row i a) k) = 1#1 ↔ e (ix1 i) = BitVec.ofNat 32 k.val ∧ (a.val : ℤ) < (n (ix1 i)).toInt := by
  have h1 : broadcastInDim S36864x8 ![0, 1] bcast_S36864x1_S36864x8_0_1 (broadcastInDim S36864x1 ![0] bcast_S36864_S36864x1_0 (perRow e)) (ix2 (row i a) k)
      = e (ix1 i) := by
    refine (broadcastInDim_apply _ _ _ _ (ix2 (row i a) 0) (fun b => by fin_cases b <;> rfl)).trans ?_
    exact (broadcastInDim_apply _ _ _ _ (ix1 (row i a)) (fun b => by fin_cases b; rfl)).trans (perRow_apply e i a)
  have h2 : broadcastInDim S36864x8 ![0, 1] bcast_S1x8_S36864x8_0_1 (broadcastInDim S1x8 ![1] bcast_S8_S1x8_1 (iotaInDim S8 32 0)) (ix2 (row i a) k)
      = BitVec.ofNat 32 k.val := by
    refine (broadcastInDim_apply _ _ _ _ (ix2 0 k) (fun b => by fin_cases b <;> rfl)).trans ?_
    exact broadcastInDim_apply _ _ _ _ (ix1 k) (fun b => by fin_cases b; rfl)
  have h3 : broadcastInDim S36864x8 ![0, 1] bcast_S36864x1_S36864x8_0_1 (broadcastInDim S36864x1 ![0] bcast_S36864_S36864x1_0 (cmpi .slt inTile (perRow n))) (ix2 (row i a) k)
      = IntOp.cmpi .slt (BitVec.ofNat 32 a.val) (n (ix1 i)) := by
    refine (broadcastInDim_apply _ _ _ _ (ix2 (row i a) 0) (fun b => by fin_cases b <;> rfl)).trans ?_
    refine (broadcastInDim_apply _ _ _ _ (ix1 (row i a)) (fun b => by fin_cases b; rfl)).trans ?_
    exact congr (congrArg (IntOp.cmpi .slt) (inTile_apply i a)) (perRow_apply n i a)
  have h : chosen e n (ix2 (row i a) k) = IntOp.andi (IntOp.cmpi .eq (e (ix1 i)) (BitVec.ofNat 32 k.val)) (IntOp.cmpi .slt (BitVec.ofNat 32 a.val) (n (ix1 i))) :=
    congr (congrArg IntOp.andi (congr (congrArg (IntOp.cmpi .eq) h1) h2)) h3
  rw [h, IntOp.andi_eq_one, IntOp.cmpi_eq, IntOp.cmpi_slt, WordCmp.toInt_ofNat_of_lt (by omega)]

theorem products_apply (k : Fin 8) (r : Fin 36864) (f : Fin 7168) :
    products x u (ix3 k r f) = ∑ t : Fin 1024, x (ix2 r t) * u (ix3 k t f) := by
  unfold products
  refine (transpose_apply _ _ _ _ (ix3 k f r) (fun b => by fin_cases b <;> rfl)).trans ?_
  refine (dot_apply _ 1024 rfl rfl _ _ _ (fun t => ix3 k t f) (fun t => ix2 r t)
    (fun t => by funext a; fin_cases a <;> rfl) (fun t => by funext a; fin_cases a <;> rfl)).trans ?_
  exact Finset.sum_congr rfl fun t _ => mul_comm _ _

theorem hiddens_apply (k : Fin 8) (r : Fin 36864) (f : Fin 3584) :
    hiddens x u (ix3 k r f) = MoeMath.hidden (fun t g => u (ix3 k t g)) (fun t => x (ix2 r t)) f := by
  have hg : gateCols x u (ix3 k r f) = ∑ t : Fin 1024, x (ix2 r t) * u (ix3 k t ⟨f.val, by omega⟩) := by
    unfold gateCols
    exact (extractStridedSlice_apply _ _ _ _ (ix3 k r ⟨f.val, by omega⟩) (fun b => by fin_cases b <;> simp [ix3])).trans (products_apply x u k r _)
  have hu : upCols x u (ix3 k r f) = ∑ t : Fin 1024, x (ix2 r t) * u (ix3 k t ⟨3584 + f.val, by omega⟩) := by
    unfold upCols
    exact (extractStridedSlice_apply _ _ _ _ (ix3 k r ⟨3584 + f.val, by omega⟩) (fun b => by fin_cases b <;> simp [ix3])).trans (products_apply x u k r _)
  have ho : ones (ix3 k r f) = 1 := Ideal.ofBits_one_f32
  have h : hiddens x u (ix3 k r f)
      = gateCols x u (ix3 k r f) * Ideal.div (ones (ix3 k r f)) (ones (ix3 k r f) + Ideal.exp (-(gateCols x u (ix3 k r f)))) * upCols x u (ix3 k r f) := rfl
  rw [h, ho, hg, hu]
  rfl

theorem outputs_apply (k : Fin 8) (r : Fin 36864) (q : Fin 1024) :
    outputs x u d (ix3 k r q) = mlp (fun t g => u (ix3 k t g)) (fun f => d (ix3 k f q)) (fun t => x (ix2 r t)) := by
  unfold outputs mlp
  refine (dot_apply _ 3584 rfl rfl _ _ _ (fun f => ix3 k r f) (fun f => ix3 k f q)
    (fun t => by funext a; fin_cases a <;> rfl) (fun t => by funext a; fin_cases a <;> rfl)).trans ?_
  exact Finset.sum_congr rfl fun f _ => congrArg (fun s : EReal => s * _) (hiddens_apply x u k r f)

/-- A row's gate at an expert. -/
theorem gate_apply (i : Fin 72) (a : Fin 512) (k : Fin 8) (q : Fin 1024) :
    (broadcastInDim S8x36864x1024 ![0, 1, 2] bcast_S8x36864x1_S8x36864x1024_0_1_2 (broadcastInDim S8x36864x1 ![0, 1] bcast_S8x36864_S8x36864x1_0_1
        (transpose S8x36864 [1, 0] (uitofp (F := Ideal) .f32 (chosen e n)) transposes_S36864x8_S8x36864_1_0)) : S8x36864x1024.Idx → EReal) (ix3 k (row i a) q)
      = if e (ix1 i) = BitVec.ofNat 32 k.val ∧ (a.val : ℤ) < (n (ix1 i)).toInt then 1 else 0 := by
  refine (broadcastInDim_apply _ _ _ _ (ix3 k (row i a) 0) (fun b => by fin_cases b <;> rfl)).trans ?_
  refine (broadcastInDim_apply _ _ _ _ (ix2 k (row i a)) (fun b => by fin_cases b <;> rfl)).trans ?_
  refine (transpose_apply _ _ _ _ (ix2 (row i a) k) (fun b => by fin_cases b <;> rfl)).trans ?_
  show (((chosen e n (ix2 (row i a) k)).toNat : ℝ) : EReal) = _
  by_cases h : chosen e n (ix2 (row i a) k) = 1#1
  · rw [h, if_pos ((chosen_apply e n i a k).1 h)]; simp
  · rw [if_neg (fun g => h ((chosen_apply e n i a k).2 g))]
    have z : chosen e n (ix2 (row i a) k) = 0#1 := by
      generalize chosen e n (ix2 (row i a) k) = b at h
      revert b; decide
    rw [z]; simp

/-- The reference at a row of tile `i`, where the tile's word names an expert. -/
theorem result_apply (i : Fin 72) (he : (e (ix1 i)).toNat < 8) (a : Fin 512) (q : Fin 1024) :
    result x e n u d (ix2 (row i a) q)
      = if (a.val : ℤ) < (n (ix1 i)).toInt then
          mlp (fun t g => u (ix3 ⟨(e (ix1 i)).toNat, he⟩ t g)) (fun f => d (ix3 ⟨(e (ix1 i)).toNat, he⟩ f q)) (fun t => x (ix2 (row i a) t))
        else 0 := by
  unfold result
  rw [hostReduceAdd_apply, Ideal.hostReduceAdd_r3_a0]
  have z : (constant (F := Ideal) S_ .f32 0x00000000#32 (Shape.Idx.first h_S_) : EReal) = 0 := Ideal.ofBits_zero_f32
  rw [z, zero_add]
  have w : ∀ k : Fin 8, e (ix1 i) = BitVec.ofNat 32 k.val ↔ k = ⟨(e (ix1 i)).toNat, he⟩ := fun k => by
    constructor
    · intro h; refine Fin.ext ?_; show k.val = (e (ix1 i)).toNat; rw [h, BitVec.toNat_ofNat]; omega
    · intro h; rw [h]; show e (ix1 i) = BitVec.ofNat 32 (e (ix1 i)).toNat; simp
  refine (Finset.sum_congr rfl fun k _ => ?_).trans (b := ∑ k : Fin 8, if k = ⟨(e (ix1 i)).toNat, he⟩ then
      (if (a.val : ℤ) < (n (ix1 i)).toInt then
          mlp (fun t g => u (ix3 k t g)) (fun f => d (ix3 k f q)) (fun t => x (ix2 (row i a) t)) else 0) else (0 : EReal)) ?_
  · refine (congr (congrArg (fun s t : EReal => s * t) (gate_apply e n i a k q)) (outputs_apply x u d k (row i a) q)).trans ?_
    simp only [w]
    by_cases h1 : k = ⟨(e (ix1 i)).toNat, he⟩
    · by_cases h2 : (a.val : ℤ) < (n (ix1 i)).toInt
      · rw [if_pos ⟨h1, h2⟩, if_pos h1, if_pos h2, one_mul]
      · rw [if_neg (fun h => h2 h.2), if_pos h1, if_neg h2, zero_mul]
    · rw [if_neg (fun h => h1 h.1), if_neg h1, zero_mul]
  · rw [Finset.sum_ite_eq' Finset.univ, if_pos (Finset.mem_univ _)]

end Cert.Proof.MoeRef

end
-- ==== Proof.MoeEq.lean ====
/- The experts' kernel and their plain reference compute one array over the extended reals, of a table that names
   experts; and the frames of both. -/
module

public import proofs.«01_k».proof.Defs
public import proofs.«01_k».proof.Proof.Gen.Kernel2
public import proofs.«01_k».proof.Proof.MoeKer
public import proofs.«01_k».proof.Proof.MoeRef

@[expose] public section

set_option maxRecDepth 4000

noncomputable section

namespace Cert.Proof.MoeEq

open Idealize.ShloMosaic hiding ix1 ix2 ix3
open Idealize.ShloMosaic.TcCoe Idealize.SL.Sem
open Idealize.ShloMosaic.ValueIdx (ix1 ix2 ix3)
open Cert.Kernel2Ideal Cert.Kernel2Ideal.Gen
open Cert.Proof.Moe (Ok dats cfgM tbl)

/-- The two ways a used row's value is written down. -/
theorem same (x : S36864x1024.Idx → EReal) (u : S8x1024x7168.Idx → EReal) (d : S8x3584x1024.Idx → EReal) {t t' n n' : BitVec 32}
    (ht : t = t') (hn : n = n') (h : t.toNat < 8) (h' : t'.toNat < 8) (i : Fin 72) (a : Fin 512) (q : Fin 1024) :
    (if (a.val : ℤ) < n.toInt then
        MoeMath.mlp (fun k f => u (ix3 ⟨t.toNat, h⟩ k f)) (fun f => d (ix3 ⟨t.toNat, h⟩ f q)) (fun k => x (ix2 (MoeRef.row i a) k)) else 0)
      = if (a.val : ℤ) < n'.toInt then
          MoeMath.mlp (Moe.upOf u ⟨t'.toNat, h'⟩) (Moe.downOf d ⟨t'.toNat, h'⟩ q) (Moe.rowOf x ⟨512 * i.val + a.val, by omega⟩) else 0 := by
  subst ht hn
  rfl

variable (m : (ℓ : Loc nD τ sig) → Buf (Elt Ideal) ℓ)

/-- The kernel's array is the reference's. -/
theorem final_eq (hO : Ok m) (c : Dev nD)
    (h : Cert.Pre_experts.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    MoeRef.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      = (dats m hO 0 c).arrAt 4 (cfgM m hO).N := by
  obtain rfl : c = 0 := Subsingleton.elim _ _
  funext j
  obtain ⟨r, q, rfl⟩ : ∃ (r : Fin 36864) (q : Fin 1024), j = ix2 r q := ⟨j 0, j 1, by funext a; fin_cases a <;> rfl⟩
  obtain ⟨i, a, rfl⟩ : ∃ (i : Fin 72) (a : Fin 512), r = MoeRef.row i a :=
    ⟨⟨r.val / 512, by omega⟩, ⟨r.val % 512, by omega⟩, Fin.ext (by show r.val = 512 * (r.val / 512) + r.val % 512; omega)⟩
  have e0 : tbl m 0 = m (((0 : Dev nD).tc : Thread nD τ).loc main_arg1) := Moe.V_main_arg1 m 0
  have e1 : tbl m 1 = m (((0 : Dev nD).tc : Thread nD τ).loc main_arg2) := Moe.V_main_arg2 m 0
  have he : Moe.te m i = m (((0 : Dev nD).tc : Thread nD τ).loc main_arg1) (ix1 i) := congrFun e0 (ix1 i)
  have hn : Moe.nv m i = m (((0 : Dev nD).tc : Thread nD τ).loc main_arg2) (ix1 i) := congrFun e1 (ix1 i)
  have hl := Moe.expert_lt h (ix1 i)
  have hl' : (Moe.te m i).toNat < 8 := by rw [he]; exact hl
  exact (MoeRef.result_apply _ _ _ _ _ i hl a q).trans ((same _ _ _ he.symm hn.symm hl hl' i a q).trans (Moe.final_apply m hO 0 i hl' a q).symm)

/-- The table names experts, of any memory that meets the precondition. -/
theorem ok (h : Cert.Pre_Kernel2Ideal m) : Ok m := Moe.ok_of_pre m h

/-- As run and over the extended reals the kernel has one text: the same bodies, -/
theorem bodies_eq : Cert.Kernel2.defs₀ (F := Bits) = Cert.Kernel2Ideal.defs₀ (F := Bits) := by
  refine congrArg (Defs.onTc (nD := 1) (τ := Cert.Kernel2.τ) (sig := Cert.Kernel2.sig) (Val := Elt Bits) (Λ := Cert.Kernel2.Λ₀)) ?_
  funext l a
  obtain rfl : l = 0 := Subsingleton.elim (α := Fin 1) _ _
  with_unfolding_all rfl

/-- the same launch, -/
theorem defs_eq : Cert.Kernel2.defs (F := Bits) = Cert.Kernel2Ideal.defs (F := Bits) :=
  (congrArg (Pipeline.defs (Cert.Kernel2.pcfgs (F := Bits))) bodies_eq).trans (by with_unfolding_all rfl)

/-- the same program. -/
theorem main_eq : Cert.Kernel2.main (F := Bits) = Cert.Kernel2Ideal.main (F := Bits) := by with_unfolding_all rfl

/-- The kernel's frame as it was run. -/
theorem frame_kernel : Cert.quiescent_Kernel2 := fun m ρ h => by
  rw [defs_eq, main_eq]
  exact Moe.run_main (F := Bits) m ρ (Moe.ok_of_pre (F := Bits) m h)

/-- The kernel's frame over the extended reals. -/
theorem frame_ideal : Cert.quiescent_Kernel2Ideal := fun m ρ h => Moe.run_main m ρ (ok m h)

/-- The reference's frame: it declares no semaphore, so every counter ends at zero. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference_pre : Cert.quiescent_Reference2Ideal_pre_experts := fun m ρ _ => frame_reference m ρ trivial

/-- Of a table that names experts, the experts' kernel and the plain experts compute one array over the extended reals. -/
theorem algebraic : Cert.algebraic_Kernel2Ideal_Reference2Ideal := by
  intro m g m' g' hpre harg
  have hO := ok m hpre
  refine ⟨fun c => (dats m hO 0 c).arrAt 4 (cfgM m hO).N, ?_, ?_⟩
  · exact (θ_run _ _ _).mono (fun _ h c => ⟨(h.1.1 c).1 4, h.2.1 c⟩) (θ_run_and (Moe.run_post m g hO) (Moe.run_main m g hO))
  · refine (θ_run _ _ _).mono (fun _ h c => ⟨(h c).1.trans ?_, (h c).2⟩) (Cert.Reference2Ideal.Value.run (F := Ideal) m' g')
    obtain ⟨a0, a1, a2, a3, a4⟩ := harg c
    rw [a0, a1, a2, a3, a4]
    exact final_eq m hO c (hpre c)

end Cert.Proof.MoeEq

end
-- ==== Proof.DenseMath.lean ====
/- One row of the dense layer, over the extended reals: the gated hidden units and their projection back, added to the
   scaled row, and the layer norm of the sum. -/
module

public import proofs.«01_k».proof.Proof.MoeMath

@[expose] public section

noncomputable section

namespace Cert.Proof.DenseMath

open Idealize.ShloMosaic
open Cert.Proof.MoeMath (unit)

/-- A row's mean, its length as the word the programs divide by. -/
def mean (h : Fin 1024 → EReal) : EReal := Ideal.div (∑ k, h k) (Ideal.ofBits .f32 0x44800000#32)

/-- A row less its mean. -/
def centred (h : Fin 1024 → EReal) (q : Fin 1024) : EReal := h q - mean h

/-- A row's layer norm at one entry, `g` and `b` the entry's gain and shift. -/
def layerNorm (h : Fin 1024 → EReal) (g b : EReal) (q : Fin 1024) : EReal :=
  centred h q * Ideal.rsqrt (mean (fun k => centred h k * centred h k) + Ideal.ofBits .f32 0x358637BD#32) * g + b

/-- A row through the gated units of columns `wg` and `wu` and back through `wd`, on top of the scaled row. -/
def summed (wg wu : Fin 1024 → Fin 2816 → EReal) (wd : Fin 2816 → Fin 1024 → EReal) (x : Fin 1024 → EReal) (q : Fin 1024) : EReal :=
  Ideal.ofBits .f32 0x3FB504F3#32 * x q + ∑ f, unit (∑ k, x k * wg k f) (∑ k, x k * wu k f) * wd f q

end Cert.Proof.DenseMath

end
-- ==== Proof.DenseKer.lean ====
/- What the dense layer's call leaves in its two result arrays, over the extended reals. -/
module

public import proofs.«01_k».proof.Kernel3Ideal
public import proofs.«01_k».proof.Proof.Gen.Kernel3Ideal.Value
public import proofs.«01_k».proof.Proof.DenseMath
public import proofs.«01_k».proof.Proof.KerHead
public import Idealize.ShloMosaic.Lib.IdealHost
public import Idealize.ShloMosaic.Lib.Tactic
public import Idealize.ShloMosaic.Lib.StableHlo.RunRead
public import Idealize.ShloMosaic.Lib.Pipeline.ValueKit.Geometry

@[expose] public section

set_option maxRecDepth 8000

noncomputable section

namespace Cert.Proof.Dense

open Idealize.ShloMosaic Idealize.ShloMosaic.TcCoe Idealize.SL.Sem Idealize.ShloMosaic.ValueIdx
open Idealize.ShloMosaic.StableHlo
open Cert.Kernel3Ideal Cert.Kernel3Ideal.Gen Cert.Proof.MoeMath Cert.Proof.DenseMath
open Idealize.ShloMosaic.Pipeline (Dat Window)
open Cert.Proof.KerHead (dot_apply)

theorem origin : (![0, 0] : Fin 2 → Nat) = fun _ => 0 := funext fun a => by fin_cases a <;> rfl

/-! ## What a grid point stores, of the blocks it reads -/

section Body

variable (c : Dev nD) (i : grid0.Coords) (a2 : Memref sig .tc .vmem S256x1024 .bf16) (h2 : a2.IsWhole)
  (a3 : Memref sig .tc .vmem S256x1024 .f32) (h3 : a3.IsWhole) (a4 : Memref sig .tc .vmem S1024x2816 .bf16) (h4 : a4.IsWhole)
  (a5 : Memref sig .tc .vmem S1024x2816 .bf16) (h5 : a5.IsWhole) (a6 : Memref sig .tc .vmem S2816x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S256x1024 .f32) (h9 : a9.IsWhole) (a10 : Memref sig .tc .vmem S256x1024 .bf16) (h10 : a10.IsWhole)
  (a11 : Memref sig .tc .vmem S256x1024 .f32) (h11 : a11.IsWhole) (hc0 : cond0_0 i) (hc1 : cond0_1 i)
  (x0 : Vec Ideal S256x1024 .bf16) (x1 : Vec Ideal S256x1024 .f32) (x2 x3 : Vec Ideal S1024x2816 .bf16)
  (x4 : Vec Ideal S2816x1024 .bf16) (x5 x6 : Vec Ideal S1x1024 .f32)

theorem out7 : out0_A_7 c i a2 h2 a3 h3 a4 h4 a5 h5 a6 h6 a7 h7 a8 h8 a9 h9 a10 h10 a11 h11 hc0 hc1 x0 x1 x2 x3 x4 x5 x6
    = k0_pay3 x1 (k0_pay2 x0 x2 x3 (k0_pay1 (F := Ideal)) x4) x5 x6 := by
  unfold out0_A_7
  rw [View.read_writes_eq_canon _ _ _ (cover0_A_7 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero (S := S256x1024) origin]
  simp only [View.readCov_unit_zero (S := S256x1024) _ origin, View.readAt_eq_ld, h2.read_unread, h3.read_unread, h4.read_unread, h5.read_unread,
    h6.read_unread, h7.read_unread, h8.read_unread, View.ld_unit_zero (S := S256x1024) origin, View.ld_unit_zero (S := S1024x2816) origin,
    View.ld_unit_zero (S := S2816x1024) origin, View.ld_unit_zero (S := S1x1024) origin]
  exact congrArg (fun a => k0_pay3 x1 a x5 x6) (View.readCov_cons_toLoadRect _ _ _ _)

theorem out8 : out0_A_8 c i a2 h2 a3 h3 a4 h4 a5 h5 a6 h6 a7 h7 a8 h8 a9 h9 a10 h10 a11 h11 hc0 hc1 x0 x1 x2 x3 x4 x5 x6
    = k0_pay4 x1 (k0_pay2 x0 x2 x3 (k0_pay1 (F := Ideal)) x4) x5 x6 := by
  unfold out0_A_8
  rw [View.read_writes_eq_canon _ _ _ (cover0_A_8 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero (S := S256x1024) origin]
  simp only [View.readCov_unit_zero (S := S256x1024) _ origin, View.readAt_eq_ld, h2.read_unread, h3.read_unread, h4.read_unread, h5.read_unread,
    h6.read_unread, h7.read_unread, h8.read_unread, View.ld_unit_zero (S := S256x1024) origin, View.ld_unit_zero (S := S1024x2816) origin,
    View.ld_unit_zero (S := S2816x1024) origin, View.ld_unit_zero (S := S1x1024) origin]
  exact congrArg (fun a => k0_pay4 x1 a x5 x6) (View.readCov_cons_toLoadRect _ _ _ _)

end Body

/-! ## Read at an entry -/

theorem up_apply (b : S256x1024.Idx → EReal) (w : S1024x2816.Idx → EReal) (a : Fin 256) (f : Fin 2816) :
    (matmul (F := Ideal) (φ₁ := .bf16) (φ₂ := .bf16) dot_S256x1024_S1024x2816_S256x2816_1_0_0_1_n_n none (shapeCast S256x1024 b shapeCasts_S256x1024_S256x1024)
      (shapeCast S1024x2816 w shapeCasts_S1024x2816_S1024x2816) (constant S256x2816 .f32 0x00000000#32) : S256x2816.Idx → EReal) (ix2 a f)
      = ∑ k, b (ix2 a k) * w (ix2 k f) := by
  rw [shapeCast_self, shapeCast_self]
  exact dot_apply _ 1024 rfl rfl _ _ _ (fun k => ix2 a k) (fun k => ix2 k f)
      (fun k => by funext a; fin_cases a <;> rfl) (fun k => by funext a; fin_cases a <;> rfl)

theorem zeros_apply (j : S256x1024.Idx) : (k0_pay1 (F := Ideal) : S256x1024.Idx → EReal) j = 0 := by
  unfold k0_pay1
  exact (shapeCast_apply _ _ _ j rfl).trans Ideal.ofBits_zero_f32

/-- The hidden units projected back, from an accumulator of zeros. -/
theorem back_apply (b : S256x1024.Idx → EReal) (g u : S1024x2816.Idx → EReal) (d : S2816x1024.Idx → EReal) (a : Fin 256) (q : Fin 1024) :
    (k0_pay2 (F := Ideal) b g u (k0_pay1 (F := Ideal)) d : S256x1024.Idx → EReal) (ix2 a q)
      = ∑ f, unit (∑ k, b (ix2 a k) * g (ix2 k f)) (∑ k, b (ix2 a k) * u (ix2 k f)) * d (ix2 f q) := by
  unfold k0_pay2
  refine (shapeCast_apply _ _ _ (ix2 a q) rfl).trans ?_
  refine (congr (congrArg (fun s t : EReal => s + t) (?_ : _ = (0 : EReal))) ?_).trans (zero_add _)
  · exact zeros_apply _
  refine (dot_apply _ 2816 rfl rfl _ _ _ (fun f => ix2 a f) (fun f => ix2 f q)
      (fun k => by funext a; fin_cases a <;> rfl) (fun k => by funext a; fin_cases a <;> rfl)).trans ?_
  refine Finset.sum_congr rfl fun f _ => congr (congrArg (fun s t : EReal => s * t) ?_) (congrFun (shapeCast_self d _) _)
  rw [← up_apply b g a f, ← up_apply b u a f]
  unfold unit
  refine congrArg (fun s : EReal => s * _) (congrArg (fun s : EReal => _ * s) ?_)
  show Ideal.div (Ideal.ofBits .f32 0x3F800000#32) (Ideal.ofBits .f32 0x3F800000#32 + Ideal.exp (Ideal.ofBits .f32 0x00000000#32 - _)) = _
  rw [Ideal.ofBits_one_f32, Ideal.ofBits_zero_f32, zero_sub]

theorem lift2 (r : Fin 256) (j : Fin 1024) : reduces_S256x1024_S256.lift (ix1 r) j = ix2 r j := by
  funext a; fin_cases a <;> rfl

/-- Every row's mean, as a column. -/
noncomputable def means (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

theorem means_apply (v : S256x1024.Idx → EReal) (a : Fin 256) : (means v : S256x1.Idx → EReal) (ix2 a 0) = mean fun k => v (ix2 a k) := by
  unfold means mean
  refine congrArg (fun s : EReal => Ideal.div s _) ?_
  refine (shapeCast_apply _ _ _ (ix1 a) (by rw [Shape.rowMajor_val_two, Shape.rowMajor_val_one]; simp [ix1, ix2])).trans ?_
  refine (Ideal.multiReduction_add_single (φ := .f32) _ 0x00000000#32 reduces_S256x1024_S256 (.inl rfl) rfl (ix1 a)).trans ?_
  exact Finset.sum_congr rfl fun j _ => congrArg v (lift2 a j)

/-- Every row less its mean. -/
noncomputable def centre (v : FVec Ideal S256x1024 .f32) : FVec Ideal S256x1024 .f32 :=
  subf v (broadcastTo S256x1024 (means v) broadcasts_S256x1_S256x1024)

theorem centre_apply (v : S256x1024.Idx → EReal) (a : Fin 256) (q : Fin 1024) :
    (centre v : S256x1024.Idx → EReal) (ix2 a q) = centred (fun k => v (ix2 a k)) q := by
  unfold centre centred
  refine congrArg (fun s : EReal => v (ix2 a q) - s) ?_
  exact (broadcastTo_apply _ _ _ (ix2 a 0) (by intro a; fin_cases a <;> rfl)).trans (means_apply v a)

theorem square_apply (v : S256x1024.Idx → EReal) (a : Fin 256) :
    (means (mulf (F := Ideal) (centre v) (centre v)) : S256x1.Idx → EReal) (ix2 a 0)
      = mean fun k => centred (fun k => v (ix2 a k)) k * centred (fun k => v (ix2 a k)) k :=
  (means_apply _ a).trans (congrArg mean (funext fun k =>
    congr (congrArg (fun s t : EReal => s * t) (centre_apply v a k)) (centre_apply v a k)))

/-- The layer norm of the rows the kernel sums. -/
theorem norm_apply (x o : S256x1024.Idx → EReal) (g b : S1x1024.Idx → EReal) (a : Fin 256) (q : Fin 1024) :
    (k0_pay3 (F := Ideal) x o g b : S256x1024.Idx → EReal) (ix2 a q)
      = layerNorm (fun k => Ideal.ofBits .f32 0x3FB504F3#32 * x (ix2 a k) + o (ix2 a k)) (g (ix2 0 q)) (b (ix2 0 q)) q := by
  let v : FVec Ideal S256x1024 .f32 := addf (mulf (broadcast S256x1024 (Scalar.ofBits .f32 0x3FB504F3#32)) x) o
  have e : k0_pay3 (F := Ideal) x o g b
      = addf (mulf (mulf (centre v) (broadcastTo S256x1024 (rsqrt (addf (means (mulf (centre v) (centre v))) (broadcast S256x1 (Scalar.ofBits .f32 0x358637BD#32)))) broadcasts_S256x1_S256x1024))
          (broadcastTo S256x1024 (shapeCast S1x1024 g shapeCasts_S1x1024_S1x1024) broadcasts_S1x1024_S256x1024))
        (broadcastTo S256x1024 (shapeCast S1x1024 b shapeCasts_S1x1024_S1x1024) broadcasts_S1x1024_S256x1024) := rfl
  refine (congrFun e _).trans ?_
  unfold layerNorm
  refine congr (congrArg (fun s t : EReal => s + t) (congr (congrArg (fun s t : EReal => s * t)
    (congr (congrArg (fun s t : EReal => s * t) (centre_apply v a q)) ?_)) ?_)) ?_
  · refine (broadcastTo_apply _ _ _ (ix2 a 0) (by intro a; fin_cases a <;> rfl)).trans ?_
    exact congrArg (fun s : EReal => Ideal.rsqrt (s + Ideal.ofBits .f32 0x358637BD#32)) (square_apply v a)
  · exact (broadcastTo_apply _ _ _ (ix2 0 q) (by intro a; fin_cases a <;> rfl)).trans (congrFun (shapeCast_self g _) _)
  · exact (broadcastTo_apply _ _ _ (ix2 0 q) (by intro a; fin_cases a <;> rfl)).trans (congrFun (shapeCast_self b _) _)

/-- What a grid point stores at an entry, of the blocks it reads. -/
theorem tile_apply (xb x : S256x1024.Idx → EReal) (wg wu : S1024x2816.Idx → EReal) (wd : S2816x1024.Idx → EReal) (g b : S1x1024.Idx → EReal)
    (a : Fin 256) (h : ∀ k, xb (ix2 a k) = x (ix2 a k)) (q : Fin 1024) :
    (k0_pay3 (F := Ideal) x (k0_pay2 (F := Ideal) xb wg wu (k0_pay1 (F := Ideal)) wd) g b : S256x1024.Idx → EReal) (ix2 a q)
      = layerNorm (summed (fun k f => wg (ix2 k f)) (fun k f => wu (ix2 k f)) (fun f q => wd (ix2 f q)) fun k => x (ix2 a k)) (g (ix2 0 q)) (b (ix2 0 q)) q := by
  refine (norm_apply x _ g b a q).trans (congrArg (fun v => layerNorm v _ _ q) (funext fun p => ?_))
  unfold summed
  refine congrArg (fun s : EReal => _ + s) ((back_apply xb wg wu wd a p).trans ?_)
  simp only [h]

/-! ## The blocks at a point -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 1 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel

/-- An index of two coordinates, known by the block it lies in and its place there. -/
theorem place {n0 n1 s0 s1 i0 i1 a q : ℕ} (j : (⟨2, ![n0, n1]⟩ : Shape).Idx) (h0 : (j 0).val = i0 * s0 + a) (h1 : (j 1).val = i1 * s1 + q)
    (r : Fin n0) (p : Fin n1) (hr : i0 * s0 + a = r.val) (hp : i1 * s1 + q = p.val) : j = ix2 r p := by
  funext b; fin_cases b
  · exact Fin.ext (h0.trans hr)
  · exact Fin.ext (h1.trans hp)

section Blocks

variable (m : (ℓ : Loc nD τ sig) → Buf (Elt Ideal) ℓ) (c : Dev nD)

theorem points : cfg0.N = 64 := N_0

/-- The arguments, as arrays of the extended reals. -/
noncomputable abbrev rows : S16384x1024.Idx → EReal := m ((c : Thread nD τ).loc main_arg0)
noncomputable abbrev ups : S1024x5632.Idx → EReal := m ((c : Thread nD τ).loc main_arg1)
noncomputable abbrev downs : S2816x1024.Idx → EReal := m ((c : Thread nD τ).loc main_arg2)
noncomputable abbrev gains : S1024.Idx → EReal := m ((c : Thread nD τ).loc main_arg3)
noncomputable abbrev shifts : S1024.Idx → EReal := m ((c : Thread nD τ).loc main_arg4)

theorem arr_rows : (V m c main_v0 : S16384x1024.Idx → EReal) = rows m c := by
  unfold V
  simp only [hostOps0]
  after_reads_simp
  rfl

theorem arr_ups : (V m c main_v1 : S1024x5632.Idx → EReal) = ups m c := by
  unfold V
  simp only [hostOps0]
  after_reads_simp
  rfl

theorem arr_downs : (V m c main_v2 : S2816x1024.Idx → EReal) = downs m c := by
  unfold V
  simp only [hostOps0]
  after_reads_simp
  rfl

theorem arr_gains : (V m c main_v3 : S1x1024.Idx → EReal) = shapeCast S1x1024 (gains m c) shapeCasts_S1024_S1x1024 := by
  unfold V
  simp only [hostOps0]
  after_reads_simp
  rfl

theorem arr_shifts : (V m c main_v4 : S1x1024.Idx → EReal) = shapeCast S1x1024 (shifts m c) shapeCasts_S1024_S1x1024 := by
  unfold V
  simp only [hostOps0]
  after_reads_simp
  rfl

theorem cast_row (v : S1024.Idx → EReal) (q : Fin 1024) : (shapeCast S1x1024 v shapeCasts_S1024_S1x1024 : S1x1024.Idx → EReal) (ix2 0 q) = v (ix1 q) :=
  shapeCast_apply _ _ _ (ix1 q) (by rw [Shape.rowMajor_val_two, Shape.rowMajor_val_one]; simp [ix1, ix2])

/-- Row `a` of the tile of point `t`. -/
abbrev rowAt (t : Fin cfg0.N) (a : Fin 256) : Fin 16384 := ⟨256 * t.val + a.val, by have := points; omega⟩

theorem block0 (t : Fin cfg0.N) (a : Fin 256) (k : Fin 1024) : (iblk m c 0 t : S256x1024.Idx → EReal) (ix2 a k) = rows m c (ix2 (rowAt t a) k) := by
  obtain ⟨h0, h1⟩ := index0 t
  exact (congrArg (V m c main_v0 : S16384x1024.Idx → EReal) (place _ (Window.rect_emb_val win0_0 t (ix2 a k) 0) (Window.rect_emb_val win0_0 t (ix2 a k) 1)
    (rowAt t a) k (by show win0_0.index t 0 * 256 + a.val = 256 * t.val + a.val; rw [h0]; omega)
    (by show win0_0.index t 1 * 1024 + k.val = k.val; rw [h1]; omega))).trans (congrFun (arr_rows m c) _)

theorem block1 (t : Fin cfg0.N) (a : Fin 256) (k : Fin 1024) : (iblk m c 1 t : S256x1024.Idx → EReal) (ix2 a k) = rows m c (ix2 (rowAt t a) k) := by
  obtain ⟨h0, h1⟩ := index1 t
  exact (congrArg (V m c main_arg0 : S16384x1024.Idx → EReal) (place _ (Window.rect_emb_val win0_1 t (ix2 a k) 0) (Window.rect_emb_val win0_1 t (ix2 a k) 1)
    (rowAt t a) k (by show win0_1.index t 0 * 256 + a.val = 256 * t.val + a.val; rw [h0]; omega)
    (by show win0_1.index t 1 * 1024 + k.val = k.val; rw [h1]; omega))).trans (congrFun (V_main_arg0 m c) _)

theorem block2 (t : Fin cfg0.N) (k : Fin 1024) (f : Fin 2816) :
    (iblk m c 2 t : S1024x2816.Idx → EReal) (ix2 k f) = ups m c (ix2 k ⟨f.val, by omega⟩) := by
  obtain ⟨h0, h1⟩ := index2 t
  exact (congrArg (V m c main_v1 : S1024x5632.Idx → EReal) (place _ (Window.rect_emb_val win0_2 t (ix2 k f) 0) (Window.rect_emb_val win0_2 t (ix2 k f) 1)
    k ⟨f.val, by omega⟩ (by show win0_2.index t 0 * 1024 + k.val = k.val; rw [h0]; omega)
    (by show win0_2.index t 1 * 2816 + f.val = f.val; rw [h1]; omega))).trans (congrFun (arr_ups m c) _)

theorem block3 (t : Fin cfg0.N) (k : Fin 1024) (f : Fin 2816) :
    (iblk m c 3 t : S1024x2816.Idx → EReal) (ix2 k f) = ups m c (ix2 k ⟨2816 + f.val, by omega⟩) := by
  obtain ⟨h0, h1⟩ := index3 t
  exact (congrArg (V m c main_v1 : S1024x5632.Idx → EReal) (place _ (Window.rect_emb_val win0_3 t (ix2 k f) 0) (Window.rect_emb_val win0_3 t (ix2 k f) 1)
    k ⟨2816 + f.val, by omega⟩ (by show win0_3.index t 0 * 1024 + k.val = k.val; rw [h0]; omega)
    (by show win0_3.index t 1 * 2816 + f.val = 2816 + f.val; rw [h1, one_mul]))).trans (congrFun (arr_ups m c) _)

theorem block4 (t : Fin cfg0.N) (f : Fin 2816) (q : Fin 1024) : (iblk m c 4 t : S2816x1024.Idx → EReal) (ix2 f q) = downs m c (ix2 f q) := by
  obtain ⟨h0, h1⟩ := index4 t
  exact (congrArg (V m c main_v2 : S2816x1024.Idx → EReal) (place _ (Window.rect_emb_val win0_4 t (ix2 f q) 0) (Window.rect_emb_val win0_4 t (ix2 f q) 1)
    f q (by show win0_4.index t 0 * 2816 + f.val = f.val; rw [h0]; omega)
    (by show win0_4.index t 1 * 1024 + q.val = q.val; rw [h1]; omega))).trans (congrFun (arr_downs m c) _)

theorem block5 (t : Fin cfg0.N) (q : Fin 1024) : (iblk m c 5 t : S1x1024.Idx → EReal) (ix2 0 q) = gains m c (ix1 q) := by
  obtain ⟨h0, h1⟩ := index5 t
  exact ((congrArg (V m c main_v3 : S1x1024.Idx → EReal) (place _ (Window.rect_emb_val win0_5 t (ix2 0 q) 0) (Window.rect_emb_val win0_5 t (ix2 0 q) 1)
    0 q (by show win0_5.index t 0 * 1 + 0 = 0; rw [h0])
    (by show win0_5.index t 1 * 1024 + q.val = q.val; rw [h1]; omega))).trans (congrFun (arr_gains m c) _)).trans (cast_row _ q)

theorem block6 (t : Fin cfg0.N) (q : Fin 1024) : (iblk m c 6 t : S1x1024.Idx → EReal) (ix2 0 q) = shifts m c (ix1 q) := by
  obtain ⟨h0, h1⟩ := index6 t
  exact ((congrArg (V m c main_v4 : S1x1024.Idx → EReal) (place _ (Window.rect_emb_val win0_6 t (ix2 0 q) 0) (Window.rect_emb_val win0_6 t (ix2 0 q) 1)
    0 q (by show win0_6.index t 0 * 1 + 0 = 0; rw [h0])
    (by show win0_6.index t 1 * 1024 + q.val = q.val; rw [h1]; omega))).trans (congrFun (arr_shifts m c) _)).trans (cast_row _ q)

end Blocks

/-- The dense layer at one entry, of its arguments. -/
def layer (x : S16384x1024.Idx → EReal) (u : S1024x5632.Idx → EReal) (d : S2816x1024.Idx → EReal) (g b : S1024.Idx → EReal)
    (r : Fin 16384) (q : Fin 1024) : EReal :=
  layerNorm (summed (fun k f => u (ix2 k ⟨f.val, by omega⟩)) (fun k f => u (ix2 k ⟨2816 + f.val, by omega⟩)) (fun f q => d (ix2 f q)) fun k => x (ix2 r k))
    (g (ix1 q)) (b (ix1 q)) q

section Final

variable (m : (ℓ : Loc nD τ sig) → Buf (Elt Ideal) ℓ) (c : Dev nD)

theorem stored_apply (t : Fin cfg0.N) (a : Fin 256) (q : Fin 1024) :
    (k0_pay3 (F := Ideal) (iblk m c 1 t) (k0_pay2 (F := Ideal) (iblk m c 0 t) (iblk m c 2 t) (iblk m c 3 t) (k0_pay1 (F := Ideal)) (iblk m c 4 t))
        (iblk m c 5 t) (iblk m c 6 t) : S256x1024.Idx → EReal) (ix2 a q)
      = layer (rows m c) (ups m c) (downs m c) (gains m c) (shifts m c) (rowAt t a) q := by
  refine (tile_apply (iblk m c 0 t) (iblk m c 1 t) (iblk m c 2 t) (iblk m c 3 t) (iblk m c 4 t) (iblk m c 5 t) (iblk m c 6 t) a
    (fun k => (block0 m c t a k).trans (block1 m c t a k).symm) q).trans ?_
  unfold layer
  refine congr (congr (congr (congrArg layerNorm (congr (congr (congr (congrArg summed ?_) ?_) ?_) ?_)) (block5 m c t q)) (block6 m c t q)) rfl
  · exact funext fun k => funext fun f => block2 m c t k f
  · exact funext fun k => funext fun f => block3 m c t k f
  · exact funext fun f => funext fun q => block4 m c t f q
  · exact funext fun k => block1 m c t a k

/-- The point whose tile holds row `r`. -/
abbrev pointOf (r : Fin 16384) : Fin cfg0.N := ⟨r.val / 256, by have := points; omega⟩

/-- The first result array is the dense layer, -/
theorem final_first (r : Fin 16384) (q : Fin 1024) :
    ((dats m 0 c).arrAt 7 cfg0.N : S16384x1024.Idx → EReal) (ix2 r q) = layer (rows m c) (ups m c) (downs m c) (gains m c) (shifts m c) r q := by
  obtain ⟨h0, h1⟩ := index7 (pointOf r)
  have e : ((cfg0.win 7).blk (pointOf r)).view.emb (ix2 ⟨r.val % 256, by omega⟩ q) = ix2 r q :=
    place _ (Window.rect_emb_val win0_7 (pointOf r) (ix2 ⟨r.val % 256, by omega⟩ q) 0) (Window.rect_emb_val win0_7 (pointOf r) (ix2 ⟨r.val % 256, by omega⟩ q) 1)
      r q (by show win0_7.index (pointOf r) 0 * 256 + r.val % 256 = r.val; rw [h0]; show r.val / 256 * 256 + r.val % 256 = r.val; omega)
      (by show win0_7.index (pointOf r) 1 * 1024 + q.val = q.val; rw [h1]; omega)
  refine (congrArg ((dats m 0 c).arrAt 7 cfg0.N : S16384x1024.Idx → EReal) e.symm).trans ?_
  refine ((dats m 0 c).arrAt_emb_eq_flushed 7 Value.disjoint7 (pointOf r) (flush0_7 _) (ix2 ⟨r.val % 256, by omega⟩ q)).trans ?_
  refine (congrFun (Value.flushed7_A m c (pointOf r)) _).trans ?_
  rw [out7]
  refine (stored_apply m c (pointOf r) ⟨r.val % 256, by omega⟩ q).trans (congrArg (fun r => layer _ _ _ _ _ r q) (Fin.ext ?_))
  show 256 * (r.val / 256) + r.val % 256 = r.val
  omega

/-- and so is the second. -/
theorem final_second (r : Fin 16384) (q : Fin 1024) :
    ((dats m 0 c).arrAt 8 cfg0.N : S16384x1024.Idx → EReal) (ix2 r q) = layer (rows m c) (ups m c) (downs m c) (gains m c) (shifts m c) r q := by
  obtain ⟨h0, h1⟩ := index8 (pointOf r)
  have e : ((cfg0.win 8).blk (pointOf r)).view.emb (ix2 ⟨r.val % 256, by omega⟩ q) = ix2 r q :=
    place _ (Window.rect_emb_val win0_8 (pointOf r) (ix2 ⟨r.val % 256, by omega⟩ q) 0) (Window.rect_emb_val win0_8 (pointOf r) (ix2 ⟨r.val % 256, by omega⟩ q) 1)
      r q (by show win0_8.index (pointOf r) 0 * 256 + r.val % 256 = r.val; rw [h0]; show r.val / 256 * 256 + r.val % 256 = r.val; omega)
      (by show win0_8.index (pointOf r) 1 * 1024 + q.val = q.val; rw [h1]; omega)
  refine (congrArg ((dats m 0 c).arrAt 8 cfg0.N : S16384x1024.Idx → EReal) e.symm).trans ?_
  refine ((dats m 0 c).arrAt_emb_eq_flushed 8 Value.disjoint8 (pointOf r) (flush0_8 _) (ix2 ⟨r.val % 256, by omega⟩ q)).trans ?_
  refine (congrFun (Value.flushed8_A m c (pointOf r)) _).trans ?_
  rw [out8]
  refine (stored_apply m c (pointOf r) ⟨r.val % 256, by omega⟩ q).trans (congrArg (fun r => layer _ _ _ _ _ r q) (Fin.ext ?_))
  show 256 * (r.val / 256) + r.val % 256 = r.val
  omega

end Final

end Cert.Proof.Dense

end
-- ==== Proof.DenseRef.lean ====
/- The plain dense layer of the reference, read at an entry over the extended reals. -/
module

public import proofs.«01_k».proof.Reference3Ideal
public import proofs.«01_k».proof.Proof.Gen.Reference3Ideal.Run
public import proofs.«01_k».proof.Proof.DenseMath
public import proofs.«01_k».proof.Proof.RefTrip
public import Idealize.ShloMosaic.Lib.IdealHost
public import Idealize.ShloMosaic.Lib.Pointwise.Reduce

@[expose] public section

set_option maxRecDepth 8000

noncomputable section

namespace Cert.Proof.DenseRef

open Idealize.ShloMosaic hiding ix1 ix2 ix3
open Idealize.ShloMosaic.TcCoe Idealize.SL.Sem
open Idealize.ShloMosaic.ValueIdx (ix1 ix2 ix3)
open Cert.Reference3Ideal Cert.Reference3Ideal.Gen
open Cert.Proof.RefTrip (dot_apply)
open Cert.Proof.DenseMath

variable (x : FVec Ideal S16384x1024 .f32) (u : FVec Ideal S1024x5632 .f32) (d : FVec Ideal S2816x1024 .f32) (g b : FVec Ideal S1024 .f32)

/-! ## The reference's arrays -/

/-- The rows times the gate and up columns. -/
def products : FVec Ideal S16384x5632 .f32 :=
  Host.dotGeneral (F := Ideal) (φ₁ := .f32) (φ₂ := .f32) dot_S16384x1024_S1024x5632_S16384x5632_1_0_0_1_n_n none x u

def gateCols : FVec Ideal S16384x2816 .f32 := extractStridedSlice S16384x2816 ![0, 0] (products x u) slices_S16384x5632_S16384x2816_0_0
def upCols : FVec Ideal S16384x2816 .f32 := extractStridedSlice S16384x2816 ![0, 2816] (products x u) slices_S16384x5632_S16384x2816_0_2816

def ones : FVec Ideal S16384x2816 .f32 := broadcastInDim S16384x2816 ![] bcast_S_S16384x2816 (constant S_ .f32 0x3F800000#32)

/-- The hidden units. -/
def hiddens : FVec Ideal S16384x2816 .f32 :=
  mulf (mulf (gateCols x u) (Host.divf ones (addf ones (Host.exp (Host.negf (gateCols x u)))))) (upCols x u)

/-- The scaled rows and the block's output, summed. -/
def sums : FVec Ideal S16384x1024 .f32 :=
  addf (mulf (broadcastInDim S16384x1024 ![] bcast_S_S16384x1024 (constant S_ .f32 0x3FB504F3#32)) x)
    (Host.dotGeneral (F := Ideal) (φ₁ := .f32) (φ₂ := .f32) dot_S16384x2816_S2816x1024_S16384x1024_1_0_0_1_n_n none (hiddens x u) d)

/-- The mean of every row. -/
def means (h : FVec Ideal S16384x1024 .f32) : FVec Ideal S16384x1 .f32 :=
  Host.divf (broadcastInDim S16384x1 ![0] bcast_S16384_S16384x1_0 (Host.reduceAdd h (constant S_ .f32 0x00000000#32) reducesTo_S16384x1024_S16384_d1 h_S_))
    (broadcastInDim S16384x1 ![] bcast_S_S16384x1 (constant S_ .f32 0x44800000#32))

/-- The rows less their means. -/
def offsets (h : FVec Ideal S16384x1024 .f32) : FVec Ideal S16384x1024 .f32 :=
  subf h (broadcastInDim S16384x1024 ![0, 1] bcast_S16384x1_S16384x1024_0_1 (means h))

/-- The root of every row's variance, inverted. -/
def scales (h : FVec Ideal S16384x1024 .f32) : FVec Ideal S16384x1 .f32 :=
  Host.rsqrt (addf (means (mulf (offsets h) (offsets h))) (broadcastInDim S16384x1 ![] bcast_S_S16384x1 (constant S_ .f32 0x358637BD#32)))

/-- A vector along every row. -/
def along (v : FVec Ideal S1024 .f32) : FVec Ideal S16384x1024 .f32 :=
  broadcastInDim S16384x1024 ![0, 1] bcast_S1x1024_S16384x1024_0_1 (broadcastInDim S1x1024 ![1] bcast_S1024_S1x1024_1 v)

/-- The rows normalized, scaled and shifted. -/
def normed (h : FVec Ideal S16384x1024 .f32) : FVec Ideal S16384x1024 .f32 :=
  addf (mulf (mulf (offsets h) (broadcastInDim S16384x1024 ![0, 1] bcast_S16384x1_S16384x1024_0_1 (scales h))) (along g)) (along b)

/-- The reference's result. -/
def result : FVec Ideal S16384x1024 .f32 := normed g b (sums x u d)

/-! ## Read at an index -/

theorem products_apply (r : Fin 16384) (f : Fin 5632) : products x u (ix2 r f) = ∑ k : Fin 1024, x (ix2 r k) * u (ix2 k f) := by
  unfold products
  exact dot_apply _ 1024 rfl rfl _ _ _ (fun t => ix2 r t) (fun t => ix2 t f)
    (fun t => by funext a; fin_cases a <;> rfl) (fun t => by funext a; fin_cases a <;> rfl)

theorem hiddens_apply (r : Fin 16384) (f : Fin 2816) :
    hiddens x u (ix2 r f) = MoeMath.unit (∑ k : Fin 1024, x (ix2 r k) * u (ix2 k ⟨f.val, by omega⟩))
      (∑ k : Fin 1024, x (ix2 r k) * u (ix2 k ⟨2816 + f.val, by omega⟩)) := by
  have hg : gateCols x u (ix2 r f) = ∑ k : Fin 1024, x (ix2 r k) * u (ix2 k ⟨f.val, by omega⟩) := by
    unfold gateCols
    exact (extractStridedSlice_apply _ _ _ _ (ix2 r ⟨f.val, by omega⟩) (fun b => by fin_cases b <;> simp [ix2])).trans (products_apply x u r _)
  have hu : upCols x u (ix2 r f) = ∑ k : Fin 1024, x (ix2 r k) * u (ix2 k ⟨2816 + f.val, by omega⟩) := by
    unfold upCols
    exact (extractStridedSlice_apply _ _ _ _ (ix2 r ⟨2816 + f.val, by omega⟩) (fun b => by fin_cases b <;> simp [ix2])).trans (products_apply x u r _)
  have ho : ones (ix2 r f) = 1 := Ideal.ofBits_one_f32
  have h : hiddens x u (ix2 r f)
      = gateCols x u (ix2 r f) * Ideal.div (ones (ix2 r f)) (ones (ix2 r f) + Ideal.exp (-(gateCols x u (ix2 r f)))) * upCols x u (ix2 r f) := rfl
  rw [h, ho, hg, hu]
  rfl

theorem sums_apply (r : Fin 16384) (q : Fin 1024) :
    sums x u d (ix2 r q) = summed (fun k f => u (ix2 k ⟨f.val, by omega⟩)) (fun k f => u (ix2 k ⟨2816 + f.val, by omega⟩)) (fun f q => d (ix2 f q))
      (fun k => x (ix2 r k)) q := by
  unfold sums summed
  refine congrArg (fun s : EReal => Ideal.ofBits .f32 0x3FB504F3#32 * x (ix2 r q) + s) ?_
  refine (dot_apply _ 2816 rfl rfl _ _ _ (fun f => ix2 r f) (fun f => ix2 f q)
    (fun t => by funext a; fin_cases a <;> rfl) (fun t => by funext a; fin_cases a <;> rfl)).trans ?_
  exact Finset.sum_congr rfl fun f _ => congrArg (fun s : EReal => s * _) (hiddens_apply x u r f)

theorem means_apply (h : FVec Ideal S16384x1024 .f32) (r : Fin 16384) : means h (ix2 r 0) = mean fun k => h (ix2 r k) := by
  unfold means mean
  refine congrArg (fun s : EReal => Ideal.div s (Ideal.ofBits .f32 0x44800000#32)) ?_
  refine (broadcastInDim_apply _ _ _ _ (ix1 r) (fun b => by fin_cases b; rfl)).trans ?_
  rw [ValueIdx.hostReduceAdd_apply, Ideal.hostReduceAdd_r2_a1]
  have z : (constant (F := Ideal) S_ .f32 0x00000000#32 (Shape.Idx.first h_S_) : EReal) = 0 := Ideal.ofBits_zero_f32
  rw [z, zero_add]
  rfl

theorem offsets_apply (h : FVec Ideal S16384x1024 .f32) (r : Fin 16384) (q : Fin 1024) : offsets h (ix2 r q) = centred (fun k => h (ix2 r k)) q := by
  unfold offsets centred
  exact congrArg (fun s : EReal => h (ix2 r q) - s)
    ((broadcastInDim_apply _ _ _ _ (ix2 r 0) (fun b => by fin_cases b <;> rfl)).trans (means_apply h r))

theorem scales_apply (h : FVec Ideal S16384x1024 .f32) (r : Fin 16384) :
    scales h (ix2 r 0) = Ideal.rsqrt (mean (fun k => centred (fun k => h (ix2 r k)) k * centred (fun k => h (ix2 r k)) k) + Ideal.ofBits .f32 0x358637BD#32) := by
  unfold scales
  refine congrArg (fun s : EReal => Ideal.rsqrt (s + Ideal.ofBits .f32 0x358637BD#32)) ((means_apply _ r).trans (congrArg mean (funext fun k => ?_)))
  exact congr (congrArg (fun s t : EReal => s * t) (offsets_apply h r k)) (offsets_apply h r k)

theorem along_apply (v : FVec Ideal S1024 .f32) (r : Fin 16384) (q : Fin 1024) : along v (ix2 r q) = v (ix1 q) := by
  unfold along
  refine (broadcastInDim_apply _ _ _ _ (ix2 0 q) (fun b => by fin_cases b <;> rfl)).trans ?_
  exact broadcastInDim_apply _ _ _ _ (ix1 q) (fun b => by fin_cases b; rfl)

theorem normed_apply (h : FVec Ideal S16384x1024 .f32) (r : Fin 16384) (q : Fin 1024) :
    normed g b h (ix2 r q) = layerNorm (fun k => h (ix2 r k)) (g (ix1 q)) (b (ix1 q)) q := by
  unfold layerNorm
  have s : (broadcastInDim S16384x1024 ![0, 1] bcast_S16384x1_S16384x1024_0_1 (scales h) : S16384x1024.Idx → EReal) (ix2 r q)
      = Ideal.rsqrt (mean (fun k => centred (fun k => h (ix2 r k)) k * centred (fun k => h (ix2 r k)) k) + Ideal.ofBits .f32 0x358637BD#32) :=
    (broadcastInDim_apply _ _ _ _ (ix2 r 0) (fun b => by fin_cases b <;> rfl)).trans (scales_apply h r)
  exact congr (congrArg (fun s t : EReal => s + t) (congr (congrArg (fun s t : EReal => s * t)
    (congr (congrArg (fun s t : EReal => s * t) (offsets_apply h r q)) s)) (along_apply g r q))) (along_apply b r q)

/-- The reference at an entry. -/
theorem result_apply (r : Fin 16384) (q : Fin 1024) :
    result x u d g b (ix2 r q)
      = layerNorm (summed (fun k f => u (ix2 k ⟨f.val, by omega⟩)) (fun k f => u (ix2 k ⟨2816 + f.val, by omega⟩)) (fun f q => d (ix2 f q)) fun k => x (ix2 r k))
          (g (ix1 q)) (b (ix1 q)) q := by
  unfold result
  exact (normed_apply g b _ r q).trans (congrArg (fun h => layerNorm h (g (ix1 q)) (b (ix1 q)) q) (funext fun k => sums_apply x u d r k))

/-! ## The two results -/

section Results

variable (m : (ℓ : Loc nD τ sig) → Buf (Elt Ideal) ℓ) (c : Dev nD)

theorem first_eq : Value.res_main_v30 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v30
  rfl

theorem second_eq : (Value.res_main_v31 (F := Ideal) m c : S16384x1024.Idx → EReal)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v31
  rfl

end Results

end Cert.Proof.DenseRef

end
-- ==== Proof.DenseEq.lean ====
/- The dense layer's kernel and its plain reference compute one pair of arrays over the extended reals; and the frames
   of both. -/
module

public import proofs.«01_k».proof.Defs
public import proofs.«01_k».proof.Proof.Gen.Kernel3
public import proofs.«01_k».proof.Proof.DenseKer
public import proofs.«01_k».proof.Proof.DenseRef

@[expose] public section

set_option maxRecDepth 4000

noncomputable section

namespace Cert.Proof.DenseEq

open Idealize.ShloMosaic hiding ix1 ix2 ix3
open Idealize.ShloMosaic.TcCoe Idealize.SL.Sem
open Idealize.ShloMosaic.ValueIdx (ix1 ix2 ix3)
open Cert.Kernel3Ideal Cert.Kernel3Ideal.Gen

variable (m : (ℓ : Loc nD τ sig) → Buf (Elt Ideal) ℓ) (c : Dev nD)

/-- The reference's array, of the kernel's arguments. -/
abbrev result : S16384x1024.Idx → EReal :=
  DenseRef.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The kernel's first array is the reference's, -/
theorem first_eq : result m c = (dats m 0 c).arrAt 7 cfg0.N := by
  funext j
  obtain ⟨r, q, rfl⟩ : ∃ (r : Fin 16384) (q : Fin 1024), j = ix2 r q := ⟨j 0, j 1, by funext a; fin_cases a <;> rfl⟩
  exact (DenseRef.result_apply _ _ _ _ _ r q).trans (Dense.final_first m c r q).symm

/-- and the second too. -/
theorem second_eq : result m c = (dats m 0 c).arrAt 8 cfg0.N := by
  funext j
  obtain ⟨r, q, rfl⟩ : ∃ (r : Fin 16384) (q : Fin 1024), j = ix2 r q := ⟨j 0, j 1, by funext a; fin_cases a <;> rfl⟩
  exact (DenseRef.result_apply _ _ _ _ _ r q).trans (Dense.final_second m c r q).symm

/-- As run and over the extended reals the kernel has one text: the same bodies, -/
theorem bodies_eq : Cert.Kernel3.defs₀ (F := Bits) = Cert.Kernel3Ideal.defs₀ (F := Bits) := by
  refine congrArg (Defs.onTc (nD := 1) (τ := Cert.Kernel3.τ) (sig := Cert.Kernel3.sig) (Val := Elt Bits) (Λ := Cert.Kernel3.Λ₀)) ?_
  funext l a
  obtain rfl : l = 0 := Subsingleton.elim (α := Fin 1) _ _
  with_unfolding_all rfl

/-- the same launch, -/
theorem defs_eq : Cert.Kernel3.defs (F := Bits) = Cert.Kernel3Ideal.defs (F := Bits) :=
  (congrArg (Pipeline.defs (Cert.Kernel3.pcfgs (F := Bits))) bodies_eq).trans (by with_unfolding_all rfl)

/-- the same program. -/
theorem main_eq : Cert.Kernel3.main (F := Bits) = Cert.Kernel3Ideal.main (F := Bits) := by with_unfolding_all rfl

/-- The kernel's frame as it was run. -/
theorem frame_kernel : Cert.quiescent_Kernel3 := fun m ρ _ => by
  rw [defs_eq, main_eq]
  exact Cert.Kernel3Ideal.Gen.frame (F := Bits) m ρ

/-- The kernel's frame over the extended reals. -/
theorem frame_ideal : Cert.quiescent_Kernel3Ideal := fun m ρ _ => Cert.Kernel3Ideal.Gen.frame m ρ

/-- The reference's frame: it declares no semaphore, so every counter ends at zero. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The dense layer's kernel and the plain layer compute one pair of arrays over the extended reals. -/
theorem algebraic : Cert.algebraic_Kernel3Ideal_Reference3Ideal := by
  intro m g m' g' _ harg
  refine ⟨fun c => (dats m 0 c).arrAt 7 cfg0.N, fun c => (dats m 0 c).arrAt 8 cfg0.N, Cert.Kernel3Ideal.Value.run_blocks m g,
    (θ_run _ _ _).mono (fun _ h c => ⟨(h c).1.trans ((DenseRef.first_eq m' c).trans ?_), (h c).2.1.trans ((DenseRef.second_eq m' c).trans ?_), (h c).2.2⟩)
      (Cert.Reference3Ideal.Value.run (F := Ideal) m' g')⟩
  · obtain ⟨a0, a1, a2, a3, a4⟩ := harg c
    rw [a0, a1, a2, a3, a4]
    exact first_eq m c
  · obtain ⟨a0, a1, a2, a3, a4⟩ := harg c
    rw [a0, a1, a2, a3, a4]
    exact second_eq m c

end Cert.Proof.DenseEq

end
-- ==== Proof.ProjKer.lean ====
/- What the projection's call leaves in its result array, over the extended reals. -/
module

public import proofs.«01_k».proof.Kernel4Ideal
public import proofs.«01_k».proof.Proof.Gen.Kernel4Ideal.Value
public import proofs.«01_k».proof.Proof.KerHead
public import Idealize.ShloMosaic.Lib.IdealHost
public import Idealize.ShloMosaic.Lib.Tactic
public import Idealize.ShloMosaic.Lib.StableHlo.RunRead
public import Idealize.ShloMosaic.Lib.Pipeline.ValueKit.Geometry

@[expose] public section

set_option maxRecDepth 8000

noncomputable section

namespace Cert.Proof.Proj

open Idealize.ShloMosaic Idealize.ShloMosaic.TcCoe Idealize.SL.Sem Idealize.ShloMosaic.ValueIdx
open Idealize.ShloMosaic.StableHlo
open Cert.Kernel4Ideal Cert.Kernel4Ideal.Gen
open Idealize.ShloMosaic.Pipeline (Dat Window)
open Cert.Proof.KerHead (dot_apply)

theorem origin : (![0, 0] : Fin 2 → Nat) = fun _ => 0 := funext fun a => by fin_cases a <;> rfl

/-! ## What a grid point stores, of the blocks it reads -/

section Body

variable (c : Dev nD) (i : grid0.Coords) (a2 : Memref sig .tc .vmem S1024x1024 .f32) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole)
  (x0 : Vec Ideal S1024x1024 .f32) (x1 xs : Vec Ideal S1024x1024 .bf16)

/-- At the first column block the rows are kept in the scratch, -/
theorem scratch_first (hc : cond0_0 i) : sout0_A_0 c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S1024x1024) origin]
  simp only [View.readAt_eq_ld, h2.read_unread, View.ld_unit_zero (S := S1024x1024) origin]

/-- and multiplied from there; -/
theorem out_first (hc : cond0_0 i) : out0_A_2 c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x1024) origin]
  simp only [View.readCov_unit_zero (S := S1024x1024) _ origin, View.readAt_eq_ld, h2.read_unread, h3.read_unread,
    View.ld_unit_zero (S := S1024x1024) origin]

/-- at the others what the scratch holds is multiplied. -/
theorem out_later (hc : ¬cond0_0 i) : out0_B_2 c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x1024) origin]
  simp only [View.readAt_eq_ld, h3.read_unread, h5.read_unread, View.ld_unit_zero (S := S1024x1024) origin]

end Body

/-- The rows as they are kept are the rows. -/
theorem kept_apply (x : S1024x1024.Idx → EReal) (j : S1024x1024.Idx) : (k0_pay1 (F := Ideal) x : S1024x1024.Idx → EReal) j = x j := by
  unfold k0_pay1
  exact congrFun (shapeCast_self _ _) j

/-- The product of two blocks at an entry. -/
theorem product_apply (x w : S1024x1024.Idx → EReal) (a q : Fin 1024) :
    (k0_pay2 (F := Ideal) x w : S1024x1024.Idx → EReal) (ix2 a q) = ∑ k, x (ix2 a k) * w (ix2 k q) := by
  unfold k0_pay2
  refine (dot_apply _ 1024 rfl rfl _ _ _ (fun k => ix2 a k) (fun k => ix2 k q)
      (fun k => by funext a; fin_cases a <;> rfl) (fun k => by funext a; fin_cases a <;> rfl)).trans ?_
  exact Finset.sum_congr rfl fun k _ => congrArg (fun s : EReal => _ * s) (congrFun (shapeCast_self w _) _)

/-! ## The blocks at a point -/

theorem index0 : ∀ t : Fin cfg0.N, win0_0.index t 0 = t.val / 4 ∧ win0_0.index t 1 = 0 := by decide +kernel
theorem index1 : ∀ t : Fin cfg0.N, win0_1.index t 0 = 0 ∧ win0_1.index t 1 = t.val % 4 := by decide +kernel
theorem index2 : ∀ t : Fin cfg0.N, win0_2.index t 0 = t.val / 4 ∧ win0_2.index t 1 = t.val % 4 := by decide +kernel

/-- An index of two coordinates, known by their values. -/
theorem eq_ix2 {n0 n1 : ℕ} (j : (⟨2, ![n0, n1]⟩ : Shape).Idx) (r : Fin n0) (q : Fin n1) (h0 : (j 0).val = r.val) (h1 : (j 1).val = q.val) :
    j = ix2 r q := by
  funext a; fin_cases a
  · exact Fin.ext h0
  · exact Fin.ext h1

section Blocks

variable (m : (ℓ : Loc nD τ sig) → Buf (Elt Ideal) ℓ) (c : Dev nD)

theorem points : cfg0.N = 64 := N_0

/-- Row `a` of the row block of point `n`. -/
abbrev rowAt (n : ℕ) (h : n < cfg0.N) (a : Fin 1024) : Fin 16384 := ⟨1024 * (n / 4) + a.val, by have := points; omega⟩

/-- Column `q` of the column block of point `n`, of an array of `w` columns. -/
abbrev colAt (w : ℕ) (hw : 4096 ≤ w) (n : ℕ) (q : Fin 1024) : Fin w := ⟨1024 * (n % 4) + q.val, by omega⟩

theorem weights_apply (k : Fin 1024) (q : Fin 4096) :
    (V m c main_v1 : S1024x4096.Idx → EReal) (ix2 k q) = m ((c : Thread nD τ).loc main_arg1) (ix2 k ⟨q.val, by omega⟩) := by
  have e : (V m c main_v1 : S1024x4096.Idx → EReal)
      = extractStridedSlice S1024x4096 ![0, 0] (m ((c : Thread nD τ).loc main_arg1)) slices_S1024x4112_S1024x4096_0_0 := by
    unfold V
    simp only [hostOps0]
    after_reads_simp
    rfl
  rw [e]
  exact extractStridedSlice_apply _ _ _ _ (ix2 k ⟨q.val, by omega⟩) (fun b => by fin_cases b <;> simp [ix2])

theorem block0 (t : Fin cfg0.N) (a k : Fin 1024) :
    (iblk m c 0 t : S1024x1024.Idx → EReal) (ix2 a k) = m ((c : Thread nD τ).loc main_arg0) (ix2 (rowAt t.val t.isLt a) k) := by
  obtain ⟨h0, h1⟩ := index0 t
  refine (congrFun (V_main_arg0 m c) _).trans (congrArg (m ((c : Thread nD τ).loc main_arg0)) (eq_ix2 _ _ _ ?_ ?_))
  · refine (Window.rect_emb_val win0_0 t (ix2 a k) 0).trans ?_
    show win0_0.index t 0 * 1024 + a.val = 1024 * (t.val / 4) + a.val
    rw [h0]; omega
  · refine (Window.rect_emb_val win0_0 t (ix2 a k) 1).trans ?_
    show win0_0.index t 1 * 1024 + k.val = k.val
    rw [h1]; omega

theorem block1 (t : Fin cfg0.N) (k q : Fin 1024) :
    (iblk m c 1 t : S1024x1024.Idx → EReal) (ix2 k q) = m ((c : Thread nD τ).loc main_arg1) (ix2 k (colAt 4112 (by omega) t.val q)) := by
  obtain ⟨h0, h1⟩ := index1 t
  refine (congrArg (V m c main_v1 : S1024x4096.Idx → EReal) (eq_ix2 _ k (colAt 4096 (by omega) t.val q) ?_ ?_)).trans (weights_apply m c k _)
  · refine (Window.rect_emb_val win0_1 t (ix2 k q) 0).trans ?_
    show win0_1.index t 0 * 1024 + k.val = k.val
    rw [h0]; omega
  · refine (Window.rect_emb_val win0_1 t (ix2 k q) 1).trans ?_
    show win0_1.index t 1 * 1024 + q.val = 1024 * (t.val % 4) + q.val
    rw [h1]; omega

/-- The rows and the weights, as arrays of the extended reals. -/
noncomputable abbrev rows : S16384x1024.Idx → EReal := m ((c : Thread nD τ).loc main_arg0)
noncomputable abbrev weights : S1024x4112.Idx → EReal := m ((c : Thread nD τ).loc main_arg1)

theorem after_first (t : Fin cfg0.N) (h0 : t.val % 4 = 0) :
    outsAt0 m c t.val t.isLt = (k0_pay2 (k0_pay1 (iblk m c 0 t)) (iblk m c 1 t), k0_pay1 (iblk m c 0 t)) := by
  rw [outsAt0_A m c t h0, scratch_first, out_first]

theorem after_later (t : Fin cfg0.N) (h0 : ¬t.val % 4 = 0) :
    outsAt0 m c t.val t.isLt = (k0_pay2 (outsAt0 m c (t.val - 1) (Nat.lt_of_le_of_lt (Nat.sub_le _ _) t.isLt)).2 (iblk m c 1 t),
      (outsAt0 m c (t.val - 1) (Nat.lt_of_le_of_lt (Nat.sub_le _ _) t.isLt)).2) := by
  rw [outsAt0_B m c t h0, out_later]
  rfl

/-- The scratch after any point holds the point's rows. -/
theorem scratch_apply (n : ℕ) (h : n < cfg0.N) (a k : Fin 1024) :
    ((outsAt0 m c n h).2 : S1024x1024.Idx → EReal) (ix2 a k) = rows m c (ix2 (rowAt n h a) k) := by
  induction n with
  | zero =>
    rw [after_first m c ⟨0, h⟩ rfl]
    exact (kept_apply _ _).trans (block0 m c ⟨0, h⟩ a k)
  | succ n ih =>
    by_cases h0 : (n + 1) % 4 = 0
    · rw [after_first m c ⟨n + 1, h⟩ h0]
      exact (kept_apply _ _).trans (block0 m c ⟨n + 1, h⟩ a k)
    · rw [after_later m c ⟨n + 1, h⟩ h0]
      refine (ih (Nat.lt_of_succ_lt h)).trans (congrArg (rows m c) (congrArg (fun r => ix2 r k) (Fin.ext ?_)))
      show 1024 * (n / 4) + a.val = 1024 * ((n + 1) / 4) + a.val
      omega

/-- The output block of any point is the product of the point's rows and columns. -/
theorem out_apply (t : Fin cfg0.N) (a q : Fin 1024) :
    ((outsAt0 m c t.val t.isLt).1 : S1024x1024.Idx → EReal) (ix2 a q)
      = ∑ k : Fin 1024, rows m c (ix2 (rowAt t.val t.isLt a) k) * weights m c (ix2 k (colAt 4112 (by omega) t.val q)) := by
  by_cases h0 : t.val % 4 = 0
  · rw [after_first m c t h0]
    refine (product_apply _ _ a q).trans ?_
    exact Finset.sum_congr rfl fun k _ => congr (congrArg (fun s t : EReal => s * t) ((kept_apply _ _).trans (block0 m c t a k))) (block1 m c t k q)
  · rw [after_later m c t h0]
    refine (product_apply _ _ a q).trans ?_
    refine Finset.sum_congr rfl fun k _ => congr (congrArg (fun s t : EReal => s * t) ((scratch_apply m c _ _ a k).trans ?_)) (block1 m c t k q)
    refine congrArg (rows m c) (congrArg (fun r => ix2 r k) (Fin.ext ?_))
    show 1024 * ((t.val - 1) / 4) + a.val = 1024 * (t.val / 4) + a.val
    omega

/-- The result array at an entry: the row times the column. -/
theorem final_apply (r : Fin 16384) (q : Fin 4096) :
    ((dats m 0 c).arrAt 2 cfg0.N : S16384x4096.Idx → EReal) (ix2 r q)
      = ∑ k : Fin 1024, rows m c (ix2 r k) * weights m c (ix2 k ⟨q.val, by omega⟩) := by
  have hN := points
  let t : Fin cfg0.N := ⟨4 * (r.val / 1024) + q.val / 1024, by omega⟩
  have tv : t.val = 4 * (r.val / 1024) + q.val / 1024 := rfl
  obtain ⟨h0, h1⟩ := index2 t
  have e : ((cfg0.win 2).blk t).view.emb (ix2 ⟨r.val % 1024, by omega⟩ ⟨q.val % 1024, by omega⟩) = ix2 r q := by
    refine eq_ix2 _ _ _ ?_ ?_
    · refine (Window.rect_emb_val win0_2 t (ix2 ⟨r.val % 1024, by omega⟩ ⟨q.val % 1024, by omega⟩) 0).trans ?_
      show win0_2.index t 0 * 1024 + r.val % 1024 = r.val
      rw [h0, tv]; omega
    · refine (Window.rect_emb_val win0_2 t (ix2 ⟨r.val % 1024, by omega⟩ ⟨q.val % 1024, by omega⟩) 1).trans ?_
      show win0_2.index t 1 * 1024 + q.val % 1024 = q.val
      rw [h1, tv]; omega
  refine (congrArg ((dats m 0 c).arrAt 2 cfg0.N : S16384x4096.Idx → EReal) e.symm).trans ?_
  refine ((dats m 0 c).arrAt_emb_eq_flushed 2 Value.disjoint2 t (flush0_2 t) (ix2 ⟨r.val % 1024, by omega⟩ ⟨q.val % 1024, by omega⟩)).trans ?_
  refine (congrFun (Value.flushed2 m c t) _).trans ?_
  refine (out_apply m c t ⟨r.val % 1024, by omega⟩ ⟨q.val % 1024, by omega⟩).trans ?_
  have hr : rowAt t.val t.isLt ⟨r.val % 1024, by omega⟩ = r := Fin.ext (by
    show 1024 * (t.val / 4) + r.val % 1024 = r.val
    rw [tv]; omega)
  have hq : colAt 4112 (by omega) t.val ⟨q.val % 1024, by omega⟩ = ⟨q.val, by omega⟩ := Fin.ext (by
    show 1024 * (t.val % 4) + q.val % 1024 = q.val
    rw [tv]; omega)
  rw [hr, hq]

end Blocks

end Cert.Proof.Proj

end
-- ==== Proof.ProjEq.lean ====
/- The projection's kernel and the plain product compute one array over the extended reals; and the frames of both. -/
module

public import proofs.«01_k».proof.Defs
public import proofs.«01_k».proof.Proof.Gen.Kernel4
public import proofs.«01_k».proof.Proof.Gen.Reference4Ideal.Run
public import proofs.«01_k».proof.Proof.ProjKer
public import proofs.«01_k».proof.Proof.RefTrip

@[expose] public section

set_option maxRecDepth 4000

noncomputable section

namespace Cert.Proof.ProjEq

open Idealize.ShloMosaic
open Idealize.ShloMosaic.TcCoe Idealize.SL.Sem
open Idealize.ShloMosaic.ValueIdx (ix1 ix2 ix3)
open Cert.Kernel4Ideal Cert.Kernel4Ideal.Gen

/-- The rows times all the columns. -/
def products (x : FVec Ideal Cert.Reference4Ideal.S16384x1024 .f32) (w : FVec Ideal Cert.Reference4Ideal.S1024x4112 .f32) :
    FVec Ideal Cert.Reference4Ideal.S16384x4112 .f32 :=
  Host.dotGeneral (F := Ideal) (φ₁ := .f32) (φ₂ := .f32) Cert.Reference4Ideal.dot_S16384x1024_S1024x4112_S16384x4112_1_0_0_1_n_n none x w

theorem products_apply (x : FVec Ideal Cert.Reference4Ideal.S16384x1024 .f32) (w : FVec Ideal Cert.Reference4Ideal.S1024x4112 .f32)
    (r : Fin 16384) (q : Fin 4112) : products x w (ix2 r q) = ∑ k : Fin 1024, x (ix2 r k) * w (ix2 k q) := by
  unfold products
  exact RefTrip.dot_apply _ 1024 rfl rfl _ _ _ (fun t => ix2 r t) (fun t => ix2 t q)
    (fun t => by funext a; fin_cases a <;> rfl) (fun t => by funext a; fin_cases a <;> rfl)

/-- The reference's result: its first columns. -/
def result (x : FVec Ideal Cert.Reference4Ideal.S16384x1024 .f32) (w : FVec Ideal Cert.Reference4Ideal.S1024x4112 .f32) :
    Cert.Reference4Ideal.S16384x4096.Idx → EReal :=
  extractStridedSlice Cert.Reference4Ideal.S16384x4096 ![0, 0] (products x w) Cert.Reference4Ideal.Gen.slices_S16384x4112_S16384x4096_0_0

theorem result_apply (x : FVec Ideal Cert.Reference4Ideal.S16384x1024 .f32) (w : FVec Ideal Cert.Reference4Ideal.S1024x4112 .f32)
    (r : Fin 16384) (q : Fin 4096) : result x w (ix2 r q) = ∑ k : Fin 1024, x (ix2 r k) * w (ix2 k ⟨q.val, by omega⟩) := by
  unfold result
  exact (extractStridedSlice_apply _ _ _ _ (ix2 r ⟨q.val, by omega⟩) (fun b => by fin_cases b <;> simp [ix2])).trans (products_apply x w r _)

/-- The kernel's array is the reference's. -/
theorem final_eq (m : (ℓ : Loc nD τ sig) → Buf (Elt Ideal) ℓ) (c : Dev nD) :
    (result (m ((c.tc : Thread nD τ).loc main_arg0)) (m ((c.tc : Thread nD τ).loc main_arg1)))
      = (dats m 0 c).arrAt 2 cfg0.N := by
  funext j
  obtain ⟨r, q, rfl⟩ : ∃ (r : Fin 16384) (q : Fin 4096), j = ix2 r q := ⟨j 0, j 1, by funext a; fin_cases a <;> rfl⟩
  exact (result_apply _ _ r q).trans (Proj.final_apply m c r q).symm

/-- As run and over the extended reals the kernel has one text: the same bodies, -/
theorem bodies_eq : Cert.Kernel4.defs₀ (F := Bits) = Cert.Kernel4Ideal.defs₀ (F := Bits) := by
  refine congrArg (Defs.onTc (nD := 1) (τ := Cert.Kernel4.τ) (sig := Cert.Kernel4.sig) (Val := Elt Bits) (Λ := Cert.Kernel4.Λ₀)) ?_
  funext l a
  obtain rfl : l = 0 := Subsingleton.elim (α := Fin 1) _ _
  with_unfolding_all rfl

/-- the same launch, -/
theorem defs_eq : Cert.Kernel4.defs (F := Bits) = Cert.Kernel4Ideal.defs (F := Bits) :=
  (congrArg (Pipeline.defs (Cert.Kernel4.pcfgs (F := Bits))) bodies_eq).trans (by with_unfolding_all rfl)

/-- the same program. -/
theorem main_eq : Cert.Kernel4.main (F := Bits) = Cert.Kernel4Ideal.main (F := Bits) := by with_unfolding_all rfl

/-- The kernel's frame as it was run. -/
theorem frame_kernel : Cert.quiescent_Kernel4 := fun m ρ _ => by
  rw [defs_eq, main_eq]
  exact Cert.Kernel4Ideal.Gen.frame (F := Bits) m ρ

/-- The kernel's frame over the extended reals. -/
theorem frame_ideal : Cert.quiescent_Kernel4Ideal := fun m ρ _ => Cert.Kernel4Ideal.Gen.frame m ρ

/-- The reference's frame: it declares no semaphore, so every counter ends at zero. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The projection's kernel and the plain product compute one array over the extended reals. -/
theorem algebraic : Cert.algebraic_Kernel4Ideal_Reference4Ideal := by
  intro m g m' g' _ harg
  refine ⟨fun c => (dats m 0 c).arrAt 2 cfg0.N, Cert.Kernel4Ideal.Value.run_blocks m g,
    (θ_run _ _ _).mono (fun _ h c => ⟨(h c).1.trans ?_, (h c).2⟩) (Cert.Reference4Ideal.Value.run (F := Ideal) m' g')⟩
  obtain ⟨a0, a1⟩ := harg c
  rw [a0, a1]
  exact final_eq m c

end Cert.Proof.ProjEq

end
-- ==== Proof.KvqKer.lean ====
/- What the call that projects keys, values and queries leaves in its result array, over the extended reals. -/
module

public import proofs.«01_k».proof.Kernel5Ideal
public import proofs.«01_k».proof.Proof.Gen.Kernel5Ideal.Value
public import proofs.«01_k».proof.Proof.ProjKer
public import Idealize.ShloMosaic.Lib.IdealHost
public import Idealize.ShloMosaic.Lib.Tactic
public import Idealize.ShloMosaic.Lib.StableHlo.RunRead
public import Idealize.ShloMosaic.Lib.Pipeline.ValueKit.Geometry

@[expose] public section

set_option maxRecDepth 8000

noncomputable section

namespace Cert.Proof.Kvq

open Idealize.ShloMosaic Idealize.ShloMosaic.TcCoe Idealize.SL.Sem Idealize.ShloMosaic.ValueIdx
open Idealize.ShloMosaic.StableHlo
open Cert.Kernel5Ideal Cert.Kernel5Ideal.Gen
open Idealize.ShloMosaic.Pipeline (Dat Window)
open Cert.Proof.Proj (origin eq_ix2 product_apply)

/-! ## What a grid point stores, of the blocks it reads -/

section Body

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole)
  (x0 x1 xs : Vec Ideal S1024x1024 .bf16)

/-- At the first column block the rows are kept in the scratch, -/
theorem scratch_first (hc : cond0_0 i) : sout0_A_0 c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S1024x1024) origin]
  simp only [View.readAt_eq_ld, h2.read_unread, View.ld_unit_zero (S := S1024x1024) origin]

/-- and multiplied from there; -/
theorem out_first (hc : cond0_0 i) : out0_A_2 c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x1024) origin]
  simp only [View.readCov_unit_zero (S := S1024x1024) _ origin, View.readAt_eq_ld, h2.read_unread, h3.read_unread,
    View.ld_unit_zero (S := S1024x1024) origin]

/-- at the others what the scratch holds is multiplied. -/
theorem out_later (hc : ¬cond0_0 i) : out0_B_2 c i a2 h2 a3 h3 a4 h4 a5 h5 hc x0 x1 xs = k0_pay2 xs x1 := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x1024) origin]
  simp only [View.readAt_eq_ld, h3.read_unread, h5.read_unread, View.ld_unit_zero (S := S1024x1024) origin]

end Body

/-- The rows as they are kept are the rows. -/
theorem kept_apply (x : S1024x1024.Idx → EReal) (j : S1024x1024.Idx) : (k0_pay1 (F := Ideal) x : S1024x1024.Idx → EReal) j = x j := by
  unfold k0_pay1
  exact congrFun (shapeCast_self _ _) j

/-! ## The blocks at a point -/

theorem index0 : ∀ t : Fin cfg0.N, win0_0.index t 0 = t.val / 3 ∧ win0_0.index t 1 = 0 := by decide +kernel
theorem index1 : ∀ t : Fin cfg0.N, win0_1.index t 0 = 0 ∧ win0_1.index t 1 = t.val % 3 := by decide +kernel
theorem index2 : ∀ t : Fin cfg0.N, win0_2.index t 0 = t.val / 3 ∧ win0_2.index t 1 = t.val % 3 := by decide +kernel

/-- The weights side by side: the first 2048 columns make keys and values, the others queries. -/
def columns (kv : S1024x2048.Idx → EReal) (wq : S1024x1024.Idx → EReal) : S1024x3072.Idx → EReal :=
  concatenate S1024x3072 1 [⟨S1024x2048, kv⟩, ⟨S1024x1024, wq⟩] concatenates_S1024x2048_S1024x1024_S1024x3072_d1

section Blocks

variable (m : (ℓ : Loc nD τ sig) → Buf (Elt Ideal) ℓ) (c : Dev nD)

theorem points : cfg0.N = 48 := N_0

/-- Row `a` of the row block of point `n`. -/
abbrev rowAt (n : ℕ) (h : n < cfg0.N) (a : Fin 1024) : Fin 16384 := ⟨1024 * (n / 3) + a.val, by have := points; omega⟩

/-- Column `q` of the column block of point `n`. -/
abbrev colAt (n : ℕ) (q : Fin 1024) : Fin 3072 := ⟨1024 * (n % 3) + q.val, by omega⟩

/-- The rows and the weights, as arrays of the extended reals. -/
noncomputable abbrev rows : S16384x1024.Idx → EReal := m ((c : Thread nD τ).loc main_arg0)
noncomputable abbrev weights : S1024x3072.Idx → EReal := columns (m ((c : Thread nD τ).loc main_arg1)) (m ((c : Thread nD τ).loc main_arg2))

theorem arr_weights : (V m c main_v1 : S1024x3072.Idx → EReal) = weights m c := by
  unfold V
  simp only [hostOps0]
  after_reads_simp
  rfl

theorem block0 (t : Fin cfg0.N) (a k : Fin 1024) :
    (iblk m c 0 t : S1024x1024.Idx → EReal) (ix2 a k) = m ((c : Thread nD τ).loc main_arg0) (ix2 (rowAt t.val t.isLt a) k) := by
  obtain ⟨h0, h1⟩ := index0 t
  refine (congrFun (V_main_arg0 m c) _).trans (congrArg (m ((c : Thread nD τ).loc main_arg0)) (eq_ix2 _ _ _ ?_ ?_))
  · refine (Window.rect_emb_val win0_0 t (ix2 a k) 0).trans ?_
    show win0_0.index t 0 * 1024 + a.val = 1024 * (t.val / 3) + a.val
    rw [h0]; omega
  · refine (Window.rect_emb_val win0_0 t (ix2 a k) 1).trans ?_
    show win0_0.index t 1 * 1024 + k.val = k.val
    rw [h1]; omega

theorem block1 (t : Fin cfg0.N) (k q : Fin 1024) :
    (iblk m c 1 t : S1024x1024.Idx → EReal) (ix2 k q) = weights m c (ix2 k (colAt t.val q)) := by
  obtain ⟨h0, h1⟩ := index1 t
  refine (congrArg (V m c main_v1 : S1024x3072.Idx → EReal) (eq_ix2 _ k (colAt t.val q) ?_ ?_)).trans (congrFun (arr_weights m c) _)
  · refine (Window.rect_emb_val win0_1 t (ix2 k q) 0).trans ?_
    show win0_1.index t 0 * 1024 + k.val = k.val
    rw [h0]; omega
  · refine (Window.rect_emb_val win0_1 t (ix2 k q) 1).trans ?_
    show win0_1.index t 1 * 1024 + q.val = 1024 * (t.val % 3) + q.val
    rw [h1]; omega

theorem after_first (t : Fin cfg0.N) (h0 : t.val % 3 = 0) :
    outsAt0 m c t.val t.isLt = (k0_pay2 (k0_pay1 (iblk m c 0 t)) (iblk m c 1 t), k0_pay1 (iblk m c 0 t)) := by
  rw [outsAt0_A m c t h0, scratch_first, out_first]

theorem after_later (t : Fin cfg0.N) (h0 : ¬t.val % 3 = 0) :
    outsAt0 m c t.val t.isLt = (k0_pay2 (outsAt0 m c (t.val - 1) (Nat.lt_of_le_of_lt (Nat.sub_le _ _) t.isLt)).2 (iblk m c 1 t),
      (outsAt0 m c (t.val - 1) (Nat.lt_of_le_of_lt (Nat.sub_le _ _) t.isLt)).2) := by
  rw [outsAt0_B m c t h0, out_later]
  rfl

/-- The scratch after any point holds the point's rows. -/
theorem scratch_apply (n : ℕ) (h : n < cfg0.N) (a k : Fin 1024) :
    ((outsAt0 m c n h).2 : S1024x1024.Idx → EReal) (ix2 a k) = rows m c (ix2 (rowAt n h a) k) := by
  induction n with
  | zero =>
    rw [after_first m c ⟨0, h⟩ rfl]
    exact (kept_apply _ _).trans (block0 m c ⟨0, h⟩ a k)
  | succ n ih =>
    by_cases h0 : (n + 1) % 3 = 0
    · rw [after_first m c ⟨n + 1, h⟩ h0]
      exact (kept_apply _ _).trans (block0 m c ⟨n + 1, h⟩ a k)
    · rw [after_later m c ⟨n + 1, h⟩ h0]
      refine (ih (Nat.lt_of_succ_lt h)).trans (congrArg (rows m c) (congrArg (fun r => ix2 r k) (Fin.ext ?_)))
      show 1024 * (n / 3) + a.val = 1024 * ((n + 1) / 3) + a.val
      omega

/-- The output block of any point is the product of the point's rows and columns. -/
theorem out_apply (t : Fin cfg0.N) (a q : Fin 1024) :
    ((outsAt0 m c t.val t.isLt).1 : S1024x1024.Idx → EReal) (ix2 a q)
      = ∑ k : Fin 1024, rows m c (ix2 (rowAt t.val t.isLt a) k) * weights m c (ix2 k (colAt t.val q)) := by
  by_cases h0 : t.val % 3 = 0
  · rw [after_first m c t h0]
    refine (product_apply _ _ a q).trans ?_
    exact Finset.sum_congr rfl fun k _ => congr (congrArg (fun s t : EReal => s * t) ((kept_apply _ _).trans (block0 m c t a k))) (block1 m c t k q)
  · rw [after_later m c t h0]
    refine (product_apply _ _ a q).trans ?_
    refine Finset.sum_congr rfl fun k _ => congr (congrArg (fun s t : EReal => s * t) ((scratch_apply m c _ _ a k).trans ?_)) (block1 m c t k q)
    refine congrArg (rows m c) (congrArg (fun r => ix2 r k) (Fin.ext ?_))
    show 1024 * ((t.val - 1) / 3) + a.val = 1024 * (t.val / 3) + a.val
    omega

/-- The result array at an entry: the row times the column. -/
theorem final_apply (r : Fin 16384) (q : Fin 3072) :
    ((dats m 0 c).arrAt 2 cfg0.N : S16384x3072.Idx → EReal) (ix2 r q)
      = ∑ k : Fin 1024, rows m c (ix2 r k) * weights m c (ix2 k q) := by
  have hN := points
  let t : Fin cfg0.N := ⟨3 * (r.val / 1024) + q.val / 1024, by omega⟩
  have tv : t.val = 3 * (r.val / 1024) + q.val / 1024 := rfl
  obtain ⟨h0, h1⟩ := index2 t
  have e : ((cfg0.win 2).blk t).view.emb (ix2 ⟨r.val % 1024, by omega⟩ ⟨q.val % 1024, by omega⟩) = ix2 r q := by
    refine eq_ix2 _ _ _ ?_ ?_
    · refine (Window.rect_emb_val win0_2 t (ix2 ⟨r.val % 1024, by omega⟩ ⟨q.val % 1024, by omega⟩) 0).trans ?_
      show win0_2.index t 0 * 1024 + r.val % 1024 = r.val
      rw [h0, tv]; omega
    · refine (Window.rect_emb_val win0_2 t (ix2 ⟨r.val % 1024, by omega⟩ ⟨q.val % 1024, by omega⟩) 1).trans ?_
      show win0_2.index t 1 * 1024 + q.val % 1024 = q.val
      rw [h1, tv]; omega
  refine (congrArg ((dats m 0 c).arrAt 2 cfg0.N : S16384x3072.Idx → EReal) e.symm).trans ?_
  refine ((dats m 0 c).arrAt_emb_eq_flushed 2 Value.disjoint2 t (flush0_2 t) (ix2 ⟨r.val % 1024, by omega⟩ ⟨q.val % 1024, by omega⟩)).trans ?_
  refine (congrFun (Value.flushed2 m c t) _).trans ?_
  refine (out_apply m c t ⟨r.val % 1024, by omega⟩ ⟨q.val % 1024, by omega⟩).trans ?_
  have hr : rowAt t.val t.isLt ⟨r.val % 1024, by omega⟩ = r := Fin.ext (by
    show 1024 * (t.val / 3) + r.val % 1024 = r.val
    rw [tv]; omega)
  have hq : colAt t.val ⟨q.val % 1024, by omega⟩ = q := Fin.ext (by
    show 1024 * (t.val % 3) + q.val % 1024 = q.val
    rw [tv]; omega)
  rw [hr, hq]

end Blocks

end Cert.Proof.Kvq

end
-- ==== Proof.KvqEq.lean ====
/- The kernel that projects keys, values and queries and the plain product compute one array over the extended reals; and the frames of both. -/
module

public import proofs.«01_k».proof.Defs
public import proofs.«01_k».proof.Proof.Gen.Kernel5
public import proofs.«01_k».proof.Proof.Gen.Reference5Ideal.Run
public import proofs.«01_k».proof.Proof.KvqKer
public import proofs.«01_k».proof.Proof.RefTrip

@[expose] public section

set_option maxRecDepth 4000

noncomputable section

namespace Cert.Proof.KvqEq

open Idealize.ShloMosaic
open Idealize.ShloMosaic.TcCoe Idealize.SL.Sem
open Idealize.ShloMosaic.ValueIdx (ix1 ix2 ix3)
open Cert.Kernel5Ideal Cert.Kernel5Ideal.Gen

/-- The reference's product with the weights of keys and values, -/
def kvPart (x : FVec Ideal Cert.Reference5Ideal.S16384x1024 .f32) (w : FVec Ideal Cert.Reference5Ideal.S1024x2048 .f32) :
    FVec Ideal Cert.Reference5Ideal.S16384x2048 .f32 :=
  Host.dotGeneral (F := Ideal) (φ₁ := .f32) (φ₂ := .f32) Cert.Reference5Ideal.dot_S16384x1024_S1024x2048_S16384x2048_1_0_0_1_n_n none x w

/-- with the weights of the queries, -/
def qPart (x : FVec Ideal Cert.Reference5Ideal.S16384x1024 .f32) (w : FVec Ideal Cert.Reference5Ideal.S1024x1024 .f32) :
    FVec Ideal Cert.Reference5Ideal.S16384x1024 .f32 :=
  Host.dotGeneral (F := Ideal) (φ₁ := .f32) (φ₂ := .f32) Cert.Reference5Ideal.dot_S16384x1024_S1024x1024_S16384x1024_1_0_0_1_n_n none x w

/-- and the two side by side. -/
def result (x : FVec Ideal Cert.Reference5Ideal.S16384x1024 .f32) (kv : FVec Ideal Cert.Reference5Ideal.S1024x2048 .f32)
    (wq : FVec Ideal Cert.Reference5Ideal.S1024x1024 .f32) : Cert.Reference5Ideal.S16384x3072.Idx → EReal :=
  concatenate Cert.Reference5Ideal.S16384x3072 1 [⟨Cert.Reference5Ideal.S16384x2048, kvPart x kv⟩, ⟨Cert.Reference5Ideal.S16384x1024, qPart x wq⟩]
    Cert.Reference5Ideal.Gen.concatenates_S16384x2048_S16384x1024_S16384x3072_d1

theorem kvPart_apply (x : FVec Ideal Cert.Reference5Ideal.S16384x1024 .f32) (w : FVec Ideal Cert.Reference5Ideal.S1024x2048 .f32)
    (r : Fin 16384) (q : Fin 2048) : kvPart x w (ix2 r q) = ∑ k : Fin 1024, x (ix2 r k) * w (ix2 k q) := by
  unfold kvPart
  exact RefTrip.dot_apply _ 1024 rfl rfl _ _ _ (fun t => ix2 r t) (fun t => ix2 t q)
    (fun t => by funext a; fin_cases a <;> rfl) (fun t => by funext a; fin_cases a <;> rfl)

theorem qPart_apply (x : FVec Ideal Cert.Reference5Ideal.S16384x1024 .f32) (w : FVec Ideal Cert.Reference5Ideal.S1024x1024 .f32)
    (r : Fin 16384) (q : Fin 1024) : qPart x w (ix2 r q) = ∑ k : Fin 1024, x (ix2 r k) * w (ix2 k q) := by
  unfold qPart
  exact RefTrip.dot_apply _ 1024 rfl rfl _ _ _ (fun t => ix2 r t) (fun t => ix2 t q)
    (fun t => by funext a; fin_cases a <;> rfl) (fun t => by funext a; fin_cases a <;> rfl)

/-- Two arrays of any number of rows side by side, read in the first, -/
theorem sideBySide_left {n : ℕ} (x : (⟨2, ![n, 2048]⟩ : Shape).Idx → EReal) (y : (⟨2, ![n, 1024]⟩ : Shape).Idx → EReal)
    (h : Shape.Concatenates [⟨2, ![n, 2048]⟩, ⟨2, ![n, 1024]⟩] ⟨2, ![n, 3072]⟩ 1) (r : Fin n) (q : Fin 3072) (hq : q.val < 2048) :
    concatenate ⟨2, ![n, 3072]⟩ 1 [⟨_, x⟩, ⟨_, y⟩] h (ix2 r q) = x (ix2 r ⟨q.val, hq⟩) :=
  concatenate_pair_apply_left (1 : Fin 2) x y h (ix2 r q) rfl (ix2 r ⟨q.val, hq⟩) (fun b => by fin_cases b <;> rfl)

/-- and in the second. -/
theorem sideBySide_right {n : ℕ} (x : (⟨2, ![n, 2048]⟩ : Shape).Idx → EReal) (y : (⟨2, ![n, 1024]⟩ : Shape).Idx → EReal)
    (h : Shape.Concatenates [⟨2, ![n, 2048]⟩, ⟨2, ![n, 1024]⟩] ⟨2, ![n, 3072]⟩ 1) (r : Fin n) (q : Fin 3072) (hq : ¬q.val < 2048) :
    concatenate ⟨2, ![n, 3072]⟩ 1 [⟨_, x⟩, ⟨_, y⟩] h (ix2 r q) = y (ix2 r ⟨q.val - 2048, by omega⟩) :=
  concatenate_pair_apply_right (1 : Fin 2) x y h (ix2 r q) rfl rfl (ix2 r ⟨q.val - 2048, by omega⟩)
    (fun b hb => by fin_cases b; exacts [rfl, absurd rfl hb]) (Nat.sub_add_cancel (Nat.le_of_not_lt hq))

/-- The products side by side are the product with the weights side by side. -/
theorem result_apply (x : S16384x1024.Idx → EReal) (kv : S1024x2048.Idx → EReal) (wq : S1024x1024.Idx → EReal) (r : Fin 16384) (q : Fin 3072) :
    result x kv wq (ix2 r q) = ∑ k : Fin 1024, x (ix2 r k) * Kvq.columns kv wq (ix2 k q) := by
  unfold result
  by_cases h : q.val < 2048
  · refine (sideBySide_left _ _ _ r q h).trans ?_
    exact (kvPart_apply x kv r ⟨q.val, h⟩).trans (Finset.sum_congr rfl fun k _ => congrArg (fun s : EReal => _ * s) (sideBySide_left _ _ _ k q h).symm)
  · refine (sideBySide_right _ _ _ r q h).trans ?_
    exact (qPart_apply x wq r ⟨q.val - 2048, by omega⟩).trans
      (Finset.sum_congr rfl fun k _ => congrArg (fun s : EReal => _ * s) (sideBySide_right _ _ _ k q h).symm)

/-- The kernel's array is the reference's. -/
theorem final_eq (m : (ℓ : Loc nD τ sig) → Buf (Elt Ideal) ℓ) (c : Dev nD) :
    result (m ((c.tc : Thread nD τ).loc main_arg0)) (m ((c.tc : Thread nD τ).loc main_arg1)) (m ((c.tc : Thread nD τ).loc main_arg2))
      = (dats m 0 c).arrAt 2 cfg0.N := by
  funext j
  obtain ⟨r, q, rfl⟩ : ∃ (r : Fin 16384) (q : Fin 3072), j = ix2 r q := ⟨j 0, j 1, by funext a; fin_cases a <;> rfl⟩
  exact (result_apply _ _ _ r q).trans (Kvq.final_apply m c r q).symm

/-- As run and over the extended reals the kernel has one text: the same bodies, -/
theorem bodies_eq : Cert.Kernel5.defs₀ (F := Bits) = Cert.Kernel5Ideal.defs₀ (F := Bits) := by
  refine congrArg (Defs.onTc (nD := 1) (τ := Cert.Kernel5.τ) (sig := Cert.Kernel5.sig) (Val := Elt Bits) (Λ := Cert.Kernel5.Λ₀)) ?_
  funext l a
  obtain rfl : l = 0 := Subsingleton.elim (α := Fin 1) _ _
  with_unfolding_all rfl

/-- the same launch, -/
theorem defs_eq : Cert.Kernel5.defs (F := Bits) = Cert.Kernel5Ideal.defs (F := Bits) :=
  (congrArg (Pipeline.defs (Cert.Kernel5.pcfgs (F := Bits))) bodies_eq).trans (by with_unfolding_all rfl)

/-- the same program. -/
theorem main_eq : Cert.Kernel5.main (F := Bits) = Cert.Kernel5Ideal.main (F := Bits) := by with_unfolding_all rfl

/-- The kernel's frame as it was run. -/
theorem frame_kernel : Cert.quiescent_Kernel5 := fun m ρ _ => by
  rw [defs_eq, main_eq]
  exact Cert.Kernel5Ideal.Gen.frame (F := Bits) m ρ

/-- The kernel's frame over the extended reals. -/
theorem frame_ideal : Cert.quiescent_Kernel5Ideal := fun m ρ _ => Cert.Kernel5Ideal.Gen.frame m ρ

/-- The reference's frame: it declares no semaphore, so every counter ends at zero. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel that projects keys, values and queries and the plain products compute one array over the extended reals. -/
theorem algebraic : Cert.algebraic_Kernel5Ideal_Reference5Ideal := by
  intro m g m' g' _ harg
  refine ⟨fun c => (dats m 0 c).arrAt 2 cfg0.N, Cert.Kernel5Ideal.Value.run_blocks m g,
    (θ_run _ _ _).mono (fun _ h c => ⟨(h c).1.trans ?_, (h c).2⟩) (Cert.Reference5Ideal.Value.run (F := Ideal) m' g')⟩
  obtain ⟨a0, a1, a2⟩ := harg c
  rw [a0, a1, a2]
  exact final_eq m c

end Cert.Proof.KvqEq

end
-- ==== Proof.GdnOutMath.lean ====
/- One row of the first mixer's output, over the extended reals: the heads normalized and gated, projected back and
   added to the scaled row. -/
module

public import proofs.«01_k».proof.Proof.DenseMath

@[expose] public section

noncomputable section

namespace Cert.Proof.GdnOutMath

open Idealize.ShloMosaic

/-- The mean square of a head's row, its length as the word the programs divide by. -/
def meanSquare (o : Fin 128 → EReal) : EReal := Ideal.div (∑ k, o k * o k) (Ideal.ofBits .f32 0x43000000#32)

/-- A gate's entry times its logistic function. -/
def gate (z : EReal) : EReal := z * Ideal.div 1 (1 + Ideal.exp (-z))

/-- A head's row normalized, at one entry, times the entry's gain `n` and its gate `z`. -/
def gated (o : Fin 128 → EReal) (n z : EReal) (l : Fin 128) : EReal :=
  o l * Ideal.rsqrt (meanSquare o + Ideal.ofBits .f32 0x358637BD#32) * n * gate z

/-- The head column `k` belongs to, -/
abbrev headOf (k : Fin 1024) : Fin 8 := ⟨k.val / 128, by omega⟩

/-- and its place there. -/
abbrev laneOf (k : Fin 1024) : Fin 128 := ⟨k.val % 128, by omega⟩

/-- The eight heads of a row, gated, side by side. -/
def heads (o : Fin 8 → Fin 128 → EReal) (n : Fin 128 → EReal) (z : Fin 1024 → EReal) (k : Fin 1024) : EReal :=
  gated (o (headOf k)) (n (laneOf k)) (z k) (laneOf k)

/-- The heads projected back through `w`, on top of the scaled row. -/
def joined (o : Fin 8 → Fin 128 → EReal) (n : Fin 128 → EReal) (z : Fin 1024 → EReal) (w : Fin 1024 → Fin 1024 → EReal)
    (x : Fin 1024 → EReal) (q : Fin 1024) : EReal :=
  Ideal.ofBits .f32 0x3FB504F3#32 * x q + ∑ k, heads o n z k * w k q

end Cert.Proof.GdnOutMath

end
-- ==== Proof.GdnOutKer.lean ====
/- What the first mixer's output call leaves in its two result arrays, over the extended reals. -/
module

public import proofs.«01_k».proof.Kernel6Ideal
public import proofs.«01_k».proof.Proof.Gen.Kernel6Ideal.Value
public import proofs.«01_k».proof.Proof.GdnOutMath
public import proofs.«01_k».proof.Proof.DenseKer
public import Idealize.ShloMosaic.Lib.Pipeline.ValueKit.Tiles

@[expose] public section

set_option maxRecDepth 8000

noncomputable section

namespace Cert.Proof.GdnOut

open Idealize.ShloMosaic Idealize.ShloMosaic.TcCoe Idealize.SL.Sem Idealize.ShloMosaic.ValueIdx
open Idealize.ShloMosaic.StableHlo
open Cert.Kernel6Ideal Cert.Kernel6Ideal.Gen Cert.Proof.DenseMath Cert.Proof.GdnOutMath
open Idealize.ShloMosaic.Pipeline (Dat Window)
open Cert.Proof.KerHead (dot_apply)

theorem origin : (![0, 0] : Fin 2 → Nat) = fun _ => 0 := funext fun a => by fin_cases a <;> rfl
theorem origin3 : (![0, 0, 0] : Fin 3 → Nat) = fun _ => 0 := funext fun a => by fin_cases a <;> rfl

/-! ## One head of one chunk, gated -/

theorem lift2 (r : Fin 64) (j : Fin 128) : reduces_S64x128_S64.lift (ix1 r) j = ix2 r j := by
  funext a; fin_cases a <;> rfl

/-- The mean square of every row, as a column. -/
noncomputable def squares (v : FVec Ideal S64x128 .f32) : FVec Ideal S64x1 .f32 :=
  divf (shapeCast S64x1 (multiReduction .add [1] S64 (mulf v v) 0x00000000#32 reduces_S64x128_S64 (.inl rfl) rfl) shapeCasts_S64_S64x1)
    (broadcast S64x1 (Scalar.ofBits .f32 0x43000000#32))

theorem squares_apply (v : S64x128.Idx → EReal) (a : Fin 64) : (squares v : S64x1.Idx → EReal) (ix2 a 0) = meanSquare fun k => v (ix2 a k) := by
  unfold squares meanSquare
  refine congrArg (fun s : EReal => Ideal.div s _) ?_
  refine (shapeCast_apply _ _ _ (ix1 a) (by rw [Shape.rowMajor_val_two, Shape.rowMajor_val_one]; simp [ix1, ix2])).trans ?_
  refine (Ideal.multiReduction_add_single (φ := .f32) _ 0x00000000#32 reduces_S64x128_S64 (.inl rfl) rfl (ix1 a)).trans ?_
  exact Finset.sum_congr rfl fun j _ => congrArg (fun i => v i * v i) (lift2 a j)

/-- What is stored of one head of one chunk, of the head's rows, the gains and the gate's rows. -/
theorem part_apply (o : S1x1x1x64x128.Idx → EReal) (n : S1x128.Idx → EReal) (z : S1x64x128.Idx → EReal) (a : Fin 64) (l : Fin 128) :
    (k0_pay4 (F := Ideal) o n z : S64x128.Idx → EReal) (ix2 a l) = gated (fun k => o (ix5 0 0 0 a k)) (n (ix2 0 l)) (z (ix3 0 a l)) l := by
  let v : FVec Ideal S64x128 .f32 := shapeCast S64x128 o shapeCasts_S1x1x1x64x128_S64x128
  have hv : ∀ k : Fin 128, (v : S64x128.Idx → EReal) (ix2 a k) = o (ix5 0 0 0 a k) := fun k =>
    shapeCast_apply _ _ _ (ix5 0 0 0 a k) (by rw [Shape.rowMajor_val_two, Shape.rowMajor_val_five]; simp [ix2, ix5])
  have hz : (shapeCast S64x128 z shapeCasts_S1x64x128_S64x128 : S64x128.Idx → EReal) (ix2 a l) = z (ix3 0 a l) :=
    shapeCast_apply _ _ _ (ix3 0 a l) (by rw [Shape.rowMajor_val_two, Shape.rowMajor_val_three]; simp [ix2, ix3])
  have hn : (broadcastTo S64x128 (shapeCast S1x128 n shapeCasts_S1x128_S1x128) broadcasts_S1x128_S64x128 : S64x128.Idx → EReal) (ix2 a l) = n (ix2 0 l) :=
    (broadcastTo_apply _ _ _ (ix2 0 l) (by intro a; fin_cases a <;> rfl)).trans (congrFun (shapeCast_self n _) _)
  have hs : (broadcastTo S64x128 (rsqrt (addf (squares v) (broadcast S64x1 (Scalar.ofBits .f32 0x358637BD#32)))) broadcasts_S64x1_S64x128 : S64x128.Idx → EReal) (ix2 a l)
      = Ideal.rsqrt (meanSquare (fun k => o (ix5 0 0 0 a k)) + Ideal.ofBits .f32 0x358637BD#32) :=
    (broadcastTo_apply _ _ _ (ix2 a 0) (by intro a; fin_cases a <;> rfl)).trans
      (congrArg (fun s : EReal => Ideal.rsqrt (s + Ideal.ofBits .f32 0x358637BD#32)) ((squares_apply v a).trans (congrArg meanSquare (funext hv))))
  unfold k0_pay4
  refine (shapeCast_apply _ _ _ (ix2 a l) rfl).trans ?_
  unfold gated
  refine congr (congrArg (fun s t : EReal => s * t) (congr (congrArg (fun s t : EReal => s * t)
    (congr (congrArg (fun s t : EReal => s * t) (hv l)) hs)) hn)) ?_
  rw [← hz]
  unfold gate
  refine congrArg (fun s : EReal => (shapeCast S64x128 z shapeCasts_S1x64x128_S64x128 : S64x128.Idx → EReal) (ix2 a l) * s) ?_
  show Ideal.div (Ideal.ofBits .f32 0x3F800000#32) (Ideal.ofBits .f32 0x3F800000#32 + Ideal.exp (Ideal.ofBits .f32 0x00000000#32 - _)) = _
  rw [Ideal.ofBits_one_f32, Ideal.ofBits_zero_f32, zero_sub]
  rfl

/-! ## The scratch: every head of every chunk -/

/-- The gated heads of a block's rows, of the blocks of heads, gates and gains. -/
noncomputable def mixed (x0 : S1x4x8x64x128.Idx → EReal) (x1 : S1x256x1024.Idx → EReal) (x4 : S1x128.Idx → EReal) : S256x1024.Idx → EReal := fun y =>
  heads (fun h k => x0 (ix5 0 ⟨(y 0).val / 64, by have := (y 0).isLt; change (y 0).val < 256 at this; omega⟩ h ⟨(y 0).val % 64, by omega⟩ k))
    (fun l => x4 (ix2 0 l)) (fun k => x1 (ix3 0 (y 0) k)) (y 1)

/-- What is stored of head `h` of chunk `n` is those rows and columns of the gated heads. -/
theorem stored_apply (x0 : Vec Ideal S1x4x8x64x128 .bf16) (x1 : Vec Ideal S1x256x1024 .bf16) (x4 : Vec Ideal S1x128 .f32) (n h r q : ℕ)
    (hr : r = 64 * n) (hq : q = 128 * h) (b0 : ∀ a, (![0, n, h, 0, 0] : Fin 5 → ℕ) a + (![1, 1, 1, 64, 128] : Fin 5 → ℕ) a ≤ S1x4x8x64x128.size a)
    (b1 : ∀ a, (![0, r, q] : Fin 3 → ℕ) a + (![1, 64, 128] : Fin 3 → ℕ) a ≤ S1x256x1024.size a)
    (p : S64x128.Idx) (y : S256x1024.Idx) (e0 : (y 0).val = r + (p 0).val) (e1 : (y 1).val = q + (p 1).val) :
    (k0_pay4 (F := Ideal) (View.ld x0 (Rect.unit ![0, n, h, 0, 0] ![1, 1, 1, 64, 128] b0)) x4 (View.ld x1 (Rect.unit ![0, r, q] ![1, 64, 128] b1))
        : S64x128.Idx → EReal) p = mixed x0 x1 x4 y := by
  obtain ⟨a, l, rfl⟩ : ∃ (a : Fin 64) (l : Fin 128), p = ix2 a l := ⟨p 0, p 1, by funext a; fin_cases a <;> rfl⟩
  obtain ⟨s, t, rfl⟩ : ∃ (s : Fin 256) (t : Fin 1024), y = ix2 s t := ⟨y 0, y 1, by funext a; fin_cases a <;> rfl⟩
  change s.val = r + a.val at e0
  change t.val = q + l.val at e1
  have hl : laneOf t = l := Fin.ext (by show t.val % 128 = l.val; omega)
  refine (part_apply _ _ _ a l).trans ?_
  unfold mixed heads
  rw [hl]
  refine congr (congr (congr (congrArg gated (funext fun k => ?_)) rfl) ?_) rfl
  · refine View.ld_unit_apply_of x0 _ _ b0 _ _ fun b => ?_
    fin_cases b
    · rfl
    · show s.val / 64 = n + 0; omega
    · show t.val / 128 = h + 0; omega
    · show s.val % 64 = 0 + a.val; omega
    · show k.val = 0 + k.val; omega
  · refine View.ld_unit_apply_of x1 _ _ b1 _ _ fun b => ?_
    fin_cases b
    · rfl
    · exact e0
    · exact e1

/-! ## What a grid point stores, of the blocks it reads -/

/-- The rows a point stores, of the gated heads it has in the scratch. -/
noncomputable abbrev rowsOut (s : FVec Ideal S256x1024 .bf16) (x2 : Vec Ideal S1x256x1024 .f32) (x3 : Vec Ideal S1024x1024 .bf16)
    (x5 x6 : Vec Ideal S1x1024 .f32) : FVec Ideal S256x1024 .f32 :=
  k0_pay1 (k0_pay82 x5) (k0_pay83 x6) (k0_pay84 (k0_pay80 s x3) (k0_pay81 x2)) (k0_pay85 (k0_pay80 s x3) (k0_pay81 x2))

section Body

variable (c : Dev nD) (i : grid0.Coords) (a2 : Memref sig .tc .vmem S1x4x8x64x128 .bf16) (h2 : a2.IsWhole)
  (a3 : Memref sig .tc .vmem S1x256x1024 .bf16) (h3 : a3.IsWhole) (a4 : Memref sig .tc .vmem S1x256x1024 .f32) (h4 : a4.IsWhole)
  (a5 : Memref sig .tc .vmem S1024x1024 .bf16) (h5 : a5.IsWhole) (a6 : Memref sig .tc .vmem S1x128 .f32) (h6 : a6.IsWhole)
  (a7 : Memref sig .tc .vmem S1x1024 .f32) (h7 : a7.IsWhole) (a8 : Memref sig .tc .vmem S1x1024 .f32) (h8 : a8.IsWhole)
  (a9 : Memref sig .tc .vmem S1x256x1024 .f32) (h9 : a9.IsWhole) (a10 : Memref sig .tc .vmem S1x256x1024 .bf16) (h10 : a10.IsWhole)
  (a11 : Memref sig .tc .vmem S256x1024 .bf16) (h11 : a11.IsWhole)
  (x0 : Vec Ideal S1x4x8x64x128 .bf16) (x1 : Vec Ideal S1x256x1024 .bf16) (x2 : Vec Ideal S1x256x1024 .f32) (x3 : Vec Ideal S1024x1024 .bf16)
  (x4 : Vec Ideal S1x128 .f32) (x5 x6 : Vec Ideal S1x1024 .f32)

theorem out7 : out0_A_7 c i a2 h2 a3 h3 a4 h4 a5 h5 a6 h6 a7 h7 a8 h8 a9 h9 a10 h10 a11 h11 x0 x1 x2 x3 x4 x5 x6
    = shapeCast S1x256x1024 (rowsOut (mixed x0 x1 x4) x2 x3 x5 x6) shapeCasts_S256x1024_S1x256x1024 := by
  unfold out0_A_7
  rw [View.read_writes_eq_canon _ _ _ (cover0_A_7 c i a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero (S := S1x256x1024) origin3]
  simp only [View.readAt_eq_ld, h2.read_unread, h3.read_unread, h4.read_unread, h5.read_unread,
    h6.read_unread, h7.read_unread, h8.read_unread, View.ld_unit_zero (S := S1x256x1024) origin3, View.ld_unit_zero (S := S1024x1024) origin,
    View.ld_unit_zero (S := S1x128) origin, View.ld_unit_zero (S := S1x1024) origin]
  refine congrArg (fun s : FVec Ideal S256x1024 .bf16 => k0_pay2 (k0_pay82 x5) (k0_pay83 x6) (k0_pay84 (k0_pay80 s x3) (k0_pay81 x2))
    (k0_pay85 (k0_pay80 s x3) (k0_pay81 x2))) (?_ : _ = mixed x0 x1 x4)
  refine (View.readCov_eq_canon' _ _ _).trans ((View.ld_unit_zero (S := S256x1024) origin _ _).trans ?_)
  funext y
  canon_tiles p e
  · exact stored_apply x0 x1 x4 3 7 192 896 rfl rfl _ _ p y (by omega) (by omega)
  · exact stored_apply x0 x1 x4 3 6 192 768 rfl rfl _ _ p y (by omega) (by omega)
  · exact stored_apply x0 x1 x4 3 5 192 640 rfl rfl _ _ p y (by omega) (by omega)
  · exact stored_apply x0 x1 x4 3 4 192 512 rfl rfl _ _ p y (by omega) (by omega)
  · exact stored_apply x0 x1 x4 3 3 192 384 rfl rfl _ _ p y (by omega) (by omega)
  · exact stored_apply x0 x1 x4 3 2 192 256 rfl rfl _ _ p y (by omega) (by omega)
  · exact stored_apply x0 x1 x4 3 1 192 128 rfl rfl _ _ p y (by omega) (by omega)
  · exact stored_apply x0 x1 x4 3 0 192 0 rfl rfl _ _ p y (by omega) (by omega)
  · exact stored_apply x0 x1 x4 2 7 128 896 rfl rfl _ _ p y (by omega) (by omega)
  · exact stored_apply x0 x1 x4 2 6 128 768 rfl rfl _ _ p y (by omega) (by omega)
  · exact stored_apply x0 x1 x4 2 5 128 640 rfl rfl _ _ p y (by omega) (by omega)
  · exact stored_apply x0 x1 x4 2 4 128 512 rfl rfl _ _ p y (by omega) (by omega)
  · exact stored_apply x0 x1 x4 2 3 128 384 rfl rfl _ _ p y (by omega) (by omega)
  · exact stored_apply x0 x1 x4 2 2 128 256 rfl rfl _ _ p y (by omega) (by omega)
  · exact stored_apply x0 x1 x4 2 1 128 128 rfl rfl _ _ p y (by omega) (by omega)
  · exact stored_apply x0 x1 x4 2 0 128 0 rfl rfl _ _ p y (by omega) (by omega)
  · exact stored_apply x0 x1 x4 1 7 64 896 rfl rfl _ _ p y (by omega) (by omega)
  · exact stored_apply x0 x1 x4 1 6 64 768 rfl rfl _ _ p y (by omega) (by omega)
  · exact stored_apply x0 x1 x4 1 5 64 640 rfl rfl _ _ p y (by omega) (by omega)
  · exact stored_apply x0 x1 x4 1 4 64 512 rfl rfl _ _ p y (by omega) (by omega)
  · exact stored_apply x0 x1 x4 1 3 64 384 rfl rfl _ _ p y (by omega) (by omega)
  · exact stored_apply x0 x1 x4 1 2 64 256 rfl rfl _ _ p y (by omega) (by omega)
  · exact stored_apply x0 x1 x4 1 1 64 128 rfl rfl _ _ p y (by omega) (by omega)
  · exact stored_apply x0 x1 x4 1 0 64 0 rfl rfl _ _ p y (by omega) (by omega)
  · exact stored_apply x0 x1 x4 0 7 0 896 rfl rfl _ _ p y (by omega) (by omega)
  · exact stored_apply x0 x1 x4 0 6 0 768 rfl rfl _ _ p y (by omega) (by omega)
  · exact stored_apply x0 x1 x4 0 5 0 640 rfl rfl _ _ p y (by omega) (by omega)
  · exact stored_apply x0 x1 x4 0 4 0 512 rfl rfl _ _ p y (by omega) (by omega)
  · exact stored_apply x0 x1 x4 0 3 0 384 rfl rfl _ _ p y (by omega) (by omega)
  · exact stored_apply x0 x1 x4 0 2 0 256 rfl rfl _ _ p y (by omega) (by omega)
  · exact stored_apply x0 x1 x4 0 1 0 128 rfl rfl _ _ p y (by omega) (by omega)
  · exact stored_apply x0 x1 x4 0 0 0 0 rfl rfl _ _ p y (by omega) (by omega)

theorem out8 : out0_A_8 c i a2 h2 a3 h3 a4 h4 a5 h5 a6 h6 a7 h7 a8 h8 a9 h9 a10 h10 a11 h11 x0 x1 x2 x3 x4 x5 x6
    = shapeCast S1x256x1024 (rowsOut (mixed x0 x1 x4) x2 x3 x5 x6) shapeCasts_S256x1024_S1x256x1024 := by
  unfold out0_A_8
  rw [View.read_writes_eq_canon _ _ _ (cover0_A_8 c i a2 h2 a3 h3 a4 h4 a5 h5 a6 h6 a7 h7 a8 h8 a9 h9 a10 h10 a11 h11 x0 x1 x2 x3 x4 x5 x6)]
  unfold kernelRun0_A
  dsimp only
  sl_unfold_words
  rw [View.canon_unit_zero (S := S1x256x1024) origin3]
  simp only [View.readAt_eq_ld, h2.read_unread, h3.read_unread, h4.read_unread, h5.read_unread,
    h6.read_unread, h7.read_unread, h8.read_unread, View.ld_unit_zero (S := S1x256x1024) origin3, View.ld_unit_zero (S := S1024x1024) origin,
    View.ld_unit_zero (S := S1x128) origin, View.ld_unit_zero (S := S1x1024) origin]
  refine congrArg (fun s : FVec Ideal S256x1024 .bf16 => k0_pay3 (k0_pay82 x5) (k0_pay83 x6) (k0_pay84 (k0_pay80 s x3) (k0_pay81 x2))
    (k0_pay85 (k0_pay80 s x3) (k0_pay81 x2))) (?_ : _ = mixed x0 x1 x4)
  refine (View.readCov_eq_canon' _ _ _).trans ((View.ld_unit_zero (S := S256x1024) origin _ _).trans ?_)
  funext y
  canon_tiles p e
  · exact stored_apply x0 x1 x4 3 7 192 896 rfl rfl _ _ p y (by omega) (by omega)
  · exact stored_apply x0 x1 x4 3 6 192 768 rfl rfl _ _ p y (by omega) (by omega)
  · exact stored_apply x0 x1 x4 3 5 192 640 rfl rfl _ _ p y (by omega) (by omega)
  · exact stored_apply x0 x1 x4 3 4 192 512 rfl rfl _ _ p y (by omega) (by omega)
  · exact stored_apply x0 x1 x4 3 3 192 384 rfl rfl _ _ p y (by omega) (by omega)
  · exact stored_apply x0 x1 x4 3 2 192 256 rfl rfl _ _ p y (by omega) (by omega)
  · exact stored_apply x0 x1 x4 3 1 192 128 rfl rfl _ _ p y (by omega) (by omega)
  · exact stored_apply x0 x1 x4 3 0 192 0 rfl rfl _ _ p y (by omega) (by omega)
  · exact stored_apply x0 x1 x4 2 7 128 896 rfl rfl _ _ p y (by omega) (by omega)
  · exact stored_apply x0 x1 x4 2 6 128 768 rfl rfl _ _ p y (by omega) (by omega)
  · exact stored_apply x0 x1 x4 2 5 128 640 rfl rfl _ _ p y (by omega) (by omega)
  · exact stored_apply x0 x1 x4 2 4 128 512 rfl rfl _ _ p y (by omega) (by omega)
  · exact stored_apply x0 x1 x4 2 3 128 384 rfl rfl _ _ p y (by omega) (by omega)
  · exact stored_apply x0 x1 x4 2 2 128 256 rfl rfl _ _ p y (by omega) (by omega)
  · exact stored_apply x0 x1 x4 2 1 128 128 rfl rfl _ _ p y (by omega) (by omega)
  · exact stored_apply x0 x1 x4 2 0 128 0 rfl rfl _ _ p y (by omega) (by omega)
  · exact stored_apply x0 x1 x4 1 7 64 896 rfl rfl _ _ p y (by omega) (by omega)
  · exact stored_apply x0 x1 x4 1 6 64 768 rfl rfl _ _ p y (by omega) (by omega)
  · exact stored_apply x0 x1 x4 1 5 64 640 rfl rfl _ _ p y (by omega) (by omega)
  · exact stored_apply x0 x1 x4 1 4 64 512 rfl rfl _ _ p y (by omega) (by omega)
  · exact stored_apply x0 x1 x4 1 3 64 384 rfl rfl _ _ p y (by omega) (by omega)
  · exact stored_apply x0 x1 x4 1 2 64 256 rfl rfl _ _ p y (by omega) (by omega)
  · exact stored_apply x0 x1 x4 1 1 64 128 rfl rfl _ _ p y (by omega) (by omega)
  · exact stored_apply x0 x1 x4 1 0 64 0 rfl rfl _ _ p y (by omega) (by omega)
  · exact stored_apply x0 x1 x4 0 7 0 896 rfl rfl _ _ p y (by omega) (by omega)
  · exact stored_apply x0 x1 x4 0 6 0 768 rfl rfl _ _ p y (by omega) (by omega)
  · exact stored_apply x0 x1 x4 0 5 0 640 rfl rfl _ _ p y (by omega) (by omega)
  · exact stored_apply x0 x1 x4 0 4 0 512 rfl rfl _ _ p y (by omega) (by omega)
  · exact stored_apply x0 x1 x4 0 3 0 384 rfl rfl _ _ p y (by omega) (by omega)
  · exact stored_apply x0 x1 x4 0 2 0 256 rfl rfl _ _ p y (by omega) (by omega)
  · exact stored_apply x0 x1 x4 0 1 0 128 rfl rfl _ _ p y (by omega) (by omega)
  · exact stored_apply x0 x1 x4 0 0 0 0 rfl rfl _ _ p y (by omega) (by omega)

end Body

/-! ## Read at an entry -/

theorem product_apply (s : S256x1024.Idx → EReal) (w : S1024x1024.Idx → EReal) (a : Fin 256) (q : Fin 1024) :
    (k0_pay80 (F := Ideal) s w : S256x1024.Idx → EReal) (ix2 a q) = ∑ k, s (ix2 a k) * w (ix2 k q) := by
  unfold k0_pay80
  refine (dot_apply _ 1024 rfl rfl _ _ _ (fun k => ix2 a k) (fun k => ix2 k q)
      (fun k => by funext a; fin_cases a <;> rfl) (fun k => by funext a; fin_cases a <;> rfl)).trans ?_
  exact Finset.sum_congr rfl fun k _ => congrArg (fun s : EReal => _ * s) (congrFun (shapeCast_self w _) _)

/-- What a grid point stores at an entry, of the blocks it reads. -/
theorem tile_apply (x0 : S1x4x8x64x128.Idx → EReal) (x1 : S1x256x1024.Idx → EReal) (x2 : S1x256x1024.Idx → EReal) (x3 : S1024x1024.Idx → EReal)
    (x4 : S1x128.Idx → EReal) (x5 x6 : S1x1024.Idx → EReal) (a : Fin 256) (q : Fin 1024) :
    (shapeCast S1x256x1024 (rowsOut (mixed x0 x1 x4) x2 x3 x5 x6) shapeCasts_S256x1024_S1x256x1024 : S1x256x1024.Idx → EReal) (ix3 0 a q)
      = layerNorm (joined (fun h k => x0 (ix5 0 ⟨a.val / 64, by omega⟩ h ⟨a.val % 64, by omega⟩ k)) (fun l => x4 (ix2 0 l)) (fun k => x1 (ix3 0 a k))
          (fun k q => x3 (ix2 k q)) fun k => x2 (ix3 0 a k)) (x5 (ix2 0 q)) (x6 (ix2 0 q)) q := by
  refine (shapeCast_apply _ _ _ (ix2 a q) (by rw [Shape.rowMajor_val_two, Shape.rowMajor_val_three]; simp [ix2, ix3])).trans ?_
  have e : rowsOut (mixed x0 x1 x4) x2 x3 x5 x6
      = Cert.Kernel3Ideal.Gen.k0_pay3 (F := Ideal) (k0_pay81 (F := Ideal) x2) (k0_pay80 (F := Ideal) (mixed x0 x1 x4) x3) x5 x6 := by
    unfold rowsOut
    with_unfolding_all rfl
  refine (congrFun e _).trans ((Dense.norm_apply _ _ x5 x6 a q).trans (congrArg (fun v => layerNorm v _ _ q) (funext fun p => ?_)))
  unfold joined
  refine congr (congrArg (fun s t : EReal => s + t) (congrArg (fun s : EReal => _ * s) ?_)) (product_apply _ x3 a p)
  exact shapeCast_apply _ _ _ (ix3 0 a p) (by rw [Shape.rowMajor_val_two, Shape.rowMajor_val_three]; simp [ix2, ix3])

/-! ## The blocks at a point -/

theorem index0 : ∀ t : Fin cfg0.N, win0_0.index t 0 = t.val / 16 ∧ win0_0.index t 1 = t.val % 16 ∧ win0_0.index t 2 = 0 ∧ win0_0.index t 3 = 0
    ∧ win0_0.index t 4 = 0 := by decide +kernel
theorem index1 : ∀ t : Fin cfg0.N, win0_1.index t 0 = t.val / 16 ∧ win0_1.index t 1 = t.val % 16 ∧ win0_1.index t 2 = 3 := by decide +kernel
theorem index2 : ∀ t : Fin cfg0.N, win0_2.index t 0 = t.val / 16 ∧ win0_2.index t 1 = t.val % 16 ∧ win0_2.index t 2 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val / 16 ∧ win0_7.index t 1 = t.val % 16 ∧ win0_7.index t 2 = 0 := by decide +kernel
theorem index8 : ∀ t : Fin cfg0.N, win0_8.index t 0 = t.val / 16 ∧ win0_8.index t 1 = t.val % 16 ∧ win0_8.index t 2 = 0 := by decide +kernel

/-- An index of two coordinates, known by their values; -/
theorem eq_ix2 {n0 n1 : ℕ} (j : (⟨2, ![n0, n1]⟩ : Shape).Idx) (r : Fin n0) (q : Fin n1) (h0 : (j 0).val = r.val) (h1 : (j 1).val = q.val) :
    j = ix2 r q := by
  funext a; fin_cases a
  · exact Fin.ext h0
  · exact Fin.ext h1

/-- of three; -/
theorem eq_ix3 {n0 n1 n2 : ℕ} (j : (⟨3, ![n0, n1, n2]⟩ : Shape).Idx) (b : Fin n0) (r : Fin n1) (q : Fin n2)
    (h0 : (j 0).val = b.val) (h1 : (j 1).val = r.val) (h2 : (j 2).val = q.val) : j = ix3 b r q := by
  funext a; fin_cases a
  · exact Fin.ext h0
  · exact Fin.ext h1
  · exact Fin.ext h2

/-- of five. -/
theorem eq_ix5 {n0 n1 n2 n3 n4 : ℕ} (j : (⟨5, ![n0, n1, n2, n3, n4]⟩ : Shape).Idx) (b : Fin n0) (n : Fin n1) (h : Fin n2) (r : Fin n3) (k : Fin n4)
    (h0 : (j 0).val = b.val) (h1 : (j 1).val = n.val) (h2 : (j 2).val = h.val) (h3 : (j 3).val = r.val) (h4 : (j 4).val = k.val) :
    j = ix5 b n h r k := by
  funext a; fin_cases a
  · exact Fin.ext h0
  · exact Fin.ext h1
  · exact Fin.ext h2
  · exact Fin.ext h3
  · exact Fin.ext h4

section Blocks

variable (m : (ℓ : Loc nD τ sig) → Buf (Elt Ideal) ℓ) (c : Dev nD)

theorem points : cfg0.N = 64 := N_0

/-- The arguments, as arrays of the extended reals. -/
noncomputable abbrev mixes : S4x64x8x64x128.Idx → EReal := m ((c : Thread nD τ).loc main_arg0)
noncomputable abbrev gates : S4x4096x4096.Idx → EReal := m ((c : Thread nD τ).loc main_arg1)
noncomputable abbrev rows : S4x4096x1024.Idx → EReal := m ((c : Thread nD τ).loc main_arg2)
noncomputable abbrev backs : S1024x1024.Idx → EReal := m ((c : Thread nD τ).loc main_arg3)
noncomputable abbrev norms : S128.Idx → EReal := m ((c : Thread nD τ).loc main_arg4)
noncomputable abbrev gains : S1024.Idx → EReal := m ((c : Thread nD τ).loc main_arg5)
noncomputable abbrev shifts : S1024.Idx → EReal := m ((c : Thread nD τ).loc main_arg6)

theorem arr_backs : (V m c main_v0 : S1024x1024.Idx → EReal) = backs m c := by
  unfold V
  simp only [hostOps0]
  after_reads_simp
  rfl

theorem arr_norms : (V m c main_v1 : S1x128.Idx → EReal) = shapeCast S1x128 (norms m c) shapeCasts_S128_S1x128 := by
  unfold V
  simp only [hostOps0]
  after_reads_simp
  rfl

theorem arr_gains : (V m c main_v2 : S1x1024.Idx → EReal) = shapeCast S1x1024 (gains m c) shapeCasts_S1024_S1x1024 := by
  unfold V
  simp only [hostOps0]
  after_reads_simp
  rfl

theorem arr_shifts : (V m c main_v3 : S1x1024.Idx → EReal) = shapeCast S1x1024 (shifts m c) shapeCasts_S1024_S1x1024 := by
  unfold V
  simp only [hostOps0]
  after_reads_simp
  rfl

theorem cast_norm (v : S128.Idx → EReal) (q : Fin 128) : (shapeCast S1x128 v shapeCasts_S128_S1x128 : S1x128.Idx → EReal) (ix2 0 q) = v (ix1 q) :=
  shapeCast_apply _ _ _ (ix1 q) (by rw [Shape.rowMajor_val_two, Shape.rowMajor_val_one]; simp [ix1, ix2])

theorem cast_row (v : S1024.Idx → EReal) (q : Fin 1024) : (shapeCast S1x1024 v shapeCasts_S1024_S1x1024 : S1x1024.Idx → EReal) (ix2 0 q) = v (ix1 q) :=
  shapeCast_apply _ _ _ (ix1 q) (by rw [Shape.rowMajor_val_two, Shape.rowMajor_val_one]; simp [ix1, ix2])

/-- The batch entry of point `t`, -/
abbrev batchAt (t : Fin cfg0.N) : Fin 4 := ⟨t.val / 16, by have := points; omega⟩

/-- and row `a` of its block. -/
abbrev rowAt (t : Fin cfg0.N) (a : Fin 256) : Fin 4096 := ⟨256 * (t.val % 16) + a.val, by omega⟩

/-- The chunk a row lies in, -/
abbrev chunkOf (r : Fin 4096) : Fin 64 := ⟨r.val / 64, by omega⟩

/-- and its place there. -/
abbrev placeOf (r : Fin 4096) : Fin 64 := ⟨r.val % 64, by omega⟩

theorem block0 (t : Fin cfg0.N) (a : Fin 256) (h : Fin 8) (k : Fin 128) :
    (iblk m c 0 t : S1x4x8x64x128.Idx → EReal) (ix5 0 ⟨a.val / 64, by omega⟩ h ⟨a.val % 64, by omega⟩ k)
      = mixes m c (ix5 (batchAt t) (chunkOf (rowAt t a)) h (placeOf (rowAt t a)) k) := by
  obtain ⟨h0, h1, h2, h3, h4⟩ := index0 t
  let p : S1x4x8x64x128.Idx := ix5 0 ⟨a.val / 64, by omega⟩ h ⟨a.val % 64, by omega⟩ k
  refine (congrArg (V m c main_arg0 : S4x64x8x64x128.Idx → EReal) (eq_ix5 _ (batchAt t) (chunkOf (rowAt t a)) h (placeOf (rowAt t a)) k
    ((Window.rect_emb_val win0_0 t p 0).trans ?_) ((Window.rect_emb_val win0_0 t p 1).trans ?_)
    ((Window.rect_emb_val win0_0 t p 2).trans ?_) ((Window.rect_emb_val win0_0 t p 3).trans ?_) ((Window.rect_emb_val win0_0 t p 4).trans ?_))).trans
    (congrFun (V_main_arg0 m c) _)
  · show win0_0.index t 0 * 1 + 0 = t.val / 16; rw [h0]; omega
  · show win0_0.index t 1 * 4 + a.val / 64 = (256 * (t.val % 16) + a.val) / 64; rw [h1]; omega
  · show win0_0.index t 2 * 8 + h.val = h.val; rw [h2]; omega
  · show win0_0.index t 3 * 64 + a.val % 64 = (256 * (t.val % 16) + a.val) % 64; rw [h3]; omega
  · show win0_0.index t 4 * 128 + k.val = k.val; rw [h4]; omega

theorem block1 (t : Fin cfg0.N) (a : Fin 256) (k : Fin 1024) :
    (iblk m c 1 t : S1x256x1024.Idx → EReal) (ix3 0 a k) = gates m c (ix3 (batchAt t) (rowAt t a) ⟨3072 + k.val, by omega⟩) := by
  obtain ⟨h0, h1, h2⟩ := index1 t
  refine (congrArg (V m c main_arg1 : S4x4096x4096.Idx → EReal) (eq_ix3 _ (batchAt t) (rowAt t a) ⟨3072 + k.val, by omega⟩
    ((Window.rect_emb_val win0_1 t (ix3 0 a k) 0).trans ?_) ((Window.rect_emb_val win0_1 t (ix3 0 a k) 1).trans ?_)
    ((Window.rect_emb_val win0_1 t (ix3 0 a k) 2).trans ?_))).trans (congrFun (V_main_arg1 m c) _)
  · show win0_1.index t 0 * 1 + 0 = t.val / 16; rw [h0]; omega
  · show win0_1.index t 1 * 256 + a.val = 256 * (t.val % 16) + a.val; rw [h1]; omega
  · show win0_1.index t 2 * 1024 + k.val = 3072 + k.val; rw [h2]

theorem block2 (t : Fin cfg0.N) (a : Fin 256) (k : Fin 1024) :
    (iblk m c 2 t : S1x256x1024.Idx → EReal) (ix3 0 a k) = rows m c (ix3 (batchAt t) (rowAt t a) k) := by
  obtain ⟨h0, h1, h2⟩ := index2 t
  refine (congrArg (V m c main_arg2 : S4x4096x1024.Idx → EReal) (eq_ix3 _ (batchAt t) (rowAt t a) k
    ((Window.rect_emb_val win0_2 t (ix3 0 a k) 0).trans ?_) ((Window.rect_emb_val win0_2 t (ix3 0 a k) 1).trans ?_)
    ((Window.rect_emb_val win0_2 t (ix3 0 a k) 2).trans ?_))).trans (congrFun (V_main_arg2 m c) _)
  · show win0_2.index t 0 * 1 + 0 = t.val / 16; rw [h0]; omega
  · show win0_2.index t 1 * 256 + a.val = 256 * (t.val % 16) + a.val; rw [h1]; omega
  · show win0_2.index t 2 * 1024 + k.val = k.val; rw [h2]; omega

theorem block3 (t : Fin cfg0.N) (k q : Fin 1024) : (iblk m c 3 t : S1024x1024.Idx → EReal) (ix2 k q) = backs m c (ix2 k q) := by
  obtain ⟨h0, h1⟩ := index3 t
  refine (congrArg (V m c main_v0 : S1024x1024.Idx → EReal) (eq_ix2 _ k q
    ((Window.rect_emb_val win0_3 t (ix2 k q) 0).trans ?_) ((Window.rect_emb_val win0_3 t (ix2 k q) 1).trans ?_))).trans (congrFun (arr_backs m c) _)
  · show win0_3.index t 0 * 1024 + k.val = k.val; rw [h0]; omega
  · show win0_3.index t 1 * 1024 + q.val = q.val; rw [h1]; omega

theorem block4 (t : Fin cfg0.N) (l : Fin 128) : (iblk m c 4 t : S1x128.Idx → EReal) (ix2 0 l) = norms m c (ix1 l) := by
  obtain ⟨h0, h1⟩ := index4 t
  refine (congrArg (V m c main_v1 : S1x128.Idx → EReal) (eq_ix2 _ 0 l
    ((Window.rect_emb_val win0_4 t (ix2 0 l) 0).trans ?_) ((Window.rect_emb_val win0_4 t (ix2 0 l) 1).trans ?_))).trans
    ((congrFun (arr_norms m c) _).trans (cast_norm _ l))
  · show win0_4.index t 0 * 1 + 0 = 0; rw [h0]
  · show win0_4.index t 1 * 128 + l.val = l.val; rw [h1]; omega

theorem block5 (t : Fin cfg0.N) (q : Fin 1024) : (iblk m c 5 t : S1x1024.Idx → EReal) (ix2 0 q) = gains m c (ix1 q) := by
  obtain ⟨h0, h1⟩ := index5 t
  refine (congrArg (V m c main_v2 : S1x1024.Idx → EReal) (eq_ix2 _ 0 q
    ((Window.rect_emb_val win0_5 t (ix2 0 q) 0).trans ?_) ((Window.rect_emb_val win0_5 t (ix2 0 q) 1).trans ?_))).trans
    ((congrFun (arr_gains m c) _).trans (cast_row _ q))
  · show win0_5.index t 0 * 1 + 0 = 0; rw [h0]
  · show win0_5.index t 1 * 1024 + q.val = q.val; rw [h1]; omega

theorem block6 (t : Fin cfg0.N) (q : Fin 1024) : (iblk m c 6 t : S1x1024.Idx → EReal) (ix2 0 q) = shifts m c (ix1 q) := by
  obtain ⟨h0, h1⟩ := index6 t
  refine (congrArg (V m c main_v3 : S1x1024.Idx → EReal) (eq_ix2 _ 0 q
    ((Window.rect_emb_val win0_6 t (ix2 0 q) 0).trans ?_) ((Window.rect_emb_val win0_6 t (ix2 0 q) 1).trans ?_))).trans
    ((congrFun (arr_shifts m c) _).trans (cast_row _ q))
  · show win0_6.index t 0 * 1 + 0 = 0; rw [h0]
  · show win0_6.index t 1 * 1024 + q.val = q.val; rw [h1]; omega

end Blocks

/-- The mixer's output at one entry, of the arguments. -/
def layer (o : S4x64x8x64x128.Idx → EReal) (z : S4x4096x4096.Idx → EReal) (x : S4x4096x1024.Idx → EReal) (w : S1024x1024.Idx → EReal)
    (n : S128.Idx → EReal) (g b : S1024.Idx → EReal) (e : Fin 4) (r : Fin 4096) (q : Fin 1024) : EReal :=
  layerNorm (joined (fun h k => o (ix5 e (chunkOf r) h (placeOf r) k)) (fun l => n (ix1 l)) (fun k => z (ix3 e r ⟨3072 + k.val, by omega⟩))
    (fun k q => w (ix2 k q)) fun k => x (ix3 e r k)) (g (ix1 q)) (b (ix1 q)) q

section Final

variable (m : (ℓ : Loc nD τ sig) → Buf (Elt Ideal) ℓ) (c : Dev nD)

theorem point_apply (t : Fin cfg0.N) (a : Fin 256) (q : Fin 1024) :
    (shapeCast S1x256x1024 (rowsOut (mixed (iblk m c 0 t) (iblk m c 1 t) (iblk m c 4 t)) (iblk m c 2 t) (iblk m c 3 t) (iblk m c 5 t) (iblk m c 6 t))
        shapeCasts_S256x1024_S1x256x1024 : S1x256x1024.Idx → EReal) (ix3 0 a q)
      = layer (mixes m c) (gates m c) (rows m c) (backs m c) (norms m c) (gains m c) (shifts m c) (batchAt t) (rowAt t a) q := by
  refine (tile_apply (iblk m c 0 t) (iblk m c 1 t) (iblk m c 2 t) (iblk m c 3 t) (iblk m c 4 t) (iblk m c 5 t) (iblk m c 6 t) a q).trans ?_
  unfold layer
  refine congr (congr (congr (congrArg layerNorm (congr (congr (congr (congr (congrArg joined ?_) ?_) ?_) ?_) ?_)) (block5 m c t q)) (block6 m c t q)) rfl
  · exact funext fun h => funext fun k => block0 m c t a h k
  · exact funext fun l => block4 m c t l
  · exact funext fun k => block1 m c t a k
  · exact funext fun k => funext fun q => block3 m c t k q
  · exact funext fun k => block2 m c t a k

/-- The point whose block holds row `r` of batch entry `e`. -/
abbrev pointOf (e : Fin 4) (r : Fin 4096) : Fin cfg0.N := ⟨16 * e.val + r.val / 256, by have := points; omega⟩

theorem batch_pointOf (e : Fin 4) (r : Fin 4096) : batchAt (pointOf e r) = e := Fin.ext (by show (16 * e.val + r.val / 256) / 16 = e.val; omega)

theorem row_pointOf (e : Fin 4) (r : Fin 4096) : rowAt (pointOf e r) ⟨r.val % 256, by omega⟩ = r :=
  Fin.ext (by show 256 * ((16 * e.val + r.val / 256) % 16) + r.val % 256 = r.val; omega)

/-- The first result array is the mixer's output, -/
theorem final_first (e : Fin 4) (r : Fin 4096) (q : Fin 1024) :
    ((dats m 0 c).arrAt 7 cfg0.N : S4x4096x1024.Idx → EReal) (ix3 e r q)
      = layer (mixes m c) (gates m c) (rows m c) (backs m c) (norms m c) (gains m c) (shifts m c) e r q := by
  obtain ⟨h0, h1, h2⟩ := index7 (pointOf e r)
  let p : S1x256x1024.Idx := ix3 0 ⟨r.val % 256, by omega⟩ q
  have h : ((cfg0.win 7).blk (pointOf e r)).view.emb p = ix3 e r q := by
    refine eq_ix3 _ e r q ((Window.rect_emb_val win0_7 (pointOf e r) p 0).trans ?_) ((Window.rect_emb_val win0_7 (pointOf e r) p 1).trans ?_)
      ((Window.rect_emb_val win0_7 (pointOf e r) p 2).trans ?_)
    · show win0_7.index (pointOf e r) 0 * 1 + 0 = e.val; rw [h0]; show (16 * e.val + r.val / 256) / 16 * 1 + 0 = e.val; omega
    · show win0_7.index (pointOf e r) 1 * 256 + r.val % 256 = r.val; rw [h1]; show (16 * e.val + r.val / 256) % 16 * 256 + r.val % 256 = r.val; omega
    · show win0_7.index (pointOf e r) 2 * 1024 + q.val = q.val; rw [h2]; omega
  refine (congrArg ((dats m 0 c).arrAt 7 cfg0.N : S4x4096x1024.Idx → EReal) h.symm).trans ?_
  refine ((dats m 0 c).arrAt_emb_eq_flushed 7 Value.disjoint7 (pointOf e r) (flush0_7 _) p).trans ?_
  refine (congrFun (Value.flushed7_A m c (pointOf e r)) _).trans ?_
  rw [out7]
  refine (point_apply m c (pointOf e r) ⟨r.val % 256, by omega⟩ q).trans ?_
  rw [batch_pointOf, row_pointOf]

/-- and so is the second. -/
theorem final_second (e : Fin 4) (r : Fin 4096) (q : Fin 1024) :
    ((dats m 0 c).arrAt 8 cfg0.N : S4x4096x1024.Idx → EReal) (ix3 e r q)
      = layer (mixes m c) (gates m c) (rows m c) (backs m c) (norms m c) (gains m c) (shifts m c) e r q := by
  obtain ⟨h0, h1, h2⟩ := index8 (pointOf e r)
  let p : S1x256x1024.Idx := ix3 0 ⟨r.val % 256, by omega⟩ q
  have h : ((cfg0.win 8).blk (pointOf e r)).view.emb p = ix3 e r q := by
    refine eq_ix3 _ e r q ((Window.rect_emb_val win0_8 (pointOf e r) p 0).trans ?_) ((Window.rect_emb_val win0_8 (pointOf e r) p 1).trans ?_)
      ((Window.rect_emb_val win0_8 (pointOf e r) p 2).trans ?_)
    · show win0_8.index (pointOf e r) 0 * 1 + 0 = e.val; rw [h0]; show (16 * e.val + r.val / 256) / 16 * 1 + 0 = e.val; omega
    · show win0_8.index (pointOf e r) 1 * 256 + r.val % 256 = r.val; rw [h1]; show (16 * e.val + r.val / 256) % 16 * 256 + r.val % 256 = r.val; omega
    · show win0_8.index (pointOf e r) 2 * 1024 + q.val = q.val; rw [h2]; omega
  refine (congrArg ((dats m 0 c).arrAt 8 cfg0.N : S4x4096x1024.Idx → EReal) h.symm).trans ?_
  refine ((dats m 0 c).arrAt_emb_eq_flushed 8 Value.disjoint8 (pointOf e r) (flush0_8 _) p).trans ?_
  refine (congrFun (Value.flushed8_A m c (pointOf e r)) _).trans ?_
  rw [out8]
  refine (point_apply m c (pointOf e r) ⟨r.val % 256, by omega⟩ q).trans ?_
  rw [batch_pointOf, row_pointOf]

end Final

end Cert.Proof.GdnOut

end
-- ==== Proof.GdnOutRef.lean ====
/- The first mixer's plain output in the reference, read at an entry over the extended reals. -/
module

public import proofs.«01_k».proof.Reference6Ideal
public import proofs.«01_k».proof.Proof.Gen.Reference6Ideal.Run
public import proofs.«01_k».proof.Proof.GdnOutMath
public import proofs.«01_k».proof.Proof.RefTrip
public import Idealize.ShloMosaic.Lib.IdealHost
public import Idealize.ShloMosaic.Lib.Pointwise.Reduce

@[expose] public section

set_option maxRecDepth 8000

noncomputable section

namespace Cert.Proof.GdnOutRef

open Idealize.ShloMosaic hiding ix1 ix2 ix3 ix4 ix5
open Idealize.ShloMosaic.TcCoe Idealize.SL.Sem
open Idealize.ShloMosaic.ValueIdx (ix1 ix2 ix3 ix4 ix5)
open Cert.Reference6Ideal Cert.Reference6Ideal.Gen
open Cert.Proof.RefTrip (dot_apply)
open Cert.Proof.DenseMath (mean centred layerNorm)
open Cert.Proof.GdnOutMath

variable (o : FVec Ideal S4x64x8x64x128 .bf16) (z : FVec Ideal S4x4096x4096 .bf16) (x : FVec Ideal S4x4096x1024 .f32) (w : FVec Ideal S1024x1024 .f32)
  (n : FVec Ideal S128 .f32) (g b : FVec Ideal S1024 .f32)

/-! ## The reference's arrays -/

/-- The mixed heads, a row's eight side by side. -/
def mixes : FVec Ideal S4x4096x8x128 .f32 :=
  shapeCast _ (transpose S4x64x64x8x128 [0, 1, 3, 2, 4] (extf .f32 o bitsLt_bf16_f32) transposes_S4x64x8x64x128_S4x64x64x8x128_0_1_3_2_4)
    shapeCasts_S4x64x64x8x128_S4x4096x8x128

/-- The gates' columns. -/
def gates : FVec Ideal S4x4096x1024 .f32 :=
  extf .f32 (extractStridedSlice S4x4096x1024 ![0, 0, 3072] z slices_S4x4096x4096_S4x4096x1024_0_0_3072) bitsLt_bf16_f32

def ones : FVec Ideal S4x4096x1024 .f32 := broadcastInDim S4x4096x1024 ![] bcast_S_S4x4096x1024 (constant S_ .f32 0x3F800000#32)

/-- The gates times their logistic function. -/
def opened : FVec Ideal S4x4096x1024 .f32 := mulf (gates z) (Host.divf ones (addf ones (Host.exp (Host.negf (gates z)))))

/-- The mean square of every head's row. -/
def squares (h : FVec Ideal S4x4096x8x128 .f32) : FVec Ideal S4x4096x8x1 .f32 :=
  Host.divf (broadcastInDim S4x4096x8x1 ![0, 1, 2] bcast_S4x4096x8_S4x4096x8x1_0_1_2
      (Host.reduceAdd (mulf h h) (constant S_ .f32 0x00000000#32) reducesTo_S4x4096x8x128_S4x4096x8_d3 h_S_))
    (broadcastInDim S4x4096x8x1 ![] bcast_S_S4x4096x8x1 (constant S_ .f32 0x43000000#32))

/-- Its root, inverted. -/
def roots (h : FVec Ideal S4x4096x8x128 .f32) : FVec Ideal S4x4096x8x1 .f32 :=
  Host.rsqrt (addf (squares h) (broadcastInDim S4x4096x8x1 ![] bcast_S_S4x4096x8x1 (constant S_ .f32 0x358637BD#32)))

/-- The head's gains along every row. -/
def gains : FVec Ideal S4x4096x8x128 .f32 :=
  broadcastInDim S4x4096x8x128 ![0, 1, 2, 3] bcast_S1x1x1x128_S4x4096x8x128_0_1_2_3 (broadcastInDim S1x1x1x128 ![3] bcast_S128_S1x1x1x128_3 n)

/-- The heads normalized and gated. -/
def headed : FVec Ideal S4x4096x8x128 .f32 :=
  mulf (mulf (mulf (mixes o) (broadcastInDim S4x4096x8x128 ![0, 1, 2, 3] bcast_S4x4096x8x1_S4x4096x8x128_0_1_2_3 (roots (mixes o)))) (gains n))
    (shapeCast _ (opened z) shapeCasts_S4x4096x1024_S4x4096x8x128)

/-- The heads of a row in one line. -/
def lined : FVec Ideal S4x4096x1024 .f32 := shapeCast _ (headed o z n) shapeCasts_S4x4096x8x128_S4x4096x1024

/-- The scaled rows and the heads' projection, summed. -/
def sums : FVec Ideal S4x4096x1024 .f32 :=
  addf (mulf (broadcastInDim S4x4096x1024 ![] bcast_S_S4x4096x1024 (constant S_ .f32 0x3FB504F3#32)) x)
    (Host.dotGeneral (F := Ideal) (φ₁ := .f32) (φ₂ := .f32) dot_S4x4096x1024_S1024x1024_S4x4096x1024_2_0_01_1_n_n none (lined o z n) w)

/-- The mean of every row. -/
def means (h : FVec Ideal S4x4096x1024 .f32) : FVec Ideal S4x4096x1 .f32 :=
  Host.divf (broadcastInDim S4x4096x1 ![0, 1] bcast_S4x4096_S4x4096x1_0_1
      (Host.reduceAdd h (constant S_ .f32 0x00000000#32) reducesTo_S4x4096x1024_S4x4096_d2 h_S_))
    (broadcastInDim S4x4096x1 ![] bcast_S_S4x4096x1 (constant S_ .f32 0x44800000#32))

/-- The rows less their means. -/
def offsets (h : FVec Ideal S4x4096x1024 .f32) : FVec Ideal S4x4096x1024 .f32 :=
  subf h (broadcastInDim S4x4096x1024 ![0, 1, 2] bcast_S4x4096x1_S4x4096x1024_0_1_2 (means h))

/-- The root of every row's variance, inverted. -/
def scales (h : FVec Ideal S4x4096x1024 .f32) : FVec Ideal S4x4096x1 .f32 :=
  Host.rsqrt (addf (means (mulf (offsets h) (offsets h))) (broadcastInDim S4x4096x1 ![] bcast_S_S4x4096x1 (constant S_ .f32 0x358637BD#32)))

/-- A vector along every row. -/
def along (v : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 v)

/-- The rows normalized, scaled and shifted. -/
def normed (h : FVec Ideal S4x4096x1024 .f32) : FVec Ideal S4x4096x1024 .f32 :=
  addf (mulf (mulf (offsets h) (broadcastInDim S4x4096x1024 ![0, 1, 2] bcast_S4x4096x1_S4x4096x1024_0_1_2 (scales h))) (along g)) (along b)

/-- The reference's result. -/
def result : FVec Ideal S4x4096x1024 .f32 := normed g b (sums o z x w n)

/-! ## Read at an index -/

/-- The chunk a row lies in, -/
abbrev chunkOf (r : Fin 4096) : Fin 64 := ⟨r.val / 64, by omega⟩

/-- and its place there. -/
abbrev placeOf (r : Fin 4096) : Fin 64 := ⟨r.val % 64, by omega⟩

theorem mixes_apply (e : Fin 4) (r : Fin 4096) (h : Fin 8) (l : Fin 128) : mixes o (ix4 e r h l) = o (ix5 e (chunkOf r) h (placeOf r) l) := by
  unfold mixes
  refine (shapeCast_apply _ _ _ (ix5 e (chunkOf r) (placeOf r) h l) ?_).trans ?_
  · rw [Shape.rowMajor_val_four, Shape.rowMajor_val_five]; simp [ix4, ix5]; omega
  · exact transpose_apply _ _ _ _ (ix5 e (chunkOf r) h (placeOf r) l) (fun b => by fin_cases b <;> rfl)

theorem gates_apply (e : Fin 4) (r : Fin 4096) (k : Fin 1024) : gates z (ix3 e r k) = z (ix3 e r ⟨3072 + k.val, by omega⟩) := by
  unfold gates
  exact extractStridedSlice_apply _ _ slices_S4x4096x4096_S4x4096x1024_0_0_3072 _ (ix3 e r ⟨3072 + k.val, by omega⟩) (fun b => by fin_cases b <;> simp [ix3])

theorem opened_apply (e : Fin 4) (r : Fin 4096) (k : Fin 1024) : opened z (ix3 e r k) = gate (z (ix3 e r ⟨3072 + k.val, by omega⟩)) := by
  have ho : ones (ix3 e r k) = 1 := Ideal.ofBits_one_f32
  have h : opened z (ix3 e r k)
      = gates z (ix3 e r k) * Ideal.div (ones (ix3 e r k)) (ones (ix3 e r k) + Ideal.exp (-(gates z (ix3 e r k)))) := rfl
  rw [h, ho, gates_apply]
  rfl

theorem squares_apply (v : FVec Ideal S4x4096x8x128 .f32) (e : Fin 4) (r : Fin 4096) (h : Fin 8) :
    squares v (ix4 e r h 0) = meanSquare fun k => v (ix4 e r h k) := by
  unfold squares meanSquare
  refine congrArg (fun s : EReal => Ideal.div s (Ideal.ofBits .f32 0x43000000#32)) ?_
  refine (broadcastInDim_apply _ _ _ _ (ix3 e r h) (fun b => by fin_cases b <;> rfl)).trans ?_
  rw [ValueIdx.hostReduceAdd_apply, Ideal.hostReduceAdd_r4_a3]
  have z : (constant (F := Ideal) S_ .f32 0x00000000#32 (Shape.Idx.first h_S_) : EReal) = 0 := Ideal.ofBits_zero_f32
  rw [z, zero_add]
  rfl

theorem gains_apply (e : Fin 4) (r : Fin 4096) (h : Fin 8) (l : Fin 128) : gains n (ix4 e r h l) = n (ix1 l) := by
  unfold gains
  refine (broadcastInDim_apply _ _ _ _ (ix4 0 0 0 l) (fun b => by fin_cases b <;> rfl)).trans ?_
  exact broadcastInDim_apply _ _ _ _ (ix1 l) (fun b => by fin_cases b; rfl)

theorem headed_apply (e : Fin 4) (r : Fin 4096) (h : Fin 8) (l : Fin 128) :
    headed o z n (ix4 e r h l) = gated (fun k => o (ix5 e (chunkOf r) h (placeOf r) k)) (n (ix1 l))
      (z (ix3 e r ⟨3072 + (128 * h.val + l.val), by omega⟩)) l := by
  unfold gated
  have hr : (broadcastInDim S4x4096x8x128 ![0, 1, 2, 3] bcast_S4x4096x8x1_S4x4096x8x128_0_1_2_3 (roots (mixes o)) : S4x4096x8x128.Idx → EReal) (ix4 e r h l)
      = Ideal.rsqrt (meanSquare (fun k => o (ix5 e (chunkOf r) h (placeOf r) k)) + Ideal.ofBits .f32 0x358637BD#32) := by
    refine (broadcastInDim_apply _ _ _ _ (ix4 e r h 0) (fun b => by fin_cases b <;> rfl)).trans ?_
    unfold roots
    exact congrArg (fun s : EReal => Ideal.rsqrt (s + Ideal.ofBits .f32 0x358637BD#32))
      ((squares_apply _ e r h).trans (congrArg meanSquare (funext fun k => mixes_apply o e r h k)))
  have hz : (shapeCast S4x4096x8x128 (opened z) shapeCasts_S4x4096x1024_S4x4096x8x128 : S4x4096x8x128.Idx → EReal) (ix4 e r h l)
      = gate (z (ix3 e r ⟨3072 + (128 * h.val + l.val), by omega⟩)) := by
    refine (shapeCast_apply _ _ _ (ix3 e r ⟨128 * h.val + l.val, by omega⟩) ?_).trans (opened_apply z e r _)
    rw [Shape.rowMajor_val_four, Shape.rowMajor_val_three]; simp [ix4, ix3]; omega
  exact congr (congrArg (fun s t : EReal => s * t) (congr (congrArg (fun s t : EReal => s * t)
    (congr (congrArg (fun s t : EReal => s * t) (mixes_apply o e r h l)) hr)) (gains_apply n e r h l))) hz

theorem lined_apply (e : Fin 4) (r : Fin 4096) (k : Fin 1024) :
    lined o z n (ix3 e r k) = heads (fun h k => o (ix5 e (chunkOf r) h (placeOf r) k)) (fun l => n (ix1 l))
      (fun k => z (ix3 e r ⟨3072 + k.val, by omega⟩)) k := by
  unfold lined heads
  refine (shapeCast_apply _ _ _ (ix4 e r (headOf k) (laneOf k)) ?_).trans ((headed_apply o z n e r _ _).trans ?_)
  · rw [Shape.rowMajor_val_four, Shape.rowMajor_val_three]; simp [ix4, ix3]; omega
  · refine congrArg (fun s : Fin 4096 => gated _ _ (z (ix3 e r s)) _) (Fin.ext ?_)
    show 3072 + (128 * (k.val / 128) + k.val % 128) = 3072 + k.val
    omega

theorem sums_apply (e : Fin 4) (r : Fin 4096) (q : Fin 1024) :
    sums o z x w n (ix3 e r q) = joined (fun h k => o (ix5 e (chunkOf r) h (placeOf r) k)) (fun l => n (ix1 l))
      (fun k => z (ix3 e r ⟨3072 + k.val, by omega⟩)) (fun k q => w (ix2 k q)) (fun k => x (ix3 e r k)) q := by
  unfold sums joined
  refine congrArg (fun s : EReal => Ideal.ofBits .f32 0x3FB504F3#32 * x (ix3 e r q) + s) ?_
  refine (dot_apply _ 1024 rfl rfl _ _ _ (fun k => ix3 e r k) (fun k => ix2 k q)
    (fun t => by funext a; fin_cases a <;> rfl) (fun t => by funext a; fin_cases a <;> rfl)).trans ?_
  exact Finset.sum_congr rfl fun k _ => congrArg (fun s : EReal => s * _) (lined_apply o z n e r k)

theorem means_apply (h : FVec Ideal S4x4096x1024 .f32) (e : Fin 4) (r : Fin 4096) : means h (ix3 e r 0) = mean fun k => h (ix3 e r k) := by
  unfold means mean
  refine congrArg (fun s : EReal => Ideal.div s (Ideal.ofBits .f32 0x44800000#32)) ?_
  refine (broadcastInDim_apply _ _ _ _ (ix2 e r) (fun b => by fin_cases b <;> rfl)).trans ?_
  rw [ValueIdx.hostReduceAdd_apply, Ideal.hostReduceAdd_r3_a2]
  have z : (constant (F := Ideal) S_ .f32 0x00000000#32 (Shape.Idx.first h_S_) : EReal) = 0 := Ideal.ofBits_zero_f32
  rw [z, zero_add]
  rfl

theorem offsets_apply (h : FVec Ideal S4x4096x1024 .f32) (e : Fin 4) (r : Fin 4096) (q : Fin 1024) :
    offsets h (ix3 e r q) = centred (fun k => h (ix3 e r k)) q := by
  unfold offsets centred
  exact congrArg (fun s : EReal => h (ix3 e r q) - s)
    ((broadcastInDim_apply _ _ _ _ (ix3 e r 0) (fun b => by fin_cases b <;> rfl)).trans (means_apply h e r))

theorem scales_apply (h : FVec Ideal S4x4096x1024 .f32) (e : Fin 4) (r : Fin 4096) :
    scales h (ix3 e r 0)
      = Ideal.rsqrt (mean (fun k => centred (fun k => h (ix3 e r k)) k * centred (fun k => h (ix3 e r k)) k) + Ideal.ofBits .f32 0x358637BD#32) := by
  unfold scales
  refine congrArg (fun s : EReal => Ideal.rsqrt (s + Ideal.ofBits .f32 0x358637BD#32)) ((means_apply _ e r).trans (congrArg mean (funext fun k => ?_)))
  exact congr (congrArg (fun s t : EReal => s * t) (offsets_apply h e r k)) (offsets_apply h e r k)

theorem along_apply (v : FVec Ideal S1024 .f32) (e : Fin 4) (r : Fin 4096) (q : Fin 1024) : along v (ix3 e r q) = v (ix1 q) := by
  unfold along
  refine (broadcastInDim_apply _ _ _ _ (ix3 0 0 q) (fun b => by fin_cases b <;> rfl)).trans ?_
  exact broadcastInDim_apply _ _ _ _ (ix1 q) (fun b => by fin_cases b; rfl)

theorem normed_apply (h : FVec Ideal S4x4096x1024 .f32) (e : Fin 4) (r : Fin 4096) (q : Fin 1024) :
    normed g b h (ix3 e r q) = layerNorm (fun k => h (ix3 e r k)) (g (ix1 q)) (b (ix1 q)) q := by
  unfold layerNorm
  have s : (broadcastInDim S4x4096x1024 ![0, 1, 2] bcast_S4x4096x1_S4x4096x1024_0_1_2 (scales h) : S4x4096x1024.Idx → EReal) (ix3 e r q)
      = Ideal.rsqrt (mean (fun k => centred (fun k => h (ix3 e r k)) k * centred (fun k => h (ix3 e r k)) k) + Ideal.ofBits .f32 0x358637BD#32) :=
    (broadcastInDim_apply _ _ _ _ (ix3 e r 0) (fun b => by fin_cases b <;> rfl)).trans (scales_apply h e r)
  exact congr (congrArg (fun s t : EReal => s + t) (congr (congrArg (fun s t : EReal => s * t)
    (congr (congrArg (fun s t : EReal => s * t) (offsets_apply h e r q)) s)) (along_apply g e r q))) (along_apply b e r q)

/-- The reference at an entry. -/
theorem result_apply (e : Fin 4) (r : Fin 4096) (q : Fin 1024) :
    result o z x w n g b (ix3 e r q)
      = layerNorm (joined (fun h k => o (ix5 e (chunkOf r) h (placeOf r) k)) (fun l => n (ix1 l)) (fun k => z (ix3 e r ⟨3072 + k.val, by omega⟩))
          (fun k q => w (ix2 k q)) fun k => x (ix3 e r k)) (g (ix1 q)) (b (ix1 q)) q := by
  unfold result
  exact (normed_apply g b _ e r q).trans (congrArg (fun h => layerNorm h (g (ix1 q)) (b (ix1 q)) q) (funext fun k => sums_apply o z x w n e r k))

/-! ## The two results -/

section Results

variable (m : (ℓ : Loc nD τ sig) → Buf (Elt Ideal) ℓ) (c : Dev nD)

theorem first_eq : Value.res_main_v47 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Value.res_main_v47
  rfl

theorem second_eq : (Value.res_main_v48 (F := Ideal) m c : S4x4096x1024.Idx → EReal)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Value.res_main_v48
  rfl

end Results

end Cert.Proof.GdnOutRef

end
-- ==== Proof.GdnOutEq.lean ====
/- The kernel of the first mixer's output and its plain reference compute one pair of arrays over the extended reals; and the frames
   of both. -/
module

public import proofs.«01_k».proof.Defs
public import proofs.«01_k».proof.Proof.Gen.Kernel6
public import proofs.«01_k».proof.Proof.GdnOutKer
public import proofs.«01_k».proof.Proof.GdnOutRef

@[expose] public section

set_option maxRecDepth 4000

noncomputable section

namespace Cert.Proof.GdnOutEq

open Idealize.ShloMosaic hiding ix1 ix2 ix3
open Idealize.ShloMosaic.TcCoe Idealize.SL.Sem
open Idealize.ShloMosaic.ValueIdx (ix1 ix2 ix3)
open Cert.Kernel6Ideal Cert.Kernel6Ideal.Gen

variable (m : (ℓ : Loc nD τ sig) → Buf (Elt Ideal) ℓ) (c : Dev nD)

/-- The reference's array, of the kernel's arguments. -/
abbrev result : S4x4096x1024.Idx → EReal :=
  GdnOutRef.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

/-- The kernel's first array is the reference's, -/
theorem first_eq : result m c = (dats m 0 c).arrAt 7 cfg0.N := by
  funext j
  obtain ⟨e, r, q, rfl⟩ : ∃ (e : Fin 4) (r : Fin 4096) (q : Fin 1024), j = ix3 e r q := ⟨j 0, j 1, j 2, by funext a; fin_cases a <;> rfl⟩
  exact (GdnOutRef.result_apply _ _ _ _ _ _ _ e r q).trans (GdnOut.final_first m c e r q).symm

/-- and the second too. -/
theorem second_eq : result m c = (dats m 0 c).arrAt 8 cfg0.N := by
  funext j
  obtain ⟨e, r, q, rfl⟩ : ∃ (e : Fin 4) (r : Fin 4096) (q : Fin 1024), j = ix3 e r q := ⟨j 0, j 1, j 2, by funext a; fin_cases a <;> rfl⟩
  exact (GdnOutRef.result_apply _ _ _ _ _ _ _ e r q).trans (GdnOut.final_second m c e r q).symm

/-- As run and over the extended reals the kernel has one text: the same bodies, -/
theorem bodies_eq : Cert.Kernel6.defs₀ (F := Bits) = Cert.Kernel6Ideal.defs₀ (F := Bits) := by
  refine congrArg (Defs.onTc (nD := 1) (τ := Cert.Kernel6.τ) (sig := Cert.Kernel6.sig) (Val := Elt Bits) (Λ := Cert.Kernel6.Λ₀)) ?_
  funext l a
  obtain rfl : l = 0 := Subsingleton.elim (α := Fin 1) _ _
  with_unfolding_all rfl

/-- the same launch, -/
theorem defs_eq : Cert.Kernel6.defs (F := Bits) = Cert.Kernel6Ideal.defs (F := Bits) :=
  (congrArg (Pipeline.defs (Cert.Kernel6.pcfgs (F := Bits))) bodies_eq).trans (by with_unfolding_all rfl)

/-- the same program. -/
theorem main_eq : Cert.Kernel6.main (F := Bits) = Cert.Kernel6Ideal.main (F := Bits) := by with_unfolding_all rfl

/-- The kernel's frame as it was run. -/
theorem frame_kernel : Cert.quiescent_Kernel6 := fun m ρ _ => by
  rw [defs_eq, main_eq]
  exact Cert.Kernel6Ideal.Gen.frame (F := Bits) m ρ

/-- The kernel's frame over the extended reals. -/
theorem frame_ideal : Cert.quiescent_Kernel6Ideal := fun m ρ _ => Cert.Kernel6Ideal.Gen.frame m ρ

/-- The reference's frame: it declares no semaphore, so every counter ends at zero. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The kernel of the first mixer's output and the plain layer compute one pair of arrays over the extended reals. -/
theorem algebraic : Cert.algebraic_Kernel6Ideal_Reference6Ideal := by
  intro m g m' g' _ harg
  refine ⟨fun c => (dats m 0 c).arrAt 7 cfg0.N, fun c => (dats m 0 c).arrAt 8 cfg0.N, Cert.Kernel6Ideal.Value.run_blocks m g,
    (θ_run _ _ _).mono (fun _ h c => ⟨(h c).1.trans ((GdnOutRef.first_eq m' c).trans ?_), (h c).2.1.trans ((GdnOutRef.second_eq m' c).trans ?_), (h c).2.2⟩)
      (Cert.Reference6Ideal.Value.run (F := Ideal) m' g')⟩
  · obtain ⟨a0, a1, a2, a3, a4, a5, a6⟩ := harg c
    rw [a0, a1, a2, a3, a4, a5, a6]
    exact first_eq m c
  · obtain ⟨a0, a1, a2, a3, a4, a5, a6⟩ := harg c
    rw [a0, a1, a2, a3, a4, a5, a6]
    exact second_eq m c

end Cert.Proof.GdnOutEq

end
-- ==== Proof.RouterMath.lean ====
/- A normed row is real whatever the row, and a product taken in three parts is one product of real numbers. -/
module

public import proofs.«01_k».proof.Proof.DenseMath
public import proofs.«01_k».proof.Proof.SoftmaxMath

@[expose] public section

noncomputable section

namespace Cert.Proof.RouterMath

open Idealize.ShloMosaic
open Cert.Proof.DenseMath
open Cert.Proof.SoftmaxMath (coe_sum)

/-- A sum that is real has real terms only. -/
theorem terms_real {n : ℕ} (f : Fin n → EReal) (S : Finset (Fin n)) : (∃ r : ℝ, ∑ k ∈ S, f k = r) → ∀ k ∈ S, ∃ r : ℝ, f k = r := by
  classical
  induction S using Finset.induction_on with
  | empty => intro _ k hk; exact absurd hk (Finset.notMem_empty k)
  | insert a S ha ih =>
    rintro ⟨r, hr⟩ k hk
    rw [Finset.sum_insert ha] at hr
    have both : (∃ p : ℝ, f a = p) ∧ ∃ p : ℝ, ∑ k ∈ S, f k = p := by
      generalize f a = x at hr
      generalize (∑ k ∈ S, f k) = y at hr
      induction x with
      | bot => rw [EReal.bot_add] at hr; exact absurd hr (EReal.bot_ne_coe r)
      | top =>
        induction y with
        | bot => rw [EReal.add_bot] at hr; exact absurd hr (EReal.bot_ne_coe r)
        | top => exact absurd hr (EReal.top_ne_coe r)
        | coe q => exact absurd hr (EReal.top_ne_coe r)
      | coe p =>
        induction y with
        | bot => rw [EReal.add_bot] at hr; exact absurd hr (EReal.bot_ne_coe r)
        | top => exact absurd hr (EReal.top_ne_coe r)
        | coe q => exact ⟨⟨p, rfl⟩, q, rfl⟩
    rcases Finset.mem_insert.1 hk with rfl | hk
    · exact both.1
    · exact ih both.2 k hk

/-- The words of a row's length and of the norm's small addend. -/
theorem length_word : Ideal.ofBits .f32 0x44800000#32 = ((1024 : ℝ) : EReal) := by
  simp [Ideal.ofBits, Ideal.ieee]
  rw [← EReal.coe_mul]
  norm_num

theorem small_word : ∃ e : ℝ, 0 < e ∧ Ideal.ofBits .f32 0x358637BD#32 = e := by
  refine ⟨_, ?_, by simp [Ideal.ofBits, Ideal.ieee]; rw [← EReal.coe_mul]⟩
  norm_num

theorem div_length (x : EReal) : Ideal.div x ((1024 : ℝ) : EReal) = x * ((1024⁻¹ : ℝ) : EReal) := by
  rw [Ideal.div, if_neg (by norm_num), ← EReal.coe_inv]

theorem mean_coe (g : Fin 1024 → ℝ) : mean (fun k => (g k : EReal)) = (((∑ k, g k) * 1024⁻¹ : ℝ) : EReal) := by
  unfold mean
  rw [← coe_sum, length_word, div_length, ← EReal.coe_mul]

/-- A row less its mean, times the inverse root of its variance, is real: where the row is not, the root is infinite. -/
theorem scaled_real (h : Fin 1024 → EReal) (q : Fin 1024) :
    ∃ r : ℝ, centred h q * Ideal.rsqrt (mean (fun k => centred h k * centred h k) + Ideal.ofBits .f32 0x358637BD#32) = r := by
  obtain ⟨e, he, hword⟩ := small_word
  rw [hword]
  by_cases hr : ∃ s : ℝ, ∑ k, h k = s
  · have ht := fun k => terms_real h Finset.univ hr k (Finset.mem_univ k)
    choose g hg using ht
    obtain rfl : h = fun k => (g k : EReal) := funext hg
    have hc : ∀ k, centred (fun k => (g k : EReal)) k = ((g k - (∑ k, g k) * 1024⁻¹ : ℝ) : EReal) := fun k => by
      unfold centred
      rw [mean_coe, ← EReal.coe_sub]
    simp only [hc, ← EReal.coe_mul, mean_coe, ← EReal.coe_add]
    have hv : (0 : ℝ) ≤ (∑ k, (g k - (∑ k, g k) * 1024⁻¹) * (g k - (∑ k, g k) * 1024⁻¹)) * 1024⁻¹ :=
      mul_nonneg (Finset.sum_nonneg fun k _ => mul_self_nonneg _) (by norm_num)
    rw [Ideal.rsqrt_coe, if_neg (by linarith), if_neg (by linarith), ← EReal.coe_mul]
    exact ⟨_, rfl⟩
  · have hm : mean h = ⊤ ∨ mean h = ⊥ := by
      unfold mean
      rw [length_word, div_length]
      generalize (∑ k, h k) = s at hr
      induction s with
      | bot => exact Or.inr (EReal.bot_mul_coe_of_pos (by norm_num))
      | top => exact Or.inl (EReal.top_mul_coe_of_pos (by norm_num))
      | coe s => exact absurd ⟨s, rfl⟩ hr
    have hsq : ∀ k, centred h k * centred h k = ⊤ := fun k => by
      unfold centred
      rcases hm with hm | hm
      · rw [hm, sub_eq_add_neg, EReal.neg_top, EReal.add_bot]; exact EReal.bot_mul_bot
      · rw [hm, sub_eq_add_neg, EReal.neg_bot]
        generalize h k = x
        induction x with
        | bot => rw [EReal.bot_add]; exact EReal.bot_mul_bot
        | top => exact EReal.top_mul_top
        | coe x => exact EReal.top_mul_top
    have hs : (∑ k, centred h k * centred h k) = ⊤ := by
      refine top_le_iff.1 ?_
      have := Finset.single_le_sum (f := fun k : Fin 1024 => centred h k * centred h k) (fun k _ => by rw [hsq]; exact le_top) (Finset.mem_univ q)
      rwa [hsq] at this
    refine ⟨0, ?_⟩
    rw [mean, hs, length_word, div_length, EReal.top_mul_coe_of_pos (by norm_num), EReal.top_add_coe, Ideal.rsqrt_top, mul_zero]
    rfl

/-- A normed row of real gain and shift is real. -/
theorem norm_real (h : Fin 1024 → EReal) (g b : EReal) (hg : ∃ r : ℝ, g = r) (hb : ∃ r : ℝ, b = r) (q : Fin 1024) :
    ∃ r : ℝ, layerNorm h g b q = r := by
  obtain ⟨g, rfl⟩ := hg
  obtain ⟨b, rfl⟩ := hb
  obtain ⟨s, hs⟩ := scaled_real h q
  unfold layerNorm
  rw [hs, ← EReal.coe_mul, ← EReal.coe_add]
  exact ⟨_, rfl⟩

/-- The product in three parts: each factor as it is and as what is left of it after subtracting itself. -/
def parts {n : ℕ} (y w : Fin n → EReal) : EReal :=
  (∑ k, y k * w k) + ((∑ k, y k * (w k - w k)) + ∑ k, (y k - y k) * w k)

/-- Of real factors nothing is left, and the first part is the product. -/
theorem parts_eq {n : ℕ} (y w : Fin n → EReal) (hy : ∀ k, ∃ r : ℝ, y k = r) (hw : ∀ k, ∃ r : ℝ, w k = r) : parts y w = ∑ k, y k * w k := by
  have z : ∀ x : EReal, (∃ r : ℝ, x = r) → x - x = 0 := fun x ⟨r, h⟩ => by rw [h, ← EReal.coe_sub, sub_self, EReal.coe_zero]
  have h1 : (∑ k, y k * (w k - w k)) = 0 := Finset.sum_eq_zero fun k _ => by rw [z _ (hw k), mul_zero]
  have h2 : (∑ k, (y k - y k) * w k) = 0 := Finset.sum_eq_zero fun k _ => by rw [z _ (hy k), zero_mul]
  unfold parts
  rw [h1, h2, add_zero, add_zero]

end Cert.Proof.RouterMath

end
-- ==== Proof.TopTwo.lean ====
/- The two greatest of a row, as a search over masked lanes finds them and as the head of a stable sort, over the
   extended reals. -/
module

public import proofs.«01_k».proof.Proof.SoftmaxMath
public import Idealize.ShloMosaic.Lib.SortPrefix

@[expose] public section

noncomputable section

namespace Cert.Proof.TopTwo

open Idealize.ShloMosaic
open Cert.Proof.SoftmaxMath (peak peak_eq_sup)

/-- Position `a` holds the greatest entry and is the first that does. -/
structure First {n : ℕ} (s : Fin n → EReal) (a : Fin n) : Prop where
  most : ∀ j, s j ≤ s a
  early : ∀ j, j < a → s j < s a

theorem exists_first {n : ℕ} [NeZero n] (s : Fin n → EReal) : ∃ a, First s a := by
  classical
  obtain ⟨p, hp⟩ := Finite.exists_max s
  have hne : (Finset.univ.filter fun a => ∀ j, s j ≤ s a).Nonempty := ⟨p, by simpa using hp⟩
  have hmem := Finset.min'_mem _ hne
  rw [Finset.mem_filter] at hmem
  refine ⟨_, hmem.2, fun j hj => lt_of_not_ge fun h => ?_⟩
  exact absurd hj (not_lt.2 (Finset.min'_le _ _ (by simpa using fun i => (hmem.2 i).trans h)))

/-- The first position of a row's greatest entry. -/
def first {n : ℕ} [NeZero n] (s : Fin n → EReal) : Fin n := (exists_first s).choose

theorem first_spec {n : ℕ} [NeZero n] (s : Fin n → EReal) : First s (first s) := (exists_first s).choose_spec

/-- The row with the entry at `a` masked. -/
def without {n : ℕ} (s : Fin n → EReal) (a : Fin n) (j : Fin n) : EReal := if j = a then ⊥ else s j

theorem peak_first {n : ℕ} {s : Fin n → EReal} {a : Fin n} (h : First s a) : peak s = s a := by
  rw [peak_eq_sup]
  exact le_antisymm (Finset.sup_le fun j _ => h.most j) (Finset.le_sup (Finset.mem_univ a))

/-! ## The search over the lanes -/

/-- Eight entries in the first of a hundred and twenty-eight lanes, the rest masked. -/
def wide (l : Fin 8 → EReal) (j : Fin 128) : EReal := if h : j.val < 8 then l ⟨j.val, h⟩ else ⊥

/-- An entry's lane. -/
abbrev lane (a : Fin 8) : Fin 128 := ⟨a.val, by omega⟩

theorem wide_lane (l : Fin 8 → EReal) (a : Fin 8) : wide l (lane a) = l a := dif_pos a.isLt

theorem First.wide {l : Fin 8 → EReal} {a : Fin 8} (h : First l a) : First (TopTwo.wide l) (lane a) where
  most j := by
    rw [wide_lane]
    unfold TopTwo.wide
    split
    · exact h.most _
    · exact bot_le
  early j hj := by
    have hj' : j.val < a.val := hj
    have h8 : j.val < 8 := by omega
    rw [wide_lane, TopTwo.wide, dif_pos h8]
    exact h.early _ hj'

theorem without_wide (l : Fin 8 → EReal) (a : Fin 8) : without (wide l) (lane a) = wide (without l a) := by
  funext j
  unfold without wide
  by_cases h : j.val < 8
  · simp only [dif_pos h, Fin.ext_iff]
  · have hne : j ≠ lane a := fun e => h (e ▸ a.isLt)
    rw [if_neg hne, dif_neg h, dif_neg h]

/-- A lane's number, as an extended real. -/
def number {n : ℕ} (j : Fin n) : EReal := ((j.val : ℝ) : EReal)

theorem number_inj {n : ℕ} {i j : Fin n} : number i = number j ↔ i = j := by
  unfold number
  rw [EReal.coe_eq_coe_iff, Nat.cast_inj, Fin.ext_iff]

/-- The least number of a lane whose entry is `M`, a hundred and twenty-eight if there is none. -/
def search (s : Fin 128 → EReal) (M : EReal) : EReal :=
  (Finset.univ : Finset (Fin 128)).fold min ⊤ fun j => if s j = M then number j else ((128 : ℝ) : EReal)

theorem search_first {s : Fin 128 → EReal} {a : Fin 128} (h : First s a) : search s (s a) = number a := by
  have e : search s (s a) = Finset.univ.inf fun j => if s j = s a then number j else ((128 : ℝ) : EReal) := rfl
  rw [e]
  refine le_antisymm ((Finset.inf_le (Finset.mem_univ a)).trans (by rw [if_pos rfl])) (Finset.le_inf fun j _ => ?_)
  split
  · rename_i hj
    refine EReal.coe_le_coe_iff.2 (Nat.cast_le.2 (not_lt.1 fun hlt => ?_))
    exact absurd hj (h.early j hlt).ne
  · have : (a.val : ℝ) ≤ 128 := by exact_mod_cast a.isLt.le
    exact EReal.coe_le_coe_iff.2 this

/-- Masking the lane of a number masks that lane. -/
theorem mask_number (s : Fin 128 → EReal) (a : Fin 128) : (fun j => if number j = number a then ⊥ else s j) = without s a := by
  funext j
  unfold without
  simp only [number_inj]

/-! ## The first two of the sort -/

theorem without_ne {l : Fin 8 → EReal} (hl : ∀ j, l j ≠ ⊥) {a b : Fin 8} (hb : First (without l a) b) : a ≠ b := by
  intro e
  obtain ⟨j, hj⟩ := exists_ne a
  have h := hb.most j
  rw [← e, without, without, if_neg hj, if_pos rfl] at h
  exact hl j (le_bot_iff.1 h)

/-- On a list in increasing order, two relations that agree on a later element before an earlier one sort alike. -/
theorem stableSort_eq {n : ℕ} (B R : Fin n → Fin n → Bool) (h : ∀ a b, a < b → B b a = R b a) (l : List (Fin n)) (hl : l.Pairwise (· < ·)) :
    stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

theorem sortedFrom_eq {n : ℕ} (B R : Fin n → Fin n → Bool) (h : ∀ a b, a < b → B b a = R b a) (k : Fin n) : sortedFrom B k = sortedFrom R k := by
  unfold sortedFrom
  have e : sortPositions n B = sortPositions n R := stableSort_eq B R h _ (List.pairwise_lt_finRange n)
  rw [List.get_of_eq e]
  rfl

/-- Greater first, and of equal entries the earlier. -/
def Ahead {n : ℕ} (l : Fin n → EReal) (k k' : Fin n) : Bool :=
  decide (l k' < l k) || (decide (l k = l k') && decide (k < k'))

theorem ahead_order {n : ℕ} (l : Fin n → EReal) : StrictTotalBefore (Ahead l) :=
  StrictTotalBefore.of_key_then_position (fun x y : EReal => decide (y < x)) l (by simp)
    (fun a b c h1 h2 => by simp only [decide_eq_true_eq] at h1 h2 ⊢; exact h2.trans h1)
    (fun a b => by
      simp only [decide_eq_true_eq]
      rcases lt_trichotomy a b with h | h | h
      · exact Or.inr (Or.inr h)
      · exact Or.inr (Or.inl h)
      · exact Or.inl h)

theorem not_ahead {n : ℕ} {l : Fin n → EReal} {p a : Fin n} (h : l p ≤ l a) (h' : p < a → l p < l a) : Ahead l p a = false := by
  unfold Ahead
  rw [decide_eq_false (not_lt.2 h), Bool.false_or, Bool.and_eq_false_iff, decide_eq_false_iff_not, decide_eq_false_iff_not]
  by_cases hp : p < a
  · exact Or.inl (h' hp).ne
  · exact Or.inr hp

/-- The sort by a greater-than comparison keeps equal entries in order: its first two are the first greatest entry and the
    first greatest of the rest. -/
theorem sorted_two (l : Fin 8 → EReal) (hl : ∀ j, l j ≠ ⊥) (a b : Fin 8) (ha : First l a) (hb : First (without l a) b) :
    sortedFrom (fun k k' : Fin 8 => Ideal.cmpTotal .gt (l k) (l k') == 1#1) 0 = a
      ∧ sortedFrom (fun k k' : Fin 8 => Ideal.cmpTotal .gt (l k) (l k') == 1#1) 1 = b := by
  have hab := without_ne hl hb
  have hcmp : ∀ x y : EReal, (Ideal.cmpTotal .gt x y == 1#1) = decide (y < x) := fun x y => by
    show (BitVec.ofBool (decide (y < x)) == 1#1) = _
    by_cases h : y < x <;> simp [h]
  have e : ∀ k : Fin 8, sortedFrom (fun k k' : Fin 8 => Ideal.cmpTotal .gt (l k) (l k') == 1#1) k = sortedFrom (Ahead l) k :=
    sortedFrom_eq _ _ fun p q hpq => by
      rw [hcmp, Ahead, decide_eq_false (not_lt.2 hpq.le : ¬ q < p), Bool.and_false, Bool.or_false]
  have low : ∀ p, p ≠ a → l p ≤ l b := fun p hp => by
    have h := hb.most p
    rwa [without, without, if_neg hp, if_neg hab.symm] at h
  have lowEarly : ∀ p, p ≠ a → p < b → l p < l b := fun p hp hpb => by
    have h := hb.early p hpb
    rwa [without, without, if_neg hp, if_neg hab.symm] at h
  have h := (ahead_order l).sortedFrom_eq_of_prefix (k := 2) (by decide) ![a, b]
    (by
      intro i j hij
      fin_cases i <;> fin_cases j
      · rfl
      · exact absurd hij hab
      · exact absurd hij hab.symm
      · rfl)
    (by
      intro i j hij
      fin_cases i <;> fin_cases j
      · exact absurd hij (lt_irrefl _)
      · exact not_ahead (ha.most b) (ha.early b)
      · exact absurd hij (by decide)
      · exact absurd hij (lt_irrefl _))
    (by
      intro i p hp
      fin_cases i
      · exact not_ahead (ha.most p) (ha.early p)
      · exact not_ahead (low p (hp 0).symm) (lowEarly p (hp 0).symm))
  exact ⟨(e 0).trans (h 0), (e 1).trans (h 1)⟩

/-! ## The weights of two entries -/

/-- Two entries' greatest is the first, where it is the greater. -/
theorem peak_two {u v : EReal} (h : v ≤ u) : peak ![u, v] = u := by
  rw [peak_eq_sup]
  refine le_antisymm (Finset.sup_le fun j _ => ?_) (Finset.le_sup (f := ![u, v]) (Finset.mem_univ 0))
  fin_cases j
  · exact le_rfl
  · exact h

/-- The softmax of two real entries, the greater first, through one exponential. -/
theorem weights_two (u v : ℝ) (h : v ≤ u) :
    (∑ j, Ideal.exp ((![(u : EReal), v] : Fin 2 → EReal) j - peak ![(u : EReal), v])) = 1 + Ideal.exp ((v : EReal) - u)
      ∧ Ideal.exp ((u : EReal) - peak ![(u : EReal), v]) = 1 := by
  have e : Ideal.exp ((u : EReal) - u) = 1 := by
    rw [← EReal.coe_sub, sub_self]
    show ((Real.exp 0 : ℝ) : EReal) = 1
    rw [Real.exp_zero, EReal.coe_one]
  rw [peak_two (EReal.coe_le_coe_iff.2 h), Fin.sum_univ_two]
  exact ⟨congrArg (fun s : EReal => s + _) e, e⟩

/-! ## The router's two rows -/

/-- The first and the second expert of a row of logits. -/
def best (l : Fin 8 → EReal) : Fin 8 := first l
def next (l : Fin 8 → EReal) : Fin 8 := first (without l (best l))

/-- The experts' numbers as words, in the first two lanes. -/
def experts (l : Fin 8 → EReal) (j : Fin 128) : BitVec 32 :=
  if j.val = 0 then BitVec.ofNat 32 (best l).val else if j.val = 1 then BitVec.ofNat 32 (next l).val else 0#32

/-- Their weights, in the first two lanes. -/
def shares (l : Fin 8 → EReal) (j : Fin 128) : EReal :=
  if j.val = 0 then Ideal.div 1 (1 + Ideal.exp (l (next l) - l (best l)))
  else if j.val = 1 then Ideal.div (Ideal.exp (l (next l) - l (best l))) (1 + Ideal.exp (l (next l) - l (best l))) else 0

theorem best_spec (l : Fin 8 → EReal) : First l (best l) := first_spec l
theorem next_spec (l : Fin 8 → EReal) : First (without l (best l)) (next l) := first_spec _

/-- A lane's number converts to its word. -/
theorem word_number (a : Fin 128) : Ideal.fptosi 32 (number a) = BitVec.ofNat 32 a.val := by
  have h : Ideal.toIntClamped (-(2 ^ (32 - 1) : Nat)) ((2 ^ (32 - 1) : Nat) - 1) (number a) = (a.val : ℤ) := by
    unfold number
    rw [Ideal.toIntClamped_coe, if_pos (Nat.cast_nonneg _), Int.floor_natCast]
    omega
  unfold Ideal.fptosi
  rw [h, BitVec.ofInt_natCast]

theorem word_zero : Ideal.fptosi 32 0 = 0#32 := word_number 0 ▸ (by unfold number; simp)

end Cert.Proof.TopTwo

end
-- ==== Proof.AttnOutKer.lean ====
/- What the second layer's output projection and routing leave in their three result arrays, over the extended reals. -/
module

public import proofs.«01_k».proof.Kernel7Ideal
public import proofs.«01_k».proof.Proof.Gen.Kernel7Ideal.Value
public import proofs.«01_k».proof.Proof.RouterMath
public import proofs.«01_k».proof.Proof.TopTwo
public import proofs.«01_k».proof.Proof.KerHead
public import Idealize.ShloMosaic.Lib.IdealHost
public import Idealize.ShloMosaic.Lib.KernelVsHost
public import Idealize.ShloMosaic.Lib.Tactic
public import Idealize.ShloMosaic.Lib.WordCmp
public import Idealize.ShloMosaic.Lib.StableHlo.RunRead
public import Idealize.ShloMosaic.Lib.Pipeline.ValueKit.Geometry

@[expose] public section

set_option maxRecDepth 8000

noncomputable section

namespace Cert.Proof.AttnOut

open Idealize.ShloMosaic Idealize.ShloMosaic.TcCoe Idealize.SL.Sem Idealize.ShloMosaic.ValueIdx
open Idealize.ShloMosaic.StableHlo
open Cert.Kernel7Ideal Cert.Kernel7Ideal.Gen Cert.Proof.DenseMath Cert.Proof.RouterMath Cert.Proof.TopTwo
open Cert.Proof.SoftmaxMath (peak)
open Idealize.ShloMosaic.Pipeline (Dat Window)
open Cert.Proof.KerHead (dot_apply negInf)

theorem origin : (![0, 0] : Fin 2 → Nat) = fun _ => 0 := funext fun a => by fin_cases a <;> rfl

/-! ## The normed rows -/

theorem lift2 (r : Fin 512) (j : Fin 1024) : reduces_S512x1024_S512.lift (ix1 r) j = ix2 r j := by
  funext a; fin_cases a <;> rfl

/-- Every row's mean, as a column. -/
noncomputable def means (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

theorem means_apply (v : S512x1024.Idx → EReal) (a : Fin 512) : (means v : S512x1.Idx → EReal) (ix2 a 0) = mean fun k => v (ix2 a k) := by
  unfold means mean
  refine congrArg (fun s : EReal => Ideal.div s _) ?_
  refine (shapeCast_apply _ _ _ (ix1 a) (by rw [Shape.rowMajor_val_two, Shape.rowMajor_val_one]; simp [ix1, ix2])).trans ?_
  refine (Ideal.multiReduction_add_single (φ := .f32) _ 0x00000000#32 reduces_S512x1024_S512 (.inl rfl) rfl (ix1 a)).trans ?_
  exact Finset.sum_congr rfl fun j _ => congrArg v (lift2 a j)

/-- Every row less its mean. -/
noncomputable def centre (v : FVec Ideal S512x1024 .f32) : FVec Ideal S512x1024 .f32 :=
  subf v (broadcastTo S512x1024 (means v) broadcasts_S512x1_S512x1024)

theorem centre_apply (v : S512x1024.Idx → EReal) (a : Fin 512) (q : Fin 1024) :
    (centre v : S512x1024.Idx → EReal) (ix2 a q) = centred (fun k => v (ix2 a k)) q := by
  unfold centre centred
  refine congrArg (fun s : EReal => v (ix2 a q) - s) ?_
  exact (broadcastTo_apply _ _ _ (ix2 a 0) (by intro a; fin_cases a <;> rfl)).trans (means_apply v a)

theorem square_apply (v : S512x1024.Idx → EReal) (a : Fin 512) :
    (means (mulf (F := Ideal) (centre v) (centre v)) : S512x1.Idx → EReal) (ix2 a 0)
      = mean fun k => centred (fun k => v (ix2 a k)) k * centred (fun k => v (ix2 a k)) k :=
  (means_apply _ a).trans (congrArg mean (funext fun k =>
    congr (congrArg (fun s t : EReal => s * t) (centre_apply v a k)) (centre_apply v a k)))

/-- The projected rows, summed with the scaled ones. -/
theorem sums_apply (p : S512x1024.Idx → EReal) (w : S1024x1024.Idx → EReal) (x : S512x1024.Idx → EReal) (a : Fin 512) (q : Fin 1024) :
    (addf (F := Ideal) (φ := .f32) (mulf (broadcast S512x1024 (Scalar.ofBits .f32 0x3FB504F3#32)) x)
        (matmul (F := Ideal) (φ₁ := .bf16) (φ₂ := .bf16) dot_S512x1024_S1024x1024_S512x1024_1_0_0_1_n_n none p
          (shapeCast S1024x1024 w shapeCasts_S1024x1024_S1024x1024) (constant S512x1024 .f32 0x00000000#32)) : S512x1024.Idx → EReal) (ix2 a q)
      = Ideal.ofBits .f32 0x3FB504F3#32 * x (ix2 a q) + ∑ k, p (ix2 a k) * w (ix2 k q) := by
  rw [shapeCast_self]
  exact congrArg (fun s : EReal => _ + s) (dot_apply _ 1024 rfl rfl _ _ _ (fun k => ix2 a k) (fun k => ix2 k q)
      (fun k => by funext a; fin_cases a <;> rfl) (fun k => by funext a; fin_cases a <;> rfl))

/-- The layer norm of the rows the kernel sums. -/
theorem norm_apply (p : S512x1024.Idx → EReal) (w : S1024x1024.Idx → EReal) (x : S512x1024.Idx → EReal) (g b : S1x1024.Idx → EReal) (a : Fin 512) (q : Fin 1024) :
    (k0_pay3 (F := Ideal) p w x g b : S512x1024.Idx → EReal) (ix2 a q)
      = layerNorm (fun q => Ideal.ofBits .f32 0x3FB504F3#32 * x (ix2 a q) + ∑ k, p (ix2 a k) * w (ix2 k q)) (g (ix2 0 q)) (b (ix2 0 q)) q := by
  let v : FVec Ideal S512x1024 .f32 := addf (F := Ideal) (φ := .f32) (mulf (broadcast S512x1024 (Scalar.ofBits .f32 0x3FB504F3#32)) x)
        (matmul (F := Ideal) (φ₁ := .bf16) (φ₂ := .bf16) dot_S512x1024_S1024x1024_S512x1024_1_0_0_1_n_n none p
          (shapeCast S1024x1024 w shapeCasts_S1024x1024_S1024x1024) (constant S512x1024 .f32 0x00000000#32))
  have e : k0_pay3 (F := Ideal) p w x g b
      = addf (mulf (mulf (centre v) (broadcastTo S512x1024 (rsqrt (addf (means (mulf (centre v) (centre v))) (broadcast S512x1 (Scalar.ofBits .f32 0x358637BD#32)))) broadcasts_S512x1_S512x1024))
          (broadcastTo S512x1024 (shapeCast S1x1024 g shapeCasts_S1x1024_S1x1024) broadcasts_S1x1024_S512x1024))
        (broadcastTo S512x1024 (shapeCast S1x1024 b shapeCasts_S1x1024_S1x1024) broadcasts_S1x1024_S512x1024) := rfl
  refine (congrFun e _).trans ?_
  have hv : (fun q => Ideal.ofBits .f32 0x3FB504F3#32 * x (ix2 a q) + ∑ k, p (ix2 a k) * w (ix2 k q)) = fun q => (v : S512x1024.Idx → EReal) (ix2 a q) :=
    funext fun q => (sums_apply p w x a q).symm
  rw [hv]
  unfold layerNorm
  refine congr (congrArg (fun s t : EReal => s + t) (congr (congrArg (fun s t : EReal => s * t)
    (congr (congrArg (fun s t : EReal => s * t) (centre_apply v a q)) ?_)) ?_)) ?_
  · refine (broadcastTo_apply _ _ _ (ix2 a 0) (by intro a; fin_cases a <;> rfl)).trans ?_
    exact congrArg (fun s : EReal => Ideal.rsqrt (s + Ideal.ofBits .f32 0x358637BD#32)) (square_apply v a)
  · exact (broadcastTo_apply _ _ _ (ix2 0 q) (by intro a; fin_cases a <;> rfl)).trans (congrFun (shapeCast_self g _) _)
  · exact (broadcastTo_apply _ _ _ (ix2 0 q) (by intro a; fin_cases a <;> rfl)).trans (congrFun (shapeCast_self b _) _)

/-! ## The routing of a row -/

section Routing

variable (y : S512x1024.Idx → EReal) (w : S1024x128.Idx → EReal)

theorem maskValue : (Named.named κ "mask" 0xF149F2CA#32 : Ideal .f32) = (⊥ : EReal) :=
  IdealRules.named_const.ideal_named_scalar _ _ _ _ rfl

theorem lanes_word : Ideal.ofBits .f32 0x43000000#32 = ((128 : ℝ) : EReal) := by
  simp [Ideal.ofBits, Ideal.ieee]
  rw [← EReal.coe_mul]
  norm_num

theorem posInf : Ideal.ofBits .f32 0x7F800000#32 = ⊤ := by
  simp [Ideal.ofBits, Ideal.ieee]

theorem iota_lane (a : Fin 512) (j : Fin 128) : iota .tc S512x128 32 [1] iota_S512x128_d1_w32 (ix2 a j) = BitVec.ofNat 32 j.val := by
  rw [WordCmp.iota_at]
  simp [ix2]

/-- A lane's number. -/
theorem lane_apply (a : Fin 512) (j : Fin 128) : (k0_pay7 (F := Ideal) : S512x128.Idx → EReal) (ix2 a j) = number j := by
  unfold k0_pay7 number
  show (((iota .tc S512x128 32 [1] iota_S512x128_d1_w32 (ix2 a j)).toInt : ℝ) : EReal) = _
  rw [iota_lane, WordCmp.toInt_ofNat_of_lt (by omega), Int.cast_natCast]

/-- The product of a row in three parts. -/
theorem part_apply (l : S512x1024.Idx → EReal) (r : S1024x128.Idx → EReal) (a : Fin 512) (j : Fin 128) :
    (matmul (F := Ideal) (φ₁ := .bf16) (φ₂ := .bf16) dot_S512x1024_S1024x128_S512x128_1_0_0_1_n_n none l r (constant S512x128 .f32 0x00000000#32) : S512x128.Idx → EReal) (ix2 a j)
      = ∑ k, l (ix2 a k) * r (ix2 k j) :=
  dot_apply _ 1024 rfl rfl _ _ _ (fun k => ix2 a k) (fun k => ix2 k j)
      (fun k => by funext a; fin_cases a <;> rfl) (fun k => by funext a; fin_cases a <;> rfl)

/-- The logits of a row, those past the experts masked. -/
def row (a : Fin 512) (j : Fin 128) : EReal :=
  if j.val < 8 then parts (fun k => y (ix2 a k)) (fun k => w (ix2 k j)) else ⊥

theorem logits_apply (a : Fin 512) (j : Fin 128) : (k0_pay8 (F := Ideal) y w y y : S512x128.Idx → EReal) (ix2 a j) = row y w a j := by
  unfold k0_pay8 row
  rw [select_apply]
  have hc : cmpi .slt (iota .tc S512x128 32 [1] iota_S512x128_d1_w32) (broadcast S512x128 8#32) (ix2 a j) = BitVec.ofBool (decide (j.val < 8)) := by
    show IntOp.cmpi .slt (iota .tc S512x128 32 [1] iota_S512x128_d1_w32 (ix2 a j)) 8#32 = _
    rw [iota_lane, WordCmp.cmpi_slt_eq, WordCmp.toInt_ofNat_of_lt (by omega)]
    exact congrArg BitVec.ofBool (decide_eq_decide.2 (by show (j.val : ℤ) < 8 ↔ _; omega))
  rw [hc, WordCmp.select_decide]
  split
  · unfold parts
    refine congr (congrArg (fun s t : EReal => s + t) (part_apply y w a j)) (congr (congrArg (fun s t : EReal => s + t)
      (part_apply y (fun i => w i - w i) a j)) (part_apply (fun i => y i - y i) w a j))
  · exact maskValue

theorem liftLane (r : Fin 512) (j : Fin 128) : reduces_S512x128_S512.lift (ix1 r) j = ix2 r j := by
  funext a; fin_cases a <;> rfl

/-- A row's greatest entry, as the kernel takes it, -/
theorem greatest_apply (v : FVec Ideal S512x128 .f32) (a : Fin 512) (s : Fin 128 → EReal) (hs : ∀ j, (v (ix2 a j) : EReal) = s j) :
    (shapeCast S512x1 (multiReduction .maximumf [1] S512 v 0xFF800000#32 reduces_S512x128_S512 (.inl rfl) rfl) shapeCasts_S512_S512x1 : S512x1.Idx → EReal) (ix2 a 0)
      = peak s := by
  refine (shapeCast_apply _ _ _ (ix1 a) (by rw [Shape.rowMajor_val_two, Shape.rowMajor_val_one]; simp [ix1, ix2])).trans ?_
  refine (Ideal.multiReduction_maximumf_single (φ := .f32) v 0xFF800000#32 reduces_S512x128_S512 (.inl rfl) rfl (ix1 a)).trans ?_
  unfold peak
  rw [show (FloatOps.ofBits .f32 0xFF800000#32 : Ideal .f32) = (⊥ : EReal) from negInf]
  congr 1
  funext k
  exact (congrArg v (liftLane a k)).trans (hs k)

theorem least_single (v : FVec Ideal S512x128 .f32) (j : S512.Idx) :
    (multiReduction .minimumf [1] S512 v 0x7F800000#32 reduces_S512x128_S512 (.inl rfl) rfl j : EReal)
      = (Finset.univ : Finset (Fin 128)).fold min (FloatOps.ofBits .f32 0x7F800000#32 : Ideal .f32) (v ∘ reduces_S512x128_S512.lift j) := by
  refine (multiReduction_minimumf_eq_fold (F := Ideal) (φ := .f32) v 0x7F800000#32 reduces_S512x128_S512 (.inl rfl) rfl j).trans ?_
  exact reduces_S512x128_S512.fold_filter_drop_single _ _ v j

/-- and its least. -/
theorem least_apply (v : FVec Ideal S512x128 .f32) (a : Fin 512) (s : Fin 128 → EReal) (hs : ∀ j, (v (ix2 a j) : EReal) = s j) :
    (shapeCast S512x1 (multiReduction .minimumf [1] S512 v 0x7F800000#32 reduces_S512x128_S512 (.inl rfl) rfl) shapeCasts_S512_S512x1 : S512x1.Idx → EReal) (ix2 a 0)
      = (Finset.univ : Finset (Fin 128)).fold min ⊤ s := by
  refine (shapeCast_apply _ _ _ (ix1 a) (by rw [Shape.rowMajor_val_two, Shape.rowMajor_val_one]; simp [ix1, ix2])).trans ?_
  refine (least_single v (ix1 a)).trans ?_
  rw [show (FloatOps.ofBits .f32 0x7F800000#32 : Ideal .f32) = (⊤ : EReal) from posInf]
  congr 1
  funext k
  exact (congrArg v (liftLane a k)).trans (hs k)

/-- A column at a lane. -/
theorem column_apply (v : FVec Ideal S512x1 .f32) (a : Fin 512) (j : Fin 128) : (broadcastTo S512x128 v broadcasts_S512x1_S512x128 : S512x128.Idx → EReal) (ix2 a j) = v (ix2 a 0) :=
  broadcastTo_apply _ _ _ (ix2 a 0) (by intro a; fin_cases a <;> rfl)

/-- The number of the lane where a row first takes a value. -/
theorem search_apply (v : FVec Ideal S512x128 .f32) (M : FVec Ideal S512x1 .f32) (a : Fin 512) (s : Fin 128 → EReal) (hs : ∀ j, (v (ix2 a j) : EReal) = s j) :
    (shapeCast S512x1 (multiReduction .minimumf [1] S512 (select (cmpf .oeq v (broadcastTo S512x128 M broadcasts_S512x1_S512x128)) (k0_pay7 (F := Ideal))
        (broadcast S512x128 (Scalar.ofBits .f32 0x43000000#32))) 0x7F800000#32 reduces_S512x128_S512 (.inl rfl) rfl) shapeCasts_S512_S512x1 : S512x1.Idx → EReal) (ix2 a 0)
      = search s (M (ix2 a 0)) := by
  refine least_apply _ a _ fun j => ?_
  rw [select_apply, cmpf_apply, column_apply]
  show Scalar.select (BitVec.ofBool (decide ((v (ix2 a j) : EReal) = _))) _ _ = _
  rw [WordCmp.select_decide, hs, lane_apply]
  exact congrArg (fun t : EReal => if s j = M (ix2 a 0) then number j else t) lanes_word

/-- A vector, masked where another takes a column's value. -/
theorem masked_apply (x v : FVec Ideal S512x128 .f32) (M : FVec Ideal S512x1 .f32) (a : Fin 512) (j : Fin 128) :
    (select (cmpf .oeq x (broadcastTo S512x128 M broadcasts_S512x1_S512x128)) (broadcast S512x128 (Named.named κ "mask" 0xF149F2CA#32 : Ideal .f32)) v
      : S512x128.Idx → EReal) (ix2 a j) = if (x (ix2 a j) : EReal) = M (ix2 a 0) then ⊥ else (v (ix2 a j) : EReal) := by
  rw [select_apply, cmpf_apply, column_apply]
  show Scalar.select (BitVec.ofBool (decide ((x (ix2 a j) : EReal) = _))) _ _ = _
  rw [WordCmp.select_decide]
  exact congrArg (fun t : EReal => if (x (ix2 a j) : EReal) = M (ix2 a 0) then t else (v (ix2 a j) : EReal)) maskValue

theorem expSub_apply (u v : FVec Ideal S512x1 .f32) (i : S512x1.Idx) : (exp (subf u v) : S512x1.Idx → EReal) i = Ideal.exp ((u i : EReal) - v i) := rfl

theorem divide_apply (u v : FVec Ideal S512x1 .f32) (i : S512x1.Idx) : (divf u v : S512x1.Idx → EReal) i = Ideal.div (u i) (v i) := rfl

theorem one_apply (i : S512x1.Idx) : (broadcast S512x1 (Scalar.ofBits (F := Ideal) .f32 0x3F800000#32) : S512x1.Idx → EReal) i = 1 := Ideal.ofBits_one_f32

theorem onePlus_apply (v : FVec Ideal S512x1 .f32) (i : S512x1.Idx) :
    (addf (broadcast S512x1 (Scalar.ofBits (F := Ideal) .f32 0x3F800000#32)) v : S512x1.Idx → EReal) i = 1 + (v i : EReal) :=
  congrArg (fun s : EReal => s + v i) (one_apply i)

section Row

variable (a : Fin 512)

theorem top_apply : (k0_pay9 (F := Ideal) y w y y : S512x1.Idx → EReal) (ix2 a 0) = peak (row y w a) :=
  greatest_apply _ a _ (logits_apply y w a)

theorem topLane_apply : (k0_pay10 (F := Ideal) y w y y : S512x1.Idx → EReal) (ix2 a 0) = search (row y w a) (peak (row y w a)) :=
  (search_apply _ _ a _ (logits_apply y w a)).trans (congrArg _ (top_apply y w a))

/-- The rest of a row, its first greatest entry masked. -/
theorem rest_apply (j : Fin 128) : (k0_pay11 (F := Ideal) y w y y : S512x128.Idx → EReal) (ix2 a j)
    = if number j = search (row y w a) (peak (row y w a)) then ⊥ else row y w a j := by
  unfold k0_pay11
  refine (masked_apply _ _ _ a j).trans ?_
  rw [lane_apply, topLane_apply, logits_apply]

variable (l : Fin 8 → EReal) (hl : row y w a = wide l)
include hl

theorem top_eq : (k0_pay9 (F := Ideal) y w y y : S512x1.Idx → EReal) (ix2 a 0) = l (best l) := by
  rw [top_apply, hl, peak_first (best_spec l).wide, wide_lane]

theorem topLane_eq : (k0_pay10 (F := Ideal) y w y y : S512x1.Idx → EReal) (ix2 a 0) = number (lane (best l)) := by
  rw [topLane_apply, hl, peak_first (best_spec l).wide, search_first (best_spec l).wide]

theorem rest_eq (j : Fin 128) : (k0_pay11 (F := Ideal) y w y y : S512x128.Idx → EReal) (ix2 a j) = wide (without l (best l)) j := by
  rw [rest_apply, hl, peak_first (best_spec l).wide, search_first (best_spec l).wide, ← without_wide, ← mask_number]

theorem second_eq (hb : ∀ j, l j ≠ ⊥) : (k0_pay12 (F := Ideal) y w y y : S512x1.Idx → EReal) (ix2 a 0) = l (next l) := by
  refine (greatest_apply _ a _ (rest_eq y w a l hl)).trans ?_
  rw [peak_first (next_spec l).wide, wide_lane, without, if_neg (without_ne hb (next_spec l)).symm]

theorem secondLane_eq (hb : ∀ j, l j ≠ ⊥) : (k0_pay13 (F := Ideal) y w y y : S512x1.Idx → EReal) (ix2 a 0) = number (lane (next l)) := by
  refine (search_apply _ _ a _ (rest_eq y w a l hl)).trans ?_
  have h : (k0_pay12 (F := Ideal) y w y y : S512x1.Idx → EReal) (ix2 a 0) = wide (without l (best l)) (lane (next l)) := by
    rw [second_eq y w a l hl hb, wide_lane, without, if_neg (without_ne hb (next_spec l)).symm]
  exact (congrArg _ h).trans (search_first (next_spec l).wide)

theorem weight_eq (hb : ∀ j, l j ≠ ⊥) : (k0_pay14 (F := Ideal) y w y y : S512x1.Idx → EReal) (ix2 a 0) = Ideal.exp (l (next l) - l (best l)) := by
  unfold k0_pay14
  refine (expSub_apply _ _ _).trans ?_
  rw [second_eq y w a l hl hb, top_eq y w a l hl]

theorem total_eq (hb : ∀ j, l j ≠ ⊥) : (k0_pay16 (F := Ideal) y w y y : S512x1.Idx → EReal) (ix2 a 0) = 1 + Ideal.exp (l (next l) - l (best l)) := by
  unfold k0_pay16
  refine (onePlus_apply _ _).trans ?_
  rw [weight_eq y w a l hl hb]

theorem topWeight_eq (hb : ∀ j, l j ≠ ⊥) :
    (k0_pay15 (F := Ideal) y w y y : S512x1.Idx → EReal) (ix2 a 0) = Ideal.div 1 (1 + Ideal.exp (l (next l) - l (best l))) := by
  unfold k0_pay15
  refine (divide_apply _ _ _).trans ?_
  rw [one_apply, onePlus_apply, weight_eq y w a l hl hb]

end Row

/-- A lane is compared with a number. -/
theorem lane_cmp (a : Fin 512) (j : Fin 128) (n : Nat) (hn : n < 128) :
    cmpi .eq (iota .tc S512x128 32 [1] iota_S512x128_d1_w32) (broadcast S512x128 (BitVec.ofNat 32 n)) (ix2 a j) = BitVec.ofBool (decide (j.val = n)) := by
  show IntOp.cmpi .eq (iota .tc S512x128 32 [1] iota_S512x128_d1_w32 (ix2 a j)) (BitVec.ofNat 32 n) = _
  rw [iota_lane, WordCmp.cmpi_eq_eq]
  refine congrArg BitVec.ofBool (decide_eq_decide.2 ⟨fun h => ?_, fun h => by rw [h]⟩)
  have := congrArg BitVec.toNat h
  simp only [BitVec.toNat_ofNat] at this
  omega

/-- The first lane takes one column, the second another, the rest nothing. -/
theorem pair_apply (u v : FVec Ideal S512x1 .f32) (a : Fin 512) (j : Fin 128) :
    (select (cmpi .eq (iota .tc S512x128 32 [1] iota_S512x128_d1_w32) (broadcast S512x128 0#32))
        (broadcastTo S512x128 (shapeCast S512x1 u shapeCasts_S512x1_S512x1) broadcasts_S512x1_S512x128)
        (select (cmpi .eq (iota .tc S512x128 32 [1] iota_S512x128_d1_w32) (broadcast S512x128 1#32))
          (broadcastTo S512x128 (shapeCast S512x1 v shapeCasts_S512x1_S512x1) broadcasts_S512x1_S512x128)
          (broadcast S512x128 (Scalar.ofBits (F := Ideal) .f32 0x00000000#32))) : S512x128.Idx → EReal) (ix2 a j)
      = if j.val = 0 then (u (ix2 a 0) : EReal) else if j.val = 1 then (v (ix2 a 0) : EReal) else 0 := by
  rw [select_apply, select_apply, lane_cmp a j 0 (by omega), lane_cmp a j 1 (by omega), WordCmp.select_decide, WordCmp.select_decide,
    shapeCast_self, shapeCast_self, column_apply, column_apply]
  exact congrArg (fun t : EReal => if j.val = 0 then (u (ix2 a 0) : EReal) else if j.val = 1 then (v (ix2 a 0) : EReal) else t) Ideal.ofBits_zero_f32

variable (a : Fin 512) (l : Fin 8 → EReal) (hl : row y w a = wide l) (hb : ∀ j, l j ≠ ⊥)
include hl hb

/-- The experts the kernel names -/
theorem experts_apply (j : Fin 128) :
    k0_pay1 (F := Ideal) (iota .tc S512x128 32 [1] iota_S512x128_d1_w32) (k0_pay10 (F := Ideal) y w y y) (k0_pay13 (F := Ideal) y w y y) (ix2 a j) = experts l j := by
  refine (congrArg (Ideal.fptosi 32) (pair_apply (k0_pay10 (F := Ideal) y w y y) (k0_pay13 (F := Ideal) y w y y) a j)).trans ?_
  rw [topLane_eq y w a l hl, secondLane_eq y w a l hl hb]
  unfold experts
  split
  · exact word_number _
  · split
    · exact word_number _
    · exact word_zero

/-- and their weights. -/
theorem shares_apply (j : Fin 128) :
    (k0_pay2 (F := Ideal) (iota .tc S512x128 32 [1] iota_S512x128_d1_w32) (k0_pay14 (F := Ideal) y w y y) (k0_pay15 (F := Ideal) y w y y)
      (k0_pay16 (F := Ideal) y w y y) : S512x128.Idx → EReal) (ix2 a j) = shares l j := by
  refine (pair_apply (k0_pay15 (F := Ideal) y w y y) (divf (k0_pay14 (F := Ideal) y w y y) (k0_pay16 (F := Ideal) y w y y)) a j).trans ?_
  rw [topWeight_eq y w a l hl hb]
  have h : (divf (k0_pay14 (F := Ideal) y w y y) (k0_pay16 (F := Ideal) y w y y) : S512x1.Idx → EReal) (ix2 a 0)
      = Ideal.div (Ideal.exp (l (next l) - l (best l))) (1 + Ideal.exp (l (next l) - l (best l))) :=
    (divide_apply _ _ _).trans (by rw [weight_eq y w a l hl hb, total_eq y w a l hl hb])
  rw [h]
  rfl

end Routing

/-! ## The blocks at a point -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel

/-- An index of two coordinates, known by the block it lies in and its place there. -/
theorem place {n0 n1 s0 s1 i0 i1 a q : ℕ} (j : (⟨2, ![n0, n1]⟩ : Shape).Idx) (h0 : (j 0).val = i0 * s0 + a) (h1 : (j 1).val = i1 * s1 + q)
    (r : Fin n0) (p : Fin n1) (hr : i0 * s0 + a = r.val) (hp : i1 * s1 + q = p.val) : j = ix2 r p := by
  funext b; fin_cases b
  · exact Fin.ext (h0.trans hr)
  · exact Fin.ext (h1.trans hp)

section Blocks

variable (m : (ℓ : Loc nD τ sig) → Buf (Elt Ideal) ℓ) (c : Dev nD)

theorem points : cfg0.N = 32 := N_0

/-- The arguments, as arrays of the extended reals. -/
noncomputable abbrev heads : S16384x1024.Idx → EReal := m ((c : Thread nD τ).loc main_arg0)
noncomputable abbrev rows : S16384x1024.Idx → EReal := m ((c : Thread nD τ).loc main_arg1)
noncomputable abbrev outs : S1024x1024.Idx → EReal := m ((c : Thread nD τ).loc main_arg2)
noncomputable abbrev gains : S1024.Idx → EReal := m ((c : Thread nD τ).loc main_arg3)
noncomputable abbrev shifts : S1024.Idx → EReal := m ((c : Thread nD τ).loc main_arg4)
noncomputable abbrev router : S1024x8.Idx → EReal := m ((c : Thread nD τ).loc main_arg5)

theorem arr_outs : (V m c main_v1 : S1024x1024.Idx → EReal) = outs m c := by
  unfold V
  simp only [hostOps0, hostOps0_1, hostOps0_2, TRef.unary, TRef.binary, List.flatten_cons, List.flatten_nil, List.append_nil, List.cons_append, List.nil_append]
  after_reads_simp
  rfl

theorem arr_gains : (V m c main_v2 : S1x1024.Idx → EReal) = shapeCast S1x1024 (gains m c) shapeCasts_S1024_S1x1024 := by
  unfold V
  simp only [hostOps0, hostOps0_1, hostOps0_2, TRef.unary, TRef.binary, List.flatten_cons, List.flatten_nil, List.append_nil, List.cons_append, List.nil_append]
  after_reads_simp
  rfl

theorem arr_shifts : (V m c main_v3 : S1x1024.Idx → EReal) = shapeCast S1x1024 (shifts m c) shapeCasts_S1024_S1x1024 := by
  unfold V
  simp only [hostOps0, hostOps0_1, hostOps0_2, TRef.unary, TRef.binary, List.flatten_cons, List.flatten_nil, List.append_nil, List.cons_append, List.nil_append]
  after_reads_simp
  rfl

theorem arr_router : (V m c main_v0 : S1024x128.Idx → EReal)
    = pad S1024x128 ![0, 0] ![0, 120] ![0, 0] (router m c) (sitofp (F := Ideal) .f32 (constantI S_ 32 0#32)) pads_S1024x8_S1024x128_000_01200 h_S_ := by
  unfold V
  simp only [hostOps0, hostOps0_1, hostOps0_2, TRef.unary, TRef.binary, List.flatten_cons, List.flatten_nil, List.append_nil, List.cons_append, List.nil_append]
  after_reads_simp
  rfl

theorem cast_row (v : S1024.Idx → EReal) (q : Fin 1024) : (shapeCast S1x1024 v shapeCasts_S1024_S1x1024 : S1x1024.Idx → EReal) (ix2 0 q) = v (ix1 q) :=
  shapeCast_apply _ _ _ (ix1 q) (by rw [Shape.rowMajor_val_two, Shape.rowMajor_val_one]; simp [ix1, ix2])

/-- Row `a` of the tile of point `t`. -/
abbrev rowAt (t : Fin cfg0.N) (a : Fin 512) : Fin 16384 := ⟨512 * t.val + a.val, by have := points; omega⟩

theorem block0 (t : Fin cfg0.N) (a : Fin 512) (k : Fin 1024) : (iblk m c 0 t : S512x1024.Idx → EReal) (ix2 a k) = heads m c (ix2 (rowAt t a) k) := by
  obtain ⟨h0, h1⟩ := index0 t
  exact (congrArg (V m c main_arg0 : S16384x1024.Idx → EReal) (place _ (Window.rect_emb_val win0_0 t (ix2 a k) 0) (Window.rect_emb_val win0_0 t (ix2 a k) 1)
    (rowAt t a) k (by show win0_0.index t 0 * 512 + a.val = 512 * t.val + a.val; rw [h0]; omega)
    (by show win0_0.index t 1 * 1024 + k.val = k.val; rw [h1]; omega))).trans (congrFun (V_main_arg0 m c) _)

theorem block1 (t : Fin cfg0.N) (a : Fin 512) (k : Fin 1024) : (iblk m c 1 t : S512x1024.Idx → EReal) (ix2 a k) = rows m c (ix2 (rowAt t a) k) := by
  obtain ⟨h0, h1⟩ := index1 t
  exact (congrArg (V m c main_arg1 : S16384x1024.Idx → EReal) (place _ (Window.rect_emb_val win0_1 t (ix2 a k) 0) (Window.rect_emb_val win0_1 t (ix2 a k) 1)
    (rowAt t a) k (by show win0_1.index t 0 * 512 + a.val = 512 * t.val + a.val; rw [h0]; omega)
    (by show win0_1.index t 1 * 1024 + k.val = k.val; rw [h1]; omega))).trans (congrFun (V_main_arg1 m c) _)

theorem block2 (t : Fin cfg0.N) (k q : Fin 1024) : (iblk m c 2 t : S1024x1024.Idx → EReal) (ix2 k q) = outs m c (ix2 k q) := by
  obtain ⟨h0, h1⟩ := index2 t
  exact (congrArg (V m c main_v1 : S1024x1024.Idx → EReal) (place _ (Window.rect_emb_val win0_2 t (ix2 k q) 0) (Window.rect_emb_val win0_2 t (ix2 k q) 1)
    k q (by show win0_2.index t 0 * 1024 + k.val = k.val; rw [h0]; omega)
    (by show win0_2.index t 1 * 1024 + q.val = q.val; rw [h1]; omega))).trans (congrFun (arr_outs m c) _)

theorem block3 (t : Fin cfg0.N) (q : Fin 1024) : (iblk m c 3 t : S1x1024.Idx → EReal) (ix2 0 q) = gains m c (ix1 q) := by
  obtain ⟨h0, h1⟩ := index3 t
  exact ((congrArg (V m c main_v2 : S1x1024.Idx → EReal) (place _ (Window.rect_emb_val win0_3 t (ix2 0 q) 0) (Window.rect_emb_val win0_3 t (ix2 0 q) 1)
    0 q (by show win0_3.index t 0 * 1 + 0 = 0; rw [h0])
    (by show win0_3.index t 1 * 1024 + q.val = q.val; rw [h1]; omega))).trans (congrFun (arr_gains m c) _)).trans (cast_row _ q)

theorem block4 (t : Fin cfg0.N) (q : Fin 1024) : (iblk m c 4 t : S1x1024.Idx → EReal) (ix2 0 q) = shifts m c (ix1 q) := by
  obtain ⟨h0, h1⟩ := index4 t
  exact ((congrArg (V m c main_v3 : S1x1024.Idx → EReal) (place _ (Window.rect_emb_val win0_4 t (ix2 0 q) 0) (Window.rect_emb_val win0_4 t (ix2 0 q) 1)
    0 q (by show win0_4.index t 0 * 1 + 0 = 0; rw [h0])
    (by show win0_4.index t 1 * 1024 + q.val = q.val; rw [h1]; omega))).trans (congrFun (arr_shifts m c) _)).trans (cast_row _ q)

/-- The router's columns are the first eight of the padded ones. -/
theorem block5 (t : Fin cfg0.N) (k : Fin 1024) (e : Fin 8) : (iblk m c 5 t : S1024x128.Idx → EReal) (ix2 k (lane e)) = router m c (ix2 k e) := by
  obtain ⟨h0, h1⟩ := index5 t
  refine ((congrArg (V m c main_v0 : S1024x128.Idx → EReal) (place _ (Window.rect_emb_val win0_5 t (ix2 k (lane e)) 0) (Window.rect_emb_val win0_5 t (ix2 k (lane e)) 1)
    k (lane e) (by show win0_5.index t 0 * 1024 + k.val = k.val; rw [h0]; omega)
    (by show win0_5.index t 1 * 128 + e.val = e.val; rw [h1]; omega))).trans (congrFun (arr_router m c) _)).trans ?_
  exact pad_apply_of_inside _ _ _ _ _ _ _ (ix2 k (lane e)) (ix2 k e) (fun b => by fin_cases b <;> simp [ix2, lane])

end Blocks

/-! ## The three arrays -/

/-- The normed row `r`. -/
def normed (p x : S16384x1024.Idx → EReal) (w : S1024x1024.Idx → EReal) (g b : S1024.Idx → EReal) (r : Fin 16384) (q : Fin 1024) : EReal :=
  layerNorm (fun q => Ideal.ofBits .f32 0x3FB504F3#32 * x (ix2 r q) + ∑ k, p (ix2 r k) * w (ix2 k q)) (g (ix1 q)) (b (ix1 q)) q

/-- Its logits. -/
def logits (p x : S16384x1024.Idx → EReal) (w : S1024x1024.Idx → EReal) (g b : S1024.Idx → EReal) (u : S1024x8.Idx → EReal) (r : Fin 16384) (e : Fin 8) : EReal :=
  ∑ k, normed p x w g b r k * u (ix2 k e)

section Final

variable (m : (ℓ : Loc nD τ sig) → Buf (Elt Ideal) ℓ) (c : Dev nD)

/-- The normed rows of the tile of point `t`. -/
abbrev tile (t : Fin cfg0.N) : S512x1024.Idx → EReal :=
  k0_pay3 (F := Ideal) (iblk m c 0 t) (iblk m c 2 t) (iblk m c 1 t) (iblk m c 3 t) (iblk m c 4 t)

theorem tile_apply (t : Fin cfg0.N) (a : Fin 512) (q : Fin 1024) :
    tile m c t (ix2 a q) = normed (heads m c) (rows m c) (outs m c) (gains m c) (shifts m c) (rowAt t a) q := by
  refine (norm_apply (iblk m c 0 t) (iblk m c 2 t) (iblk m c 1 t) (iblk m c 3 t) (iblk m c 4 t) a q).trans ?_
  unfold normed
  refine congr (congr (congr (congrArg layerNorm (funext fun q => ?_)) (block3 m c t q)) (block4 m c t q)) rfl
  refine congr (congrArg (fun s t : EReal => Ideal.ofBits .f32 0x3FB504F3#32 * s + t) (block1 m c t a q)) (Finset.sum_congr rfl fun k _ => ?_)
  exact congr (congrArg (fun s t : EReal => s * t) (block0 m c t a k)) (block2 m c t k q)

theorem out6 (t : Fin cfg0.N) : out0_6 (F := Ideal) (iblk m c 0 t) (iblk m c 1 t) (iblk m c 2 t) (iblk m c 3 t) (iblk m c 4 t) (iblk m c 5 t) = tile m c t := by
  unfold out0_6
  rw [View.canon_unit_zero (S := S512x1024) origin]
  simp only [View.ld_unit_zero (S := S512x1024) origin, View.ld_unit_zero (S := S1024x1024) origin, View.ld_unit_zero (S := S1x1024) origin]

theorem out7 (t : Fin cfg0.N) : out0_7 (F := Ideal) (iblk m c 0 t) (iblk m c 1 t) (iblk m c 2 t) (iblk m c 3 t) (iblk m c 4 t) (iblk m c 5 t)
    = k0_pay1 (F := Ideal) (iota .tc S512x128 32 [1] iota_S512x128_d1_w32) (k0_pay10 (F := Ideal) (tile m c t) (iblk m c 5 t) (tile m c t) (tile m c t))
        (k0_pay13 (F := Ideal) (tile m c t) (iblk m c 5 t) (tile m c t) (tile m c t)) := by
  unfold out0_7 k0_pay17 k0_pay18 k0_pay19 k0_pay20 k0_pay21 k0_pay6 k0_pay5 k0_pay4
  rw [View.canon_unit_zero (S := S512x128) origin]
  simp only [View.ld_unit_zero (S := S512x1024) origin, View.ld_unit_zero (S := S1024x1024) origin, View.ld_unit_zero (S := S1x1024) origin,
    View.ld_unit_zero (S := S1024x128) origin, shapeCast_self]
  rfl

theorem out8 (t : Fin cfg0.N) : out0_8 (F := Ideal) (iblk m c 0 t) (iblk m c 1 t) (iblk m c 2 t) (iblk m c 3 t) (iblk m c 4 t) (iblk m c 5 t)
    = k0_pay2 (F := Ideal) (iota .tc S512x128 32 [1] iota_S512x128_d1_w32) (k0_pay14 (F := Ideal) (tile m c t) (iblk m c 5 t) (tile m c t) (tile m c t))
        (k0_pay15 (F := Ideal) (tile m c t) (iblk m c 5 t) (tile m c t) (tile m c t)) (k0_pay16 (F := Ideal) (tile m c t) (iblk m c 5 t) (tile m c t) (tile m c t)) := by
  unfold out0_8 k0_pay17 k0_pay18 k0_pay19 k0_pay20 k0_pay21 k0_pay6 k0_pay5 k0_pay4
  rw [View.canon_unit_zero (S := S512x128) origin]
  simp only [View.ld_unit_zero (S := S512x1024) origin, View.ld_unit_zero (S := S1024x1024) origin, View.ld_unit_zero (S := S1x1024) origin,
    View.ld_unit_zero (S := S1024x128) origin, shapeCast_self]
  rfl

/-- The point whose tile holds row `r`. -/
abbrev pointOf (r : Fin 16384) : Fin cfg0.N := ⟨r.val / 512, by have := points; omega⟩

theorem rowAt_pointOf (r : Fin 16384) : rowAt (pointOf r) ⟨r.val % 512, by omega⟩ = r :=
  Fin.ext (by show 512 * (r.val / 512) + r.val % 512 = r.val; omega)

/-- The first array holds the normed rows. -/
theorem final_first (r : Fin 16384) (q : Fin 1024) :
    ((dats m 0 c).arrAt 6 cfg0.N : S16384x1024.Idx → EReal) (ix2 r q) = normed (heads m c) (rows m c) (outs m c) (gains m c) (shifts m c) r q := by
  obtain ⟨h0, h1⟩ := index6 (pointOf r)
  have e : ((cfg0.win 6).blk (pointOf r)).view.emb (ix2 ⟨r.val % 512, by omega⟩ q) = ix2 r q :=
    place _ (Window.rect_emb_val win0_6 (pointOf r) (ix2 ⟨r.val % 512, by omega⟩ q) 0) (Window.rect_emb_val win0_6 (pointOf r) (ix2 ⟨r.val % 512, by omega⟩ q) 1)
      r q (by show win0_6.index (pointOf r) 0 * 512 + r.val % 512 = r.val; rw [h0]; show r.val / 512 * 512 + r.val % 512 = r.val; omega)
      (by show win0_6.index (pointOf r) 1 * 1024 + q.val = q.val; rw [h1]; omega)
  refine (congrArg ((dats m 0 c).arrAt 6 cfg0.N : S16384x1024.Idx → EReal) e.symm).trans ?_
  refine ((dats m 0 c).arrAt_emb_eq_flushed 6 Value.disjoint6 (pointOf r) (flush0_6 _) (ix2 ⟨r.val % 512, by omega⟩ q)).trans ?_
  refine (congrFun (Value.flushed6 m c (pointOf r)) _).trans ?_
  rw [out6]
  exact (tile_apply m c (pointOf r) ⟨r.val % 512, by omega⟩ q).trans (congrArg (fun r => normed _ _ _ _ _ r q) (rowAt_pointOf r))

/-- The gain, the shift and the router are of real numbers. -/
structure Real : Prop where
  gain : ∀ q, ∃ r : ℝ, gains m c q = r
  shift : ∀ q, ∃ r : ℝ, shifts m c q = r
  route : ∀ i, ∃ r : ℝ, router m c i = r

/-- The logits of row `r`. -/
abbrev logitsOf (r : Fin 16384) : Fin 8 → EReal :=
  logits (heads m c) (rows m c) (outs m c) (gains m c) (shifts m c) (router m c) r

theorem normed_real (h : Real m c) (r : Fin 16384) (q : Fin 1024) :
    ∃ s : ℝ, normed (heads m c) (rows m c) (outs m c) (gains m c) (shifts m c) r q = s :=
  norm_real _ _ _ (h.gain _) (h.shift _) q

/-- A sum of products of reals is real. -/
theorem logits_real (h : Real m c) (r : Fin 16384) (e : Fin 8) : ∃ s : ℝ, logitsOf m c r e = s := by
  choose y hy using normed_real m c h r
  choose u hu using fun k => h.route (ix2 k e)
  refine ⟨∑ k, y k * u k, ?_⟩
  unfold logitsOf logits
  rw [Cert.Proof.SoftmaxMath.coe_sum]
  exact Finset.sum_congr rfl fun k _ => by rw [hy, hu, EReal.coe_mul]

theorem logits_ne (h : Real m c) (r : Fin 16384) (e : Fin 8) : logitsOf m c r e ≠ ⊥ := by
  obtain ⟨s, hs⟩ := logits_real m c h r e
  rw [hs]
  exact EReal.coe_ne_bot s

/-- The kernel's logits of a row. -/
theorem row_eq (h : Real m c) (t : Fin cfg0.N) (a : Fin 512) : row (tile m c t) (iblk m c 5 t) a = wide (logitsOf m c (rowAt t a)) := by
  funext j
  unfold row wide
  split
  · rename_i hj
    have hy : (fun k => tile m c t (ix2 a k)) = fun k => normed (heads m c) (rows m c) (outs m c) (gains m c) (shifts m c) (rowAt t a) k :=
      funext fun k => tile_apply m c t a k
    have hw : (fun k : Fin 1024 => (iblk m c 5 t : S1024x128.Idx → EReal) (ix2 k j)) = fun k => router m c (ix2 k ⟨j.val, hj⟩) :=
      funext fun k => block5 m c t k ⟨j.val, hj⟩
    rw [hy]
    refine (congrArg (parts _) hw).trans ?_
    exact parts_eq _ _ (normed_real m c h _) (fun k => h.route _)
  · rfl

/-- The second array names the experts, -/
theorem final_second (h : Real m c) (r : Fin 16384) (j : Fin 128) :
    ((dats m 0 c).arrAt 7 cfg0.N : S16384x128.Idx → BitVec 32) (ix2 r j) = experts (logitsOf m c r) j := by
  obtain ⟨h0, h1⟩ := index7 (pointOf r)
  have e : ((cfg0.win 7).blk (pointOf r)).view.emb (ix2 ⟨r.val % 512, by omega⟩ j) = ix2 r j :=
    place _ (Window.rect_emb_val win0_7 (pointOf r) (ix2 ⟨r.val % 512, by omega⟩ j) 0) (Window.rect_emb_val win0_7 (pointOf r) (ix2 ⟨r.val % 512, by omega⟩ j) 1)
      r j (by show win0_7.index (pointOf r) 0 * 512 + r.val % 512 = r.val; rw [h0]; show r.val / 512 * 512 + r.val % 512 = r.val; omega)
      (by show win0_7.index (pointOf r) 1 * 128 + j.val = j.val; rw [h1]; omega)
  refine (congrArg ((dats m 0 c).arrAt 7 cfg0.N : S16384x128.Idx → BitVec 32) e.symm).trans ?_
  refine ((dats m 0 c).arrAt_emb_eq_flushed 7 Value.disjoint7 (pointOf r) (flush0_7 _) (ix2 ⟨r.val % 512, by omega⟩ j)).trans ?_
  refine (congrFun (Value.flushed7 m c (pointOf r)) _).trans ?_
  rw [out7]
  exact (experts_apply (tile m c (pointOf r)) (iblk m c 5 (pointOf r)) ⟨r.val % 512, by omega⟩ _ (row_eq m c h _ _) (logits_ne m c h _) j).trans
    (congrArg (fun r => experts (logitsOf m c r) j) (rowAt_pointOf r))

/-- and the third holds their weights. -/
theorem final_third (h : Real m c) (r : Fin 16384) (j : Fin 128) :
    ((dats m 0 c).arrAt 8 cfg0.N : S16384x128.Idx → EReal) (ix2 r j) = shares (logitsOf m c r) j := by
  obtain ⟨h0, h1⟩ := index8 (pointOf r)
  have e : ((cfg0.win 8).blk (pointOf r)).view.emb (ix2 ⟨r.val % 512, by omega⟩ j) = ix2 r j :=
    place _ (Window.rect_emb_val win0_8 (pointOf r) (ix2 ⟨r.val % 512, by omega⟩ j) 0) (Window.rect_emb_val win0_8 (pointOf r) (ix2 ⟨r.val % 512, by omega⟩ j) 1)
      r j (by show win0_8.index (pointOf r) 0 * 512 + r.val % 512 = r.val; rw [h0]; show r.val / 512 * 512 + r.val % 512 = r.val; omega)
      (by show win0_8.index (pointOf r) 1 * 128 + j.val = j.val; rw [h1]; omega)
  refine (congrArg ((dats m 0 c).arrAt 8 cfg0.N : S16384x128.Idx → EReal) e.symm).trans ?_
  refine ((dats m 0 c).arrAt_emb_eq_flushed 8 Value.disjoint8 (pointOf r) (flush0_8 _) (ix2 ⟨r.val % 512, by omega⟩ j)).trans ?_
  refine (congrFun (Value.flushed8 m c (pointOf r)) _).trans ?_
  rw [out8]
  exact (shares_apply (tile m c (pointOf r)) (iblk m c 5 (pointOf r)) ⟨r.val % 512, by omega⟩ _ (row_eq m c h _ _) (logits_ne m c h _) j).trans
    (congrArg (fun r => shares (logitsOf m c r) j) (rowAt_pointOf r))

end Final

end Cert.Proof.AttnOut

end
-- ==== Proof.AttnOutRef.lean ====
/- The plain output projection and routing of the reference, read at an entry over the extended reals. -/
module

public import proofs.«01_k».proof.Reference7Ideal
public import proofs.«01_k».proof.Proof.Gen.Reference7Ideal.Run
public import proofs.«01_k».proof.Proof.RouterMath
public import proofs.«01_k».proof.Proof.TopTwo
public import proofs.«01_k».proof.Proof.RefTrip
public import Idealize.ShloMosaic.Lib.IdealHost
public import Idealize.ShloMosaic.Lib.KernelVsHost
public import Idealize.ShloMosaic.Lib.Pointwise.Reduce

@[expose] public section

set_option maxRecDepth 8000

noncomputable section

namespace Cert.Proof.AttnOutRef

open Idealize.ShloMosaic hiding ix1 ix2 ix3
open Idealize.ShloMosaic.TcCoe Idealize.SL.Sem
open Idealize.ShloMosaic.ValueIdx (ix1 ix2 ix3)
open Cert.Reference7Ideal Cert.Reference7Ideal.Gen
open Cert.Proof.RefTrip (dot_apply negInf)
open Cert.Proof.SoftmaxMath (peak)
open Cert.Proof.DenseMath Cert.Proof.TopTwo

variable (p : FVec Ideal S16384x1024 .bf16) (x : FVec Ideal S16384x1024 .f32) (w : FVec Ideal S1024x1024 .f32) (g b : FVec Ideal S1024 .f32)
  (u : FVec Ideal S1024x8 .f32)

/-! ## The reference's arrays -/

/-- The scaled rows and the projected ones, summed. -/
def sums : FVec Ideal S16384x1024 .f32 :=
  addf (mulf (broadcastInDim S16384x1024 ![] bcast_S_S16384x1024 (constant S_ .f32 0x3FB504F3#32)) x)
    (Host.dotGeneral (F := Ideal) (φ₁ := .f32) (φ₂ := .f32) dot_S16384x1024_S1024x1024_S16384x1024_1_0_0_1_n_n none (extf .f32 p bitsLt_bf16_f32) w)

/-- The mean of every row. -/
def means (h : FVec Ideal S16384x1024 .f32) : FVec Ideal S16384x1 .f32 :=
  Host.divf (broadcastInDim S16384x1 ![0] bcast_S16384_S16384x1_0 (Host.reduceAdd h (constant S_ .f32 0x00000000#32) reducesTo_S16384x1024_S16384_d1 h_S_))
    (broadcastInDim S16384x1 ![] bcast_S_S16384x1 (constant S_ .f32 0x44800000#32))

/-- The rows less their means. -/
def offsets (h : FVec Ideal S16384x1024 .f32) : FVec Ideal S16384x1024 .f32 :=
  subf h (broadcastInDim S16384x1024 ![0, 1] bcast_S16384x1_S16384x1024_0_1 (means h))

/-- The root of every row's variance, inverted. -/
def scales (h : FVec Ideal S16384x1024 .f32) : FVec Ideal S16384x1 .f32 :=
  Host.rsqrt (addf (means (mulf (offsets h) (offsets h))) (broadcastInDim S16384x1 ![] bcast_S_S16384x1 (constant S_ .f32 0x358637BD#32)))

/-- A vector along every row. -/
def along (v : FVec Ideal S1024 .f32) : FVec Ideal S16384x1024 .f32 :=
  broadcastInDim S16384x1024 ![0, 1] bcast_S1x1024_S16384x1024_0_1 (broadcastInDim S1x1024 ![1] bcast_S1024_S1x1024_1 v)

/-- The rows normalized, scaled and shifted. -/
def normed (h : FVec Ideal S16384x1024 .f32) : FVec Ideal S16384x1024 .f32 :=
  addf (mulf (mulf (offsets h) (broadcastInDim S16384x1024 ![0, 1] bcast_S16384x1_S16384x1024_0_1 (scales h))) (along g)) (along b)

/-- The reference's first result. -/
def result : FVec Ideal S16384x1024 .f32 := normed g b (sums p x w)

/-- The logits of every row. -/
def routes (y : FVec Ideal S16384x1024 .f32) : FVec Ideal S16384x8 .f32 :=
  Host.dotGeneral (F := Ideal) (φ₁ := .f32) (φ₂ := .f32) dot_S16384x1024_S1024x8_S16384x8_1_0_0_1_n_n none y u

/-- The two greatest of every row, with their places. -/
def top (z : FVec Ideal S16384x8 .f32) : FVec Ideal S16384x2 .f32 × IVec S16384x2 32 :=
  Host.topK S16384x2 1 (FloatOps.cmpfTotal (F := Ideal) (φ := .f32) .gt) z sliceFits_S16384x8_S16384x2

/-- A column along the pair. -/
def across (v : FVec Ideal S16384 .f32) : FVec Ideal S16384x2 .f32 :=
  broadcastInDim S16384x2 ![0, 1] bcast_S16384x1_S16384x2_0_1 (broadcastInDim S16384x1 ![0] bcast_S16384_S16384x1_0 v)

/-- The exponentials of a pair less its greatest entry. -/
def powers (v : FVec Ideal S16384x2 .f32) : FVec Ideal S16384x2 .f32 :=
  Host.exp (subf v (across (maximumf (broadcastInDim S16384 ![] bcast_S_S16384 (constant S_ .f32 0xFF800000#32))
    (Host.reduce FloatOps.maximumf v (constant S_ .f32 0xFF800000#32) reducesTo_S16384x2_S16384_d1 h_S_))))

/-- The softmax of a pair. -/
def soft (v : FVec Ideal S16384x2 .f32) : FVec Ideal S16384x2 .f32 :=
  Host.divf (powers v) (across (Host.reduceAdd (powers v) (constant S_ .f32 0x00000000#32) reducesTo_S16384x2_S16384_d1 h_S_))

/-- The reference's second and third results. -/
def places : IVec S16384x128 32 :=
  pad S16384x128 ![0, 0] ![0, 126] ![0, 0] (top (routes u (result p x w g b))).2 (id (constantI S_ 32 0#32)) pads_S16384x2_S16384x128_000_01260 h_S_
def weights : FVec Ideal S16384x128 .f32 :=
  pad S16384x128 ![0, 0] ![0, 126] ![0, 0] (soft (top (routes u (result p x w g b))).1) (sitofp (F := Ideal) .f32 (constantI S_ 32 0#32)) pads_S16384x2_S16384x128_000_01260 h_S_

/-! ## Read at an index -/

theorem sums_apply (r : Fin 16384) (q : Fin 1024) :
    sums p x w (ix2 r q) = Ideal.ofBits .f32 0x3FB504F3#32 * x (ix2 r q) + ∑ k : Fin 1024, (p (ix2 r k) : EReal) * w (ix2 k q) := by
  unfold sums
  refine congrArg (fun s : EReal => Ideal.ofBits .f32 0x3FB504F3#32 * x (ix2 r q) + s) ?_
  exact dot_apply _ 1024 rfl rfl _ _ _ (fun f => ix2 r f) (fun f => ix2 f q)
    (fun t => by funext a; fin_cases a <;> rfl) (fun t => by funext a; fin_cases a <;> rfl)

theorem means_apply (h : FVec Ideal S16384x1024 .f32) (r : Fin 16384) : means h (ix2 r 0) = mean fun k => h (ix2 r k) := by
  unfold means mean
  refine congrArg (fun s : EReal => Ideal.div s (Ideal.ofBits .f32 0x44800000#32)) ?_
  refine (broadcastInDim_apply _ _ _ _ (ix1 r) (fun b => by fin_cases b; rfl)).trans ?_
  rw [ValueIdx.hostReduceAdd_apply, Ideal.hostReduceAdd_r2_a1]
  have z : (constant (F := Ideal) S_ .f32 0x00000000#32 (Shape.Idx.first h_S_) : EReal) = 0 := Ideal.ofBits_zero_f32
  rw [z, zero_add]
  rfl

theorem offsets_apply (h : FVec Ideal S16384x1024 .f32) (r : Fin 16384) (q : Fin 1024) : offsets h (ix2 r q) = centred (fun k => h (ix2 r k)) q := by
  unfold offsets centred
  exact congrArg (fun s : EReal => h (ix2 r q) - s)
    ((broadcastInDim_apply _ _ _ _ (ix2 r 0) (fun b => by fin_cases b <;> rfl)).trans (means_apply h r))

theorem scales_apply (h : FVec Ideal S16384x1024 .f32) (r : Fin 16384) :
    scales h (ix2 r 0) = Ideal.rsqrt (mean (fun k => centred (fun k => h (ix2 r k)) k * centred (fun k => h (ix2 r k)) k) + Ideal.ofBits .f32 0x358637BD#32) := by
  unfold scales
  refine congrArg (fun s : EReal => Ideal.rsqrt (s + Ideal.ofBits .f32 0x358637BD#32)) ((means_apply _ r).trans (congrArg mean (funext fun k => ?_)))
  exact congr (congrArg (fun s t : EReal => s * t) (offsets_apply h r k)) (offsets_apply h r k)

theorem along_apply (v : FVec Ideal S1024 .f32) (r : Fin 16384) (q : Fin 1024) : along v (ix2 r q) = v (ix1 q) := by
  unfold along
  refine (broadcastInDim_apply _ _ _ _ (ix2 0 q) (fun b => by fin_cases b <;> rfl)).trans ?_
  exact broadcastInDim_apply _ _ _ _ (ix1 q) (fun b => by fin_cases b; rfl)

theorem normed_apply (h : FVec Ideal S16384x1024 .f32) (r : Fin 16384) (q : Fin 1024) :
    normed g b h (ix2 r q) = layerNorm (fun k => h (ix2 r k)) (g (ix1 q)) (b (ix1 q)) q := by
  unfold layerNorm
  have s : (broadcastInDim S16384x1024 ![0, 1] bcast_S16384x1_S16384x1024_0_1 (scales h) : S16384x1024.Idx → EReal) (ix2 r q)
      = Ideal.rsqrt (mean (fun k => centred (fun k => h (ix2 r k)) k * centred (fun k => h (ix2 r k)) k) + Ideal.ofBits .f32 0x358637BD#32) :=
    (broadcastInDim_apply _ _ _ _ (ix2 r 0) (fun b => by fin_cases b <;> rfl)).trans (scales_apply h r)
  exact congr (congrArg (fun s t : EReal => s + t) (congr (congrArg (fun s t : EReal => s * t)
    (congr (congrArg (fun s t : EReal => s * t) (offsets_apply h r q)) s)) (along_apply g r q))) (along_apply b r q)

/-- The first result at an entry. -/
theorem result_apply (r : Fin 16384) (q : Fin 1024) :
    result p x w g b (ix2 r q)
      = layerNorm (fun q => Ideal.ofBits .f32 0x3FB504F3#32 * x (ix2 r q) + ∑ k : Fin 1024, (p (ix2 r k) : EReal) * w (ix2 k q)) (g (ix1 q)) (b (ix1 q)) q := by
  unfold result
  exact (normed_apply g b _ r q).trans (congrArg (fun h => layerNorm h (g (ix1 q)) (b (ix1 q)) q) (funext fun k => sums_apply p x w r k))

theorem routes_apply (y : FVec Ideal S16384x1024 .f32) (r : Fin 16384) (e : Fin 8) :
    routes u y (ix2 r e) = ∑ k : Fin 1024, (y (ix2 r k) : EReal) * u (ix2 k e) := by
  unfold routes
  exact dot_apply _ 1024 rfl rfl _ _ _ (fun f => ix2 r f) (fun f => ix2 f e)
    (fun t => by funext a; fin_cases a <;> rfl) (fun t => by funext a; fin_cases a <;> rfl)

/-- The place of the `n`-th greatest entry of a row. -/
def placeOf (l : Fin 8 → EReal) (n : Fin 2) : Fin 8 := sortedFrom (fun k k' : Fin 8 => Ideal.cmpTotal .gt (l k) (l k') == 1#1) ⟨n.val, by omega⟩

theorem along_row (r : Fin 16384) (e k : Fin 8) : Shape.Idx.along (s := S16384x8) (ix2 r e) 1 k = ix2 r k := by
  funext a; fin_cases a <;> rfl

theorem before_eq {s s' t t' : EReal} (h : s = s') (h' : t = t') :
    (Ideal.cmpTotal .gt s t == 1#1) = (Ideal.cmpTotal .gt s' t' == 1#1) := by rw [h, h']

theorem top_value (z : FVec Ideal S16384x8 .f32) (r : Fin 16384) (n : Fin 2) (l : Fin 8 → EReal) (hl : ∀ e, (z (ix2 r e) : EReal) = l e) :
    ((top z).1 (ix2 r n) : EReal) = l (placeOf l n) := by
  obtain rfl : (fun e => (z (ix2 r e) : EReal)) = l := funext hl
  unfold top Host.topK Host.sort2
  simp only [show (1 : Nat) < S16384x8.rank from by decide, dif_pos]
  refine (extractStridedSlice_apply _ _ _ _ (ix2 r ⟨n.val, by omega⟩) (fun b => by fin_cases b <;> simp [ix2])).trans ?_
  refine congrArg z ((along_row r _ _).trans (congrArg (ix2 r) ?_))
  unfold placeOf
  refine congrArg (fun f => sortedFrom f (⟨n.val, by omega⟩ : Fin 8)) (funext fun k => funext fun k' => ?_)
  exact before_eq (congrArg z (along_row r ⟨n.val, by omega⟩ k)) (congrArg z (along_row r ⟨n.val, by omega⟩ k'))

theorem top_place (z : FVec Ideal S16384x8 .f32) (r : Fin 16384) (n : Fin 2) (l : Fin 8 → EReal) (hl : ∀ e, (z (ix2 r e) : EReal) = l e) :
    (top z).2 (ix2 r n) = BitVec.ofNat 32 (placeOf l n).val := by
  obtain rfl : (fun e => (z (ix2 r e) : EReal)) = l := funext hl
  unfold top Host.topK Host.sort2
  simp only [show (1 : Nat) < S16384x8.rank from by decide, dif_pos]
  refine (extractStridedSlice_apply _ _ _ _ (ix2 r ⟨n.val, by omega⟩) (fun b => by fin_cases b <;> simp [ix2])).trans ?_
  show BitVec.ofNat 32 (Fin.val _) = _
  refine congrArg (fun i : Fin 8 => BitVec.ofNat 32 i.val) ?_
  unfold placeOf
  refine congrArg (fun f => sortedFrom f (⟨n.val, by omega⟩ : Fin 8)) (funext fun k => funext fun k' => ?_)
  exact before_eq (congrArg z (along_row r ⟨n.val, by omega⟩ k)) (congrArg z (along_row r ⟨n.val, by omega⟩ k'))

theorem across_apply (v : FVec Ideal S16384 .f32) (r : Fin 16384) (n : Fin 2) : across v (ix2 r n) = v (ix1 r) := by
  unfold across
  refine (broadcastInDim_apply _ _ _ _ (ix2 r 0) (fun b => by fin_cases b <;> rfl)).trans ?_
  exact broadcastInDim_apply _ _ _ _ (ix1 r) (fun b => by fin_cases b; rfl)

theorem reduces2 : S16384x2.Reduces [1] S16384 := by decide

theorem lift2 (r : Fin 16384) (n : Fin 2) : reduces2.lift (ix1 r) n = ix2 r n := by
  funext a; fin_cases a <;> rfl

theorem powers_apply (v : FVec Ideal S16384x2 .f32) (r : Fin 16384) (n : Fin 2) (s : Fin 2 → EReal) (hs : ∀ n, (v (ix2 r n) : EReal) = s n) :
    (powers v (ix2 r n) : EReal) = Ideal.exp (s n - peak s) := by
  unfold powers
  have hp : ((Host.reduce FloatOps.maximumf v (constant S_ .f32 0xFF800000#32) reducesTo_S16384x2_S16384_d1 h_S_ : FVec Ideal S16384 .f32) (ix1 r) : EReal)
      = peak s := by
    refine (congrFun (hostReduce_maximumf_eq_multiReduction (F := Ideal) (φ := .f32) v 0xFF800000#32
      reducesTo_S16384x2_S16384_d1 h_S_ reduces2 (.inl rfl) rfl) (ix1 r)).trans ?_
    refine (Ideal.multiReduction_maximumf_single (φ := .f32) v 0xFF800000#32 reduces2 (.inl rfl) rfl (ix1 r)).trans ?_
    unfold peak
    rw [show (FloatOps.ofBits .f32 0xFF800000#32 : Ideal .f32) = (⊥ : EReal) from negInf]
    congr 1
    funext j
    exact (congrArg v (lift2 r j)).trans (hs j)
  have hm : (across (maximumf (broadcastInDim S16384 ![] bcast_S_S16384 (constant S_ .f32 0xFF800000#32))
      (Host.reduce FloatOps.maximumf v (constant S_ .f32 0xFF800000#32) reducesTo_S16384x2_S16384_d1 h_S_)) (ix2 r n) : EReal) = peak s := by
    refine (across_apply _ r n).trans ?_
    refine (congr (congrArg (fun s t : EReal => max s t) (negInf : Ideal.ofBits .f32 0xFF800000#32 = (⊥ : EReal))) hp).trans ?_
    exact max_eq_right bot_le
  exact congrArg Ideal.exp (congr (congrArg (fun s t : EReal => s - t) (hs n)) hm)

theorem total_apply (v : FVec Ideal S16384x2 .f32) (r : Fin 16384) :
    ((Host.reduceAdd v (constant S_ .f32 0x00000000#32) reducesTo_S16384x2_S16384_d1 h_S_ : FVec Ideal S16384 .f32) (ix1 r) : EReal)
      = ∑ k, (v (ix2 r k) : EReal) := by
  rw [ValueIdx.hostReduceAdd_apply, Ideal.hostReduceAdd_r2_a1]
  have z : (constant (F := Ideal) S_ .f32 0x00000000#32 (Shape.Idx.first h_S_) : EReal) = 0 := Ideal.ofBits_zero_f32
  rw [z, zero_add]
  rfl

theorem quotient_apply (u v : FVec Ideal S16384x2 .f32) (i : S16384x2.Idx) : (Host.divf u v i : EReal) = Ideal.div (u i) (v i) := rfl

theorem soft_apply (v : FVec Ideal S16384x2 .f32) (r : Fin 16384) (n : Fin 2) (s : Fin 2 → EReal) (hs : ∀ n, (v (ix2 r n) : EReal) = s n) :
    (soft v (ix2 r n) : EReal) = Ideal.div (Ideal.exp (s n - peak s)) (∑ k, Ideal.exp (s k - peak s)) := by
  unfold soft
  rw [quotient_apply, powers_apply v r n s hs, across_apply, total_apply]
  exact congrArg _ (Finset.sum_congr rfl fun k _ => powers_apply v r k s hs)

/-- A pair padded: inside, -/
theorem pad_inside {α : Type} (v : S16384x2.Idx → α) (o : S_.Idx → α) (r : Fin 16384) (j : Fin 128) (n : Fin 2) (h : n.val = j.val) :
    pad S16384x128 ![0, 0] ![0, 126] ![0, 0] v o pads_S16384x2_S16384x128_000_01260 h_S_ (ix2 r j) = v (ix2 r n) :=
  pad_apply_of_inside _ _ _ _ _ _ _ (ix2 r j) (ix2 r n) (fun b => by fin_cases b <;> simp [ix2, h])

/-- and outside. -/
theorem pad_outside {α : Type} (v : S16384x2.Idx → α) (o : S_.Idx → α) (r : Fin 16384) (j : Fin 128) (h : 2 ≤ j.val) :
    pad S16384x128 ![0, 0] ![0, 126] ![0, 0] v o pads_S16384x2_S16384x128_000_01260 h_S_ (ix2 r j) = o (Shape.Idx.first h_S_) :=
  pad_apply_of_not_inside _ _ _ _ _ _ _ (ix2 r j) 1 (fun hk => by
    have h3 : (j.val - 0) / (0 + 1) < 2 := hk.2.2
    omega)

section Routed

variable (l : Fin 8 → EReal) (r : Fin 16384) (hl : ∀ e, (routes u (result p x w g b) (ix2 r e) : EReal) = l e) (hr : ∀ e, ∃ s : ℝ, l e = s)
include hr

theorem places_two : placeOf l 0 = best l ∧ placeOf l 1 = next l :=
  sorted_two l (fun j => by obtain ⟨s, hs⟩ := hr j; rw [hs]; exact EReal.coe_ne_bot s) (best l) (next l) (best_spec l) (next_spec l)

include hl

/-- The second result at an entry, -/
theorem places_apply (j : Fin 128) : places p x w g b u (ix2 r j) = experts l j := by
  obtain ⟨h0, h1⟩ := places_two l hr
  unfold places experts
  split
  · rename_i h
    rw [pad_inside _ _ r j 0 h.symm, top_place _ r 0 l hl, h0]
  · split
    · rename_i h
      rw [pad_inside _ _ r j 1 h.symm, top_place _ r 1 l hl, h1]
    · exact pad_outside _ _ r j (by omega)

/-- and the third. -/
theorem weights_apply (j : Fin 128) : (weights p x w g b u (ix2 r j) : EReal) = shares l j := by
  obtain ⟨h0, h1⟩ := places_two l hr
  obtain ⟨s, hs⟩ := hr (best l)
  obtain ⟨t, ht⟩ := hr (next l)
  have hle : t ≤ s := by
    have h := (best_spec l).most (next l)
    rw [hs, ht] at h
    exact EReal.coe_le_coe_iff.1 h
  have hv : ∀ n, ((top (routes u (result p x w g b))).1 (ix2 r n) : EReal) = (![(s : EReal), t] : Fin 2 → EReal) n := fun n => by
    rw [top_value _ r n l hl]
    fin_cases n
    · exact (congrArg l h0).trans hs
    · exact (congrArg l h1).trans ht
  obtain ⟨e0, e1⟩ := weights_two s t hle
  unfold weights shares
  rw [hs, ht]
  split
  · rename_i h
    rw [pad_inside _ _ r j 0 h.symm]
    refine (soft_apply _ r 0 _ hv).trans ?_
    rw [e0]
    exact congrArg (fun q : EReal => Ideal.div q _) e1
  · split
    · rename_i h
      rw [pad_inside _ _ r j 1 h.symm]
      refine (soft_apply _ r 1 _ hv).trans ?_
      rw [e0, peak_two (EReal.coe_le_coe_iff.2 hle)]
      rfl
    · refine (pad_outside _ _ r j (by omega)).trans ?_
      show (((0#32 : BitVec 32).toInt : ℝ) : EReal) = 0
      simp

end Routed

/-! ## The three results -/

section Results

variable (m : (ℓ : Loc nD τ sig) → Buf (Elt Ideal) ℓ) (c : Dev nD)

theorem third_eq : (Value.res_main_v40 (F := Ideal) m c : S16384x128.Idx → EReal)
    = weights (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Value.res_main_v40
  rfl

end Results

end Cert.Proof.AttnOutRef

end
-- ==== Proof.AttnOutEq.lean ====
/- The second layer's output projection and routing: the kernel and its plain reference compute one triple of arrays over
   the extended reals, of a real gain, shift and router; and the frames of both. -/
module

public import proofs.«01_k».proof.Defs
public import proofs.«01_k».proof.Proof.Gen.Kernel7
public import proofs.«01_k».proof.Proof.Gen.Kernel7.Frame
public import proofs.«01_k».proof.Proof.AttnOutKer
public import proofs.«01_k».proof.Proof.AttnOutRef
public import proofs.«01_k».proof.Proof.Attention
public import Idealize.ShloMosaic.Lib.WordCmp
public import Idealize.ShloMosaic.Lib.ReduceAll

@[expose] public section

set_option maxRecDepth 8000

noncomputable section

namespace Cert.Proof.AttnOutEq

open Idealize.ShloMosaic hiding ix1 ix2 ix3
open Idealize.ShloMosaic.TcCoe Idealize.SL.Sem
open Idealize.ShloMosaic.ValueIdx (ix1 ix2 ix3)
open Cert.Kernel7Ideal Cert.Kernel7Ideal.Gen

/-- The precondition says that the gain, the shift and the router are of real numbers. -/
theorem real_of_finite [Cert.Pre_finite7.Facts] (p : FVec Ideal S16384x1024 .bf16) (x : FVec Ideal S16384x1024 .f32) (w : FVec Ideal S1024x1024 .f32)
    (g b : FVec Ideal S1024 .f32) (u : FVec Ideal S1024x8 .f32) (h : Cert.Pre_finite7.fn (F := Ideal) p x w g b u = fun _ => 1#1) :
    (∀ q, ∃ r : ℝ, (g q : EReal) = r) ∧ (∀ q, ∃ r : ℝ, (b q : EReal) = r) ∧ ∀ i, ∃ r : ℝ, (u i : EReal) = r := by
  have h0 := congrFun h (fun a => Fin.elim0 a)
  have h1 := IntOp.andi_eq_one.1 h0
  have h2 := IntOp.andi_eq_one.1 h1.1
  haveI hs : Subsingleton (Cert.Pre_finite7.S_).Idx := ⟨fun a b => funext fun i => Fin.elim0 i⟩
  exact ⟨fun j => Attention.real_of_abs_lt _ (Host.reduce_andi_all _ _ _ _ _ h2.1 j),
    fun j => Attention.real_of_abs_lt _ (Host.reduce_andi_all _ _ _ _ _ h2.2 j),
    fun j => Attention.real_of_abs_lt _ (Host.reduce_andi_all _ _ _ _ _ h1.2 j)⟩

variable (m : (ℓ : Loc nD τ sig) → Buf (Elt Ideal) ℓ) (c : Dev nD)

/-- The kernel's first array is the reference's, -/
theorem first_eq : (AttnOutRef.result (AttnOut.heads m c) (AttnOut.rows m c) (AttnOut.outs m c) (AttnOut.gains m c) (AttnOut.shifts m c) : S16384x1024.Idx → EReal)
    = (dats m 0 c).arrAt 6 cfg0.N := by
  funext j
  obtain ⟨r, q, rfl⟩ : ∃ (r : Fin 16384) (q : Fin 1024), j = ix2 r q := ⟨j 0, j 1, by funext a; fin_cases a <;> rfl⟩
  exact (AttnOutRef.result_apply _ _ _ _ _ r q).trans (AttnOut.final_first m c r q).symm

/-- The reference's logits are the kernel's. -/
theorem logits_eq (r : Fin 16384) (e : Fin 8) :
    (AttnOutRef.routes (AttnOut.router m c) (AttnOutRef.result (AttnOut.heads m c) (AttnOut.rows m c) (AttnOut.outs m c) (AttnOut.gains m c) (AttnOut.shifts m c)) (ix2 r e) : EReal)
      = AttnOut.logitsOf m c r e := by
  refine (AttnOutRef.routes_apply _ _ r e).trans ?_
  exact Finset.sum_congr rfl fun k _ => congrArg (fun s : EReal => s * AttnOut.router m c (ix2 k e))
    (AttnOutRef.result_apply (AttnOut.heads m c) (AttnOut.rows m c) (AttnOut.outs m c) (AttnOut.gains m c) (AttnOut.shifts m c) r k)

/-- the second too, -/
theorem second_eq (h : AttnOut.Real m c) :
    AttnOutRef.places (AttnOut.heads m c) (AttnOut.rows m c) (AttnOut.outs m c) (AttnOut.gains m c) (AttnOut.shifts m c) (AttnOut.router m c)
      = (dats m 0 c).arrAt 7 cfg0.N := by
  funext j
  obtain ⟨r, q, rfl⟩ : ∃ (r : Fin 16384) (q : Fin 128), j = ix2 r q := ⟨j 0, j 1, by funext a; fin_cases a <;> rfl⟩
  exact (AttnOutRef.places_apply _ _ _ _ _ _ (AttnOut.logitsOf m c r) r (logits_eq m c r) (AttnOut.logits_real m c h r) q).trans
    (AttnOut.final_second m c h r q).symm

/-- and the third. -/
theorem third_eq (h : AttnOut.Real m c) :
    (AttnOutRef.weights (AttnOut.heads m c) (AttnOut.rows m c) (AttnOut.outs m c) (AttnOut.gains m c) (AttnOut.shifts m c) (AttnOut.router m c) : S16384x128.Idx → EReal)
      = (dats m 0 c).arrAt 8 cfg0.N := by
  funext j
  obtain ⟨r, q, rfl⟩ : ∃ (r : Fin 16384) (q : Fin 128), j = ix2 r q := ⟨j 0, j 1, by funext a; fin_cases a <;> rfl⟩
  exact (AttnOutRef.weights_apply _ _ _ _ _ _ (AttnOut.logitsOf m c r) r (logits_eq m c r) (AttnOut.logits_real m c h r) q).trans
    (AttnOut.final_third m c h r q).symm

/-- The kernel's frame as it was run. -/
theorem frame_kernel : Cert.quiescent_Kernel7 := fun m ρ _ => Cert.Kernel7.Gen.frame m ρ

/-- The kernel's frame over the extended reals, of every argument -/
theorem frame_ideal : Cert.quiescent_Kernel7Ideal := fun m ρ _ => Cert.Kernel7Ideal.Gen.frame m ρ

/-- and of the precondition's. -/
theorem frame_ideal_pre [Cert.Pre_finite7.Facts] : Cert.quiescent_Kernel7Ideal_pre_finite7 := fun m ρ _ => Cert.Kernel7Ideal.Gen.frame m ρ

/-- The reference's frame: it declares no semaphore, so every counter ends at zero. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The same under the precondition. -/
theorem frame_reference_pre [Cert.Pre_finite7.Facts] : Cert.quiescent_Reference7Ideal_pre_finite7 := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel's mask constant is idealized to minus infinity. -/
theorem preserves : Cert.preserves_Kernel7_Kernel7Ideal :=
  IdealRules.named_const.statement Cert.Kernel7Ideal.κ "mask" .f32 0xF149F2CA#32 ⊥ rfl

/-- Of a real gain, shift and router, the kernel and the plain layer compute one triple of arrays over the extended reals. -/
theorem algebraic [Cert.Pre_finite7.Facts] : Cert.algebraic_Kernel7Ideal_Reference7Ideal_pre_finite7 := by
  intro m g m' g' hpre harg
  have hreal : ∀ c, AttnOut.Real m c := fun c => by
    obtain ⟨hg, hb, hu⟩ := real_of_finite _ _ _ _ _ _ (hpre c)
    exact ⟨hg, hb, hu⟩
  refine ⟨fun c => (dats m 0 c).arrAt 6 cfg0.N, fun c => (dats m 0 c).arrAt 7 cfg0.N, fun c => (dats m 0 c).arrAt 8 cfg0.N,
    Cert.Kernel7Ideal.Value.run_blocks m g,
    (θ_run _ _ _).mono (fun _ h c => ⟨(h c).1.trans ?_, (h c).2.1.trans ?_, (h c).2.2.1.trans ((AttnOutRef.third_eq m' c).trans ?_), (h c).2.2.2⟩)
      (Cert.Reference7Ideal.Value.run (F := Ideal) m' g')⟩
  · obtain ⟨a0, a1, a2, a3, a4, a5⟩ := harg c
    rw [a0, a1, a2, a3, a4]
    exact first_eq m c
  · obtain ⟨a0, a1, a2, a3, a4, a5⟩ := harg c
    rw [a0, a1, a2, a3, a4, a5]
    exact second_eq m c (hreal c)
  · obtain ⟨a0, a1, a2, a3, a4, a5⟩ := harg c
    rw [a0, a1, a2, a3, a4, a5]
    exact third_eq m c (hreal c)

end Cert.Proof.AttnOutEq

end
-- ==== Proof.GateKer.lean ====
/- What the call of the gates' logits leaves in its result array, over the extended reals. -/
module

public import proofs.«01_k».proof.Kernel8Ideal
public import proofs.«01_k».proof.Proof.Gen.Kernel8Ideal.Value
public import proofs.«01_k».proof.Proof.RouterMath
public import proofs.«01_k».proof.Proof.KerHead
public import Idealize.ShloMosaic.Lib.IdealHost
public import Idealize.ShloMosaic.Lib.KernelVsHost
public import Idealize.ShloMosaic.Lib.Tactic
public import Idealize.ShloMosaic.Lib.StableHlo.RunRead
public import Idealize.ShloMosaic.Lib.Pipeline.ValueKit.Geometry

@[expose] public section

set_option maxRecDepth 8000

noncomputable section

namespace Cert.Proof.Gate

open Idealize.ShloMosaic Idealize.ShloMosaic.TcCoe Idealize.SL.Sem Idealize.ShloMosaic.ValueIdx
open Idealize.ShloMosaic.StableHlo
open Cert.Kernel8Ideal Cert.Kernel8Ideal.Gen Cert.Proof.RouterMath
open Idealize.ShloMosaic.Pipeline (Dat Window)
open Cert.Proof.KerHead (dot_apply)

theorem origin : (![0, 0] : Fin 2 → Nat) = fun _ => 0 := funext fun a => by fin_cases a <;> rfl

/-! ## What a grid point stores, of the blocks it reads -/

theorem part_apply (l : S1024x1024.Idx → EReal) (r : S1024x128.Idx → EReal) (a : Fin 1024) (j : Fin 128) :
    (matmul (F := Ideal) (φ₁ := .bf16) (φ₂ := .bf16) dot_S1024x1024_S1024x128_S1024x128_1_0_0_1_n_n none l r (constant S1024x128 .f32 0x00000000#32) : S1024x128.Idx → EReal) (ix2 a j)
      = ∑ k, l (ix2 a k) * r (ix2 k j) :=
  dot_apply _ 1024 rfl rfl _ _ _ (fun k => ix2 a k) (fun k => ix2 k j)
      (fun k => by funext a; fin_cases a <;> rfl) (fun k => by funext a; fin_cases a <;> rfl)

/-- A row by a column, in three parts. -/
theorem product_apply (x : S1024x1024.Idx → EReal) (w : S1024x128.Idx → EReal) (a : Fin 1024) (j : Fin 128) :
    (k0_pay1 (F := Ideal) x w : S1024x128.Idx → EReal) (ix2 a j) = parts (fun k => x (ix2 a k)) (fun k => w (ix2 k j)) := by
  unfold k0_pay1 parts
  dsimp only
  rw [shapeCast_self]
  exact congr (congrArg (fun s t : EReal => s + t) (part_apply x w a j)) (congr (congrArg (fun s t : EReal => s + t)
    (part_apply x (fun i => w i - w i) a j)) (part_apply (fun i => x i - x i) w a j))

/-! ## The blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- The index of a given row and column. -/
theorem place {n0 n1 s0 s1 i0 i1 a q : ℕ} (j : (⟨2, ![n0, n1]⟩ : Shape).Idx) (h0 : (j 0).val = i0 * s0 + a) (h1 : (j 1).val = i1 * s1 + q)
    (r : Fin n0) (p : Fin n1) (hr : i0 * s0 + a = r.val) (hp : i1 * s1 + q = p.val) : j = ix2 r p := by
  funext b; fin_cases b
  · exact Fin.ext (h0.trans hr)
  · exact Fin.ext (h1.trans hp)

variable (m : (ℓ : Loc nD τ sig) → Buf (Elt Ideal) ℓ) (c : Dev nD)

theorem points : cfg0.N = 16 := N_0

/-- The call's arguments. -/
abbrev rows : S16384x1024.Idx → EReal := m ((c.tc : Thread nD τ).loc main_arg0)
abbrev weights : S1024x4112.Idx → EReal := m ((c.tc : Thread nD τ).loc main_arg1)

/-- The weights of a gate: the last columns. -/
abbrev last (q : Fin 16) : Fin 4112 := ⟨4096 + q.val, by omega⟩

/-- The columns, padded by zeros. -/
def column (w : S1024x4112.Idx → EReal) (q : Fin 128) (k : Fin 1024) : EReal :=
  if h : q.val < 16 then w (ix2 k (last ⟨q.val, h⟩)) else 0

theorem arr_columns : (V m c main_v1 : S1024x128.Idx → EReal)
    = pad S1024x128 ![0, 0] ![0, 112] ![0, 0] (extractStridedSlice S1024x16 ![0, 4096] (weights m c) slices_S1024x4112_S1024x16_0_4096)
        (sitofp (F := Ideal) .f32 (constantI S_ 32 0#32)) pads_S1024x16_S1024x128_000_01120 h_S_ := by
  unfold V
  simp only [hostOps0, hostOps0_1, TRef.unary, TRef.binary, List.flatten_cons, List.flatten_nil, List.append_nil, List.cons_append, List.nil_append]
  after_reads_simp
  rfl

theorem columns_apply (k : Fin 1024) (q : Fin 128) : (V m c main_v1 : S1024x128.Idx → EReal) (ix2 k q) = column (weights m c) q k := by
  refine (congrFun (arr_columns m c) _).trans ?_
  unfold column
  split
  · rename_i h
    refine (pad_apply_of_inside _ _ _ _ _ _ _ (ix2 k q) (ix2 k (⟨q.val, h⟩ : Fin 16)) (fun b => by fin_cases b <;> simp [ix2])).trans ?_
    exact extractStridedSlice_apply _ _ _ _ (ix2 k (last ⟨q.val, h⟩)) (fun a => by fin_cases a <;> simp [ix2])
  · rename_i h
    refine (pad_apply_of_not_inside _ _ _ _ _ _ _ (ix2 k q) 1 (fun hk => by
      have h3 : (q.val - 0) / (0 + 1) < 16 := hk.2.2
      omega)).trans ?_
    show (((0#32 : BitVec 32).toInt : ℝ) : EReal) = 0
    simp

/-- Row `a` of the tile of point `t`. -/
abbrev rowAt (t : Fin cfg0.N) (a : Fin 1024) : Fin 16384 := ⟨1024 * t.val + a.val, by have := points; omega⟩

theorem block0 (t : Fin cfg0.N) (a : Fin 1024) (k : Fin 1024) : (iblk m c 0 t : S1024x1024.Idx → EReal) (ix2 a k) = rows m c (ix2 (rowAt t a) k) := by
  obtain ⟨h0, h1⟩ := index0 t
  exact (congrArg (V m c main_arg0 : S16384x1024.Idx → EReal) (place _ (Window.rect_emb_val win0_0 t (ix2 a k) 0) (Window.rect_emb_val win0_0 t (ix2 a k) 1)
    (rowAt t a) k (by show win0_0.index t 0 * 1024 + a.val = 1024 * t.val + a.val; rw [h0]; omega)
    (by show win0_0.index t 1 * 1024 + k.val = k.val; rw [h1]; omega))).trans (congrFun (V_main_arg0 m c) _)

theorem block1 (t : Fin cfg0.N) (k : Fin 1024) (q : Fin 128) : (iblk m c 1 t : S1024x128.Idx → EReal) (ix2 k q) = column (weights m c) q k := by
  obtain ⟨h0, h1⟩ := index1 t
  exact (congrArg (V m c main_v1 : S1024x128.Idx → EReal) (place _ (Window.rect_emb_val win0_1 t (ix2 k q) 0) (Window.rect_emb_val win0_1 t (ix2 k q) 1)
    k q (by show win0_1.index t 0 * 1024 + k.val = k.val; rw [h0]; omega)
    (by show win0_1.index t 1 * 128 + q.val = q.val; rw [h1]; omega))).trans (columns_apply m c k q)

/-! ## The result -/

theorem out2 (t : Fin cfg0.N) : out0_2 (F := Ideal) (iblk m c 0 t) (iblk m c 1 t) = k0_pay1 (F := Ideal) (iblk m c 0 t) (iblk m c 1 t) := by
  unfold out0_2
  rw [View.canon_unit_zero (S := S1024x128) origin]
  simp only [View.ld_unit_zero (S := S1024x1024) origin, View.ld_unit_zero (S := S1024x128) origin]

/-- The point that holds row `r`. -/
abbrev pointOf (r : Fin 16384) : Fin cfg0.N := ⟨r.val / 1024, by have := points; omega⟩

theorem rowAt_pointOf (r : Fin 16384) : rowAt (pointOf r) ⟨r.val % 1024, by omega⟩ = r :=
  Fin.ext (by show 1024 * (r.val / 1024) + r.val % 1024 = r.val; omega)

/-- The array holds every row by every column, in three parts. -/
theorem final_apply (r : Fin 16384) (q : Fin 128) :
    ((dats m 0 c).arrAt 2 cfg0.N : S16384x128.Idx → EReal) (ix2 r q) = parts (fun k => rows m c (ix2 r k)) (column (weights m c) q) := by
  obtain ⟨h0, h1⟩ := index2 (pointOf r)
  have e : ((cfg0.win 2).blk (pointOf r)).view.emb (ix2 ⟨r.val % 1024, by omega⟩ q) = ix2 r q :=
    place _ (Window.rect_emb_val win0_2 (pointOf r) (ix2 ⟨r.val % 1024, by omega⟩ q) 0) (Window.rect_emb_val win0_2 (pointOf r) (ix2 ⟨r.val % 1024, by omega⟩ q) 1)
      r q (by show win0_2.index (pointOf r) 0 * 1024 + r.val % 1024 = r.val; rw [h0]; show r.val / 1024 * 1024 + r.val % 1024 = r.val; omega)
      (by show win0_2.index (pointOf r) 1 * 128 + q.val = q.val; rw [h1]; omega)
  rw [← e]
  refine ((dats m 0 c).arrAt_emb_eq_flushed 2 Value.disjoint2 (pointOf r) (flush0_2 _) (ix2 ⟨r.val % 1024, by omega⟩ q)).trans ?_
  refine (congrFun (Value.flushed2 m c (pointOf r)) _).trans ?_
  refine (congrFun (out2 m c (pointOf r)) (ix2 ⟨r.val % 1024, by omega⟩ q)).trans ?_
  refine (product_apply (iblk m c 0 (pointOf r)) (iblk m c 1 (pointOf r)) ⟨r.val % 1024, by omega⟩ q).trans ?_
  refine congr (congrArg parts (funext fun k => ?_)) (funext fun k => block1 m c (pointOf r) k q)
  exact (block0 m c (pointOf r) ⟨r.val % 1024, by omega⟩ k).trans (congrArg (fun s => rows m c (ix2 s k)) (rowAt_pointOf r))

/-- The rows and the columns are of real numbers. -/
structure Real : Prop where
  rows : ∀ i, ∃ r : ℝ, rows m c i = r
  weights : ∀ (k : Fin 1024) (q : Fin 16), ∃ r : ℝ, weights m c (ix2 k (last q)) = r

/-- Then it holds their products. -/
theorem final (h : Real m c) (r : Fin 16384) (q : Fin 128) :
    ((dats m 0 c).arrAt 2 cfg0.N : S16384x128.Idx → EReal) (ix2 r q) = ∑ k, rows m c (ix2 r k) * column (weights m c) q k := by
  refine (final_apply m c r q).trans (parts_eq _ _ (fun k => h.rows _) fun k => ?_)
  unfold column
  split
  · exact h.weights k _
  · exact ⟨0, rfl⟩

end Cert.Proof.Gate

end
-- ==== Proof.GateEq.lean ====
/- The gates' logits: the kernel and its plain reference compute one array over the extended reals, of real rows and
   weights; and the frames of both. -/
module

public import proofs.«01_k».proof.Defs
public import proofs.«01_k».proof.Proof.Gen.Kernel8
public import proofs.«01_k».proof.Proof.Gen.Kernel8.Frame
public import proofs.«01_k».proof.Proof.Gen.Reference8Ideal.Run
public import proofs.«01_k».proof.Proof.GateKer
public import proofs.«01_k».proof.Proof.RefTrip
public import proofs.«01_k».proof.Proof.Attention
public import Idealize.ShloMosaic.Lib.KernelVsHost
public import Idealize.ShloMosaic.Lib.Pointwise.Reduce
public import Idealize.ShloMosaic.Lib.ReduceAll

@[expose] public section

set_option maxRecDepth 8000

noncomputable section

namespace Cert.Proof.GateEq

open Idealize.ShloMosaic hiding ix1 ix2 ix3
open Idealize.ShloMosaic.TcCoe Idealize.SL.Sem
open Idealize.ShloMosaic.ValueIdx (ix1 ix2 ix3)

/-! ## The reference -/

section Reference

open Cert.Reference8Ideal Cert.Reference8Ideal.Gen

/-- The reference's array, of its arguments. -/
def result (x : FVec Ideal S16384x1024 .f32) (w : FVec Ideal S1024x4112 .f32) : FVec Ideal S16384x128 .f32 :=
  pad S16384x128 ![0, 0] ![0, 112] ![0, 0]
    (Host.dotGeneral (F := Ideal) (φ₁ := .f32) (φ₂ := .f32) dot_S16384x1024_S1024x16_S16384x16_1_0_0_1_n_n none x
      (extractStridedSlice S1024x16 ![0, 4096] w slices_S1024x4112_S1024x16_0_4096))
    (sitofp (F := Ideal) .f32 (constantI S_ 32 0#32)) pads_S16384x16_S16384x128_000_01120 h_S_

theorem result_apply (x : FVec Ideal S16384x1024 .f32) (w : FVec Ideal S1024x4112 .f32) (r : Fin 16384) (q : Fin 128) :
    (result x w (ix2 r q) : EReal) = ∑ k, (x (ix2 r k) : EReal) * Gate.column w q k := by
  unfold result Gate.column
  split
  · rename_i h
    refine (pad_apply_of_inside _ _ _ _ _ _ _ (ix2 r q) (ix2 r (⟨q.val, h⟩ : Fin 16)) (fun b => by fin_cases b <;> simp [ix2])).trans ?_
    refine (Cert.Proof.RefTrip.dot_apply _ 1024 rfl rfl _ _ _ (fun k => ix2 r k) (fun k => ix2 k (⟨q.val, h⟩ : Fin 16))
      (fun k => by funext a; fin_cases a <;> rfl) (fun k => by funext a; fin_cases a <;> rfl)).trans ?_
    exact Finset.sum_congr rfl fun k _ => congrArg (fun s : EReal => (x (ix2 r k) : EReal) * s)
      (extractStridedSlice_apply _ _ _ _ (ix2 k (Gate.last ⟨q.val, h⟩)) (fun a => by fin_cases a <;> simp [ix2]))
  · rename_i h
    refine (pad_apply_of_not_inside _ _ _ _ _ _ _ (ix2 r q) 1 (fun hk => by
      have h3 : (q.val - 0) / (0 + 1) < 16 := hk.2.2
      omega)).trans ?_
    show (((0#32 : BitVec 32).toInt : ℝ) : EReal) = _
    simp

end Reference

open Cert.Kernel8Ideal Cert.Kernel8Ideal.Gen

/-- The precondition says that the rows and the gates' columns are of real numbers. -/
theorem real_of_finite [Cert.Pre_finite8.Facts] (x : FVec Ideal S16384x1024 .f32) (w : FVec Ideal S1024x4112 .f32)
    (h : Cert.Pre_finite8.fn (F := Ideal) x w = fun _ => 1#1) :
    (∀ i, ∃ r : ℝ, (x i : EReal) = r) ∧ ∀ (k : Fin 1024) (q : Fin 16), ∃ r : ℝ, (w (ix2 k (Gate.last q)) : EReal) = r := by
  have h0 := congrFun h (fun a => Fin.elim0 a)
  have h1 := IntOp.andi_eq_one.1 h0
  haveI hs : Subsingleton (Cert.Pre_finite8.S_).Idx := ⟨fun a b => funext fun i => Fin.elim0 i⟩
  refine ⟨fun j => Attention.real_of_abs_lt _ (Host.reduce_andi_all _ _ _ _ _ h1.1 j), fun k q => ?_⟩
  obtain ⟨s, hs⟩ := Attention.real_of_abs_lt _ (Host.reduce_andi_all _ _ _ _ _ h1.2 (ix2 k q))
  exact ⟨s, (extractStridedSlice_apply _ _ _ _ (ix2 k (Gate.last q)) (fun a => by fin_cases a <;> simp [ix2])).symm.trans hs⟩

variable (m : (ℓ : Loc nD τ sig) → Buf (Elt Ideal) ℓ) (c : Dev nD)

/-- The kernel's array is the reference's. -/
theorem result_eq (h : Gate.Real m c) : (result (Gate.rows m c) (Gate.weights m c) : S16384x128.Idx → EReal) = (dats m 0 c).arrAt 2 cfg0.N := by
  funext j
  obtain ⟨r, q, rfl⟩ : ∃ (r : Fin 16384) (q : Fin 128), j = ix2 r q := ⟨j 0, j 1, by funext a; fin_cases a <;> rfl⟩
  exact (result_apply _ _ r q).trans (Gate.final m c h r q).symm

/-- The kernel's frame as it was run. -/
theorem frame_kernel : Cert.quiescent_Kernel8 := fun m ρ _ => Cert.Kernel8.Gen.frame m ρ

/-- The kernel's frame over the extended reals, of every argument -/
theorem frame_ideal : Cert.quiescent_Kernel8Ideal := fun m ρ _ => Cert.Kernel8Ideal.Gen.frame m ρ

/-- and of the precondition's. -/
theorem frame_ideal_pre [Cert.Pre_finite8.Facts] : Cert.quiescent_Kernel8Ideal_pre_finite8 := fun m ρ _ => Cert.Kernel8Ideal.Gen.frame m ρ

/-- The reference's frame: it declares no semaphore, so every counter ends at zero. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The same under the precondition. -/
theorem frame_reference_pre [Cert.Pre_finite8.Facts] : Cert.quiescent_Reference8Ideal_pre_finite8 := fun m ρ _ =>
  (θ_run Cert.Reference8Ideal.defs _ _).mono (fun r h => ⟨fun c => (h c).2, sem_eq_zero_of_no_sems (by decide) r.2⟩)
    (Cert.Reference8Ideal.Value.run (F := Ideal) m ρ)

/-- Of real rows and weights, the kernel and the plain product compute one array over the extended reals. -/
theorem algebraic [Cert.Pre_finite8.Facts] : Cert.algebraic_Kernel8Ideal_Reference8Ideal_pre_finite8 := by
  intro m g m' g' hpre harg
  have hreal : ∀ c, Gate.Real m c := fun c => by
    obtain ⟨hx, hw⟩ := real_of_finite _ _ (hpre c)
    exact ⟨hx, hw⟩
  refine ⟨fun c => (dats m 0 c).arrAt 2 cfg0.N, Cert.Kernel8Ideal.Value.run_blocks m g,
    (θ_run _ _ _).mono (fun _ h c => ⟨(h c).1.trans ?_, (h c).2⟩) (Cert.Reference8Ideal.Value.run (F := Ideal) m' g')⟩
  obtain ⟨a0, a1⟩ := harg c
  rw [a0, a1]
  exact result_eq m c (hreal c)

end Cert.Proof.GateEq

end
-- ==== Proof.ScanMath.lean ====
/- The recurrence of the delta rule over chunks of 64 rows, over the extended reals. -/
module

public import Idealize.ShloMosaic.PureOps.Ideal.Laws
public import Idealize.ShloMosaic.Lib.ValueIdx
public import Idealize.ShloMosaic.Lib.ValueIdxCore

@[expose] public section

noncomputable section

namespace Cert.Proof.ScanMath

open Idealize.ShloMosaic Idealize.ShloMosaic.ValueIdx

/-- Rows of 128 entries, pairs of rows, and gates, of every chunk of every head of every sequence. -/
abbrev Rows := (⟨5, ![4, 64, 8, 64, 128]⟩ : Shape).Idx → EReal
abbrev Pairs := (⟨5, ![4, 64, 8, 64, 64]⟩ : Shape).Idx → EReal
abbrev Gates := (⟨4, ![4, 64, 8, 128]⟩ : Shape).Idx → EReal
/-- The state of one head. -/
abbrev St := Fin 128 → Fin 128 → EReal

variable (u w q l : Rows) (a : Pairs) (g : Gates)

/-- What a chunk adds: its rows less what the state holds of them. -/
def fresh (n : Fin 64) (b : Fin 4) (h : Fin 8) (s : St) (i : Fin 64) (d : Fin 128) : EReal :=
  u (ix5 b n h i d) - ∑ k : Fin 128, w (ix5 b n h i k) * s k d

/-- The state after a chunk. -/
def next (n : Fin 64) (b : Fin 4) (h : Fin 8) (s : St) (k d : Fin 128) : EReal :=
  s k d * g (ix4 b n h d) + ∑ j : Fin 64, l (ix5 b n h j k) * fresh u w n b h s j d

/-- The rows a chunk returns. -/
def out (n : Fin 64) (b : Fin 4) (h : Fin 8) (s : St) (i : Fin 64) (d : Fin 128) : EReal :=
  (∑ k : Fin 128, q (ix5 b n h i k) * s k d) + ∑ j : Fin 64, a (ix5 b n h i j) * fresh u w n b h s j d

/-- The state before chunk `n`. -/
def state (b : Fin 4) (h : Fin 8) : ℕ → St
  | 0 => fun _ _ => 0
  | n + 1 => if hn : n < 64 then next u w l g ⟨n, hn⟩ b h (state b h n) else state b h n

theorem state_succ (b : Fin 4) (h : Fin 8) (n : Fin 64) : state u w l g b h (n.val + 1) = next u w l g n b h (state u w l g b h n.val) :=
  dif_pos n.isLt

end Cert.Proof.ScanMath

end
-- ==== Proof.ScanKer.lean ====
/- What the call of the delta rule's recurrence leaves in its result array, over the extended reals. -/
module

public import proofs.«01_k».proof.Kernel9Ideal
public import proofs.«01_k».proof.Proof.Gen.Kernel9Ideal.Value
public import proofs.«01_k».proof.Proof.ScanMath
public import proofs.«01_k».proof.Proof.KerHead
public import Idealize.ShloMosaic.Lib.IdealHost
public import Idealize.ShloMosaic.Lib.KernelVsHost
public import Idealize.ShloMosaic.Lib.Tactic
public import Idealize.ShloMosaic.Lib.StableHlo.RunRead
public import Idealize.ShloMosaic.Lib.Pipeline.ValueKit.Geometry

@[expose] public section

set_option maxRecDepth 8000

noncomputable section

namespace Cert.Proof.Scan

open Idealize.ShloMosaic Idealize.ShloMosaic.TcCoe Idealize.SL.Sem Idealize.ShloMosaic.ValueIdx
open Idealize.ShloMosaic.StableHlo
open Cert.Kernel9Ideal Cert.Kernel9Ideal.Gen Cert.Proof.ScanMath
open Idealize.ShloMosaic.Pipeline (Dat Window)
open Cert.Proof.KerHead (dot_apply)

theorem origin3 : (![0, 0, 0] : Fin 3 → Nat) = fun _ => 0 := funext fun a => by fin_cases a <;> rfl
theorem origin4 : (![0, 0, 0, 0] : Fin 4 → Nat) = fun _ => 0 := funext fun a => by fin_cases a <;> rfl
theorem origin5 : (![0, 0, 0, 0, 0] : Fin 5 → Nat) = fun _ => 0 := funext fun a => by fin_cases a <;> rfl

/-! ## What a grid point stores, of the blocks it reads -/

section Body

variable (c : Dev nD) (i : grid0.Coords) (a1 : Memref sig .tc .vmem S4x1x8x64x128 .bf16) (h1 : a1.IsWhole)
  (a2 : Memref sig .tc .vmem S4x1x8x64x128 .bf16) (h2 : a2.IsWhole) (a3 : Memref sig .tc .vmem S4x1x8x64x128 .bf16) (h3 : a3.IsWhole)
  (a4 : Memref sig .tc .vmem S4x1x8x64x128 .bf16) (h4 : a4.IsWhole) (a5 : Memref sig .tc .vmem S4x1x8x64x64 .bf16) (h5 : a5.IsWhole)
  (a6 : Memref sig .tc .vmem S4x1x8x128 .f32) (h6 : a6.IsWhole) (a7 : Memref sig .tc .vmem S4x1x8x64x128 .bf16) (h7 : a7.IsWhole)
  (a8 : Memref sig .tc .vmem S32x128x128 .f32) (h8 : a8.IsWhole)
  (x0 x1 x2 x3 : Vec Ideal S4x1x8x64x128 .bf16) (x4 : Vec Ideal S4x1x8x64x64 .bf16) (x5 : Vec Ideal S4x1x8x128 .f32) (xs : Vec Ideal S32x128x128 .f32)

theorem out_first (hc : cond0_0 i) : out0_A_6 c i a1 h1 a2 h2 a3 h3 a4 h4 a5 h5 a6 h6 a7 h7 a8 h8 hc x0 x1 x2 x3 x4 x5
    = k0_pay1 (k0_pay6 (k0_pay3 (F := Ideal)) x1 x2 x0 x4) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero (S := S4x1x8x64x128) origin5]
  simp only [View.readCov_unit_zero (S := S32x128x128) _ origin3, View.readAt_eq_ld, h1.read_unread, h2.read_unread, h3.read_unread, h5.read_unread,
    View.ld_unit_zero (S := S4x1x8x64x128) origin5, View.ld_unit_zero (S := S4x1x8x64x64) origin5]

theorem scratch_first (hc : cond0_0 i) : sout0_A_0 c i a1 h1 a2 h2 a3 h3 a4 h4 a5 h5 a6 h6 a7 h7 a8 h8 hc x0 x1 x2 x3 x4 x5
    = k0_pay2 (k0_pay3 (F := Ideal)) (k0_pay5 (k0_pay3 (F := Ideal)) x1 x2 x0) x3 x5 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_cons_unit_zero (S := S32x128x128) origin3]
  simp only [View.readCov_unit_zero (S := S32x128x128) _ origin3, View.readAt_eq_ld, h1.read_unread, h2.read_unread, h3.read_unread, h4.read_unread,
    h6.read_unread, View.ld_unit_zero (S := S4x1x8x64x128) origin5, View.ld_unit_zero (S := S4x1x8x128) origin4]

theorem out_later (hc : ¬cond0_0 i) : out0_B_6 c i a1 h1 a2 h2 a3 h3 a4 h4 a5 h5 a6 h6 a7 h7 a8 h8 hc x0 x1 x2 x3 x4 x5 xs
    = k0_pay1 (k0_pay6 xs x1 x2 x0 x4) := by
  unfold out0_B_6
  rw [View.read_writes_eq_canon _ _ _ (cover0_B_6 c i a1 h1 a2 h2 a3 h3 a4 h4 a5 h5 a6 h6 a7 h7 a8 h8 hc x0 x1 x2 x3 x4 x5 xs)]
  unfold kernelRun0_B
  dsimp only
  sl_unfold_words
  rw [View.canon_unit_zero (S := S4x1x8x64x128) origin5]
  simp only [View.readAt_eq_ld, h1.read_unread, h2.read_unread, h3.read_unread, h5.read_unread, h8.read_unread,
    View.ld_unit_zero (S := S4x1x8x64x128) origin5, View.ld_unit_zero (S := S4x1x8x64x64) origin5, View.ld_unit_zero (S := S32x128x128) origin3]

theorem scratch_later (hc : ¬cond0_0 i) : sout0_B_0 c i a1 h1 a2 h2 a3 h3 a4 h4 a5 h5 a6 h6 a7 h7 a8 h8 hc x0 x1 x2 x3 x4 x5 xs
    = k0_pay2 xs (k0_pay5 xs x1 x2 x0) x3 x5 := by
  unfold sout0_B_0
  rw [View.read_writes_eq_canon _ _ _ (scover0_B_0 c i a1 h1 a2 h2 a3 h3 a4 h4 a5 h5 a6 h6 a7 h7 a8 h8 hc x0 x1 x2 x3 x4 x5 xs)]
  unfold kernelRun0_B
  dsimp only
  sl_unfold_words
  rw [View.canon_unit_zero (S := S32x128x128) origin3]
  simp only [View.readAt_eq_ld, h1.read_unread, h2.read_unread, h3.read_unread, h4.read_unread, h6.read_unread, h8.read_unread,
    View.ld_unit_zero (S := S4x1x8x64x128) origin5, View.ld_unit_zero (S := S4x1x8x128) origin4, View.ld_unit_zero (S := S32x128x128) origin3]

end Body

/-! ## Read at an entry -/

/-- The problem of head `h` of sequence `b`. -/
abbrev flat (b : Fin 4) (h : Fin 8) : Fin 32 := ⟨8 * b.val + h.val, by omega⟩

theorem rows_apply (v : S4x1x8x64x128.Idx → EReal) (b : Fin 4) (h : Fin 8) (i : Fin 64) (d : Fin 128) :
    (shapeCast S32x64x128 (shapeCast S4x8x64x128 v shapeCasts_S4x1x8x64x128_S4x8x64x128) shapeCasts_S4x8x64x128_S32x64x128 : S32x64x128.Idx → EReal)
      (ix3 (flat b h) i d) = v (ix5 b 0 h i d) := by
  rw [shapeCast_apply _ _ _ (ix4 b h i d) (by rw [Shape.rowMajor_val_three, Shape.rowMajor_val_four]; simp [ix3, ix4, flat]; ring)]
  exact shapeCast_apply _ _ _ (ix5 b 0 h i d) (by rw [Shape.rowMajor_val_four, Shape.rowMajor_val_five]; simp [ix4, ix5])

theorem unrows_apply (v : S32x64x128.Idx → EReal) (b : Fin 4) (h : Fin 8) (i : Fin 64) (d : Fin 128) :
    (shapeCast S4x8x64x128 v shapeCasts_S32x64x128_S4x8x64x128 : S4x8x64x128.Idx → EReal) (ix4 b h i d) = v (ix3 (flat b h) i d) :=
  shapeCast_apply _ _ _ (ix3 (flat b h) i d) (by rw [Shape.rowMajor_val_three, Shape.rowMajor_val_four]; simp [ix3, ix4, flat]; ring)

theorem pairs_apply (v : S4x1x8x64x64.Idx → EReal) (b : Fin 4) (h : Fin 8) (i j : Fin 64) :
    (shapeCast S32x64x64 (shapeCast S4x8x64x64 v shapeCasts_S4x1x8x64x64_S4x8x64x64) shapeCasts_S4x8x64x64_S32x64x64 : S32x64x64.Idx → EReal)
      (ix3 (flat b h) i j) = v (ix5 b 0 h i j) := by
  rw [shapeCast_apply _ _ _ (ix4 b h i j) (by rw [Shape.rowMajor_val_three, Shape.rowMajor_val_four]; simp [ix3, ix4, flat]; ring)]
  exact shapeCast_apply _ _ _ (ix5 b 0 h i j) (by rw [Shape.rowMajor_val_four, Shape.rowMajor_val_five]; simp [ix4, ix5])

theorem gates_apply (v : S4x1x8x128.Idx → EReal) (b : Fin 4) (h : Fin 8) (k d : Fin 128) :
    (broadcastTo S32x128x128 (shapeCast S32x1x128 (shapeCast S4x8x128 v shapeCasts_S4x1x8x128_S4x8x128) shapeCasts_S4x8x128_S32x1x128)
      broadcasts_S32x1x128_S32x128x128 : S32x128x128.Idx → EReal) (ix3 (flat b h) k d) = v (ix4 b 0 h d) := by
  rw [broadcastTo_apply _ _ _ (ix3 (flat b h) 0 d) (by intro a; fin_cases a <;> rfl)]
  rw [shapeCast_apply _ _ _ (ix3 b h d) (by rw [Shape.rowMajor_val_three, Shape.rowMajor_val_three]; simp [ix3, flat]; ring)]
  exact shapeCast_apply _ _ _ (ix4 b 0 h d) (by rw [Shape.rowMajor_val_three, Shape.rowMajor_val_four]; simp [ix3, ix4])

section Entry

variable (s : S32x128x128.Idx → EReal) (w q u l : S4x1x8x64x128.Idx → EReal) (p : S4x1x8x64x64.Idx → EReal) (g : S4x1x8x128.Idx → EReal)
  (b : Fin 4) (h : Fin 8)

/-- Two blocks of rows, one after the other. -/
theorem stack_apply (x y : FVec Ideal S32x64x128 .bf16) (r : Fin 32) (i : Fin 64) (k : Fin 128) :
    ((concatenate S32x128x128 1 [⟨S32x64x128, x⟩, ⟨S32x64x128, y⟩] concatenates_S32x64x128_S32x64x128_S32x128x128_d1 : S32x128x128.Idx → EReal)
        (ix3 r ⟨i.val, by omega⟩ k) = x (ix3 r i k))
      ∧ ((concatenate S32x128x128 1 [⟨S32x64x128, x⟩, ⟨S32x64x128, y⟩] concatenates_S32x64x128_S32x64x128_S32x128x128_d1 : S32x128x128.Idx → EReal)
        (ix3 r ⟨64 + i.val, by omega⟩ k) = y (ix3 r i k)) := by
  constructor
  · refine concatenate_apply_piece (t := S32x128x128) (1 : Fin 3) [⟨S32x64x128, x⟩, ⟨S32x64x128, y⟩] concatenates_S32x64x128_S32x64x128_S32x128x128_d1
      (ix3 r ⟨i.val, by omega⟩ k) 0 (by simp) S32x64x128 _ rfl rfl 0 rfl (ix3 r i k) ?_ ?_
    · intro a ha; fin_cases a
      · rfl
      · exact absurd rfl ha
      · rfl
    · exact Nat.zero_add _
  · refine concatenate_apply_piece (t := S32x128x128) (1 : Fin 3) [⟨S32x64x128, x⟩, ⟨S32x64x128, y⟩] concatenates_S32x64x128_S32x64x128_S32x128x128_d1
      (ix3 r ⟨64 + i.val, by omega⟩ k) 1 (by simp) S32x64x128 _ rfl rfl 64 rfl (ix3 r i k) ?_ ?_
    · intro a ha; fin_cases a
      · rfl
      · exact absurd rfl ha
      · rfl
    · rfl

/-- The stacked rows by the state. -/
theorem held_apply (r : Fin 32) (i d : Fin 128) (x : S32x128x128.Idx → EReal) :
    (matmul (F := Ideal) (φ₁ := .bf16) (φ₂ := .bf16) dot_S32x128x128_S32x128x128_S32x128x128_2_1_1_2_0_0 none x s (constant S32x128x128 .f32 0x00000000#32) : S32x128x128.Idx → EReal)
      (ix3 r i d) = ∑ k, x (ix3 r i k) * s (ix3 r k d) :=
  dot_apply _ 128 rfl rfl _ _ _ (fun k => ix3 r i k) (fun k => ix3 r k d)
    (fun k => by funext a; fin_cases a <;> rfl) (fun k => by funext a; fin_cases a <;> rfl)

theorem low_apply (i : Fin 64) (d : Fin 128) : (k0_pay4 (F := Ideal) s w q : S32x128x128.Idx → EReal) (ix3 (flat b h) ⟨i.val, by omega⟩ d)
    = ∑ k, w (ix5 b 0 h i k) * s (ix3 (flat b h) k d) := by
  unfold k0_pay4
  refine (held_apply s _ _ d _).trans (Finset.sum_congr rfl fun k _ => congrArg (fun t : EReal => t * s (ix3 (flat b h) k d)) ?_)
  exact (stack_apply _ _ (flat b h) i k).1.trans (rows_apply w b h i k)

theorem high_apply (i : Fin 64) (d : Fin 128) : (k0_pay4 (F := Ideal) s w q : S32x128x128.Idx → EReal) (ix3 (flat b h) ⟨64 + i.val, by omega⟩ d)
    = ∑ k, q (ix5 b 0 h i k) * s (ix3 (flat b h) k d) := by
  unfold k0_pay4
  refine (held_apply s _ _ d _).trans (Finset.sum_congr rfl fun k _ => congrArg (fun t : EReal => t * s (ix3 (flat b h) k d)) ?_)
  exact (stack_apply _ _ (flat b h) i k).2.trans (rows_apply q b h i k)

theorem fresh_apply (i : Fin 64) (d : Fin 128) : (k0_pay5 (F := Ideal) s w q u : S32x64x128.Idx → EReal) (ix3 (flat b h) i d)
    = u (ix5 b 0 h i d) - ∑ k, w (ix5 b 0 h i k) * s (ix3 (flat b h) k d) := by
  unfold k0_pay5
  refine congr (congrArg (fun s t : EReal => s - t) (rows_apply u b h i d)) ?_
  refine (extractStridedSlice_apply _ _ _ _ (ix3 (flat b h) (⟨i.val, by omega⟩ : Fin 128) d) (by intro a; fin_cases a <;> simp [ix3])).trans ?_
  exact low_apply s w q b h i d

theorem out_apply (i : Fin 64) (d : Fin 128) : (k0_pay1 (F := Ideal) (k0_pay6 (F := Ideal) s w q u p) : S4x1x8x64x128.Idx → EReal) (ix5 b 0 h i d)
    = (∑ k, q (ix5 b 0 h i k) * s (ix3 (flat b h) k d))
      + ∑ j, p (ix5 b 0 h i j) * (u (ix5 b 0 h j d) - ∑ k, w (ix5 b 0 h j k) * s (ix3 (flat b h) k d)) := by
  unfold k0_pay1
  refine (shapeCast_apply _ _ _ (ix4 b h i d) (by rw [Shape.rowMajor_val_four, Shape.rowMajor_val_five]; simp [ix4, ix5])).trans ?_
  unfold k0_pay6
  rw [truncf_apply]
  refine (unrows_apply _ b h i d).trans ?_
  refine congr (congrArg (fun s t : EReal => s + t) ?_) ?_
  · refine (extractStridedSlice_apply _ _ _ _ (ix3 (flat b h) (⟨64 + i.val, by omega⟩ : Fin 128) d) (by intro a; fin_cases a <;> simp [ix3])).trans ?_
    exact high_apply s w q b h i d
  · refine (dot_apply _ 64 rfl rfl _ _ _ (fun j => ix3 (flat b h) i j) (fun j => ix3 (flat b h) j d)
      (fun k => by funext a; fin_cases a <;> rfl) (fun k => by funext a; fin_cases a <;> rfl)).trans ?_
    exact Finset.sum_congr rfl fun j _ => congr (congrArg (fun s t : EReal => s * t) (pairs_apply p b h i j)) (fresh_apply s w q u b h j d)

theorem next_apply (k d : Fin 128) : (k0_pay2 (F := Ideal) s (k0_pay5 (F := Ideal) s w q u) l g : S32x128x128.Idx → EReal) (ix3 (flat b h) k d)
    = s (ix3 (flat b h) k d) * g (ix4 b 0 h d)
      + ∑ j, l (ix5 b 0 h j k) * (u (ix5 b 0 h j d) - ∑ k, w (ix5 b 0 h j k) * s (ix3 (flat b h) k d)) := by
  unfold k0_pay2
  refine (congrFun (shapeCast_self _ _) _).trans ?_
  refine congr (congrArg (fun s t : EReal => s + t) (congrArg (fun t : EReal => s (ix3 (flat b h) k d) * t) (gates_apply g b h k d))) ?_
  refine (dot_apply _ 64 rfl rfl _ _ _ (fun j => ix3 (flat b h) j k) (fun j => ix3 (flat b h) j d)
    (fun k => by funext a; fin_cases a <;> rfl) (fun k => by funext a; fin_cases a <;> rfl)).trans ?_
  exact Finset.sum_congr rfl fun j _ => congr (congrArg (fun s t : EReal => s * t) (rows_apply l b h j k)) (fresh_apply s w q u b h j d)

end Entry

theorem clear_apply (j : S32x128x128.Idx) : (k0_pay3 (F := Ideal) : S32x128x128.Idx → EReal) j = 0 := by
  unfold k0_pay3
  exact (congrFun (shapeCast_self _ _) _).trans Ideal.ofBits_zero_f32

/-! ## The blocks at a point -/

theorem index0 : ∀ t : Fin cfg0.N, win0_0.index t 0 = 0 ∧ win0_0.index t 1 = t.val ∧ win0_0.index t 2 = 0 ∧ win0_0.index t 3 = 0 ∧ win0_0.index t 4 = 0 := by decide +kernel
theorem index1 : ∀ t : Fin cfg0.N, win0_1.index t 0 = 0 ∧ win0_1.index t 1 = t.val ∧ win0_1.index t 2 = 0 ∧ win0_1.index t 3 = 0 ∧ win0_1.index t 4 = 0 := by decide +kernel
theorem index2 : ∀ t : Fin cfg0.N, win0_2.index t 0 = 0 ∧ win0_2.index t 1 = t.val ∧ win0_2.index t 2 = 0 ∧ win0_2.index t 3 = 0 ∧ win0_2.index t 4 = 0 := by decide +kernel
theorem index3 : ∀ t : Fin cfg0.N, win0_3.index t 0 = 0 ∧ win0_3.index t 1 = t.val ∧ win0_3.index t 2 = 0 ∧ win0_3.index t 3 = 0 ∧ win0_3.index t 4 = 0 := by decide +kernel
theorem index4 : ∀ t : Fin cfg0.N, win0_4.index t 0 = 0 ∧ win0_4.index t 1 = t.val ∧ win0_4.index t 2 = 0 ∧ win0_4.index t 3 = 0 ∧ win0_4.index t 4 = 0 := by decide +kernel
theorem index5 : ∀ t : Fin cfg0.N, win0_5.index t 0 = 0 ∧ win0_5.index t 1 = t.val ∧ win0_5.index t 2 = 0 ∧ win0_5.index t 3 = 0 := by decide +kernel
theorem index6 : ∀ t : Fin cfg0.N, win0_6.index t 0 = 0 ∧ win0_6.index t 1 = t.val ∧ win0_6.index t 2 = 0 ∧ win0_6.index t 3 = 0 ∧ win0_6.index t 4 = 0 := by decide +kernel

/-- The index of five coordinates, known by their values. -/
theorem place5 {n0 n1 n2 n3 n4 : ℕ} (j : (⟨5, ![n0, n1, n2, n3, n4]⟩ : Shape).Idx) (a : Fin n0) (b : Fin n1) (c : Fin n2) (d : Fin n3) (e : Fin n4)
    (h0 : (j 0).val = a.val) (h1 : (j 1).val = b.val) (h2 : (j 2).val = c.val) (h3 : (j 3).val = d.val) (h4 : (j 4).val = e.val) : j = ix5 a b c d e := by
  funext x; fin_cases x
  · exact Fin.ext h0
  · exact Fin.ext h1
  · exact Fin.ext h2
  · exact Fin.ext h3
  · exact Fin.ext h4

/-- The same of four. -/
theorem place4 {n0 n1 n2 n3 : ℕ} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext x; fin_cases x
  · exact Fin.ext h0
  · exact Fin.ext h1
  · exact Fin.ext h2
  · exact Fin.ext h3

variable (m : (ℓ : Loc nD τ sig) → Buf (Elt Ideal) ℓ) (c : Dev nD)

theorem points : cfg0.N = 64 := N_0

/-- The call's arguments. -/
abbrev news : Rows := m ((c.tc : Thread nD τ).loc main_arg0)
abbrev erases : Rows := m ((c.tc : Thread nD τ).loc main_arg1)
abbrev queries : Rows := m ((c.tc : Thread nD τ).loc main_arg2)
abbrev keys : Rows := m ((c.tc : Thread nD τ).loc main_arg3)
abbrev pairs : Pairs := m ((c.tc : Thread nD τ).loc main_arg4)
abbrev gates : Gates := m ((c.tc : Thread nD τ).loc main_arg5)

/-- The chunk of a point. -/
abbrev chunk (t : Fin cfg0.N) : Fin 64 := ⟨t.val, by have := points; have := t.isLt; omega⟩

theorem block0 (t : Fin cfg0.N) (b : Fin 4) (h : Fin 8) (i : Fin 64) (d : Fin 128) :
    (iblk m c 0 t : S4x1x8x64x128.Idx → EReal) (ix5 b 0 h i d) = news m c (ix5 b (chunk t) h i d) := by
  obtain ⟨h0, h1, h2, h3, h4⟩ := index0 t
  exact (congrArg (V m c main_arg0 : S4x64x8x64x128.Idx → EReal) (place5 _ b (chunk t) h i d
    ((Window.rect_emb_val win0_0 t (ix5 b 0 h i d) 0).trans (by show win0_0.index t 0 * 4 + b.val = b.val; rw [h0]; omega))
    ((Window.rect_emb_val win0_0 t (ix5 b 0 h i d) 1).trans (by show win0_0.index t 1 * 1 + 0 = t.val; rw [h1]; omega))
    ((Window.rect_emb_val win0_0 t (ix5 b 0 h i d) 2).trans (by show win0_0.index t 2 * 8 + h.val = h.val; rw [h2]; omega))
    ((Window.rect_emb_val win0_0 t (ix5 b 0 h i d) 3).trans (by show win0_0.index t 3 * 64 + i.val = i.val; rw [h3]; omega))
    ((Window.rect_emb_val win0_0 t (ix5 b 0 h i d) 4).trans (by show win0_0.index t 4 * 128 + d.val = d.val; rw [h4]; omega)))).trans
    (congrFun (V_main_arg0 m c) _)

theorem block1 (t : Fin cfg0.N) (b : Fin 4) (h : Fin 8) (i : Fin 64) (d : Fin 128) :
    (iblk m c 1 t : S4x1x8x64x128.Idx → EReal) (ix5 b 0 h i d) = erases m c (ix5 b (chunk t) h i d) := by
  obtain ⟨h0, h1, h2, h3, h4⟩ := index1 t
  exact (congrArg (V m c main_arg1 : S4x64x8x64x128.Idx → EReal) (place5 _ b (chunk t) h i d
    ((Window.rect_emb_val win0_1 t (ix5 b 0 h i d) 0).trans (by show win0_1.index t 0 * 4 + b.val = b.val; rw [h0]; omega))
    ((Window.rect_emb_val win0_1 t (ix5 b 0 h i d) 1).trans (by show win0_1.index t 1 * 1 + 0 = t.val; rw [h1]; omega))
    ((Window.rect_emb_val win0_1 t (ix5 b 0 h i d) 2).trans (by show win0_1.index t 2 * 8 + h.val = h.val; rw [h2]; omega))
    ((Window.rect_emb_val win0_1 t (ix5 b 0 h i d) 3).trans (by show win0_1.index t 3 * 64 + i.val = i.val; rw [h3]; omega))
    ((Window.rect_emb_val win0_1 t (ix5 b 0 h i d) 4).trans (by show win0_1.index t 4 * 128 + d.val = d.val; rw [h4]; omega)))).trans
    (congrFun (V_main_arg1 m c) _)

theorem block2 (t : Fin cfg0.N) (b : Fin 4) (h : Fin 8) (i : Fin 64) (d : Fin 128) :
    (iblk m c 2 t : S4x1x8x64x128.Idx → EReal) (ix5 b 0 h i d) = queries m c (ix5 b (chunk t) h i d) := by
  obtain ⟨h0, h1, h2, h3, h4⟩ := index2 t
  exact (congrArg (V m c main_arg2 : S4x64x8x64x128.Idx → EReal) (place5 _ b (chunk t) h i d
    ((Window.rect_emb_val win0_2 t (ix5 b 0 h i d) 0).trans (by show win0_2.index t 0 * 4 + b.val = b.val; rw [h0]; omega))
    ((Window.rect_emb_val win0_2 t (ix5 b 0 h i d) 1).trans (by show win0_2.index t 1 * 1 + 0 = t.val; rw [h1]; omega))
    ((Window.rect_emb_val win0_2 t (ix5 b 0 h i d) 2).trans (by show win0_2.index t 2 * 8 + h.val = h.val; rw [h2]; omega))
    ((Window.rect_emb_val win0_2 t (ix5 b 0 h i d) 3).trans (by show win0_2.index t 3 * 64 + i.val = i.val; rw [h3]; omega))
    ((Window.rect_emb_val win0_2 t (ix5 b 0 h i d) 4).trans (by show win0_2.index t 4 * 128 + d.val = d.val; rw [h4]; omega)))).trans
    (congrFun (V_main_arg2 m c) _)

theorem block3 (t : Fin cfg0.N) (b : Fin 4) (h : Fin 8) (i : Fin 64) (d : Fin 128) :
    (iblk m c 3 t : S4x1x8x64x128.Idx → EReal) (ix5 b 0 h i d) = keys m c (ix5 b (chunk t) h i d) := by
  obtain ⟨h0, h1, h2, h3, h4⟩ := index3 t
  exact (congrArg (V m c main_arg3 : S4x64x8x64x128.Idx → EReal) (place5 _ b (chunk t) h i d
    ((Window.rect_emb_val win0_3 t (ix5 b 0 h i d) 0).trans (by show win0_3.index t 0 * 4 + b.val = b.val; rw [h0]; omega))
    ((Window.rect_emb_val win0_3 t (ix5 b 0 h i d) 1).trans (by show win0_3.index t 1 * 1 + 0 = t.val; rw [h1]; omega))
    ((Window.rect_emb_val win0_3 t (ix5 b 0 h i d) 2).trans (by show win0_3.index t 2 * 8 + h.val = h.val; rw [h2]; omega))
    ((Window.rect_emb_val win0_3 t (ix5 b 0 h i d) 3).trans (by show win0_3.index t 3 * 64 + i.val = i.val; rw [h3]; omega))
    ((Window.rect_emb_val win0_3 t (ix5 b 0 h i d) 4).trans (by show win0_3.index t 4 * 128 + d.val = d.val; rw [h4]; omega)))).trans
    (congrFun (V_main_arg3 m c) _)

theorem block4 (t : Fin cfg0.N) (b : Fin 4) (h : Fin 8) (i : Fin 64) (d : Fin 64) :
    (iblk m c 4 t : S4x1x8x64x64.Idx → EReal) (ix5 b 0 h i d) = pairs m c (ix5 b (chunk t) h i d) := by
  obtain ⟨h0, h1, h2, h3, h4⟩ := index4 t
  exact (congrArg (V m c main_arg4 : S4x64x8x64x64.Idx → EReal) (place5 _ b (chunk t) h i d
    ((Window.rect_emb_val win0_4 t (ix5 b 0 h i d) 0).trans (by show win0_4.index t 0 * 4 + b.val = b.val; rw [h0]; omega))
    ((Window.rect_emb_val win0_4 t (ix5 b 0 h i d) 1).trans (by show win0_4.index t 1 * 1 + 0 = t.val; rw [h1]; omega))
    ((Window.rect_emb_val win0_4 t (ix5 b 0 h i d) 2).trans (by show win0_4.index t 2 * 8 + h.val = h.val; rw [h2]; omega))
    ((Window.rect_emb_val win0_4 t (ix5 b 0 h i d) 3).trans (by show win0_4.index t 3 * 64 + i.val = i.val; rw [h3]; omega))
    ((Window.rect_emb_val win0_4 t (ix5 b 0 h i d) 4).trans (by show win0_4.index t 4 * 64 + d.val = d.val; rw [h4]; omega)))).trans
    (congrFun (V_main_arg4 m c) _)

theorem block5 (t : Fin cfg0.N) (b : Fin 4) (h : Fin 8) (d : Fin 128) :
    (iblk m c 5 t : S4x1x8x128.Idx → EReal) (ix4 b 0 h d) = gates m c (ix4 b (chunk t) h d) := by
  obtain ⟨h0, h1, h2, h3⟩ := index5 t
  exact (congrArg (V m c main_arg5 : S4x64x8x128.Idx → EReal) (place4 _ b (chunk t) h d
    ((Window.rect_emb_val win0_5 t (ix4 b 0 h d) 0).trans (by show win0_5.index t 0 * 4 + b.val = b.val; rw [h0]; omega))
    ((Window.rect_emb_val win0_5 t (ix4 b 0 h d) 1).trans (by show win0_5.index t 1 * 1 + 0 = t.val; rw [h1]; omega))
    ((Window.rect_emb_val win0_5 t (ix4 b 0 h d) 2).trans (by show win0_5.index t 2 * 8 + h.val = h.val; rw [h2]; omega))
    ((Window.rect_emb_val win0_5 t (ix4 b 0 h d) 3).trans (by show win0_5.index t 3 * 128 + d.val = d.val; rw [h3]; omega)))).trans
    (congrFun (V_main_arg5 m c) _)

/-! ## The state over the points -/

/-- The state before the chunk of a point. -/
abbrev before (b : Fin 4) (h : Fin 8) (n : ℕ) : St := state (news m c) (erases m c) (keys m c) (gates m c) b h n

/-- What a point makes of the state, -/
theorem makes_state (t : Fin cfg0.N) (s : S32x128x128.Idx → EReal) (b : Fin 4) (h : Fin 8)
    (hs : ∀ k d, s (ix3 (flat b h) k d) = before m c b h t.val k d) (k d : Fin 128) :
    (k0_pay2 (F := Ideal) s (k0_pay5 (F := Ideal) s (iblk m c 1 t) (iblk m c 2 t) (iblk m c 0 t)) (iblk m c 3 t) (iblk m c 5 t) : S32x128x128.Idx → EReal)
      (ix3 (flat b h) k d) = before m c b h (t.val + 1) k d := by
  refine (next_apply s (iblk m c 1 t) (iblk m c 2 t) (iblk m c 0 t) (iblk m c 3 t) (iblk m c 5 t) b h k d).trans ?_
  refine Eq.trans ?_ (congrFun (congrFun (state_succ (news m c) (erases m c) (keys m c) (gates m c) b h (chunk t)) k) d).symm
  unfold next fresh
  refine congr (congrArg (fun s t : EReal => s + t) (congr (congrArg (fun s t : EReal => s * t) (hs k d)) (block5 m c t b h d))) ?_
  refine Finset.sum_congr rfl fun j _ => congr (congrArg (fun s t : EReal => s * t) (block3 m c t b h j k)) ?_
  refine congr (congrArg (fun s t : EReal => s - t) (block0 m c t b h j d)) ?_
  exact Finset.sum_congr rfl fun k _ => congr (congrArg (fun s t : EReal => s * t) (block1 m c t b h j k)) (hs k d)

/-- and what it returns. -/
theorem makes_rows (t : Fin cfg0.N) (s : S32x128x128.Idx → EReal) (b : Fin 4) (h : Fin 8)
    (hs : ∀ k d, s (ix3 (flat b h) k d) = before m c b h t.val k d) (i : Fin 64) (d : Fin 128) :
    (k0_pay1 (F := Ideal) (k0_pay6 (F := Ideal) s (iblk m c 1 t) (iblk m c 2 t) (iblk m c 0 t) (iblk m c 4 t)) : S4x1x8x64x128.Idx → EReal)
      (ix5 b 0 h i d) = out (news m c) (erases m c) (queries m c) (pairs m c) (chunk t) b h (before m c b h t.val) i d := by
  refine (out_apply s (iblk m c 1 t) (iblk m c 2 t) (iblk m c 0 t) (iblk m c 4 t) b h i d).trans ?_
  unfold out fresh
  refine congr (congrArg (fun s t : EReal => s + t) ?_) ?_
  · exact Finset.sum_congr rfl fun k _ => congr (congrArg (fun s t : EReal => s * t) (block2 m c t b h i k)) (hs k d)
  · refine Finset.sum_congr rfl fun j _ => congr (congrArg (fun s t : EReal => s * t) (block4 m c t b h i j)) ?_
    refine congr (congrArg (fun s t : EReal => s - t) (block0 m c t b h j d)) ?_
    exact Finset.sum_congr rfl fun k _ => congr (congrArg (fun s t : EReal => s * t) (block1 m c t b h j k)) (hs k d)

theorem after_first (t : Fin cfg0.N) (h0 : t.val % 64 = 0) :
    outsAt0 m c t.val t.isLt = (k0_pay1 (k0_pay6 (k0_pay3 (F := Ideal)) (iblk m c 1 t) (iblk m c 2 t) (iblk m c 0 t) (iblk m c 4 t)),
      k0_pay2 (k0_pay3 (F := Ideal)) (k0_pay5 (k0_pay3 (F := Ideal)) (iblk m c 1 t) (iblk m c 2 t) (iblk m c 0 t)) (iblk m c 3 t) (iblk m c 5 t)) := by
  rw [outsAt0_A m c t h0, scratch_first, out_first]

theorem after_later (t : Fin cfg0.N) (h0 : ¬t.val % 64 = 0) :
    outsAt0 m c t.val t.isLt
      = (k0_pay1 (k0_pay6 (outsAt0 m c (t.val - 1) (Nat.lt_of_le_of_lt (Nat.sub_le _ _) t.isLt)).2 (iblk m c 1 t) (iblk m c 2 t) (iblk m c 0 t) (iblk m c 4 t)),
        k0_pay2 (outsAt0 m c (t.val - 1) (Nat.lt_of_le_of_lt (Nat.sub_le _ _) t.isLt)).2
          (k0_pay5 (outsAt0 m c (t.val - 1) (Nat.lt_of_le_of_lt (Nat.sub_le _ _) t.isLt)).2 (iblk m c 1 t) (iblk m c 2 t) (iblk m c 0 t)) (iblk m c 3 t) (iblk m c 5 t)) := by
  rw [outsAt0_B m c t h0, scratch_later, out_later]

/-- The scratch after any point holds the state after the point's chunk. -/
theorem scratch_apply (n : ℕ) (hn : n < cfg0.N) (b : Fin 4) (h : Fin 8) (k d : Fin 128) :
    ((outsAt0 m c n hn).2 : S32x128x128.Idx → EReal) (ix3 (flat b h) k d) = before m c b h (n + 1) k d := by
  induction n generalizing k d with
  | zero =>
    rw [after_first m c ⟨0, hn⟩ rfl]
    exact makes_state m c ⟨0, hn⟩ _ b h (fun k d => clear_apply _) k d
  | succ n ih =>
    have hN := points
    rw [after_later m c ⟨n + 1, hn⟩ (by show ¬(n + 1) % 64 = 0; omega)]
    exact makes_state m c ⟨n + 1, hn⟩ _ b h (fun k d => ih (Nat.lt_of_succ_lt hn) k d) k d

/-- The output block of any point. -/
theorem rows_at (t : Fin cfg0.N) (b : Fin 4) (h : Fin 8) (i : Fin 64) (d : Fin 128) :
    ((outsAt0 m c t.val t.isLt).1 : S4x1x8x64x128.Idx → EReal) (ix5 b 0 h i d)
      = out (news m c) (erases m c) (queries m c) (pairs m c) (chunk t) b h (before m c b h t.val) i d := by
  obtain ⟨n, hn⟩ := t
  cases n with
  | zero =>
    rw [after_first m c ⟨0, hn⟩ rfl]
    exact makes_rows m c ⟨0, hn⟩ _ b h (fun k d => clear_apply _) i d
  | succ n =>
    have hN := points
    rw [after_later m c ⟨n + 1, hn⟩ (by show ¬(n + 1) % 64 = 0; omega)]
    exact makes_rows m c ⟨n + 1, hn⟩ _ b h (fun k d => scratch_apply m c n (Nat.lt_of_succ_lt hn) b h k d) i d

/-- The result array at an entry. -/
theorem final_apply (n : Fin 64) (b : Fin 4) (h : Fin 8) (i : Fin 64) (d : Fin 128) :
    ((dats m 0 c).arrAt 6 cfg0.N : S4x64x8x64x128.Idx → EReal) (ix5 b n h i d)
      = out (news m c) (erases m c) (queries m c) (pairs m c) n b h (before m c b h n.val) i d := by
  have hN := points
  let t : Fin cfg0.N := ⟨n.val, by omega⟩
  obtain ⟨h0, h1, h2, h3, h4⟩ := index6 t
  have e : ((cfg0.win 6).blk t).view.emb (ix5 b 0 h i d) = ix5 b n h i d :=
    place5 _ b n h i d
      ((Window.rect_emb_val win0_6 t (ix5 b 0 h i d) 0).trans (by show win0_6.index t 0 * 4 + b.val = b.val; rw [h0]; omega))
      ((Window.rect_emb_val win0_6 t (ix5 b 0 h i d) 1).trans (by show win0_6.index t 1 * 1 + 0 = n.val; rw [h1]; show n.val * 1 + 0 = n.val; omega))
      ((Window.rect_emb_val win0_6 t (ix5 b 0 h i d) 2).trans (by show win0_6.index t 2 * 8 + h.val = h.val; rw [h2]; omega))
      ((Window.rect_emb_val win0_6 t (ix5 b 0 h i d) 3).trans (by show win0_6.index t 3 * 64 + i.val = i.val; rw [h3]; omega))
      ((Window.rect_emb_val win0_6 t (ix5 b 0 h i d) 4).trans (by show win0_6.index t 4 * 128 + d.val = d.val; rw [h4]; omega))
  rw [← e]
  refine ((dats m 0 c).arrAt_emb_eq_flushed 6 Value.disjoint6 t (flush0_6 _) (ix5 b 0 h i d)).trans ?_
  refine (congrFun (Value.flushed6 m c t) _).trans ?_
  exact rows_at m c t b h i d

end Cert.Proof.Scan

end
-- ==== Proof.ScanRef.lean ====
/- The reference's loop over the chunks, as one function iterated on its carried arrays, and read at an entry over the
   extended reals. -/
module

public import proofs.«01_k».proof.Reference9Ideal
public import proofs.«01_k».proof.Proof.Gen.Reference9Ideal
public import proofs.«01_k».proof.Proof.Gen.Reference9Ideal.Step
public import proofs.«01_k».proof.Proof.Gen.Reference9Ideal.Run
public import proofs.«01_k».proof.Proof.ScanMath
public import proofs.«01_k».proof.Proof.RefTrip
public import Idealize.ShloMosaic.Lib.IdealHost
public import Idealize.ShloMosaic.Lib.KernelVsHost
public import Idealize.ShloMosaic.Lib.DynamicIndex

@[expose] public section

set_option maxRecDepth 4000

noncomputable section

namespace Cert.Proof.ScanRef

open Idealize.ShloMosaic Idealize.SL.Sem Idealize.ShloMosaic.StableHlo
open Cert.Reference9Ideal Cert.Reference9Ideal.Gen Cert.Reference9Ideal.Value Cert.Reference9Ideal.Step

section Loop

variable {F : FTy → Type} [FloatOps F]

/-- The contents `V` are those before trip `j`: the carried arrays are the state `s` and the counter is `j`. -/
structure Before (V : Valuation τ sig (Elt F)) (s : State F) (j : ℕ) : Prop where
  u : V (Proc.devRef .tc main_v13_0) = s.main_v13_0
  w : V (Proc.devRef .tc main_v13_1) = s.main_v13_1
  q : V (Proc.devRef .tc main_v13_2) = s.main_v13_2
  k : V (Proc.devRef .tc main_v13_3) = s.main_v13_3
  a : V (Proc.devRef .tc main_v13_4) = s.main_v13_4
  g : V (Proc.devRef .tc main_v13_5) = s.main_v13_5
  mem : V (Proc.devRef .tc main_v13_7) = s.main_v13_7
  out : V (Proc.devRef .tc main_v13_8) = s.main_v13_8
  ctr : V (Proc.devRef .tc main_v13_6) = constantI S_ 32 (BitVec.ofNat 32 j)

/-- The state @main hands the first trip, of the device's arguments. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 1000000 in
theorem before_first (m : (ℓ : Loc nD τ sig) → Buf (Elt F) ℓ) (c : Dev nD) : Before (entryContents preI m c) (start m c) 0 := by
  constructor <;> (simp only [entryContents, afterL_cons, afterL_nil]; after_reads_simp) <;> rfl

theorem mem_step {V : Valuation τ sig (Elt F)} {s : State F} {j : ℕ} (h : Before V s j) : Value.step_main_v13_7 V = b44 j s := by
  unfold Value.step_main_v13_7 res_main_while0b_v23
  rw [h.u, h.w, h.k, h.g, h.mem, h.ctr]
  rfl

theorem out_step {V : Valuation τ sig (Elt F)} {s : State F} {j : ℕ} (h : Before V s j) : Value.step_main_v13_8 V = b50 j s := by
  unfold Value.step_main_v13_8 res_main_while0b_v23
  rw [h.u, h.w, h.q, h.a, h.mem, h.out, h.ctr]
  rfl

/-- One trip takes the state before it to the next. -/
theorem before_next {V : Valuation τ sig (Elt F)} {s : State F} {j : ℕ} (h : Before V s j) : Before (STEP V) (step j s) (j + 1) := by
  constructor
  · rw [STEP_main_v13_0]; exact h.u
  · rw [STEP_main_v13_1]; exact h.w
  · rw [STEP_main_v13_2]; exact h.q
  · rw [STEP_main_v13_3]; exact h.k
  · rw [STEP_main_v13_4]; exact h.a
  · rw [STEP_main_v13_5]; exact h.g
  · rw [STEP_main_v13_7, mem_step h]; rfl
  · rw [STEP_main_v13_8, out_step h]; rfl
  · rw [STEP_main_v13_6]
    unfold Value.step_main_v13_6
    rw [h.ctr]
    funext i
    show BitVec.ofNat 32 j + 1#32 = BitVec.ofNat 32 (j + 1)
    rw [BitVec.ofNat_add]

/-- The state before trip `n`, of the first. -/
def nth (s : State F) : ℕ → State F
  | 0 => s
  | n + 1 => step n (nth s n)

theorem before_nth (m : (ℓ : Loc nD τ sig) → Buf (Elt F) ℓ) (c : Dev nD) : ∀ n, Before (STEP^[n] (entryContents preI m c)) (nth (start m c) n) n
  | 0 => before_first m c
  | n + 1 => by
    rw [Function.iterate_succ_apply']
    exact before_next (before_nth m c n)

/-- The reference's run: its result is the 64th state's output array, put in the arguments' order, and its arguments are
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v15) = R_main_v15 (nth (start m c) 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
      unfold out_main_v15 R_main_v15
      rw [(before_nth m c 64).out]), (h c).2⟩) (Value.run m ρ)

end Loop

/-! ## Read at an entry -/

open Idealize.ShloMosaic.ValueIdx Cert.Proof.ScanMath
open Cert.Proof.RefTrip (dot_apply)

/-- The arrays the loop reads, of the reference's arguments. -/
structure Reads (u w q l : Rows) (a : Pairs) (g : Gates) (s : State Ideal) : Prop where
  u : ∀ n b h i d, (s.main_v13_0 : S64x4x8x64x128.Idx → EReal) (ix5 n b h i d) = u (ix5 b n h i d)
  w : ∀ n b h i d, (s.main_v13_1 : S64x4x8x64x128.Idx → EReal) (ix5 n b h i d) = w (ix5 b n h i d)
  q : ∀ n b h i d, (s.main_v13_2 : S64x4x8x64x128.Idx → EReal) (ix5 n b h i d) = q (ix5 b n h i d)
  l : ∀ n b h i d, (s.main_v13_3 : S64x4x8x64x128.Idx → EReal) (ix5 n b h i d) = l (ix5 b n h i d)
  a : ∀ n b h i j, (s.main_v13_4 : S64x4x8x64x64.Idx → EReal) (ix5 n b h i j) = a (ix5 b n h i j)
  g : ∀ n b h d, (s.main_v13_5 : S64x4x8x128.Idx → EReal) (ix4 n b h d) = g (ix4 b n h d)

variable (u w q l : Rows) (a : Pairs) (g : Gates)

/-- The first state, of the arguments. -/
abbrev first : State Ideal := init (F := Ideal) u w q l a g

theorem reads_first : Reads u w q l a g (first u w q l a g) :=
  ⟨fun n b h i d => transpose_apply _ _ _ _ (ix5 b n h i d) (by intro a; fin_cases a <;> rfl),
    fun n b h i d => transpose_apply _ _ _ _ (ix5 b n h i d) (by intro a; fin_cases a <;> rfl),
    fun n b h i d => transpose_apply _ _ _ _ (ix5 b n h i d) (by intro a; fin_cases a <;> rfl),
    fun n b h i d => transpose_apply _ _ _ _ (ix5 b n h i d) (by intro a; fin_cases a <;> rfl),
    fun n b h i j => transpose_apply _ _ _ _ (ix5 b n h i j) (by intro a; fin_cases a <;> rfl),
    fun n b h d => transpose_apply _ _ _ _ (ix4 b n h d) (by intro a; fin_cases a <;> rfl)⟩

theorem reads_nth (n : ℕ) : Reads u w q l a g (nth (first u w q l a g) n) := by
  induction n with
  | zero => exact reads_first u w q l a g
  | succ n ih => exact ⟨ih.u, ih.w, ih.q, ih.l, ih.a, ih.g⟩

section Trip

variable {u w q l : Rows} {a : Pairs} {g : Gates} {s : State Ideal}

/-- A chunk's part of an array of rows, -/
theorem part_rows (x : S64x4x8x64x128.Idx → EReal) (n : Fin 64) (o : Fin 5 → ℤ) (ho : ∀ t : Fin 5, o t = ((![n.val, 0, 0, 0, 0] : Fin 5 → ℕ) t : ℤ))
    (b : Fin 4) (h : Fin 8) (i : Fin 64) (d : Fin 128) :
    (shapeCast S4x8x64x128 (Host.dynamicSlice S1x4x8x64x128 x o sliceFits_S64x4x8x64x128_S1x4x8x64x128) shapeCasts_S1x4x8x64x128_S4x8x64x128 : S4x8x64x128.Idx → EReal)
      (ix4 b h i d) = x (ix5 n b h i d) := by
  rw [shapeCast_apply _ _ _ (ix5 0 b h i d) (by rw [Shape.rowMajor_val_four, Shape.rowMajor_val_five]; simp [ix4, ix5])]
  refine (congrFun (Host.dynamicSlice_eq_extractStridedSlice S1x4x8x64x128 x o ![n.val, 0, 0, 0, 0] _ ⟨rfl, fun a => by fin_cases a <;> simp⟩ ho) _).trans ?_
  exact extractStridedSlice_apply _ _ _ _ (ix5 n b h i d) (by intro a; fin_cases a <;> simp [ix5])

/-- of an array of pairs, -/
theorem part_pairs (x : S64x4x8x64x64.Idx → EReal) (n : Fin 64) (o : Fin 5 → ℤ) (ho : ∀ t : Fin 5, o t = ((![n.val, 0, 0, 0, 0] : Fin 5 → ℕ) t : ℤ))
    (b : Fin 4) (h : Fin 8) (i j : Fin 64) :
    (shapeCast S4x8x64x64 (Host.dynamicSlice S1x4x8x64x64 x o sliceFits_S64x4x8x64x64_S1x4x8x64x64) shapeCasts_S1x4x8x64x64_S4x8x64x64 : S4x8x64x64.Idx → EReal)
      (ix4 b h i j) = x (ix5 n b h i j) := by
  rw [shapeCast_apply _ _ _ (ix5 0 b h i j) (by rw [Shape.rowMajor_val_four, Shape.rowMajor_val_five]; simp [ix4, ix5])]
  refine (congrFun (Host.dynamicSlice_eq_extractStridedSlice S1x4x8x64x64 x o ![n.val, 0, 0, 0, 0] _ ⟨rfl, fun a => by fin_cases a <;> simp⟩ ho) _).trans ?_
  exact extractStridedSlice_apply _ _ _ _ (ix5 n b h i j) (by intro a; fin_cases a <;> simp [ix5])

/-- and of the gates. -/
theorem part_gates (x : S64x4x8x128.Idx → EReal) (n : Fin 64) (o : Fin 4 → ℤ) (ho : ∀ t : Fin 4, o t = ((![n.val, 0, 0, 0] : Fin 4 → ℕ) t : ℤ))
    (b : Fin 4) (h : Fin 8) (d : Fin 128) :
    (shapeCast S4x8x128 (Host.dynamicSlice S1x4x8x128 x o sliceFits_S64x4x8x128_S1x4x8x128) shapeCasts_S1x4x8x128_S4x8x128 : S4x8x128.Idx → EReal)
      (ix3 b h d) = x (ix4 n b h d) := by
  rw [shapeCast_apply _ _ _ (ix4 0 b h d) (by rw [Shape.rowMajor_val_three, Shape.rowMajor_val_four]; simp [ix3, ix4])]
  refine (congrFun (Host.dynamicSlice_eq_extractStridedSlice S1x4x8x128 x o ![n.val, 0, 0, 0] _ ⟨rfl, fun a => by fin_cases a <;> simp⟩ ho) _).trans ?_
  exact extractStridedSlice_apply _ _ _ _ (ix4 n b h d) (by intro a; fin_cases a <;> simp [ix4])

variable (hs : Reads u w q l a g s) (n : Fin 64) (b : Fin 4) (h : Fin 8)

include hs

theorem trip_news (i : Fin 64) (d : Fin 128) : (b5 n.val s : S4x8x64x128.Idx → EReal) (ix4 b h i d) = u (ix5 b n h i d) := by
  unfold b5 b4
  refine (part_rows _ n _ (by
    intro t; fin_cases t
    · exact toInt_ofNat_of_lt (by omega)
    all_goals rfl) b h i d).trans ?_
  exact hs.u n b h i d

theorem trip_erases (i : Fin 64) (d : Fin 128) : (b11 n.val s : S4x8x64x128.Idx → EReal) (ix4 b h i d) = w (ix5 b n h i d) := by
  unfold b11 b10
  refine (part_rows _ n _ (by
    intro t; fin_cases t
    · exact toInt_ofNat_of_lt (by omega)
    all_goals rfl) b h i d).trans ?_
  exact hs.w n b h i d

theorem trip_queries (i : Fin 64) (d : Fin 128) : (b17 n.val s : S4x8x64x128.Idx → EReal) (ix4 b h i d) = q (ix5 b n h i d) := by
  unfold b17 b16
  refine (part_rows _ n _ (by
    intro t; fin_cases t
    · exact toInt_ofNat_of_lt (by omega)
    all_goals rfl) b h i d).trans ?_
  exact hs.q n b h i d

theorem trip_keys (i : Fin 64) (d : Fin 128) : (b23 n.val s : S4x8x64x128.Idx → EReal) (ix4 b h i d) = l (ix5 b n h i d) := by
  unfold b23 b22
  refine (part_rows _ n _ (by
    intro t; fin_cases t
    · exact toInt_ofNat_of_lt (by omega)
    all_goals rfl) b h i d).trans ?_
  exact hs.l n b h i d

theorem trip_pairs (i j : Fin 64) : (b29 n.val s : S4x8x64x64.Idx → EReal) (ix4 b h i j) = a (ix5 b n h i j) := by
  unfold b29 b28
  refine (part_pairs _ n _ (by
    intro t; fin_cases t
    · exact toInt_ofNat_of_lt (by omega)
    all_goals rfl) b h i j).trans ?_
  exact hs.a n b h i j

theorem trip_gates (d : Fin 128) : (b34 n.val s : S4x8x128.Idx → EReal) (ix3 b h d) = g (ix4 b n h d) := by
  unfold b34 b33
  refine (part_gates _ n _ (by
    intro t; fin_cases t
    · exact toInt_ofNat_of_lt (by omega)
    all_goals rfl) b h d).trans ?_
  exact hs.g n b h d

variable {m : St} (hm : ∀ k d, (s.main_v13_7 : S4x8x128x128.Idx → EReal) (ix4 b h k d) = m k d)

include hm

theorem trip_fresh (i : Fin 64) (d : Fin 128) : (b36 n.val s : S4x8x64x128.Idx → EReal) (ix4 b h i d) = fresh u w n b h m i d := by
  unfold b36 fresh
  refine congr (congrArg (fun s t : EReal => s - t) (trip_news hs n b h i d)) ?_
  unfold b35
  refine (dot_apply _ 128 rfl rfl _ _ _ (fun k => ix4 b h i k) (fun k => ix4 b h k d)
    (fun k => by funext a; fin_cases a <;> rfl) (fun k => by funext a; fin_cases a <;> rfl)).trans ?_
  exact Finset.sum_congr rfl fun k _ => congr (congrArg (fun s t : EReal => s * t) (trip_erases hs n b h i k)) (hm k d)

theorem trip_out (i : Fin 64) (d : Fin 128) : (b39 n.val s : S4x8x64x128.Idx → EReal) (ix4 b h i d) = out u w q a n b h m i d := by
  unfold b39 out
  refine congr (congrArg (fun s t : EReal => s + t) ?_) ?_
  · unfold b37
    refine (dot_apply _ 128 rfl rfl _ _ _ (fun k => ix4 b h i k) (fun k => ix4 b h k d)
      (fun k => by funext a; fin_cases a <;> rfl) (fun k => by funext a; fin_cases a <;> rfl)).trans ?_
    exact Finset.sum_congr rfl fun k _ => congr (congrArg (fun s t : EReal => s * t) (trip_queries hs n b h i k)) (hm k d)
  · unfold b38
    refine (dot_apply _ 64 rfl rfl _ _ _ (fun j => ix4 b h i j) (fun j => ix4 b h j d)
      (fun k => by funext a; fin_cases a <;> rfl) (fun k => by funext a; fin_cases a <;> rfl)).trans ?_
    exact Finset.sum_congr rfl fun j _ => congr (congrArg (fun s t : EReal => s * t) (trip_pairs hs n b h i j)) (trip_fresh hs n b h hm j d)

theorem trip_next (k d : Fin 128) : (b44 n.val s : S4x8x128x128.Idx → EReal) (ix4 b h k d) = next u w l g n b h m k d := by
  unfold b44 next
  refine congr (congrArg (fun s t : EReal => s + t) ?_) ?_
  · unfold b42
    refine congr (congrArg (fun s t : EReal => s * t) (hm k d)) ?_
    unfold b41
    refine (broadcastInDim_apply _ _ _ _ (ix4 b h 0 d) (fun b => by fin_cases b <;> rfl)).trans ?_
    unfold b40
    refine (broadcastInDim_apply _ _ _ _ (ix3 b h d) (fun b => by fin_cases b <;> rfl)).trans ?_
    exact trip_gates hs n b h d
  · unfold b43
    refine (dot_apply _ 64 rfl rfl _ _ _ (fun j => ix4 b h j k) (fun j => ix4 b h j d)
      (fun k => by funext a; fin_cases a <;> rfl) (fun k => by funext a; fin_cases a <;> rfl)).trans ?_
    exact Finset.sum_congr rfl fun j _ => congr (congrArg (fun s t : EReal => s * t) (trip_keys hs n b h j k)) (trip_fresh hs n b h hm j d)

end Trip

/-- A trip writes its own chunk of the output array. -/
theorem trip_writes (s : State Ideal) (n c : Fin 64) (b : Fin 4) (h : Fin 8) (i : Fin 64) (d : Fin 128) :
    ((step n.val s).main_v13_8 : S64x4x8x64x128.Idx → EReal) (ix5 c b h i d)
      = if c = n then (b39 n.val s : S4x8x64x128.Idx → EReal) (ix4 b h i d)
        else (s.main_v13_8 : S64x4x8x64x128.Idx → EReal) (ix5 c b h i d) := by
  rw [Step.step_main_v13_8]
  unfold b50
  refine (congrFun (Host.dynamicUpdateSlice_eq_updateSlice (s := S64x4x8x64x128) (u := S1x4x8x64x128) s.main_v13_8
    (b45 n.val s) _ _ ![n.val, 0, 0, 0, 0] (by
      intro a
      fin_cases a
      · show (min (max (BitVec.toInt (BitVec.ofNat 32 n.val)) 0) _).toNat = n.val
        rw [toInt_ofNat_of_lt (by omega)]
        simp; omega
      all_goals rfl) ⟨rfl, fun a => by fin_cases a <;> simp⟩) _).trans ?_
  unfold updateSlice
  by_cases hc : c = n
  · subst hc
    rw [if_pos rfl, dif_pos (by intro a; fin_cases a <;> simp [ix5])]
    unfold b45
    refine broadcastInDim_apply _ _ _ _ (ix4 b h i d) (fun b => ?_)
    fin_cases b <;> simp [ix4, ix5]
  · rw [if_neg hc, dif_neg]
    intro hall
    have h0 := hall 0
    simp [ix5] at h0
    exact hc (Fin.ext (by omega))

/-- The carried state before trip `n`. -/
theorem mem_nth (n : ℕ) (hn : n ≤ 64) (b : Fin 4) (h : Fin 8) (k d : Fin 128) :
    ((nth (first u w q l a g) n).main_v13_7 : S4x8x128x128.Idx → EReal) (ix4 b h k d) = state u w l g b h n k d := by
  induction n generalizing k d with
  | zero => exact Ideal.ofBits_zero_f32
  | succ n ih =>
    refine Eq.trans ?_ (congrFun (congrFun (state_succ u w l g b h ⟨n, by omega⟩) k) d).symm
    exact trip_next (reads_nth u w q l a g n) ⟨n, by omega⟩ b h (fun k d => ih (by omega) k d) k d

/-- After `n` trips the chunks before `n` hold their outputs. -/
theorem out_nth (n : ℕ) (hn : n ≤ 64) (c : Fin 64) (hc : c.val < n) (b : Fin 4) (h : Fin 8) (i : Fin 64) (d : Fin 128) :
    ((nth (first u w q l a g) n).main_v13_8 : S64x4x8x64x128.Idx → EReal) (ix5 c b h i d)
      = out u w q a c b h (state u w l g b h c.val) i d := by
  induction n with
  | zero => exact absurd hc (Nat.not_lt_zero _)
  | succ n ih =>
    refine (trip_writes _ ⟨n, by omega⟩ c b h i d).trans ?_
    by_cases e : c = ⟨n, by omega⟩
    · rw [if_pos e, e]
      exact trip_out (reads_nth u w q l a g n) ⟨n, by omega⟩ b h (fun k d => mem_nth u w q l a g n (by omega) b h k d) i d
    · rw [if_neg e]
      exact ih (by omega) (by have : c.val ≠ n := fun hh => e (Fin.ext hh); omega)

/-- The reference's result at an entry. -/
theorem result_apply (n : Fin 64) (b : Fin 4) (h : Fin 8) (i : Fin 64) (d : Fin 128) :
    (R_main_v15 (nth (first u w q l a g) 64) : S4x64x8x64x128.Idx → EReal) (ix5 b n h i d)
      = out u w q a n b h (state u w l g b h n.val) i d := by
  unfold R_main_v15
  rw [truncf_apply, transpose_apply _ _ _ _ (ix5 n b h i d) (by intro a; fin_cases a <;> rfl)]
  exact out_nth u w q l a g 64 le_rfl n n.isLt b h i d

end Cert.Proof.ScanRef

end
-- ==== Proof.ScanEq.lean ====
/- The delta rule over the chunks: the kernel and its plain reference compute one array over the extended reals; and the
   frames of both. -/
module

public import proofs.«01_k».proof.Defs
public import proofs.«01_k».proof.Proof.Gen.Kernel9
public import proofs.«01_k».proof.Proof.Gen.Kernel9.Frame
public import proofs.«01_k».proof.Proof.ScanKer
public import proofs.«01_k».proof.Proof.ScanRef

@[expose] public section

set_option maxRecDepth 8000

noncomputable section

namespace Cert.Proof.ScanEq

open Idealize.ShloMosaic Idealize.ShloMosaic.TcCoe Idealize.SL.Sem Idealize.ShloMosaic.ValueIdx
open Cert.Kernel9Ideal Cert.Kernel9Ideal.Gen

variable (m : (ℓ : Loc nD τ sig) → Buf (Elt Ideal) ℓ) (c : Dev nD)

/-- The kernel's array is the reference's: at every entry both are the chunk's output of one state. -/
theorem result_eq : (Cert.Reference9Ideal.Step.R_main_v15 (F := Ideal) (ScanRef.nth (ScanRef.first (Scan.news m c) (Scan.erases m c) (Scan.queries m c)
      (Scan.keys m c) (Scan.pairs m c) (Scan.gates m c)) 64) : S4x64x8x64x128.Idx → EReal) = (dats m 0 c).arrAt 6 cfg0.N := by
  funext j
  obtain ⟨b, n, h, i, d, rfl⟩ : ∃ (b : Fin 4) (n : Fin 64) (h : Fin 8) (i : Fin 64) (d : Fin 128), j = ix5 b n h i d :=
    ⟨j 0, j 1, j 2, j 3, j 4, by funext a; fin_cases a <;> rfl⟩
  exact (ScanRef.result_apply _ _ _ _ _ _ n b h i d).trans (Scan.final_apply m c n b h i d).symm

/-- The kernel's frame as it was run. -/
theorem frame_kernel : Cert.quiescent_Kernel9 := fun m ρ _ => Cert.Kernel9.Gen.frame m ρ

/-- The kernel's frame over the extended reals. -/
theorem frame_ideal : Cert.quiescent_Kernel9Ideal := fun m ρ _ => Cert.Kernel9Ideal.Gen.frame m ρ

/-- The reference's frame: it declares no semaphore, so every counter ends at zero. -/
theorem frame_reference : Cert.quiescent_Reference9Ideal := fun m ρ _ =>
  (θ_run Cert.Reference9Ideal.defs _ _).mono (fun r h => ⟨fun c => (h c).2, sem_eq_zero_of_no_sems (by decide) r.2⟩)
    (ScanRef.run (F := Ideal) m ρ)

/-- Of any arrays, the kernel and the plain recurrence compute one array over the extended reals. -/
theorem algebraic : Cert.algebraic_Kernel9Ideal_Reference9Ideal := by
  intro m g m' g' _ harg
  refine ⟨fun c => (dats m 0 c).arrAt 6 cfg0.N, Cert.Kernel9Ideal.Value.run_blocks m g,
    (θ_run _ _ _).mono (fun _ h c => ⟨(h c).1.trans ?_, (h c).2⟩) (ScanRef.run (F := Ideal) m' g')⟩
  obtain ⟨a0, a1, a2, a3, a4, a5⟩ := harg c
  unfold ScanRef.start
  rw [a0, a1, a2, a3, a4, a5]
  exact result_eq m c

end Cert.Proof.ScanEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Step
public import proofs.«01_k».proof.Proof.RefRun
public import proofs.«01_k».proof.Proof.Attention
public import proofs.«01_k».proof.Proof.MoeEq
public import proofs.«01_k».proof.Proof.DenseEq
public import proofs.«01_k».proof.Proof.ProjEq
public import proofs.«01_k».proof.Proof.KvqEq
public import proofs.«01_k».proof.Proof.GdnOutEq
public import proofs.«01_k».proof.Proof.AttnOutEq
public import proofs.«01_k».proof.Proof.GateEq
public import proofs.«01_k».proof.Proof.ScanEq
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Pre_experts
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Step
public import proofs.«01_k».proof.Proof.Gen.Pre_finite8
public import Idealize.ShloMosaic.Adequacy
public import Idealize.ShloMosaic.Init

@[expose] public section

noncomputable section

namespace Cert.Proof

open Idealize.ShloMosaic Idealize.SL.Sem Cert.Kernel

/-- The reference runs, its arguments end unchanged and, as it declares no semaphore, every counter ends at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.Proof.RefRun.run (F := Ideal) m ρ)

/-- The kernel's mask constant is idealized to minus infinity. -/
theorem preserves : Cert.preserves_Kernel_KernelIdeal :=
  IdealRules.named_const.statement Cert.KernelIdeal.κ "mask" .f32 0xF149F2CA#32 ⊥ rfl

/-- Of finite arguments, the attention kernel and the plain attention compute one array over the extended reals. -/
theorem algebraic [Cert.Pre_finite.Facts] : Cert.algebraic_KernelIdeal_ReferenceIdeal_pre_finite := by
  intro m g m' g' hpre harg
  refine ⟨fun c => (Cert.KernelIdeal.Gen.dats m 0 c).arrAt 8 Cert.KernelIdeal.cfg0.N, Cert.KernelIdeal.Value.run_blocks m g,
    (θ_run _ _ _).mono (fun _ h c => ⟨(h c).1.trans ?_, (h c).2⟩) (RefRun.run m' g')⟩
  obtain ⟨hx, hy⟩ := Attention.real_of_finite _ _ (hpre c)
  rw [(harg c).1, (harg c).2]
  exact Attention.final_eq m c hx hy

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts, Cert.Pre_experts.Gen.facts,
  Cert.Pre_finite7.Gen.facts, Cert.Pre_finite8.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  MoeEq.frame_kernel, MoeEq.frame_ideal, MoeEq.frame_reference, MoeEq.frame_reference_pre,
  DenseEq.frame_kernel, DenseEq.frame_ideal, DenseEq.frame_reference, ProjEq.frame_kernel, ProjEq.frame_ideal, ProjEq.frame_reference,
  KvqEq.frame_kernel, KvqEq.frame_ideal, KvqEq.frame_reference, GdnOutEq.frame_kernel, GdnOutEq.frame_ideal, GdnOutEq.frame_reference,
  AttnOutEq.frame_kernel, AttnOutEq.frame_ideal, AttnOutEq.frame_ideal_pre, AttnOutEq.frame_reference, AttnOutEq.frame_reference_pre,
  GateEq.frame_kernel, GateEq.frame_ideal, GateEq.frame_ideal_pre, GateEq.frame_reference, GateEq.frame_reference_pre,
  ScanEq.frame_kernel, ScanEq.frame_ideal, ScanEq.frame_reference,
  preserves, algebraic, trivial, MoeEq.algebraic, trivial, DenseEq.algebraic, trivial, ProjEq.algebraic, trivial, KvqEq.algebraic,
  trivial, GdnOutEq.algebraic, AttnOutEq.preserves, AttnOutEq.algebraic,
  trivial, GateEq.algebraic, trivial, ScanEq.algebraic⟩

end Cert.Proof

end
